-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9)) (m ((c.tc : Thread Cert.AttnIdeal.nD Cert.AttnIdeal.τ).loc Cert.AttnIdeal.main_arg10))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9)) (m ((c.tc : Thread Cert.AttnIdeal.nD Cert.AttnIdeal.τ).loc Cert.AttnIdeal.main_arg10))).2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9)) (m ((c.tc : Thread Cert.AttnIdeal.nD Cert.AttnIdeal.τ).loc Cert.AttnIdeal.main_arg10))).2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9)) (m ((c.tc : Thread Cert.AttnIdeal.nD Cert.AttnIdeal.τ).loc Cert.AttnIdeal.main_arg10))).2.2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9)) (m ((c.tc : Thread Cert.AttnIdeal.nD Cert.AttnIdeal.τ).loc Cert.AttnIdeal.main_arg10))).2.2.2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9)) (m ((c.tc : Thread Cert.AttnIdeal.nD Cert.AttnIdeal.τ).loc Cert.AttnIdeal.main_arg10))).2.2.2.2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9)) (m ((c.tc : Thread Cert.AttnIdeal.nD Cert.AttnIdeal.τ).loc Cert.AttnIdeal.main_arg10))).2.2.2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9)) (m ((c.tc : Thread Cert.AttnRefIdeal.nD Cert.AttnRefIdeal.τ).loc Cert.AttnRefIdeal.main_arg10))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9)) (m ((c.tc : Thread Cert.AttnRefIdeal.nD Cert.AttnRefIdeal.τ).loc Cert.AttnRefIdeal.main_arg10))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9)) (m ((c.tc : Thread Cert.AttnRefIdeal.nD Cert.AttnRefIdeal.τ).loc Cert.AttnRefIdeal.main_arg10))).2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9)) (m ((c.tc : Thread Cert.AttnRefIdeal.nD Cert.AttnRefIdeal.τ).loc Cert.AttnRefIdeal.main_arg10))).2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9)) (m ((c.tc : Thread Cert.AttnRefIdeal.nD Cert.AttnRefIdeal.τ).loc Cert.AttnRefIdeal.main_arg10))).2.2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9)) (m ((c.tc : Thread Cert.AttnRefIdeal.nD Cert.AttnRefIdeal.τ).loc Cert.AttnRefIdeal.main_arg10))).2.2.2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9)) (m ((c.tc : Thread Cert.AttnRefIdeal.nD Cert.AttnRefIdeal.τ).loc Cert.AttnRefIdeal.main_arg10))).2.2.2.2.2.2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8)
      ∧ r.2.mem ((c.tc : Thread Cert.Attn.nD Cert.Attn.τ).loc Cert.Attn.main_arg9) = m ((c.tc : Thread Cert.Attn.nD Cert.Attn.τ).loc Cert.Attn.main_arg9)
      ∧ r.2.mem ((c.tc : Thread Cert.Attn.nD Cert.Attn.τ).loc Cert.Attn.main_arg10) = m ((c.tc : Thread Cert.Attn.nD Cert.Attn.τ).loc Cert.Attn.main_arg10))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9)
      ∧ r.2.mem ((c.tc : Thread Cert.AttnIdeal.nD Cert.AttnIdeal.τ).loc Cert.AttnIdeal.main_arg10) = m ((c.tc : Thread Cert.AttnIdeal.nD Cert.AttnIdeal.τ).loc Cert.AttnIdeal.main_arg10))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9)
      ∧ r.2.mem ((c.tc : Thread Cert.AttnIdeal.nD Cert.AttnIdeal.τ).loc Cert.AttnIdeal.main_arg10) = m ((c.tc : Thread Cert.AttnIdeal.nD Cert.AttnIdeal.τ).loc Cert.AttnIdeal.main_arg10))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8)
      ∧ r.2.mem ((c.tc : Thread Cert.AttnRefIdeal.nD Cert.AttnRefIdeal.τ).loc Cert.AttnRefIdeal.main_arg9) = m ((c.tc : Thread Cert.AttnRefIdeal.nD Cert.AttnRefIdeal.τ).loc Cert.AttnRefIdeal.main_arg9)
      ∧ r.2.mem ((c.tc : Thread Cert.AttnRefIdeal.nD Cert.AttnRefIdeal.τ).loc Cert.AttnRefIdeal.main_arg10) = m ((c.tc : Thread Cert.AttnRefIdeal.nD Cert.AttnRefIdeal.τ).loc Cert.AttnRefIdeal.main_arg10))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8)
      ∧ r.2.mem ((c.tc : Thread Cert.AttnRefIdeal.nD Cert.AttnRefIdeal.τ).loc Cert.AttnRefIdeal.main_arg9) = m ((c.tc : Thread Cert.AttnRefIdeal.nD Cert.AttnRefIdeal.τ).loc Cert.AttnRefIdeal.main_arg9)
      ∧ r.2.mem ((c.tc : Thread Cert.AttnRefIdeal.nD Cert.AttnRefIdeal.τ).loc Cert.AttnRefIdeal.main_arg10) = m ((c.tc : Thread Cert.AttnRefIdeal.nD Cert.AttnRefIdeal.τ).loc Cert.AttnRefIdeal.main_arg10))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3)
      ∧ r.2.mem ((c.tc : Thread Cert.FinalRefIdeal.nD Cert.FinalRefIdeal.τ).loc Cert.FinalRefIdeal.main_arg4) = m ((c.tc : Thread Cert.FinalRefIdeal.nD Cert.FinalRefIdeal.τ).loc Cert.FinalRefIdeal.main_arg4))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)
      ∧ m' ((c.tc : Thread Cert.AttnRefIdeal.nD Cert.AttnRefIdeal.τ).loc Cert.AttnRefIdeal.main_arg8) = m ((c.tc : Thread Cert.AttnIdeal.nD Cert.AttnIdeal.τ).loc Cert.AttnIdeal.main_arg8)
      ∧ m' ((c.tc : Thread Cert.AttnRefIdeal.nD Cert.AttnRefIdeal.τ).loc Cert.AttnRefIdeal.main_arg9) = m ((c.tc : Thread Cert.AttnIdeal.nD Cert.AttnIdeal.τ).loc Cert.AttnIdeal.main_arg9)
      ∧ m' ((c.tc : Thread Cert.AttnRefIdeal.nD Cert.AttnRefIdeal.τ).loc Cert.AttnRefIdeal.main_arg10) = m ((c.tc : Thread Cert.AttnIdeal.nD Cert.AttnIdeal.τ).loc Cert.AttnIdeal.main_arg10)) →
    ∃ (v0 : (c : Dev Cert.AttnIdeal.nD) → Buf (Elt Ideal) ((c.tc : Thread Cert.AttnIdeal.nD Cert.AttnIdeal.τ).loc Cert.AttnIdeal.main_v81_0)) (v1 : (c : Dev Cert.AttnIdeal.nD) → Buf (Elt Ideal) ((c.tc : Thread Cert.AttnIdeal.nD Cert.AttnIdeal.τ).loc Cert.AttnIdeal.main_v81_1)) (v2 : (c : Dev Cert.AttnIdeal.nD) → Buf (Elt Ideal) ((c.tc : Thread Cert.AttnIdeal.nD Cert.AttnIdeal.τ).loc Cert.AttnIdeal.main_v81_2)) (v3 : (c : Dev Cert.AttnIdeal.nD) → Buf (Elt Ideal) ((c.tc : Thread Cert.AttnIdeal.nD Cert.AttnIdeal.τ).loc Cert.AttnIdeal.main_v81_3)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v81_0) = v0 c
          ∧ r.2.mem ((c.tc : Thread Cert.AttnIdeal.nD Cert.AttnIdeal.τ).loc Cert.AttnIdeal.main_v81_1) = v1 c
          ∧ r.2.mem ((c.tc : Thread Cert.AttnIdeal.nD Cert.AttnIdeal.τ).loc Cert.AttnIdeal.main_v81_2) = v2 c
          ∧ r.2.mem ((c.tc : Thread Cert.AttnIdeal.nD Cert.AttnIdeal.τ).loc Cert.AttnIdeal.main_v81_3) = v3 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
          ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
          ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9)
          ∧ r.2.mem ((c.tc : Thread Cert.AttnIdeal.nD Cert.AttnIdeal.τ).loc Cert.AttnIdeal.main_arg10) = m ((c.tc : Thread Cert.AttnIdeal.nD Cert.AttnIdeal.τ).loc Cert.AttnIdeal.main_arg10))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v68) = v0 c
          ∧ r.2.mem ((c.tc : Thread Cert.AttnRefIdeal.nD Cert.AttnRefIdeal.τ).loc Cert.AttnRefIdeal.main_v70) = v1 c
          ∧ r.2.mem ((c.tc : Thread Cert.AttnRefIdeal.nD Cert.AttnRefIdeal.τ).loc Cert.AttnRefIdeal.main_v72) = v2 c
          ∧ r.2.mem ((c.tc : Thread Cert.AttnRefIdeal.nD Cert.AttnRefIdeal.τ).loc Cert.AttnRefIdeal.main_v73) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7)
          ∧ r.2.mem ((c.tc : Thread Cert.AttnRefIdeal.nD Cert.AttnRefIdeal.τ).loc Cert.AttnRefIdeal.main_arg8) = m' ((c.tc : Thread Cert.AttnRefIdeal.nD Cert.AttnRefIdeal.τ).loc Cert.AttnRefIdeal.main_arg8)
          ∧ r.2.mem ((c.tc : Thread Cert.AttnRefIdeal.nD Cert.AttnRefIdeal.τ).loc Cert.AttnRefIdeal.main_arg9) = m' ((c.tc : Thread Cert.AttnRefIdeal.nD Cert.AttnRefIdeal.τ).loc Cert.AttnRefIdeal.main_arg9)
          ∧ r.2.mem ((c.tc : Thread Cert.AttnRefIdeal.nD Cert.AttnRefIdeal.τ).loc Cert.AttnRefIdeal.main_arg10) = m' ((c.tc : Thread Cert.AttnRefIdeal.nD Cert.AttnRefIdeal.τ).loc Cert.AttnRefIdeal.main_arg10))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v0)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v0) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v31) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)
      ∧ m' ((c.tc : Thread Cert.FinalRefIdeal.nD Cert.FinalRefIdeal.τ).loc Cert.FinalRefIdeal.main_arg4) = m ((c.tc : Thread Cert.FinalIdeal.nD Cert.FinalIdeal.τ).loc Cert.FinalIdeal.main_arg4)) →
    ∃ (v0 : (c : Dev Cert.FinalIdeal.nD) → Buf (Elt Ideal) ((c.tc : Thread Cert.FinalIdeal.nD Cert.FinalIdeal.τ).loc Cert.FinalIdeal.main_v0_0)) (v1 : (c : Dev Cert.FinalIdeal.nD) → Buf (Elt Ideal) ((c.tc : Thread Cert.FinalIdeal.nD Cert.FinalIdeal.τ).loc Cert.FinalIdeal.main_v0_1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v0_0) = v0 c
          ∧ r.2.mem ((c.tc : Thread Cert.FinalIdeal.nD Cert.FinalIdeal.τ).loc Cert.FinalIdeal.main_v0_1) = v1 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v32) = v0 c
          ∧ r.2.mem ((c.tc : Thread Cert.FinalRefIdeal.nD Cert.FinalRefIdeal.τ).loc Cert.FinalRefIdeal.main_v33) = v1 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3)
          ∧ r.2.mem ((c.tc : Thread Cert.FinalRefIdeal.nD Cert.FinalRefIdeal.τ).loc Cert.FinalRefIdeal.main_arg4) = m' ((c.tc : Thread Cert.FinalRefIdeal.nD Cert.FinalRefIdeal.τ).loc Cert.FinalRefIdeal.main_arg4))

def Claim : Prop :=
  ∃ (hAttn : Cert.Attn.Facts) (hAttnIdeal : Cert.AttnIdeal.Facts) (hAttnRefIdeal : Cert.AttnRefIdeal.Facts) (hMlp : Cert.Mlp.Facts) (hMlpIdeal : Cert.MlpIdeal.Facts) (hMlpRefIdeal : Cert.MlpRefIdeal.Facts) (hFinal : Cert.Final.Facts) (hFinalIdeal : Cert.FinalIdeal.Facts) (hFinalRefIdeal : Cert.FinalRefIdeal.Facts) (hPre_attn_finite : Cert.Pre_attn_finite.Facts),
    quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Mlp (hMlp := hMlp)
    ∧ quiescent_MlpIdeal (hMlpIdeal := hMlpIdeal)
    ∧ quiescent_MlpRefIdeal (hMlpRefIdeal := hMlpRefIdeal)
    ∧ quiescent_Final (hFinal := hFinal)
    ∧ quiescent_FinalIdeal (hFinalIdeal := hFinalIdeal)
    ∧ quiescent_FinalRefIdeal (hFinalRefIdeal := hFinalRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Mlp_MlpIdeal
    ∧ algebraic_MlpIdeal_MlpRefIdeal (hMlpIdeal := hMlpIdeal) (hMlpRefIdeal := hMlpRefIdeal)
    ∧ preserves_Final_FinalIdeal
    ∧ algebraic_FinalIdeal_FinalRefIdeal (hFinalIdeal := hFinalIdeal) (hFinalRefIdeal := hFinalRefIdeal)
-- ==== Pre_attn_finite.lean ====
abbrev S8448x1024 : Shape := ⟨2, ![8448, 1024]⟩
abbrev S1x128 : Shape := ⟨2, ![1, 128]⟩
abbrev S1x256 : Shape := ⟨2, ![1, 256]⟩
abbrev S4096x8192 : Shape := ⟨2, ![4096, 8192]⟩
abbrev S16384x2048 : Shape := ⟨2, ![16384, 2048]⟩
abbrev S2048x2048 : Shape := ⟨2, ![2048, 2048]⟩
abbrev S_ : Shape := ⟨0, ![]⟩

class Facts : Prop where
  bcast_S_S8448x1024 : S_.BroadcastsInDim S8448x1024 (![] : Fin 0 → Fin S8448x1024.rank)
  bcast_S_S1x128 : S_.BroadcastsInDim S1x128 (![] : Fin 0 → Fin S1x128.rank)

variable [Facts]

def fn_part1 {F : FTy → Type} [FloatOps F] (main_arg6 : FVec F S1x128 .f32) (main_v2 : IVec S8448x1024 1) (main_v5 : IVec S8448x1024 1) (main_v8 : IVec S8448x1024 1) (main_v11 : IVec S1x128 1) (main_v14 : IVec S1x128 1) (main_v17 : IVec S1x128 1) : IVec S8448x1024 1 × IVec S8448x1024 1 × IVec S8448x1024 1 × IVec S1x128 1 × IVec S1x128 1 × IVec S1x128 1 × IVec S1x128 1 :=
  let main_v18 : FVec F S1x128 .f32 := Host.absf main_arg6
  let main_cst_5 : FVec F S_ .f32 := constant S_ .f32 0x7F800000#32
  let main_v19 : FVec F S1x128 .f32 := broadcastInDim S1x128 ![] bcast_S_S1x128 main_cst_5
  let main_v20 : IVec S1x128 1 := cmpf .olt main_v18 main_v19
  (main_v2, main_v5, main_v8, main_v11, main_v14, main_v17, main_v20)

def fn {F : FTy → Type} [FloatOps F] (main_arg0 : FVec F S8448x1024 .f32) (main_arg1 : FVec F S8448x1024 .f32) (main_arg2 : FVec F S8448x1024 .f32) (main_arg3 : FVec F S1x128 .f32) (main_arg4 : FVec F S1x128 .f32) (main_arg5 : FVec F S1x128 .f32) (main_arg6 : FVec F S1x128 .f32) (main_arg7 : FVec F S1x256 .f32) (main_arg8 : FVec F S4096x8192 .f32) (main_arg9 : FVec F S16384x2048 .f32) (main_arg10 : FVec F S2048x2048 .f32) : IVec S8448x1024 1 × IVec S8448x1024 1 × IVec S8448x1024 1 × IVec S1x128 1 × IVec S1x128 1 × IVec S1x128 1 × IVec S1x128 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_v3 : FVec F S8448x1024 .f32 := Host.absf main_arg1
  let main_cst_0 : FVec F S_ .f32 := constant S_ .f32 0x7F800000#32
  let main_v4 : FVec F S8448x1024 .f32 := broadcastInDim S8448x1024 ![] bcast_S_S8448x1024 main_cst_0
  let main_v5 : IVec S8448x1024 1 := cmpf .olt main_v3 main_v4
  let main_v6 : FVec F S8448x1024 .f32 := Host.absf main_arg2
  let main_cst_1 : FVec F S_ .f32 := constant S_ .f32 0x7F800000#32
  let main_v7 : FVec F S8448x1024 .f32 := broadcastInDim S8448x1024 ![] bcast_S_S8448x1024 main_cst_1
  let main_v8 : IVec S8448x1024 1 := cmpf .olt main_v6 main_v7
  let main_v9 : FVec F S1x128 .f32 := Host.absf main_arg3
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_v12 : FVec F S1x128 .f32 := Host.absf main_arg4
  let main_cst_3 : FVec F S_ .f32 := constant S_ .f32 0x7F800000#32
  let main_v13 : FVec F S1x128 .f32 := broadcastInDim S1x128 ![] bcast_S_S1x128 main_cst_3
  let main_v14 : IVec S1x128 1 := cmpf .olt main_v12 main_v13
  let main_v15 : FVec F S1x128 .f32 := Host.absf main_arg5
  let main_cst_4 : FVec F S_ .f32 := constant S_ .f32 0x7F800000#32
  let main_v16 : FVec F S1x128 .f32 := broadcastInDim S1x128 ![] bcast_S_S1x128 main_cst_4
  let main_v17 : IVec S1x128 1 := cmpf .olt main_v15 main_v16
  fn_part1 (F := F) main_arg6 main_v2 main_v5 main_v8 main_v11 main_v14 main_v17
-- ==== Attn.lean ====
abbrev S8448x1024 : Shape := ⟨2, ![8448, 1024]⟩
abbrev S1x128 : Shape := ⟨2, ![1, 128]⟩
abbrev S1x256 : Shape := ⟨2, ![1, 256]⟩
abbrev S4096x8192 : Shape := ⟨2, ![4096, 8192]⟩
abbrev S16384x2048 : Shape := ⟨2, ![16384, 2048]⟩
abbrev S2048x2048 : Shape := ⟨2, ![2048, 2048]⟩
abbrev S66 : Shape := ⟨1, ![66]⟩
abbrev S4x1x128 : Shape := ⟨3, ![4, 1, 128]⟩
abbrev S8448x4x2x128 : Shape := ⟨4, ![8448, 4, 2, 128]⟩
abbrev S_ : Shape := ⟨0, ![]⟩
abbrev S8448x4x2x256 : Shape := ⟨4, ![8448, 4, 2, 256]⟩
abbrev S8448x4x512 : Shape := ⟨3, ![8448, 4, 512]⟩
abbrev S4x8448x512 : Shape := ⟨3, ![4, 8448, 512]⟩
abbrev S1x4x8448x512 : Shape := ⟨4, ![1, 4, 8448, 512]⟩
abbrev S2x4x8448x512 : Shape := ⟨4, ![2, 4, 8448, 512]⟩
abbrev S8448x4x256 : Shape := ⟨3, ![8448, 4, 256]⟩
abbrev S4x8448x256 : Shape := ⟨3, ![4, 8448, 256]⟩
abbrev S2048x8192 : Shape := ⟨2, ![2048, 8192]⟩
abbrev S8192x2048 : Shape := ⟨2, ![8192, 2048]⟩
abbrev S1x4x768x512 : Shape := ⟨4, ![1, 4, 768, 512]⟩
abbrev S1 : Shape := ⟨1, ![1]⟩
abbrev S4x768x256 : Shape := ⟨3, ![4, 768, 256]⟩
abbrev S32x8192 : Shape := ⟨2, ![32, 8192]⟩
abbrev S128x2048 : Shape := ⟨2, ![128, 2048]⟩
abbrev S32x2048 : Shape := ⟨2, ![32, 2048]⟩
abbrev S8x768x1 : Shape := ⟨3, ![8, 768, 1]⟩
abbrev S8x768x256 : Shape := ⟨3, ![8, 768, 256]⟩
abbrev S1x1x128 : Shape := ⟨3, ![1, 1, 128]⟩
abbrev S1x1 : Shape := ⟨2, ![1, 1]⟩
abbrev S1x1x768x256 : Shape := ⟨4, ![1, 1, 768, 256]⟩
abbrev S768x256 : Shape := ⟨2, ![768, 256]⟩
abbrev S768x768 : Shape := ⟨2, ![768, 768]⟩
abbrev S1x768x1 : Shape := ⟨3, ![1, 768, 1]⟩
abbrev S768x1 : Shape := ⟨2, ![768, 1]⟩
abbrev S768 : Shape := ⟨1, ![768]⟩
abbrev S1x768x256 : Shape := ⟨3, ![1, 768, 256]⟩

abbrev nBuf : Space → Nat
  | .hbm => 116
  | .vmem => 29
  | .smem => 2
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x1024, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x256, .f32⟩
  | .hbm, ⟨8, _⟩ => ⟨S4096x8192, .f32⟩
  | .hbm, ⟨9, _⟩ => ⟨S16384x2048, .f32⟩
  | .hbm, ⟨10, _⟩ => ⟨S2048x2048, .f32⟩
  | .hbm, ⟨11, _⟩ => ⟨S4x1x128, .f32⟩
  | .hbm, ⟨12, _⟩ => ⟨S8448x4x2x128, .f32⟩
  | .hbm, ⟨13, _⟩ => ⟨S_, .f32⟩
  | .hbm, ⟨14, _⟩ => ⟨S8448x4x2x128, .f32⟩
  | .hbm, ⟨15, _⟩ => ⟨S8448x4x2x128, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8448x4x2x128, .f32⟩
  | .hbm, ⟨20, _⟩ => ⟨S8448x4x2x128, .f32⟩
  | .hbm, ⟨21, _⟩ => ⟨S8448x4x2x128, .bf16⟩
  | .hbm, ⟨22, _⟩ => ⟨S8448x4x2x128, .i32⟩
  | .hbm, ⟨23, _⟩ => ⟨S_, .f32⟩
  | .hbm, ⟨24, _⟩ => ⟨S8448x4x2x128, .f32⟩
  | .hbm, ⟨25, _⟩ => ⟨S_, .i32⟩
  | .hbm, ⟨26, _⟩ => ⟨S8448x4x2x128, .i32⟩
  | .hbm, ⟨27, _⟩ => ⟨S8448x4x2x128, .i1⟩
  | .hbm, ⟨28, _⟩ => ⟨S_, .f32⟩
  | .hbm, ⟨29, _⟩ => ⟨S8448x4x2x128, .f32⟩
  | .hbm, ⟨30, _⟩ => ⟨S8448x4x2x128, .f32⟩
  | .hbm, ⟨31, _⟩ => ⟨S8448x4x2x128, .f32⟩
  | .hbm, ⟨32, _⟩ => ⟨S8448x4x2x128, .bf16⟩
  | .hbm, ⟨33, _⟩ => ⟨S8448x4x2x128, .i32⟩
  | .hbm, ⟨34, _⟩ => ⟨S_, .i32⟩
  | .hbm, ⟨35, _⟩ => ⟨S8448x4x2x128, .i32⟩
  | .hbm, ⟨36, _⟩ => ⟨S8448x4x2x128, .i32⟩
  | .hbm, ⟨37, _⟩ => ⟨S8448x4x2x128, .f32⟩
  | .hbm, ⟨38, _⟩ => ⟨S8448x4x2x128, .i32⟩
  | .hbm, ⟨39, _⟩ => ⟨S_, .i32⟩
  | .hbm, ⟨40, _⟩ => ⟨S8448x4x2x128, .i32⟩
  | .hbm, ⟨41, _⟩ => ⟨S8448x4x2x128, .i1⟩
  | .hbm, ⟨42, _⟩ => ⟨S_, .f32⟩
  | .hbm, ⟨43, _⟩ => ⟨S8448x4x2x128, .f32⟩
  | .hbm, ⟨44, _⟩ => ⟨S8448x4x2x128, .f32⟩
  | .hbm, ⟨45, _⟩ => ⟨S8448x4x2x128, .f32⟩
  | .hbm, ⟨46, _⟩ => ⟨S_, .i32⟩
  | .hbm, ⟨47, _⟩ => ⟨S8448x4x2x128, .i32⟩
  | .hbm, ⟨48, _⟩ => ⟨S8448x4x2x128, .i1⟩
  | .hbm, ⟨49, _⟩ => ⟨S_, .f32⟩
  | .hbm, ⟨50, _⟩ => ⟨S8448x4x2x128, .f32⟩
  | .hbm, ⟨51, _⟩ => ⟨S8448x4x2x128, .f32⟩
  | .hbm, ⟨52, _⟩ => ⟨S8448x4x2x128, .f32⟩
  | .hbm, ⟨53, _⟩ => ⟨S_, .i32⟩
  | .hbm, ⟨54, _⟩ => ⟨S8448x4x2x128, .i32⟩
  | .hbm, ⟨55, _⟩ => ⟨S8448x4x2x128, .i1⟩
  | .hbm, ⟨56, _⟩ => ⟨S_, .f32⟩
  | .hbm, ⟨57, _⟩ => ⟨S8448x4x2x128, .f32⟩
  | .hbm, ⟨58, _⟩ => ⟨S8448x4x2x128, .f32⟩
  | .hbm, ⟨59, _⟩ => ⟨S8448x4x2x128, .f32⟩
  | .hbm, ⟨60, _⟩ => ⟨S_, .i32⟩
  | .hbm, ⟨61, _⟩ => ⟨S8448x4x2x128, .i32⟩
  | .hbm, ⟨62, _⟩ => ⟨S8448x4x2x128, .i1⟩
  | .hbm, ⟨63, _⟩ => ⟨S_, .f32⟩
  | .hbm, ⟨64, _⟩ => ⟨S8448x4x2x128, .f32⟩
  | .hbm, ⟨65, _⟩ => ⟨S8448x4x2x128, .f32⟩
  | .hbm, ⟨66, _⟩ => ⟨S8448x4x2x128, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S8448x4x2x128, .f32⟩
  | .hbm, ⟨71, _⟩ => ⟨S8448x4x2x128, .f32⟩
  | .hbm, ⟨72, _⟩ => ⟨S8448x4x2x128, .f32⟩
  | .hbm, ⟨73, _⟩ => ⟨S8448x4x2x128, .bf16⟩
  | .hbm, ⟨74, _⟩ => ⟨S8448x4x2x128, .f32⟩
  | .hbm, ⟨75, _⟩ => ⟨S8448x4x2x128, .f32⟩
  | .hbm, ⟨76, _⟩ => ⟨S8448x4x2x128, .bf16⟩
  | .hbm, ⟨77, _⟩ => ⟨S8448x4x2x128, .f32⟩
  | .hbm, ⟨78, _⟩ => ⟨S8448x4x2x128, .f32⟩
  | .hbm, ⟨79, _⟩ => ⟨S8448x4x2x128, .f32⟩
  | .hbm, ⟨80, _⟩ => ⟨S_, .i32⟩
  | .hbm, ⟨81, _⟩ => ⟨S8448x4x2x128, .i32⟩
  | .hbm, ⟨82, _⟩ => ⟨S8448x4x2x128, .i1⟩
  | .hbm, ⟨83, _⟩ => ⟨S_, .i32⟩
  | .hbm, ⟨84, _⟩ => ⟨S8448x4x2x128, .i32⟩
  | .hbm, ⟨85, _⟩ => ⟨S8448x4x2x128, .i1⟩
  | .hbm, ⟨86, _⟩ => ⟨S_, .i32⟩
  | .hbm, ⟨87, _⟩ => ⟨S8448x4x2x128, .i32⟩
  | .hbm, ⟨88, _⟩ => ⟨S8448x4x2x128, .i1⟩
  | .hbm, ⟨89, _⟩ => ⟨S8448x4x2x128, .f32⟩
  | .hbm, ⟨90, _⟩ => ⟨S8448x4x2x128, .f32⟩
  | .hbm, ⟨91, _⟩ => ⟨S8448x4x2x128, .f32⟩
  | .hbm, ⟨92, _⟩ => ⟨S8448x4x2x128, .bf16⟩
  | .hbm, ⟨93, _⟩ => ⟨S8448x4x2x256, .bf16⟩
  | .hbm, ⟨94, _⟩ => ⟨S8448x4x512, .bf16⟩
  | .hbm, ⟨95, _⟩ => ⟨S4x8448x512, .bf16⟩
  | .hbm, ⟨96, _⟩ => ⟨S8448x4x2x128, .f32⟩
  | .hbm, ⟨97, _⟩ => ⟨S8448x4x2x128, .bf16⟩
  | .hbm, ⟨98, _⟩ => ⟨S8448x4x2x256, .bf16⟩
  | .hbm, ⟨99, _⟩ => ⟨S8448x4x512, .bf16⟩
  | .hbm, ⟨100, _⟩ => ⟨S4x8448x512, .bf16⟩
  | .hbm, ⟨101, _⟩ => ⟨S1x4x8448x512, .bf16⟩
  | .hbm, ⟨102, _⟩ => ⟨S1x4x8448x512, .bf16⟩
  | .hbm, ⟨103, _⟩ => ⟨S2x4x8448x512, .bf16⟩
  | .hbm, ⟨104, _⟩ => ⟨S8448x4x256, .f32⟩
  | .hbm, ⟨105, _⟩ => ⟨S4x8448x256, .f32⟩
  | .hbm, ⟨106, _⟩ => ⟨S4x8448x256, .bf16⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S4x1x128, .f32⟩
  | .hbm, ⟨111, _⟩ => ⟨S4x1x128, .f32⟩
  | .hbm, ⟨112, _⟩ => ⟨S4x8448x256, .bf16⟩
  | .hbm, ⟨113, _⟩ => ⟨S2048x8192, .bf16⟩
  | .hbm, ⟨114, _⟩ => ⟨S8192x2048, .bf16⟩
  | .hbm, ⟨115, _⟩ => ⟨S2048x2048, .bf16⟩
  | .local _ .vmem, ⟨0, _⟩ => ⟨S1x4x768x512, .bf16⟩
  | .local _ .vmem, ⟨1, _⟩ => ⟨S1x4x768x512, .bf16⟩
  | .local _ .vmem, ⟨2, _⟩ => ⟨S1x4x768x512, .bf16⟩
  | .local _ .vmem, ⟨3, _⟩ => ⟨S1x4x768x512, .bf16⟩
  | .local _ .vmem, ⟨4, _⟩ => ⟨S4x768x256, .bf16⟩
  | .local _ .vmem, ⟨5, _⟩ => ⟨S4x768x256, .bf16⟩
  | .local _ .vmem, ⟨6, _⟩ => ⟨S4x1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x256, .f32⟩
  | .local _ .vmem, ⟨12, _⟩ => ⟨S32x8192, .f32⟩
  | .local _ .vmem, ⟨13, _⟩ => ⟨S32x8192, .f32⟩
  | .local _ .vmem, ⟨14, _⟩ => ⟨S128x2048, .f32⟩
  | .local _ .vmem, ⟨15, _⟩ => ⟨S128x2048, .f32⟩
  | .local _ .vmem, ⟨16, _⟩ => ⟨S32x2048, .f32⟩
  | .local _ .vmem, ⟨17, _⟩ => ⟨S32x2048, .f32⟩
  | .local _ .vmem, ⟨18, _⟩ => ⟨S4x768x256, .bf16⟩
  | .local _ .vmem, ⟨19, _⟩ => ⟨S4x768x256, .bf16⟩
  | .local _ .vmem, ⟨20, _⟩ => ⟨S32x8192, .bf16⟩
  | .local _ .vmem, ⟨21, _⟩ => ⟨S32x8192, .bf16⟩
  | .local _ .vmem, ⟨22, _⟩ => ⟨S128x2048, .bf16⟩
  | .local _ .vmem, ⟨23, _⟩ => ⟨S128x2048, .bf16⟩
  | .local _ .vmem, ⟨24, _⟩ => ⟨S32x2048, .bf16⟩
  | .local _ .vmem, ⟨25, _⟩ => ⟨S32x2048, .bf16⟩
  | .local _ .vmem, ⟨26, _⟩ => ⟨S8x768x1, .f32⟩
  | .local _ .vmem, ⟨27, _⟩ => ⟨S8x768x1, .f32⟩
  | .local _ .vmem, ⟨28, _⟩ => ⟨S8x768x256, .f32⟩
  | .local _ .smem, ⟨0, _⟩ => ⟨S66, .i32⟩
  | .local _ .smem, ⟨1, _⟩ => ⟨S66, .i32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_1 : Ref sig .tc := ⟨.hbm, 13, rfl⟩
abbrev main_v1 : Ref sig .tc := ⟨.hbm, 14, rfl⟩
abbrev main_v2 : Ref sig .tc := ⟨.hbm, 15, rfl⟩
abbrev main_cst_2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_c_4 : Ref sig .tc := ⟨.hbm, 25, rfl⟩
abbrev main_v10 : Ref sig .tc := ⟨.hbm, 26, rfl⟩
abbrev main_v11 : Ref sig .tc := ⟨.hbm, 27, rfl⟩
abbrev main_cst_5 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_6 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_7 : Ref sig .tc := ⟨.hbm, 39, rfl⟩
abbrev main_v21 : Ref sig .tc := ⟨.hbm, 40, rfl⟩
abbrev main_v22 : Ref sig .tc := ⟨.hbm, 41, rfl⟩
abbrev main_cst_8 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_9 : Ref sig .tc := ⟨.hbm, 46, rfl⟩
abbrev main_v26 : Ref sig .tc := ⟨.hbm, 47, rfl⟩
abbrev main_v27 : Ref sig .tc := ⟨.hbm, 48, rfl⟩
abbrev main_cst_10 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_11 : Ref sig .tc := ⟨.hbm, 53, rfl⟩
abbrev main_v31 : Ref sig .tc := ⟨.hbm, 54, rfl⟩
abbrev main_v32 : Ref sig .tc := ⟨.hbm, 55, rfl⟩
abbrev main_cst_12 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_13 : Ref sig .tc := ⟨.hbm, 60, rfl⟩
abbrev main_v36 : Ref sig .tc := ⟨.hbm, 61, rfl⟩
abbrev main_v37 : Ref sig .tc := ⟨.hbm, 62, rfl⟩
abbrev main_cst_14 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_15 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_16 : Ref sig .tc := ⟨.hbm, 80, rfl⟩
abbrev main_v53 : Ref sig .tc := ⟨.hbm, 81, rfl⟩
abbrev main_v54 : Ref sig .tc := ⟨.hbm, 82, rfl⟩
abbrev main_c_17 : Ref sig .tc := ⟨.hbm, 83, rfl⟩
abbrev main_v55 : Ref sig .tc := ⟨.hbm, 84, rfl⟩
abbrev main_v56 : Ref sig .tc := ⟨.hbm, 85, rfl⟩
abbrev main_c_18 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_19 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81_0 : Ref sig .tc := ⟨.hbm, 112, rfl⟩
abbrev main_v81_1 : Ref sig .tc := ⟨.hbm, 113, rfl⟩
abbrev main_v81_2 : Ref sig .tc := ⟨.hbm, 114, rfl⟩
abbrev main_v81_3 : Ref sig .tc := ⟨.hbm, 115, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![66], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32_14 : BitVec 32 := 0#32
  let c4_i32 : BitVec 32 := 4#32
  let v25 : BitVec 32 := Scalar.addi c0_i32_14 c4_i32
  let c1_i32 : BitVec 32 := 1#32
  ⟨c0_i32_14, v25, c1_i32⟩
def k0_off2 (k0_t1 : Fin k0_t1_loop.trips) : Fin 3 → Nat :=
  let c0_i32_14 : BitVec 32 := 0#32
  let c1_i32 : BitVec 32 := 1#32
  let arg22 : BitVec 32 := Scf.iv c0_i32_14 c1_i32 k0_t1
  let v26 : Index := Scalar.indexCast arg22
  let c0_16 : Index := 0#32
  let c0_17 : Index := 0#32
  ![v26.toNat, 0, 0]
def k0_off3 (k0_t1 : Fin k0_t1_loop.trips) : Fin 4 → Nat :=
  let c0_18 : Index := 0#32
  let c0_i32_14 : BitVec 32 := 0#32
  let c1_i32 : BitVec 32 := 1#32
  let arg22 : BitVec 32 := Scf.iv c0_i32_14 c1_i32 k0_t1
  let v32 : Index := Scalar.indexCast arg22
  let c0_19 : Index := 0#32
  let c0_20 : Index := 0#32
  ![0, v32.toNat, 0, 0]
def k0_off4 (k0_t1 : Fin k0_t1_loop.trips) (c0_i32_24 : BitVec 32) : Fin 3 → Nat :=
  let c2_i32 : BitVec 32 := 2#32
  let c0_i32_14 : BitVec 32 := 0#32
  let c1_i32 : BitVec 32 := 1#32
  let arg22 : BitVec 32 := Scf.iv c0_i32_14 c1_i32 k0_t1
  let v39 : BitVec 32 := Scalar.muli c2_i32 arg22
  let v40 : BitVec 32 := Scalar.addi v39 c0_i32_24
  let v41 : Index := Scalar.indexCast v40
  let c0_25 : Index := 0#32
  let c0_26 : Index := 0#32
  ![v41.toNat, 0, 0]
def k0_off5 (k0_t1 : Fin k0_t1_loop.trips) (c0_i32_24 : BitVec 32) : Fin 3 → Nat :=
  let c2_i32 : BitVec 32 := 2#32
  let c0_i32_14 : BitVec 32 := 0#32
  let c1_i32 : BitVec 32 := 1#32
  let arg22 : BitVec 32 := Scf.iv c0_i32_14 c1_i32 k0_t1
  let v39 : BitVec 32 := Scalar.muli c2_i32 arg22
  let v40 : BitVec 32 := Scalar.addi v39 c0_i32_24
  let v67 : Index := Scalar.indexCast v40
  let c0_33 : Index := 0#32
  let c0_34 : Index := 0#32
  ![v67.toNat, 0, 0]
def k0_off6 (k0_t1 : Fin k0_t1_loop.trips) : Fin 3 → Nat :=
  let c0_i32_14 : BitVec 32 := 0#32
  let c1_i32 : BitVec 32 := 1#32
  let arg22 : BitVec 32 := Scf.iv c0_i32_14 c1_i32 k0_t1
  let v73 : Index := Scalar.indexCast arg22
  let c0_35 : Index := 0#32
  let c0_36 : Index := 0#32
  ![v73.toNat, 0, 0]
def k0_off7 (k0_t1 : Fin k0_t1_loop.trips) : Fin 4 → Nat :=
  let c0_42 : Index := 0#32
  let c0_i32_14 : BitVec 32 := 0#32
  let c1_i32 : BitVec 32 := 1#32
  let arg22 : BitVec 32 := Scf.iv c0_i32_14 c1_i32 k0_t1
  let v86 : Index := Scalar.indexCast arg22
  let c0_43 : Index := 0#32
  let c256 : Index := 256#32
  ![0, v86.toNat, 0, 256]
@[reducible] def k0_t2_loop : Scf.Loop 32 :=
  let c0_i32_14 : BitVec 32 := 0#32
  let c4_i32 : BitVec 32 := 4#32
  let v28 : BitVec 32 := Scalar.addi c0_i32_14 c4_i32
  let c1_i32 : BitVec 32 := 1#32
  ⟨c0_i32_14, v28, c1_i32⟩
def k0_off8 (k0_t2 : Fin k0_t2_loop.trips) : Fin 3 → Nat :=
  let c0_i32_14 : BitVec 32 := 0#32
  let c1_i32 : BitVec 32 := 1#32
  let arg22 : BitVec 32 := Scf.iv c0_i32_14 c1_i32 k0_t2
  let v177 : Index := Scalar.indexCast arg22
  let c0_97 : Index := 0#32
  let c0_98 : Index := 0#32
  ![v177.toNat, 0, 0]
def k0_off9 (k0_t2 : Fin k0_t2_loop.trips) : Fin 4 → Nat :=
  let c0_99 : Index := 0#32
  let c0_i32_14 : BitVec 32 := 0#32
  let c1_i32 : BitVec 32 := 1#32
  let arg22 : BitVec 32 := Scf.iv c0_i32_14 c1_i32 k0_t2
  let v183 : Index := Scalar.indexCast arg22
  let c0_100 : Index := 0#32
  let c0_101 : Index := 0#32
  ![0, v183.toNat, 0, 0]
def k0_off10 (k0_t2 : Fin k0_t2_loop.trips) (c0_i32_107 : BitVec 32) : Fin 3 → Nat :=
  let c2_i32 : BitVec 32 := 2#32
  let c0_i32_14 : BitVec 32 := 0#32
  let c1_i32 : BitVec 32 := 1#32
  let arg22 : BitVec 32 := Scf.iv c0_i32_14 c1_i32 k0_t2
  let v192 : BitVec 32 := Scalar.muli c2_i32 arg22
  let v193 : BitVec 32 := Scalar.addi v192 c0_i32_107
  let v194 : Index := Scalar.indexCast v193
  let c0_108 : Index := 0#32
  let c0_109 : Index := 0#32
  ![v194.toNat, 0, 0]
def k0_off11 (k0_t2 : Fin k0_t2_loop.trips) (c0_i32_107 : BitVec 32) : Fin 3 → Nat :=
  let c2_i32 : BitVec 32 := 2#32
  let c0_i32_14 : BitVec 32 := 0#32
  let c1_i32 : BitVec 32 := 1#32
  let arg22 : BitVec 32 := Scf.iv c0_i32_14 c1_i32 k0_t2
  let v192 : BitVec 32 := Scalar.muli c2_i32 arg22
  let v193 : BitVec 32 := Scalar.addi v192 c0_i32_107
  let v220 : Index := Scalar.indexCast v193
  let c0_116 : Index := 0#32
  let c0_117 : Index := 0#32
  ![v220.toNat, 0, 0]
def k0_off12 (k0_t2 : Fin k0_t2_loop.trips) : Fin 3 → Nat :=
  let c0_i32_14 : BitVec 32 := 0#32
  let c1_i32 : BitVec 32 := 1#32
  let arg22 : BitVec 32 := Scf.iv c0_i32_14 c1_i32 k0_t2
  let v226 : Index := Scalar.indexCast arg22
  let c0_118 : Index := 0#32
  let c0_119 : Index := 0#32
  ![v226.toNat, 0, 0]
def k0_off13 (k0_t2 : Fin k0_t2_loop.trips) : Fin 4 → Nat :=
  let c0_125 : Index := 0#32
  let c0_i32_14 : BitVec 32 := 0#32
  let c1_i32 : BitVec 32 := 1#32
  let arg22 : BitVec 32 := Scf.iv c0_i32_14 c1_i32 k0_t2
  let v239 : Index := Scalar.indexCast arg22
  let c0_126 : Index := 0#32
  let c256 : Index := 256#32
  ![0, v239.toNat, 0, 256]
def k0_cond3 (v10 : BitVec 32) (v12 : BitVec 32) : BitVec 1 :=
  let v19 : BitVec 1 := Scalar.cmpi .eq v12 v10
  let v20 : BitVec 32 := Scalar.extui v19
  let c0_i32_13 : BitVec 32 := 0#32
  let v21 : BitVec 1 := Scalar.cmpi .ne v20 c0_i32_13
  v21

def cc0_transform_0 (k0_off1_inb : ∀ i : grid0.Coords, ∀ a, (k0_off1 i) a + S1.size a ≤ S66.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S66) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, c0_i32_0.toNat, v1.toNat, c0_i32_1.toNat]

def cc0_transform_1 (k0_off1_inb : ∀ i : grid0.Coords, ∀ a, (k0_off1 i) a + S1.size a ≤ S66.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S66) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, c0_i32.toNat, v1.toNat, c0_i32_0.toNat]

def cc0_transform_2 (k0_off1_inb : ∀ i : grid0.Coords, ∀ a, (k0_off1 i) a + S1.size a ≤ S66.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S66) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let v1 : BitVec 32 := Scalar.addi c0_i32 v0
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let v1 : BitVec 32 := Scalar.addi c0_i32 v0
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let v1 : BitVec 32 := Scalar.addi c0_i32 v0
  let c0_i32_0 : BitVec 32 := 0#32
  let c0_i32_1 : BitVec 32 := 0#32
  ![v1.toNat, c0_i32_0.toNat]

def cc0_transform_12 (k0_off1_inb : ∀ i : grid0.Coords, ∀ a, (k0_off1 i) a + S1.size a ≤ S66.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S66) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat]

def cc0_transform_13 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

abbrev stage0_0 : Fin 2 → Memref sig .tc .vmem S1x4x768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x768x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S32x8192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x768x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x8192 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== AttnIdeal.lean ====
variable {F : FTy → Type} [FloatOps F] [Named F]
def κ : String → Option EReal := fun
  | "mask" => some ⊥
  | _ => none
-- ==== AttnRefIdeal.lean ====
abbrev S8448x1024 : Shape := ⟨2, ![8448, 1024]⟩
abbrev S1x128 : Shape := ⟨2, ![1, 128]⟩
abbrev S1x256 : Shape := ⟨2, ![1, 256]⟩
abbrev S4096x8192 : Shape := ⟨2, ![4096, 8192]⟩
abbrev S16384x2048 : Shape := ⟨2, ![16384, 2048]⟩
abbrev S2048x2048 : Shape := ⟨2, ![2048, 2048]⟩
abbrev S4 : Shape := ⟨1, ![4]⟩
abbrev S8448x4x2x128 : Shape := ⟨4, ![8448, 4, 2, 128]⟩
abbrev S8448x4x256 : Shape := ⟨3, ![8448, 4, 256]⟩
abbrev S_ : Shape := ⟨0, ![]⟩
abbrev S8448 : Shape := ⟨1, ![8448]⟩
abbrev S4x1x1x1 : Shape := ⟨4, ![4, 1, 1, 1]⟩
abbrev S4x2x8448x8448 : Shape := ⟨4, ![4, 2, 8448, 8448]⟩
abbrev S8448x1 : Shape := ⟨2, ![8448, 1]⟩
abbrev S1x8448 : Shape := ⟨2, ![1, 8448]⟩
abbrev S8448x8448 : Shape := ⟨2, ![8448, 8448]⟩
abbrev S1x1x8448x8448 : Shape := ⟨4, ![1, 1, 8448, 8448]⟩
abbrev S4x1x8448x8448 : Shape := ⟨4, ![4, 1, 8448, 8448]⟩
abbrev S4x2x8448 : Shape := ⟨3, ![4, 2, 8448]⟩
abbrev S4x2x8448x1 : Shape := ⟨4, ![4, 2, 8448, 1]⟩
abbrev S4x8448x8448 : Shape := ⟨3, ![4, 8448, 8448]⟩
abbrev S4x8448x256 : Shape := ⟨3, ![4, 8448, 256]⟩
abbrev S4x8448 : Shape := ⟨2, ![4, 8448]⟩
abbrev S4x8448x1 : Shape := ⟨3, ![4, 8448, 1]⟩
abbrev S1x1x256 : Shape := ⟨3, ![1, 1, 256]⟩
abbrev S2048x8192 : Shape := ⟨2, ![2048, 8192]⟩
abbrev S8192x2048 : Shape := ⟨2, ![8192, 2048]⟩

abbrev nBuf : Space → Nat
  | .hbm => 97
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x1024, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x256, .f32⟩
  | .hbm, ⟨8, _⟩ => ⟨S4096x8192, .f32⟩
  | .hbm, ⟨9, _⟩ => ⟨S16384x2048, .f32⟩
  | .hbm, ⟨10, _⟩ => ⟨S2048x2048, .f32⟩
  | .hbm, ⟨11, _⟩ => ⟨S4, .f32⟩
  | .hbm, ⟨12, _⟩ => ⟨S8448x4x2x128, .f32⟩
  | .hbm, ⟨13, _⟩ => ⟨S8448x4x2x128, .f32⟩
  | .hbm, ⟨14, _⟩ => ⟨S8448x4x256, .f32⟩
  | .hbm, ⟨15, _⟩ => ⟨S1x128, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x128, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S8448, .i32⟩
  | .hbm, ⟨27, _⟩ => ⟨S4x1x1x1, .f32⟩
  | .hbm, ⟨28, _⟩ => ⟨S4x2x8448x8448, .f32⟩
  | .hbm, ⟨29, _⟩ => ⟨S_, .f32⟩
  | .hbm, ⟨30, _⟩ => ⟨S4x2x8448x8448, .f32⟩
  | .hbm, ⟨31, _⟩ => ⟨S4x2x8448x8448, .f32⟩
  | .hbm, ⟨32, _⟩ => ⟨S8448x1, .i32⟩
  | .hbm, ⟨33, _⟩ => ⟨S1x8448, .i32⟩
  | .hbm, ⟨34, _⟩ => ⟨S8448x8448, .i32⟩
  | .hbm, ⟨35, _⟩ => ⟨S8448x8448, .i32⟩
  | .hbm, ⟨36, _⟩ => ⟨S8448x8448, .i32⟩
  | .hbm, ⟨37, _⟩ => ⟨S8448x8448, .f32⟩
  | .hbm, ⟨38, _⟩ => ⟨S1x1x8448x8448, .f32⟩
  | .hbm, ⟨39, _⟩ => ⟨S4x1x8448x8448, .f32⟩
  | .hbm, ⟨40, _⟩ => ⟨S4x1x8448x8448, .f32⟩
  | .hbm, ⟨41, _⟩ => ⟨S4x1x8448x8448, .f32⟩
  | .hbm, ⟨42, _⟩ => ⟨S4x2x8448x8448, .f32⟩
  | .hbm, ⟨43, _⟩ => ⟨S4x2x8448x8448, .f32⟩
  | .hbm, ⟨44, _⟩ => ⟨S1x8448, .i32⟩
  | .hbm, ⟨45, _⟩ => ⟨S8448x1, .i32⟩
  | .hbm, ⟨46, _⟩ => ⟨S8448x8448, .i32⟩
  | .hbm, ⟨47, _⟩ => ⟨S8448x8448, .i32⟩
  | .hbm, ⟨48, _⟩ => ⟨S8448x8448, .i1⟩
  | .hbm, ⟨49, _⟩ => ⟨S4x2x8448x8448, .i1⟩
  | .hbm, ⟨50, _⟩ => ⟨S_, .f32⟩
  | .hbm, ⟨51, _⟩ => ⟨S4x2x8448x8448, .f32⟩
  | .hbm, ⟨52, _⟩ => ⟨S4x2x8448x8448, .f32⟩
  | .hbm, ⟨53, _⟩ => ⟨S_, .f32⟩
  | .hbm, ⟨54, _⟩ => ⟨S4x2x8448, .f32⟩
  | .hbm, ⟨55, _⟩ => ⟨S4x2x8448x1, .f32⟩
  | .hbm, ⟨56, _⟩ => ⟨S4x2x8448x8448, .f32⟩
  | .hbm, ⟨57, _⟩ => ⟨S4x2x8448x8448, .f32⟩
  | .hbm, ⟨58, _⟩ => ⟨S4x2x8448x8448, .f32⟩
  | .hbm, ⟨59, _⟩ => ⟨S_, .f32⟩
  | .hbm, ⟨60, _⟩ => ⟨S4x2x8448, .f32⟩
  | .hbm, ⟨61, _⟩ => ⟨S4x2x8448x1, .f32⟩
  | .hbm, ⟨62, _⟩ => ⟨S4x2x8448x8448, .f32⟩
  | .hbm, ⟨63, _⟩ => ⟨S4x2x8448x8448, .f32⟩
  | .hbm, ⟨64, _⟩ => ⟨S4x1x8448x8448, .f32⟩
  | .hbm, ⟨65, _⟩ => ⟨S4x8448x8448, .f32⟩
  | .hbm, ⟨66, _⟩ => ⟨S4x1x8448x8448, .f32⟩
  | .hbm, ⟨67, _⟩ => ⟨S4x8448x8448, .f32⟩
  | .hbm, ⟨68, _⟩ => ⟨S4x8448x8448, .f32⟩
  | .hbm, ⟨69, _⟩ => ⟨S4x8448x8448, .f32⟩
  | .hbm, ⟨70, _⟩ => ⟨S4x8448x8448, .f32⟩
  | .hbm, ⟨71, _⟩ => ⟨S4x8448x256, .f32⟩
  | .hbm, ⟨72, _⟩ => ⟨S4x8448x256, .f32⟩
  | .hbm, ⟨73, _⟩ => ⟨S_, .f32⟩
  | .hbm, ⟨74, _⟩ => ⟨S4x8448, .f32⟩
  | .hbm, ⟨75, _⟩ => ⟨S4x8448x1, .f32⟩
  | .hbm, ⟨76, _⟩ => ⟨S_, .f32⟩
  | .hbm, ⟨77, _⟩ => ⟨S4x8448x1, .f32⟩
  | .hbm, ⟨78, _⟩ => ⟨S4x8448x1, .f32⟩
  | .hbm, ⟨79, _⟩ => ⟨S_, .f32⟩
  | .hbm, ⟨80, _⟩ => ⟨S4x8448x1, .f32⟩
  | .hbm, ⟨81, _⟩ => ⟨S4x8448x1, .f32⟩
  | .hbm, ⟨82, _⟩ => ⟨S4x8448x1, .f32⟩
  | .hbm, ⟨83, _⟩ => ⟨S4x8448x256, .f32⟩
  | .hbm, ⟨84, _⟩ => ⟨S4x8448x256, .f32⟩
  | .hbm, ⟨85, _⟩ => ⟨S1x1x256, .f32⟩
  | .hbm, ⟨86, _⟩ => ⟨S4x8448x256, .f32⟩
  | .hbm, ⟨87, _⟩ => ⟨S4x8448x256, .f32⟩
  | .hbm, ⟨88, _⟩ => ⟨S_, .f32⟩
  | .hbm, ⟨89, _⟩ => ⟨S4x8448x256, .f32⟩
  | .hbm, ⟨90, _⟩ => ⟨S4x8448x256, .f32⟩
  | .hbm, ⟨91, _⟩ => ⟨S4x8448x256, .bf16⟩
  | .hbm, ⟨92, _⟩ => ⟨S2048x8192, .f32⟩
  | .hbm, ⟨93, _⟩ => ⟨S2048x8192, .bf16⟩
  | .hbm, ⟨94, _⟩ => ⟨S8192x2048, .f32⟩
  | .hbm, ⟨95, _⟩ => ⟨S8192x2048, .bf16⟩
  | .hbm, ⟨96, _⟩ => ⟨S2048x2048, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_7 : Ref sig .tc := ⟨.hbm, 73, rfl⟩
abbrev main_v54 : Ref sig .tc := ⟨.hbm, 74, rfl⟩
abbrev main_v55 : Ref sig .tc := ⟨.hbm, 75, rfl⟩
abbrev main_cst_8 : Ref sig .tc := ⟨.hbm, 76, rfl⟩
abbrev main_v56 : Ref sig .tc := ⟨.hbm, 77, rfl⟩
abbrev main_v57 : Ref sig .tc := ⟨.hbm, 78, rfl⟩
abbrev main_cst_9 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_10 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩

abbrev nD : Nat := 1
abbrev τ : Topo := Topo.v7x

variable {F : FTy → Type} [FloatOps F]
-- ==== Mlp.lean ====
abbrev S8448x2048 : Shape := ⟨2, ![8448, 2048]⟩
abbrev S2048x8192 : Shape := ⟨2, ![2048, 8192]⟩
abbrev S8192x2048 : Shape := ⟨2, ![8192, 2048]⟩
abbrev S1x2048 : Shape := ⟨2, ![1, 2048]⟩
abbrev S768x2048 : Shape := ⟨2, ![768, 2048]⟩
abbrev S2048x512 : Shape := ⟨2, ![2048, 512]⟩
abbrev S512x2048 : Shape := ⟨2, ![512, 2048]⟩
abbrev S768x512 : Shape := ⟨2, ![768, 512]⟩
abbrev S768 : Shape := ⟨1, ![768]⟩
abbrev S768x1 : Shape := ⟨2, ![768, 1]⟩

abbrev nBuf : Space → Nat
  | .hbm => 6
  | .vmem => 12
  | .smem => 0
  | _ => 0

abbrev bufTy : (tb : Table) → Fin (tcTables nBuf tb) → BufTy
  | .hbm, ⟨0, _⟩ => ⟨S8448x2048, .f32⟩
  | .hbm, ⟨1, _⟩ => ⟨S2048x8192, .bf16⟩
  | .hbm, ⟨2, _⟩ => ⟨S8192x2048, .bf16⟩
  | .hbm, ⟨3, _⟩ => ⟨S1x2048, .f32⟩
  | .hbm, ⟨4, _⟩ => ⟨S1x2048, .f32⟩
  | .hbm, ⟨5, _⟩ => ⟨S8448x2048, .f32⟩
  | .local _ .vmem, ⟨0, _⟩ => ⟨S768x2048, .f32⟩
  | .local _ .vmem, ⟨1, _⟩ => ⟨S768x2048, .f32⟩
  | .local _ .vmem, ⟨2, _⟩ => ⟨S2048x512, .bf16⟩
  | .local _ .vmem, ⟨3, _⟩ => ⟨S2048x512, .bf16⟩
  | .local _ .vmem, ⟨4, _⟩ => ⟨S512x2048, .bf16⟩
  | .local _ .vmem, ⟨5, _⟩ => ⟨S512x2048, .bf16⟩
  | .local _ .vmem, ⟨6, _⟩ => ⟨S1x2048, .f32⟩
  | .local _ .vmem, ⟨7, _⟩ => ⟨S1x2048, .f32⟩
  | .local _ .vmem, ⟨8, _⟩ => ⟨S768x2048, .f32⟩
  | .local _ .vmem, ⟨9, _⟩ => ⟨S768x2048, .f32⟩
  | .local _ .vmem, ⟨10, _⟩ => ⟨S768x2048, .bf16⟩
  | .local _ .vmem, ⟨11, _⟩ => ⟨S768x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![11, 16], ![false, false]⟩

def k0_cond2 (i : grid0.Coords) : BitVec 1 :=
  let arg1 : BitVec 32 := BitVec.ofNat 32 (i 1).val
  let c15_i32 : BitVec 32 := 15#32
  let v17 : BitVec 1 := Scalar.cmpi .eq arg1 c15_i32
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S768x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpRefIdeal.lean ====
abbrev S8448x2048 : Shape := ⟨2, ![8448, 2048]⟩
abbrev S2048x8192 : Shape := ⟨2, ![2048, 8192]⟩
abbrev S8192x2048 : Shape := ⟨2, ![8192, 2048]⟩
abbrev S1x2048 : Shape := ⟨2, ![1, 2048]⟩
abbrev S8448x8192 : Shape := ⟨2, ![8448, 8192]⟩
abbrev S_ : Shape := ⟨0, ![]⟩
abbrev S8448 : Shape := ⟨1, ![8448]⟩
abbrev S8448x1 : Shape := ⟨2, ![8448, 1]⟩

abbrev nBuf : Space → Nat
  | .hbm => 44
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x8192, .bf16⟩
  | .hbm, ⟨2, _⟩ => ⟨S8192x2048, .bf16⟩
  | .hbm, ⟨3, _⟩ => ⟨S1x2048, .f32⟩
  | .hbm, ⟨4, _⟩ => ⟨S1x2048, .f32⟩
  | .hbm, ⟨5, _⟩ => ⟨S8448x2048, .bf16⟩
  | .hbm, ⟨6, _⟩ => ⟨S8448x8192, .f32⟩
  | .hbm, ⟨7, _⟩ => ⟨S_, .f32⟩
  | .hbm, ⟨8, _⟩ => ⟨S8448x8192, .f32⟩
  | .hbm, ⟨9, _⟩ => ⟨S8448x8192, .f32⟩
  | .hbm, ⟨10, _⟩ => ⟨S8448x8192, .f32⟩
  | .hbm, ⟨11, _⟩ => ⟨S_, .f32⟩
  | .hbm, ⟨12, _⟩ => ⟨S8448x2048, .f32⟩
  | .hbm, ⟨13, _⟩ => ⟨S8448x2048, .f32⟩
  | .hbm, ⟨14, _⟩ => ⟨S8448x8192, .bf16⟩
  | .hbm, ⟨15, _⟩ => ⟨S8448x2048, .f32⟩
  | .hbm, ⟨16, _⟩ => ⟨S8448x2048, .f32⟩
  | .hbm, ⟨17, _⟩ => ⟨S_, .f32⟩
  | .hbm, ⟨18, _⟩ => ⟨S8448, .f32⟩
  | .hbm, ⟨19, _⟩ => ⟨S8448x1, .f32⟩
  | .hbm, ⟨20, _⟩ => ⟨S_, .f32⟩
  | .hbm, ⟨21, _⟩ => ⟨S8448x1, .f32⟩
  | .hbm, ⟨22, _⟩ => ⟨S8448x1, .f32⟩
  | .hbm, ⟨23, _⟩ => ⟨S8448x2048, .f32⟩
  | .hbm, ⟨24, _⟩ => ⟨S8448x2048, .f32⟩
  | .hbm, ⟨25, _⟩ => ⟨S8448x2048, .f32⟩
  | .hbm, ⟨26, _⟩ => ⟨S_, .f32⟩
  | .hbm, ⟨27, _⟩ => ⟨S8448, .f32⟩
  | .hbm, ⟨28, _⟩ => ⟨S8448x1, .f32⟩
  | .hbm, ⟨29, _⟩ => ⟨S_, .f32⟩
  | .hbm, ⟨30, _⟩ => ⟨S8448x1, .f32⟩
  | .hbm, ⟨31, _⟩ => ⟨S8448x1, .f32⟩
  | .hbm, ⟨32, _⟩ => ⟨S8448x2048, .f32⟩
  | .hbm, ⟨33, _⟩ => ⟨S8448x2048, .f32⟩
  | .hbm, ⟨34, _⟩ => ⟨S_, .f32⟩
  | .hbm, ⟨35, _⟩ => ⟨S8448x1, .f32⟩
  | .hbm, ⟨36, _⟩ => ⟨S8448x1, .f32⟩
  | .hbm, ⟨37, _⟩ => ⟨S8448x1, .f32⟩
  | .hbm, ⟨38, _⟩ => ⟨S8448x2048, .f32⟩
  | .hbm, ⟨39, _⟩ => ⟨S8448x2048, .f32⟩
  | .hbm, ⟨40, _⟩ => ⟨S8448x2048, .f32⟩
  | .hbm, ⟨41, _⟩ => ⟨S8448x2048, .f32⟩
  | .hbm, ⟨42, _⟩ => ⟨S8448x2048, .f32⟩
  | .hbm, ⟨43, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Final.lean ====
abbrev S8448x2048 : Shape := ⟨2, ![8448, 2048]⟩
abbrev S2048x8192 : Shape := ⟨2, ![2048, 8192]⟩
abbrev S8192x2048 : Shape := ⟨2, ![8192, 2048]⟩
abbrev S1x2048 : Shape := ⟨2, ![1, 2048]⟩
abbrev S128x2048 : Shape := ⟨2, ![128, 2048]⟩
abbrev S768x2048 : Shape := ⟨2, ![768, 2048]⟩
abbrev S2048x512 : Shape := ⟨2, ![2048, 512]⟩
abbrev S512x2048 : Shape := ⟨2, ![512, 2048]⟩
abbrev S768x512 : Shape := ⟨2, ![768, 512]⟩
abbrev S768 : Shape := ⟨1, ![768]⟩
abbrev S768x1 : Shape := ⟨2, ![768, 1]⟩

abbrev nBuf : Space → Nat
  | .hbm => 7
  | .vmem => 13
  | .smem => 0
  | _ => 0

abbrev bufTy : (tb : Table) → Fin (tcTables nBuf tb) → BufTy
  | .hbm, ⟨0, _⟩ => ⟨S8448x2048, .f32⟩
  | .hbm, ⟨1, _⟩ => ⟨S2048x8192, .bf16⟩
  | .hbm, ⟨2, _⟩ => ⟨S8192x2048, .bf16⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S128x2048, .f32⟩
  | .local _ .vmem, ⟨0, _⟩ => ⟨S768x2048, .f32⟩
  | .local _ .vmem, ⟨1, _⟩ => ⟨S768x2048, .f32⟩
  | .local _ .vmem, ⟨2, _⟩ => ⟨S2048x512, .bf16⟩
  | .local _ .vmem, ⟨3, _⟩ => ⟨S2048x512, .bf16⟩
  | .local _ .vmem, ⟨4, _⟩ => ⟨S512x2048, .bf16⟩
  | .local _ .vmem, ⟨5, _⟩ => ⟨S512x2048, .bf16⟩
  | .local _ .vmem, ⟨6, _⟩ => ⟨S1x2048, .f32⟩
  | .local _ .vmem, ⟨7, _⟩ => ⟨S1x2048, .f32⟩
  | .local _ .vmem, ⟨8, _⟩ => ⟨S768x2048, .f32⟩
  | .local _ .vmem, ⟨9, _⟩ => ⟨S768x2048, .f32⟩
  | .local _ .vmem, ⟨10, _⟩ => ⟨S128x2048, .f32⟩
  | .local _ .vmem, ⟨11, _⟩ => ⟨S768x2048, .bf16⟩
  | .local _ .vmem, ⟨12, _⟩ => ⟨S768x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![11, 16], ![false, false]⟩

def k0_mult1 (i : grid0.Coords) : BitVec 32 :=
  let arg0 : BitVec 32 := BitVec.ofNat 32 (i 0).val
  let c10_i32 : BitVec 32 := 10#32
  let v0 : BitVec 1 := Scalar.cmpi .slt arg0 c10_i32
  let c16_i32 : BitVec 32 := 16#32
  let c768_i32 : BitVec 32 := 768#32
  let v1 : BitVec 32 := Scalar.muli c768_i32 arg0
  let v2 : BitVec 32 := Scalar.addi c16_i32 v1
  let c7680_i32 : BitVec 32 := 7680#32
  let v3 : BitVec 32 := Scalar.select v0 v2 c7680_i32
  v3
def k0_cond2 (i : grid0.Coords) : BitVec 1 :=
  let arg1 : BitVec 32 := BitVec.ofNat 32 (i 1).val
  let c15_i32 : BitVec 32 := 15#32
  let v17 : BitVec 1 := Scalar.cmpi .eq arg1 c15_i32
  let arg0 : BitVec 32 := BitVec.ofNat 32 (i 0).val
  let c10_i32 : BitVec 32 := 10#32
  let v18 : BitVec 1 := Scalar.cmpi .slt arg0 c10_i32
  let v19 : BitVec 1 := Scalar.andi v17 v18
  let v20 : BitVec 32 := Scalar.extui v19
  let c0_i32_12 : BitVec 32 := 0#32
  let v21 : BitVec 1 := Scalar.cmpi .ne v20 c0_i32_12
  v21

def k0_cond3 (i : grid0.Coords) : BitVec 1 :=
  let arg1 : BitVec 32 := BitVec.ofNat 32 (i 1).val
  let c15_i32_13 : BitVec 32 := 15#32
  let v22 : BitVec 1 := Scalar.cmpi .eq arg1 c15_i32_13
  let arg0 : BitVec 32 := BitVec.ofNat 32 (i 0).val
  let c10_i32_14 : BitVec 32 := 10#32
  let v23 : BitVec 1 := Scalar.cmpi .eq arg0 c10_i32_14
  let v24 : BitVec 1 := Scalar.andi v22 v23
  let v25 : BitVec 32 := Scalar.extui v24
  let c0_i32_15 : BitVec 32 := 0#32
  let v26 : BitVec 1 := Scalar.cmpi .ne v25 c0_i32_15
  v26

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 1 := Scalar.cmpi .slt arg0 c10_i32
  let c768_i32 : BitVec 32 := 768#32
  let v1 : BitVec 32 := Scalar.muli c768_i32 arg0
  let c16_i32 : BitVec 32 := 16#32
  let v2 : BitVec 32 := Scalar.addi c16_i32 v1
  let c7680_i32 : BitVec 32 := 7680#32
  let v3 : BitVec 32 := Scalar.select v0 v2 c7680_i32
  let v4 : BitVec 32 := v3
  let c0_i32 : BitVec 32 := 0#32
  let c0_i32_0 : BitVec 32 := 0#32
  ![v4.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S768x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== FinalRefIdeal.lean ====
abbrev S8448x2048 : Shape := ⟨2, ![8448, 2048]⟩
abbrev S2048x8192 : Shape := ⟨2, ![2048, 8192]⟩
abbrev S8192x2048 : Shape := ⟨2, ![8192, 2048]⟩
abbrev S1x2048 : Shape := ⟨2, ![1, 2048]⟩
abbrev S8448x8192 : Shape := ⟨2, ![8448, 8192]⟩
abbrev S_ : Shape := ⟨0, ![]⟩
abbrev S8448 : Shape := ⟨1, ![8448]⟩
abbrev S8448x1 : Shape := ⟨2, ![8448, 1]⟩
abbrev S128x2048 : Shape := ⟨2, ![128, 2048]⟩

abbrev nBuf : Space → Nat
  | .hbm => 46
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x8192, .bf16⟩
  | .hbm, ⟨2, _⟩ => ⟨S8192x2048, .bf16⟩
  | .hbm, ⟨3, _⟩ => ⟨S1x2048, .f32⟩
  | .hbm, ⟨4, _⟩ => ⟨S1x2048, .f32⟩
  | .hbm, ⟨5, _⟩ => ⟨S8448x2048, .bf16⟩
  | .hbm, ⟨6, _⟩ => ⟨S8448x8192, .f32⟩
  | .hbm, ⟨7, _⟩ => ⟨S_, .f32⟩
  | .hbm, ⟨8, _⟩ => ⟨S8448x8192, .f32⟩
  | .hbm, ⟨9, _⟩ => ⟨S8448x8192, .f32⟩
  | .hbm, ⟨10, _⟩ => ⟨S8448x8192, .f32⟩
  | .hbm, ⟨11, _⟩ => ⟨S_, .f32⟩
  | .hbm, ⟨12, _⟩ => ⟨S8448x2048, .f32⟩
  | .hbm, ⟨13, _⟩ => ⟨S8448x2048, .f32⟩
  | .hbm, ⟨14, _⟩ => ⟨S8448x8192, .bf16⟩
  | .hbm, ⟨15, _⟩ => ⟨S8448x2048, .f32⟩
  | .hbm, ⟨16, _⟩ => ⟨S8448x2048, .f32⟩
  | .hbm, ⟨17, _⟩ => ⟨S_, .f32⟩
  | .hbm, ⟨18, _⟩ => ⟨S8448, .f32⟩
  | .hbm, ⟨19, _⟩ => ⟨S8448x1, .f32⟩
  | .hbm, ⟨20, _⟩ => ⟨S_, .f32⟩
  | .hbm, ⟨21, _⟩ => ⟨S8448x1, .f32⟩
  | .hbm, ⟨22, _⟩ => ⟨S8448x1, .f32⟩
  | .hbm, ⟨23, _⟩ => ⟨S8448x2048, .f32⟩
  | .hbm, ⟨24, _⟩ => ⟨S8448x2048, .f32⟩
  | .hbm, ⟨25, _⟩ => ⟨S8448x2048, .f32⟩
  | .hbm, ⟨26, _⟩ => ⟨S_, .f32⟩
  | .hbm, ⟨27, _⟩ => ⟨S8448, .f32⟩
  | .hbm, ⟨28, _⟩ => ⟨S8448x1, .f32⟩
  | .hbm, ⟨29, _⟩ => ⟨S_, .f32⟩
  | .hbm, ⟨30, _⟩ => ⟨S8448x1, .f32⟩
  | .hbm, ⟨31, _⟩ => ⟨S8448x1, .f32⟩
  | .hbm, ⟨32, _⟩ => ⟨S8448x2048, .f32⟩
  | .hbm, ⟨33, _⟩ => ⟨S8448x2048, .f32⟩
  | .hbm, ⟨34, _⟩ => ⟨S_, .f32⟩
  | .hbm, ⟨35, _⟩ => ⟨S8448x1, .f32⟩
  | .hbm, ⟨36, _⟩ => ⟨S8448x1, .f32⟩
  | .hbm, ⟨37, _⟩ => ⟨S8448x1, .f32⟩
  | .hbm, ⟨38, _⟩ => ⟨S8448x2048, .f32⟩
  | .hbm, ⟨39, _⟩ => ⟨S8448x2048, .f32⟩
  | .hbm, ⟨40, _⟩ => ⟨S8448x2048, .f32⟩
  | .hbm, ⟨41, _⟩ => ⟨S8448x2048, .f32⟩
  | .hbm, ⟨42, _⟩ => ⟨S8448x2048, .f32⟩
  | .hbm, ⟨43, _⟩ => ⟨S8448x2048, .f32⟩
  | .hbm, ⟨44, _⟩ => ⟨S8192x2048, .f32⟩
  | .hbm, ⟨45, _⟩ => ⟨S128x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Proof.AttnIdealStep.lean ====
module

public import proofs.«01_k».proof.Proof.Gen.AttnIdeal.Loops
public import Idealize.ShloMosaic.Lib.Pipeline.FrameBody
public import Idealize.ShloMosaic.Lib.Pointwise
public import Idealize.ShloMosaic.Lib.WritesUnit

@[expose] public section

set_option maxRecDepth 16384

noncomputable section

namespace Cert.AttnIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnIdeal Cert.AttnIdeal.Gen

variable {F : FTy → Type} [FloatOps F] [Named F]

/-! ## One update of the running softmax, as a function of the values it reads -/

/-- The scores of one tile for one head and half: masked on the diagonal tile (`b`), plain below it. -/
def qk (b : Bool) (q k : Vec F S1x1x768x256 .bf16) : FVec F S768x768 .f32 :=
  bif b then k0_pay29 k0_pay46 q k else k0_pay16 q k

/-- Each row's greatest score of the tile, moved by the tile's shift. -/
def top (sh : FVec F S1x1 .f32) (S : FVec F S768x768 .f32) : FVec F S768x1 .f32 :=
  addf (shapeCast S768x1 (multiReduction .maximumf [1] S768 S 0xFF800000#32 reduces_S768x768_S768 (.inl rfl) rfl) shapeCasts_S768_S768x1)
    (broadcastTo S768x1 sh broadcasts_S1x1_S768x1)

/-- The running maximum after the tile. -/
def nextM (sh : FVec F S1x1 .f32) (S : FVec F S768x768 .f32) (mo : Vec F S1x768x1 .f32) : FVec F S1x768x1 .f32 :=
  k0_pay13 (k0_pay26 mo) (top sh S)

/-- The running denominator after the tile. -/
def nextL (sh : FVec F S1x1 .f32) (S : FVec F S768x768 .f32) (mo lo : Vec F S1x768x1 .f32) : FVec F S1x768x1 .f32 :=
  k0_pay11 sh S (k0_pay26 mo) (top sh S) lo

/-- The running numerator after the tile. -/
def nextA (sh : FVec F S1x1 .f32) (S : FVec F S768x768 .f32) (mo : Vec F S1x768x1 .f32) (ao : Vec F S1x768x256 .f32)
    (v : Vec F S1x768x256 .bf16) : FVec F S1x768x256 .f32 :=
  k0_pay12 sh S (k0_pay26 mo) (top sh S) ao v

/-- What one trip of the unmasked loop stores: for each of the head's two halves the next maximum, denominator and
    numerator, each a function of what the trip finds. -/
theorem k0_t1_stores (𝒱 : Variants) (c : Dev nD) (bd : Option 𝒱.V) (i : grid0.Coords) (arg1 : Memref sig .tc .smem S66 .i32) (harg1 : arg1.IsWhole) (arg2 : Memref sig .tc .smem S66 .i32) (harg2 : arg2.IsWhole) (arg3 : Memref sig .tc .vmem S1x4x768x512 .bf16) (harg3 : arg3.IsWhole) (arg4 : Memref sig .tc .vmem S1x4x768x512 .bf16) (harg4 : arg4.IsWhole) (arg5 : Memref sig .tc .vmem S4x768x256 .bf16) (harg5 : arg5.IsWhole) (arg6 : Memref sig .tc .vmem S4x1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x256 .f32) (harg11 : arg11.IsWhole) (arg12 : Memref sig .tc .vmem S32x8192 .f32) (harg12 : arg12.IsWhole) (arg13 : Memref sig .tc .vmem S128x2048 .f32) (harg13 : arg13.IsWhole) (arg14 : Memref sig .tc .vmem S32x2048 .f32) (harg14 : arg14.IsWhole) (arg15 : Memref sig .tc .vmem S4x768x256 .bf16) (harg15 : arg15.IsWhole) (arg16 : Memref sig .tc .vmem S32x8192 .bf16) (harg16 : arg16.IsWhole) (arg17 : Memref sig .tc .vmem S128x2048 .bf16) (harg17 : arg17.IsWhole) (arg18 : Memref sig .tc .vmem S32x2048 .bf16) (harg18 : arg18.IsWhole) (arg19 : Memref sig .tc .vmem S8x768x1 .f32) (harg19 : arg19.IsWhole) (arg20 : Memref sig .tc .vmem S8x768x1 .f32) (harg20 : arg20.IsWhole) (arg21 : Memref sig .tc .vmem S8x768x256 .f32) (harg21 : arg21.IsWhole) (v10 : Elt F .i32) (v12 : Elt F .i32) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) (f_arg19 : BufTy.Contents (Elt F) arg19.view.ty) (f_arg20 : BufTy.Contents (Elt F) arg20.view.ty) (f_arg21 : BufTy.Contents (Elt F) arg21.view.ty) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v10 v12 X_arg3 X_arg4 X_arg5 X_arg6 k f_arg19 f_arg20 f_arg21
      = ([⟨Rect.unit (s := S8x768x1) (k0_off4 k 1#32) S1x768x1.size (k0_off4_inb k 1), nextM (k0_pay15 (k0_pay7 v10 v12) (View.readAt (Elt F) arg6.view (Rect.unit (s := S4x1x128) (k0_off2 k) S1x1x128.size (k0_off2_inb k)).toLoadRect X_arg6)) (qk false (View.readAt (Elt F) arg3.view (Rect.unit (s := S1x4x768x512) (k0_off7 k) S1x1x768x256.size (k0_off7_inb k)).toLoadRect X_arg3) (View.readAt (Elt F) arg4.view (Rect.unit (s := S1x4x768x512) (k0_off7 k) S1x1x768x256.size (k0_off7_inb k)).toLoadRect X_arg4)) (View.readAt (Elt F) arg19.view (Rect.unit (s := S8x768x1) (k0_off4 k 1#32) S1x768x1.size (k0_off4_inb k 1)).toLoadRect f_arg19)⟩,
          ⟨Rect.unit (s := S8x768x1) (k0_off4 k 0#32) S1x768x1.size (k0_off4_inb k 0), nextM (k0_pay15 (k0_pay7 v10 v12) (View.readAt (Elt F) arg6.view (Rect.unit (s := S4x1x128) (k0_off2 k) S1x1x128.size (k0_off2_inb k)).toLoadRect X_arg6)) (qk false (View.readAt (Elt F) arg3.view (Rect.unit (s := S1x4x768x512) (k0_off3 k) S1x1x768x256.size (k0_off3_inb k)).toLoadRect X_arg3) (View.readAt (Elt F) arg4.view (Rect.unit (s := S1x4x768x512) (k0_off3 k) S1x1x768x256.size (k0_off3_inb k)).toLoadRect X_arg4)) (View.readAt (Elt F) arg19.view (Rect.unit (s := S8x768x1) (k0_off4 k 0#32) S1x768x1.size (k0_off4_inb k 0)).toLoadRect f_arg19)⟩],
         [⟨Rect.unit (s := S8x768x1) (k0_off4 k 1#32) S1x768x1.size (k0_off4_inb k 1), nextL (k0_pay15 (k0_pay7 v10 v12) (View.readAt (Elt F) arg6.view (Rect.unit (s := S4x1x128) (k0_off2 k) S1x1x128.size (k0_off2_inb k)).toLoadRect X_arg6)) (qk false (View.readAt (Elt F) arg3.view (Rect.unit (s := S1x4x768x512) (k0_off7 k) S1x1x768x256.size (k0_off7_inb k)).toLoadRect X_arg3) (View.readAt (Elt F) arg4.view (Rect.unit (s := S1x4x768x512) (k0_off7 k) S1x1x768x256.size (k0_off7_inb k)).toLoadRect X_arg4)) (View.readAt (Elt F) arg19.view (Rect.unit (s := S8x768x1) (k0_off4 k 1#32) S1x768x1.size (k0_off4_inb k 1)).toLoadRect f_arg19) (View.readAt (Elt F) arg20.view (Rect.unit (s := S8x768x1) (k0_off4 k 1#32) S1x768x1.size (k0_off4_inb k 1)).toLoadRect f_arg20)⟩,
          ⟨Rect.unit (s := S8x768x1) (k0_off4 k 0#32) S1x768x1.size (k0_off4_inb k 0), nextL (k0_pay15 (k0_pay7 v10 v12) (View.readAt (Elt F) arg6.view (Rect.unit (s := S4x1x128) (k0_off2 k) S1x1x128.size (k0_off2_inb k)).toLoadRect X_arg6)) (qk false (View.readAt (Elt F) arg3.view (Rect.unit (s := S1x4x768x512) (k0_off3 k) S1x1x768x256.size (k0_off3_inb k)).toLoadRect X_arg3) (View.readAt (Elt F) arg4.view (Rect.unit (s := S1x4x768x512) (k0_off3 k) S1x1x768x256.size (k0_off3_inb k)).toLoadRect X_arg4)) (View.readAt (Elt F) arg19.view (Rect.unit (s := S8x768x1) (k0_off4 k 0#32) S1x768x1.size (k0_off4_inb k 0)).toLoadRect f_arg19) (View.readAt (Elt F) arg20.view (Rect.unit (s := S8x768x1) (k0_off4 k 0#32) S1x768x1.size (k0_off4_inb k 0)).toLoadRect f_arg20)⟩],
         [⟨Rect.unit (s := S8x768x256) (k0_off5 k 1#32) S1x768x256.size (k0_off5_inb k 1), nextA (k0_pay15 (k0_pay7 v10 v12) (View.readAt (Elt F) arg6.view (Rect.unit (s := S4x1x128) (k0_off2 k) S1x1x128.size (k0_off2_inb k)).toLoadRect X_arg6)) (qk false (View.readAt (Elt F) arg3.view (Rect.unit (s := S1x4x768x512) (k0_off7 k) S1x1x768x256.size (k0_off7_inb k)).toLoadRect X_arg3) (View.readAt (Elt F) arg4.view (Rect.unit (s := S1x4x768x512) (k0_off7 k) S1x1x768x256.size (k0_off7_inb k)).toLoadRect X_arg4)) (View.readAt (Elt F) arg19.view (Rect.unit (s := S8x768x1) (k0_off4 k 1#32) S1x768x1.size (k0_off4_inb k 1)).toLoadRect f_arg19) (View.readAt (Elt F) arg21.view (Rect.unit (s := S8x768x256) (k0_off5 k 1#32) S1x768x256.size (k0_off5_inb k 1)).toLoadRect f_arg21) (View.readAt (Elt F) arg5.view (Rect.unit (s := S4x768x256) (k0_off6 k) S1x768x256.size (k0_off6_inb k)).toLoadRect X_arg5)⟩,
          ⟨Rect.unit (s := S8x768x256) (k0_off5 k 0#32) S1x768x256.size (k0_off5_inb k 0), nextA (k0_pay15 (k0_pay7 v10 v12) (View.readAt (Elt F) arg6.view (Rect.unit (s := S4x1x128) (k0_off2 k) S1x1x128.size (k0_off2_inb k)).toLoadRect X_arg6)) (qk false (View.readAt (Elt F) arg3.view (Rect.unit (s := S1x4x768x512) (k0_off3 k) S1x1x768x256.size (k0_off3_inb k)).toLoadRect X_arg3) (View.readAt (Elt F) arg4.view (Rect.unit (s := S1x4x768x512) (k0_off3 k) S1x1x768x256.size (k0_off3_inb k)).toLoadRect X_arg4)) (View.readAt (Elt F) arg19.view (Rect.unit (s := S8x768x1) (k0_off4 k 0#32) S1x768x1.size (k0_off4_inb k 0)).toLoadRect f_arg19) (View.readAt (Elt F) arg21.view (Rect.unit (s := S8x768x256) (k0_off5 k 0#32) S1x768x256.size (k0_off5_inb k 0)).toLoadRect f_arg21) (View.readAt (Elt F) arg5.view (Rect.unit (s := S4x768x256) (k0_off6 k) S1x768x256.size (k0_off6_inb k)).toLoadRect X_arg5)⟩]) := by
  dsimp only [tripL_k0_t1]
  unfold trip_k0_t1
  dsimp only
  rfl

/-- What one trip of the masked loop stores: for each of the head's two halves the next maximum, denominator and
    numerator, each a function of what the trip finds. -/
theorem k0_t2_stores (𝒱 : Variants) (c : Dev nD) (bd : Option 𝒱.V) (i : grid0.Coords) (arg1 : Memref sig .tc .smem S66 .i32) (harg1 : arg1.IsWhole) (arg2 : Memref sig .tc .smem S66 .i32) (harg2 : arg2.IsWhole) (arg3 : Memref sig .tc .vmem S1x4x768x512 .bf16) (harg3 : arg3.IsWhole) (arg4 : Memref sig .tc .vmem S1x4x768x512 .bf16) (harg4 : arg4.IsWhole) (arg5 : Memref sig .tc .vmem S4x768x256 .bf16) (harg5 : arg5.IsWhole) (arg6 : Memref sig .tc .vmem S4x1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x256 .f32) (harg11 : arg11.IsWhole) (arg12 : Memref sig .tc .vmem S32x8192 .f32) (harg12 : arg12.IsWhole) (arg13 : Memref sig .tc .vmem S128x2048 .f32) (harg13 : arg13.IsWhole) (arg14 : Memref sig .tc .vmem S32x2048 .f32) (harg14 : arg14.IsWhole) (arg15 : Memref sig .tc .vmem S4x768x256 .bf16) (harg15 : arg15.IsWhole) (arg16 : Memref sig .tc .vmem S32x8192 .bf16) (harg16 : arg16.IsWhole) (arg17 : Memref sig .tc .vmem S128x2048 .bf16) (harg17 : arg17.IsWhole) (arg18 : Memref sig .tc .vmem S32x2048 .bf16) (harg18 : arg18.IsWhole) (arg19 : Memref sig .tc .vmem S8x768x1 .f32) (harg19 : arg19.IsWhole) (arg20 : Memref sig .tc .vmem S8x768x1 .f32) (harg20 : arg20.IsWhole) (arg21 : Memref sig .tc .vmem S8x768x256 .f32) (harg21 : arg21.IsWhole) (v10 : Elt F .i32) (v12 : Elt F .i32) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t2_loop.trips) (f_arg19 : BufTy.Contents (Elt F) arg19.view.ty) (f_arg20 : BufTy.Contents (Elt F) arg20.view.ty) (f_arg21 : BufTy.Contents (Elt F) arg21.view.ty) :
    tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v10 v12 X_arg3 X_arg4 X_arg5 X_arg6 k f_arg19 f_arg20 f_arg21
      = ([⟨Rect.unit (s := S8x768x1) (k0_off10 k 1#32) S1x768x1.size (k0_off10_inb k 1), nextM (k0_pay15 (k0_pay7 v10 v12) (View.readAt (Elt F) arg6.view (Rect.unit (s := S4x1x128) (k0_off8 k) S1x1x128.size (k0_off8_inb k)).toLoadRect X_arg6)) (qk true (View.readAt (Elt F) arg3.view (Rect.unit (s := S1x4x768x512) (k0_off13 k) S1x1x768x256.size (k0_off13_inb k)).toLoadRect X_arg3) (View.readAt (Elt F) arg4.view (Rect.unit (s := S1x4x768x512) (k0_off13 k) S1x1x768x256.size (k0_off13_inb k)).toLoadRect X_arg4)) (View.readAt (Elt F) arg19.view (Rect.unit (s := S8x768x1) (k0_off10 k 1#32) S1x768x1.size (k0_off10_inb k 1)).toLoadRect f_arg19)⟩,
          ⟨Rect.unit (s := S8x768x1) (k0_off10 k 0#32) S1x768x1.size (k0_off10_inb k 0), nextM (k0_pay15 (k0_pay7 v10 v12) (View.readAt (Elt F) arg6.view (Rect.unit (s := S4x1x128) (k0_off8 k) S1x1x128.size (k0_off8_inb k)).toLoadRect X_arg6)) (qk true (View.readAt (Elt F) arg3.view (Rect.unit (s := S1x4x768x512) (k0_off9 k) S1x1x768x256.size (k0_off9_inb k)).toLoadRect X_arg3) (View.readAt (Elt F) arg4.view (Rect.unit (s := S1x4x768x512) (k0_off9 k) S1x1x768x256.size (k0_off9_inb k)).toLoadRect X_arg4)) (View.readAt (Elt F) arg19.view (Rect.unit (s := S8x768x1) (k0_off10 k 0#32) S1x768x1.size (k0_off10_inb k 0)).toLoadRect f_arg19)⟩],
         [⟨Rect.unit (s := S8x768x1) (k0_off10 k 1#32) S1x768x1.size (k0_off10_inb k 1), nextL (k0_pay15 (k0_pay7 v10 v12) (View.readAt (Elt F) arg6.view (Rect.unit (s := S4x1x128) (k0_off8 k) S1x1x128.size (k0_off8_inb k)).toLoadRect X_arg6)) (qk true (View.readAt (Elt F) arg3.view (Rect.unit (s := S1x4x768x512) (k0_off13 k) S1x1x768x256.size (k0_off13_inb k)).toLoadRect X_arg3) (View.readAt (Elt F) arg4.view (Rect.unit (s := S1x4x768x512) (k0_off13 k) S1x1x768x256.size (k0_off13_inb k)).toLoadRect X_arg4)) (View.readAt (Elt F) arg19.view (Rect.unit (s := S8x768x1) (k0_off10 k 1#32) S1x768x1.size (k0_off10_inb k 1)).toLoadRect f_arg19) (View.readAt (Elt F) arg20.view (Rect.unit (s := S8x768x1) (k0_off10 k 1#32) S1x768x1.size (k0_off10_inb k 1)).toLoadRect f_arg20)⟩,
          ⟨Rect.unit (s := S8x768x1) (k0_off10 k 0#32) S1x768x1.size (k0_off10_inb k 0), nextL (k0_pay15 (k0_pay7 v10 v12) (View.readAt (Elt F) arg6.view (Rect.unit (s := S4x1x128) (k0_off8 k) S1x1x128.size (k0_off8_inb k)).toLoadRect X_arg6)) (qk true (View.readAt (Elt F) arg3.view (Rect.unit (s := S1x4x768x512) (k0_off9 k) S1x1x768x256.size (k0_off9_inb k)).toLoadRect X_arg3) (View.readAt (Elt F) arg4.view (Rect.unit (s := S1x4x768x512) (k0_off9 k) S1x1x768x256.size (k0_off9_inb k)).toLoadRect X_arg4)) (View.readAt (Elt F) arg19.view (Rect.unit (s := S8x768x1) (k0_off10 k 0#32) S1x768x1.size (k0_off10_inb k 0)).toLoadRect f_arg19) (View.readAt (Elt F) arg20.view (Rect.unit (s := S8x768x1) (k0_off10 k 0#32) S1x768x1.size (k0_off10_inb k 0)).toLoadRect f_arg20)⟩],
         [⟨Rect.unit (s := S8x768x256) (k0_off11 k 1#32) S1x768x256.size (k0_off11_inb k 1), nextA (k0_pay15 (k0_pay7 v10 v12) (View.readAt (Elt F) arg6.view (Rect.unit (s := S4x1x128) (k0_off8 k) S1x1x128.size (k0_off8_inb k)).toLoadRect X_arg6)) (qk true (View.readAt (Elt F) arg3.view (Rect.unit (s := S1x4x768x512) (k0_off13 k) S1x1x768x256.size (k0_off13_inb k)).toLoadRect X_arg3) (View.readAt (Elt F) arg4.view (Rect.unit (s := S1x4x768x512) (k0_off13 k) S1x1x768x256.size (k0_off13_inb k)).toLoadRect X_arg4)) (View.readAt (Elt F) arg19.view (Rect.unit (s := S8x768x1) (k0_off10 k 1#32) S1x768x1.size (k0_off10_inb k 1)).toLoadRect f_arg19) (View.readAt (Elt F) arg21.view (Rect.unit (s := S8x768x256) (k0_off11 k 1#32) S1x768x256.size (k0_off11_inb k 1)).toLoadRect f_arg21) (View.readAt (Elt F) arg5.view (Rect.unit (s := S4x768x256) (k0_off12 k) S1x768x256.size (k0_off12_inb k)).toLoadRect X_arg5)⟩,
          ⟨Rect.unit (s := S8x768x256) (k0_off11 k 0#32) S1x768x256.size (k0_off11_inb k 0), nextA (k0_pay15 (k0_pay7 v10 v12) (View.readAt (Elt F) arg6.view (Rect.unit (s := S4x1x128) (k0_off8 k) S1x1x128.size (k0_off8_inb k)).toLoadRect X_arg6)) (qk true (View.readAt (Elt F) arg3.view (Rect.unit (s := S1x4x768x512) (k0_off9 k) S1x1x768x256.size (k0_off9_inb k)).toLoadRect X_arg3) (View.readAt (Elt F) arg4.view (Rect.unit (s := S1x4x768x512) (k0_off9 k) S1x1x768x256.size (k0_off9_inb k)).toLoadRect X_arg4)) (View.readAt (Elt F) arg19.view (Rect.unit (s := S8x768x1) (k0_off10 k 0#32) S1x768x1.size (k0_off10_inb k 0)).toLoadRect f_arg19) (View.readAt (Elt F) arg21.view (Rect.unit (s := S8x768x256) (k0_off11 k 0#32) S1x768x256.size (k0_off11_inb k 0)).toLoadRect f_arg21) (View.readAt (Elt F) arg5.view (Rect.unit (s := S4x768x256) (k0_off12 k) S1x768x256.size (k0_off12_inb k)).toLoadRect X_arg5)⟩]) := by
  dsimp only [tripL_k0_t2]
  unfold trip_k0_t2
  dsimp only
  rfl

/-! ## The blocks a head reads -/

/-- The head and the half of a scratch row. -/
def hd (p : Fin 8) : Fin 4 := ⟨p.val / 2, by omega⟩
def hf (p : Fin 8) : Fin 2 := ⟨p.val % 2, by omega⟩

def headS (x : Vec F S4x1x128 .f32) (h : Fin 4) : Vec F S1x1x128 .f32 := fun j => x (ix3 h (j 1) (j 2))
def headQ (x : Vec F S1x4x768x512 .bf16) (h : Fin 4) (c : Fin 2) : Vec F S1x1x768x256 .bf16 :=
  fun j => x (ix4 0 h (j 2) ⟨256 * c.val + (j 3).val, by have := c.isLt; have h3 : (j 3).val < 256 := (j 3).isLt; show _ < 512; omega⟩)
def headV (x : Vec F S4x768x256 .bf16) (h : Fin 4) : Vec F S1x768x256 .bf16 := fun j => x (ix3 h (j 1) (j 2))
def rowM (x : Vec F S8x768x1 .f32) (p : Fin 8) : Vec F S1x768x1 .f32 := fun j => x (ix3 p (j 1) (j 2))
def rowA (x : Vec F S8x768x256 .f32) (p : Fin 8) : Vec F S1x768x256 .f32 := fun j => x (ix3 p (j 1) (j 2))

/-- What a tile leaves in the three scratch buffers, all heads done, from what it found. -/
def loopM (b : Bool) (w : F .f32) (x3 x4 : Vec F S1x4x768x512 .bf16) (x6 : Vec F S4x1x128 .f32) (M : Vec F S8x768x1 .f32) : Vec F S8x768x1 .f32 :=
  fun y => nextM (k0_pay15 w (headS x6 (hd (y 0)))) (qk b (headQ x3 (hd (y 0)) (hf (y 0))) (headQ x4 (hd (y 0)) (hf (y 0)))) (rowM M (y 0)) (ix3 0 (y 1) (y 2))
def loopL (b : Bool) (w : F .f32) (x3 x4 : Vec F S1x4x768x512 .bf16) (x6 : Vec F S4x1x128 .f32) (M L : Vec F S8x768x1 .f32) : Vec F S8x768x1 .f32 :=
  fun y => nextL (k0_pay15 w (headS x6 (hd (y 0)))) (qk b (headQ x3 (hd (y 0)) (hf (y 0))) (headQ x4 (hd (y 0)) (hf (y 0)))) (rowM M (y 0)) (rowM L (y 0)) (ix3 0 (y 1) (y 2))
def loopA (b : Bool) (w : F .f32) (x3 x4 : Vec F S1x4x768x512 .bf16) (x5 : Vec F S4x768x256 .bf16) (x6 : Vec F S4x1x128 .f32) (M : Vec F S8x768x1 .f32)
    (A : Vec F S8x768x256 .f32) : Vec F S8x768x256 .f32 :=
  fun y => nextA (k0_pay15 w (headS x6 (hd (y 0)))) (qk b (headQ x3 (hd (y 0)) (hf (y 0))) (headQ x4 (hd (y 0)) (hf (y 0)))) (rowM M (y 0)) (rowA A (y 0))
    (headV x5 (hd (y 0))) (ix3 0 (y 1) (y 2))

/-! ## Loads and stores at a row -/

/-- A load at a unit-stride rectangle, at an index. -/
theorem load_at {sig : RefSig} {κ : Kind} {sp : Space} {s : Shape} {e : EltTy} {Val : EltTy → Type} (v : View sig κ sp s e) (f : v.ty.Contents Val)
    {off off' : Fin s.rank → ℕ} {size : Fin s.rank → ℕ} (inb : ∀ a, off a + size a ≤ s.size a) (h : off = off')
    (x : (Rect.unit off size inb).shape.Idx) (z : s.Idx) (hz : ∀ a, (z a).val = off' a + (x a).val) :
    v.readAt Val (Rect.unit off size inb).toLoadRect f x = v.read Val f z := by
  subst h
  refine congrArg (v.read Val f) (funext fun a => Fin.ext ?_)
  show off a + 1 * (x a).val = (z a).val
  rw [hz a, Nat.one_mul]

/-- Two stores at consecutive rows: the two rows read what was stored, the others what was there. -/
theorem two_rows {sig : RefSig} {κ : Kind} {sp : Space} {D : ℕ} {e : EltTy} {Val : EltTy → Type} (v : View sig κ sp (⟨3, ![8, 768, D]⟩ : Shape) e)
    (f : v.ty.Contents Val) (n : ℕ) {off0 off1 : Fin 3 → ℕ} (h0 : off0 = ![2 * n, 0, 0]) (h1 : off1 = ![2 * n + 1, 0, 0])
    (inb0 : ∀ a, off0 a + (![1, 768, D] : Fin 3 → ℕ) a ≤ (⟨3, ![8, 768, D]⟩ : Shape).size a)
    (inb1 : ∀ a, off1 a + (![1, 768, D] : Fin 3 → ℕ) a ≤ (⟨3, ![8, 768, D]⟩ : Shape).size a)
    (w0 : (⟨3, ![1, 768, D]⟩ : Shape).Idx → Val e) (w1 : (⟨3, ![1, 768, D]⟩ : Shape).Idx → Val e)
    (L : List (View.Piece Val (⟨3, ![8, 768, D]⟩ : Shape) e)) (y0 : Fin 8) (y1 : Fin 768) (y2 : Fin D) :
    v.read Val (v.writes Val f ((⟨Rect.unit off1 ![1, 768, D] inb1, w1⟩ : View.Piece Val _ e) :: (⟨Rect.unit off0 ![1, 768, D] inb0, w0⟩ : View.Piece Val _ e) :: L)) (ix3 y0 y1 y2)
      = if y0.val = 2 * n + 1 then w1 (ix3 0 y1 y2) else if y0.val = 2 * n then w0 (ix3 0 y1 y2) else v.read Val (v.writes Val f L) (ix3 y0 y1 y2) := by
  split
  · rename_i h
    exact View.read_writes_cons_unit_of_mem v f inb1 w1 _ (ix3 y0 y1 y2) (ix3 0 y1 y2) h1
      fun a => match a with | ⟨0, _⟩ => by simpa using h | ⟨1, _⟩ => by simp | ⟨2, _⟩ => by simp
  · rename_i h
    refine (View.read_writes_cons_unit_of_not_mem v f inb1 w1 _ (ix3 y0 y1 y2) h1 0 ?_).trans ?_
    · show y0.val < 2 * n + 1 ∨ 2 * n + 1 + 1 ≤ y0.val
      omega
    split
    · rename_i h'
      exact View.read_writes_cons_unit_of_mem v f inb0 w0 _ (ix3 y0 y1 y2) (ix3 0 y1 y2) h0
        fun a => match a with | ⟨0, _⟩ => by simpa using h' | ⟨1, _⟩ => by simp | ⟨2, _⟩ => by simp
    · rename_i h'
      refine View.read_writes_cons_unit_of_not_mem v f inb0 w0 _ (ix3 y0 y1 y2) h0 0 ?_
      show y0.val < 2 * n ∨ 2 * n + 1 ≤ y0.val
      omega

end Cert.AttnIdeal.Flash

end
-- ==== Proof.AttnIdealLoop.lean ====
module

public import proofs.«01_k».proof.Proof.AttnIdealStep

@[expose] public section

set_option maxRecDepth 16384

noncomputable section

namespace Cert.AttnIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnIdeal Cert.AttnIdeal.Gen

variable {F : FTy → Type} [FloatOps F] [Named F]

/-! ## The loops -/

theorem k0_t1_trips : k0_t1_loop.trips = 4 := by decide +kernel
theorem k0_t1_o1 : ∀ k : Fin k0_t1_loop.trips, k0_off2 k = ![k.val, 0, 0] := by decide +kernel
theorem k0_t1_o2 : ∀ k : Fin k0_t1_loop.trips, k0_off3 k = ![0, k.val, 0, 0] := by decide +kernel
theorem k0_t1_o3 : ∀ k : Fin k0_t1_loop.trips, k0_off4 k 0#32 = ![2 * k.val, 0, 0] := by decide +kernel
theorem k0_t1_o3' : ∀ k : Fin k0_t1_loop.trips, k0_off4 k 1#32 = ![2 * k.val + 1, 0, 0] := by decide +kernel
theorem k0_t1_o4 : ∀ k : Fin k0_t1_loop.trips, k0_off5 k 0#32 = ![2 * k.val, 0, 0] := by decide +kernel
theorem k0_t1_o4' : ∀ k : Fin k0_t1_loop.trips, k0_off5 k 1#32 = ![2 * k.val + 1, 0, 0] := by decide +kernel
theorem k0_t1_o5 : ∀ k : Fin k0_t1_loop.trips, k0_off6 k = ![k.val, 0, 0] := by decide +kernel
theorem k0_t1_o6 : ∀ k : Fin k0_t1_loop.trips, k0_off7 k = ![0, k.val, 0, 256] := by decide +kernel

set_option maxHeartbeats 4000000 in
/-- After `n` trips of the unmasked loop the rows of the first `n` heads are updated, the others as the loop found them. -/
theorem k0_t1_upto (𝒱 : Variants) (c : Dev nD) (bd : Option 𝒱.V) (i : grid0.Coords) (arg1 : Memref sig .tc .smem S66 .i32) (harg1 : arg1.IsWhole) (arg2 : Memref sig .tc .smem S66 .i32) (harg2 : arg2.IsWhole) (arg3 : Memref sig .tc .vmem S1x4x768x512 .bf16) (harg3 : arg3.IsWhole) (arg4 : Memref sig .tc .vmem S1x4x768x512 .bf16) (harg4 : arg4.IsWhole) (arg5 : Memref sig .tc .vmem S4x768x256 .bf16) (harg5 : arg5.IsWhole) (arg6 : Memref sig .tc .vmem S4x1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x256 .f32) (harg11 : arg11.IsWhole) (arg12 : Memref sig .tc .vmem S32x8192 .f32) (harg12 : arg12.IsWhole) (arg13 : Memref sig .tc .vmem S128x2048 .f32) (harg13 : arg13.IsWhole) (arg14 : Memref sig .tc .vmem S32x2048 .f32) (harg14 : arg14.IsWhole) (arg15 : Memref sig .tc .vmem S4x768x256 .bf16) (harg15 : arg15.IsWhole) (arg16 : Memref sig .tc .vmem S32x8192 .bf16) (harg16 : arg16.IsWhole) (arg17 : Memref sig .tc .vmem S128x2048 .bf16) (harg17 : arg17.IsWhole) (arg18 : Memref sig .tc .vmem S32x2048 .bf16) (harg18 : arg18.IsWhole) (arg19 : Memref sig .tc .vmem S8x768x1 .f32) (harg19 : arg19.IsWhole) (arg20 : Memref sig .tc .vmem S8x768x1 .f32) (harg20 : arg20.IsWhole) (arg21 : Memref sig .tc .vmem S8x768x256 .f32) (harg21 : arg21.IsWhole) (v10 : Elt F .i32) (v12 : Elt F .i32) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (G_arg19 : BufTy.Contents (Elt F) arg19.view.ty) (G_arg20 : BufTy.Contents (Elt F) arg20.view.ty) (G_arg21 : BufTy.Contents (Elt F) arg21.view.ty) (n : ℕ) (hn : n ≤ 4) :
    (∀ (y0 : Fin 8) (y1 : Fin 768) (y2 : Fin 1), arg19.view.read (Elt F) (arg19.view.writes (Elt F) G_arg19 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v10 v12 X_arg3 X_arg4 X_arg5 X_arg6 G_arg19 G_arg20 G_arg21 (n)).1) (ix3 y0 y1 y2)
        = if y0.val < 2 * (n) then (loopM false (k0_pay7 v10 v12) (arg3.view.read (Elt F) X_arg3) (arg4.view.read (Elt F) X_arg4) (arg6.view.read (Elt F) X_arg6) (arg19.view.read (Elt F) G_arg19)) (ix3 y0 y1 y2) else (arg19.view.read (Elt F) G_arg19) (ix3 y0 y1 y2))
    ∧ (∀ (y0 : Fin 8) (y1 : Fin 768) (y2 : Fin 1), arg20.view.read (Elt F) (arg20.view.writes (Elt F) G_arg20 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v10 v12 X_arg3 X_arg4 X_arg5 X_arg6 G_arg19 G_arg20 G_arg21 (n)).2.1) (ix3 y0 y1 y2)
        = if y0.val < 2 * (n) then (loopL false (k0_pay7 v10 v12) (arg3.view.read (Elt F) X_arg3) (arg4.view.read (Elt F) X_arg4) (arg6.view.read (Elt F) X_arg6) (arg19.view.read (Elt F) G_arg19) (arg20.view.read (Elt F) G_arg20)) (ix3 y0 y1 y2) else (arg20.view.read (Elt F) G_arg20) (ix3 y0 y1 y2))
    ∧ (∀ (y0 : Fin 8) (y1 : Fin 768) (y2 : Fin 256), arg21.view.read (Elt F) (arg21.view.writes (Elt F) G_arg21 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v10 v12 X_arg3 X_arg4 X_arg5 X_arg6 G_arg19 G_arg20 G_arg21 (n)).2.2) (ix3 y0 y1 y2)
        = if y0.val < 2 * (n) then (loopA false (k0_pay7 v10 v12) (arg3.view.read (Elt F) X_arg3) (arg4.view.read (Elt F) X_arg4) (arg5.view.read (Elt F) X_arg5) (arg6.view.read (Elt F) X_arg6) (arg19.view.read (Elt F) G_arg19) (arg21.view.read (Elt F) G_arg21)) (ix3 y0 y1 y2) else (arg21.view.read (Elt F) G_arg21) (ix3 y0 y1 y2)) := by
  induction n with
  | zero =>
    exact ⟨fun y0 y1 y2 => (if_neg (by omega)).symm, fun y0 y1 y2 => (if_neg (by omega)).symm, fun y0 y1 y2 => (if_neg (by omega)).symm⟩
  | succ n ih =>
    have hn4 : n < 4 := by omega
    have hp0 : 2 * n + 0 < 8 := by omega
    have hp1 : 2 * n + 1 < 8 := by omega
    have hk : n < k0_t1_loop.trips := by rw [k0_t1_trips]; exact hn4
    obtain ⟨ihM, ihL, ihA⟩ := ih (by omega)
    have hs := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v10 v12 X_arg3 X_arg4 X_arg5 X_arg6 G_arg19 G_arg20 G_arg21 ⟨n, hk⟩
    rw [k0_t1_stores] at hs
    dsimp only [show (⟨n, hk⟩ : Fin k0_t1_loop.trips).val = n from rfl] at hs
    have eS : (View.readAt (Elt F) arg6.view (Rect.unit (s := S4x1x128) (k0_off2 ⟨n, hk⟩) S1x1x128.size (k0_off2_inb ⟨n, hk⟩)).toLoadRect X_arg6) = headS (arg6.view.read (Elt F) X_arg6) ⟨n, hn4⟩ := funext fun x => load_at _ _ _ (k0_t1_o1 ⟨n, hk⟩) x (ix3 ⟨n, hn4⟩ (x 1) (x 2)) fun a => match a with | ⟨0, _⟩ => by have hx : (x 0).val < 1 := (x 0).isLt; show n = n + (x 0).val; omega | ⟨1, _⟩ => (Nat.zero_add _).symm | ⟨2, _⟩ => (Nat.zero_add _).symm
    have eQ0 : (View.readAt (Elt F) arg3.view (Rect.unit (s := S1x4x768x512) (k0_off3 ⟨n, hk⟩) S1x1x768x256.size (k0_off3_inb ⟨n, hk⟩)).toLoadRect X_arg3) = headQ (arg3.view.read (Elt F) X_arg3) ⟨n, hn4⟩ 0 := funext fun x => load_at _ _ _ (k0_t1_o2 ⟨n, hk⟩) x (ix4 0 ⟨n, hn4⟩ (x 2) ⟨256 * (0 : Fin 2).val + (x 3).val, by have h3 : (x 3).val < 256 := (x 3).isLt; show 256 * 0 + _ < 512; omega⟩) fun a => match a with | ⟨0, _⟩ => by have hx : (x 0).val < 1 := (x 0).isLt; show 0 = 0 + (x 0).val; omega | ⟨1, _⟩ => by have hx : (x 1).val < 1 := (x 1).isLt; show n = n + (x 1).val; omega | ⟨2, _⟩ => (Nat.zero_add _).symm | ⟨3, _⟩ => by show 256 * 0 + (x 3).val = 0 + (x 3).val; omega
    have eQ1 : (View.readAt (Elt F) arg3.view (Rect.unit (s := S1x4x768x512) (k0_off7 ⟨n, hk⟩) S1x1x768x256.size (k0_off7_inb ⟨n, hk⟩)).toLoadRect X_arg3) = headQ (arg3.view.read (Elt F) X_arg3) ⟨n, hn4⟩ 1 := funext fun x => load_at _ _ _ (k0_t1_o6 ⟨n, hk⟩) x (ix4 0 ⟨n, hn4⟩ (x 2) ⟨256 * (1 : Fin 2).val + (x 3).val, by have h3 : (x 3).val < 256 := (x 3).isLt; show 256 * 1 + _ < 512; omega⟩) fun a => match a with | ⟨0, _⟩ => by have hx : (x 0).val < 1 := (x 0).isLt; show 0 = 0 + (x 0).val; omega | ⟨1, _⟩ => by have hx : (x 1).val < 1 := (x 1).isLt; show n = n + (x 1).val; omega | ⟨2, _⟩ => (Nat.zero_add _).symm | ⟨3, _⟩ => by show 256 * 1 + (x 3).val = 256 + (x 3).val; omega
    have eK0 : (View.readAt (Elt F) arg4.view (Rect.unit (s := S1x4x768x512) (k0_off3 ⟨n, hk⟩) S1x1x768x256.size (k0_off3_inb ⟨n, hk⟩)).toLoadRect X_arg4) = headQ (arg4.view.read (Elt F) X_arg4) ⟨n, hn4⟩ 0 := funext fun x => load_at _ _ _ (k0_t1_o2 ⟨n, hk⟩) x (ix4 0 ⟨n, hn4⟩ (x 2) ⟨256 * (0 : Fin 2).val + (x 3).val, by have h3 : (x 3).val < 256 := (x 3).isLt; show 256 * 0 + _ < 512; omega⟩) fun a => match a with | ⟨0, _⟩ => by have hx : (x 0).val < 1 := (x 0).isLt; show 0 = 0 + (x 0).val; omega | ⟨1, _⟩ => by have hx : (x 1).val < 1 := (x 1).isLt; show n = n + (x 1).val; omega | ⟨2, _⟩ => (Nat.zero_add _).symm | ⟨3, _⟩ => by show 256 * 0 + (x 3).val = 0 + (x 3).val; omega
    have eK1 : (View.readAt (Elt F) arg4.view (Rect.unit (s := S1x4x768x512) (k0_off7 ⟨n, hk⟩) S1x1x768x256.size (k0_off7_inb ⟨n, hk⟩)).toLoadRect X_arg4) = headQ (arg4.view.read (Elt F) X_arg4) ⟨n, hn4⟩ 1 := funext fun x => load_at _ _ _ (k0_t1_o6 ⟨n, hk⟩) x (ix4 0 ⟨n, hn4⟩ (x 2) ⟨256 * (1 : Fin 2).val + (x 3).val, by have h3 : (x 3).val < 256 := (x 3).isLt; show 256 * 1 + _ < 512; omega⟩) fun a => match a with | ⟨0, _⟩ => by have hx : (x 0).val < 1 := (x 0).isLt; show 0 = 0 + (x 0).val; omega | ⟨1, _⟩ => by have hx : (x 1).val < 1 := (x 1).isLt; show n = n + (x 1).val; omega | ⟨2, _⟩ => (Nat.zero_add _).symm | ⟨3, _⟩ => by show 256 * 1 + (x 3).val = 256 + (x 3).val; omega
    have eV : (View.readAt (Elt F) arg5.view (Rect.unit (s := S4x768x256) (k0_off6 ⟨n, hk⟩) S1x768x256.size (k0_off6_inb ⟨n, hk⟩)).toLoadRect X_arg5) = headV (arg5.view.read (Elt F) X_arg5) ⟨n, hn4⟩ := funext fun x => load_at _ _ _ (k0_t1_o5 ⟨n, hk⟩) x (ix3 ⟨n, hn4⟩ (x 1) (x 2)) fun a => match a with | ⟨0, _⟩ => by have hx : (x 0).val < 1 := (x 0).isLt; show n = n + (x 0).val; omega | ⟨1, _⟩ => (Nat.zero_add _).symm | ⟨2, _⟩ => (Nat.zero_add _).symm
    have eM0 : (View.readAt (Elt F) arg19.view (Rect.unit (s := S8x768x1) (k0_off4 ⟨n, hk⟩ 0#32) S1x768x1.size (k0_off4_inb ⟨n, hk⟩ 0)).toLoadRect (arg19.view.writes (Elt F) G_arg19 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v10 v12 X_arg3 X_arg4 X_arg5 X_arg6 G_arg19 G_arg20 G_arg21 n).1)) = rowM (arg19.view.read (Elt F) G_arg19) ⟨2 * n + 0, hp0⟩ := funext fun x =>
      (load_at _ _ _ (k0_t1_o3 ⟨n, hk⟩) x (ix3 ⟨2 * n + 0, hp0⟩ (x 1) (x 2)) fun a => match a with | ⟨0, _⟩ => by have hx : (x 0).val < 1 := (x 0).isLt; show 2 * n + 0 = 2 * n + 0 + (x 0).val; omega | ⟨1, _⟩ => (Nat.zero_add _).symm | ⟨2, _⟩ => (Nat.zero_add _).symm).trans
        ((ihM ⟨2 * n + 0, hp0⟩ (x 1) (x 2)).trans (if_neg (by show ¬ 2 * n + 0 < 2 * n; omega)))
    have eL0 : (View.readAt (Elt F) arg20.view (Rect.unit (s := S8x768x1) (k0_off4 ⟨n, hk⟩ 0#32) S1x768x1.size (k0_off4_inb ⟨n, hk⟩ 0)).toLoadRect (arg20.view.writes (Elt F) G_arg20 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v10 v12 X_arg3 X_arg4 X_arg5 X_arg6 G_arg19 G_arg20 G_arg21 n).2.1)) = rowM (arg20.view.read (Elt F) G_arg20) ⟨2 * n + 0, hp0⟩ := funext fun x =>
      (load_at _ _ _ (k0_t1_o3 ⟨n, hk⟩) x (ix3 ⟨2 * n + 0, hp0⟩ (x 1) (x 2)) fun a => match a with | ⟨0, _⟩ => by have hx : (x 0).val < 1 := (x 0).isLt; show 2 * n + 0 = 2 * n + 0 + (x 0).val; omega | ⟨1, _⟩ => (Nat.zero_add _).symm | ⟨2, _⟩ => (Nat.zero_add _).symm).trans
        ((ihL ⟨2 * n + 0, hp0⟩ (x 1) (x 2)).trans (if_neg (by show ¬ 2 * n + 0 < 2 * n; omega)))
    have eA0 : (View.readAt (Elt F) arg21.view (Rect.unit (s := S8x768x256) (k0_off5 ⟨n, hk⟩ 0#32) S1x768x256.size (k0_off5_inb ⟨n, hk⟩ 0)).toLoadRect (arg21.view.writes (Elt F) G_arg21 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v10 v12 X_arg3 X_arg4 X_arg5 X_arg6 G_arg19 G_arg20 G_arg21 n).2.2)) = rowA (arg21.view.read (Elt F) G_arg21) ⟨2 * n + 0, hp0⟩ := funext fun x =>
      (load_at _ _ _ (k0_t1_o4 ⟨n, hk⟩) x (ix3 ⟨2 * n + 0, hp0⟩ (x 1) (x 2)) fun a => match a with | ⟨0, _⟩ => by have hx : (x 0).val < 1 := (x 0).isLt; show 2 * n + 0 = 2 * n + 0 + (x 0).val; omega | ⟨1, _⟩ => (Nat.zero_add _).symm | ⟨2, _⟩ => (Nat.zero_add _).symm).trans
        ((ihA ⟨2 * n + 0, hp0⟩ (x 1) (x 2)).trans (if_neg (by show ¬ 2 * n + 0 < 2 * n; omega)))
    have eM1 : (View.readAt (Elt F) arg19.view (Rect.unit (s := S8x768x1) (k0_off4 ⟨n, hk⟩ 1#32) S1x768x1.size (k0_off4_inb ⟨n, hk⟩ 1)).toLoadRect (arg19.view.writes (Elt F) G_arg19 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v10 v12 X_arg3 X_arg4 X_arg5 X_arg6 G_arg19 G_arg20 G_arg21 n).1)) = rowM (arg19.view.read (Elt F) G_arg19) ⟨2 * n + 1, hp1⟩ := funext fun x =>
      (load_at _ _ _ (k0_t1_o3' ⟨n, hk⟩) x (ix3 ⟨2 * n + 1, hp1⟩ (x 1) (x 2)) fun a => match a with | ⟨0, _⟩ => by have hx : (x 0).val < 1 := (x 0).isLt; show 2 * n + 1 = 2 * n + 1 + (x 0).val; omega | ⟨1, _⟩ => (Nat.zero_add _).symm | ⟨2, _⟩ => (Nat.zero_add _).symm).trans
        ((ihM ⟨2 * n + 1, hp1⟩ (x 1) (x 2)).trans (if_neg (by show ¬ 2 * n + 1 < 2 * n; omega)))
    have eL1 : (View.readAt (Elt F) arg20.view (Rect.unit (s := S8x768x1) (k0_off4 ⟨n, hk⟩ 1#32) S1x768x1.size (k0_off4_inb ⟨n, hk⟩ 1)).toLoadRect (arg20.view.writes (Elt F) G_arg20 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v10 v12 X_arg3 X_arg4 X_arg5 X_arg6 G_arg19 G_arg20 G_arg21 n).2.1)) = rowM (arg20.view.read (Elt F) G_arg20) ⟨2 * n + 1, hp1⟩ := funext fun x =>
      (load_at _ _ _ (k0_t1_o3' ⟨n, hk⟩) x (ix3 ⟨2 * n + 1, hp1⟩ (x 1) (x 2)) fun a => match a with | ⟨0, _⟩ => by have hx : (x 0).val < 1 := (x 0).isLt; show 2 * n + 1 = 2 * n + 1 + (x 0).val; omega | ⟨1, _⟩ => (Nat.zero_add _).symm | ⟨2, _⟩ => (Nat.zero_add _).symm).trans
        ((ihL ⟨2 * n + 1, hp1⟩ (x 1) (x 2)).trans (if_neg (by show ¬ 2 * n + 1 < 2 * n; omega)))
    have eA1 : (View.readAt (Elt F) arg21.view (Rect.unit (s := S8x768x256) (k0_off5 ⟨n, hk⟩ 1#32) S1x768x256.size (k0_off5_inb ⟨n, hk⟩ 1)).toLoadRect (arg21.view.writes (Elt F) G_arg21 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v10 v12 X_arg3 X_arg4 X_arg5 X_arg6 G_arg19 G_arg20 G_arg21 n).2.2)) = rowA (arg21.view.read (Elt F) G_arg21) ⟨2 * n + 1, hp1⟩ := funext fun x =>
      (load_at _ _ _ (k0_t1_o4' ⟨n, hk⟩) x (ix3 ⟨2 * n + 1, hp1⟩ (x 1) (x 2)) fun a => match a with | ⟨0, _⟩ => by have hx : (x 0).val < 1 := (x 0).isLt; show 2 * n + 1 = 2 * n + 1 + (x 0).val; omega | ⟨1, _⟩ => (Nat.zero_add _).symm | ⟨2, _⟩ => (Nat.zero_add _).symm).trans
        ((ihA ⟨2 * n + 1, hp1⟩ (x 1) (x 2)).trans (if_neg (by show ¬ 2 * n + 1 < 2 * n; omega)))
    have rM : ∀ (y0 : Fin 8) (y1 : Fin 768) (y2 : Fin 1), arg19.view.read (Elt F) (arg19.view.writes (Elt F) G_arg19 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v10 v12 X_arg3 X_arg4 X_arg5 X_arg6 G_arg19 G_arg20 G_arg21 (n + 1)).1) (ix3 y0 y1 y2)
        = if y0.val < 2 * (n + 1) then (loopM false (k0_pay7 v10 v12) (arg3.view.read (Elt F) X_arg3) (arg4.view.read (Elt F) X_arg4) (arg6.view.read (Elt F) X_arg6) (arg19.view.read (Elt F) G_arg19)) (ix3 y0 y1 y2) else (arg19.view.read (Elt F) G_arg19) (ix3 y0 y1 y2) := by
      intro y0 y1 y2
      rw [hs]
      refine (two_rows arg19.view _ n (k0_t1_o3 ⟨n, hk⟩) (k0_t1_o3' ⟨n, hk⟩) _ _ _ _ _ y0 y1 y2).trans ?_
      by_cases h1 : y0.val = 2 * n + 1
      · rw [if_pos h1, if_pos (show y0.val < 2 * (n + 1) by omega)]
        obtain rfl : y0 = ⟨2 * n + 1, hp1⟩ := Fin.ext h1
        unfold loopM
        simp only [ix3_0, ix3_1, ix3_2, show hd ⟨2 * n + 1, hp1⟩ = ⟨n, hn4⟩ from Fin.ext (by show (2 * n + 1) / 2 = n; omega), show hf ⟨2 * n + 1, hp1⟩ = 1 from Fin.ext (by show (2 * n + 1) % 2 = 1; omega)]
        simp only [eS, eQ1, eK1, eV, eM1, eL1, eA1]
      · rw [if_neg h1]
        by_cases h0 : y0.val = 2 * n
        · rw [if_pos h0, if_pos (show y0.val < 2 * (n + 1) by omega)]
          obtain rfl : y0 = ⟨2 * n + 0, hp0⟩ := Fin.ext h0
          unfold loopM
          simp only [ix3_0, ix3_1, ix3_2, show hd ⟨2 * n + 0, hp0⟩ = ⟨n, hn4⟩ from Fin.ext (by show (2 * n + 0) / 2 = n; omega), show hf ⟨2 * n + 0, hp0⟩ = 0 from Fin.ext (by show (2 * n + 0) % 2 = 0; omega)]
          simp only [eS, eQ0, eK0, eV, eM0, eL0, eA0]
        · rw [if_neg h0]
          refine (ihM y0 y1 y2).trans ?_
          by_cases h : y0.val < 2 * n
          · rw [if_pos h, if_pos (by omega)]
          · rw [if_neg h, if_neg (by omega)]
    have rL : ∀ (y0 : Fin 8) (y1 : Fin 768) (y2 : Fin 1), arg20.view.read (Elt F) (arg20.view.writes (Elt F) G_arg20 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v10 v12 X_arg3 X_arg4 X_arg5 X_arg6 G_arg19 G_arg20 G_arg21 (n + 1)).2.1) (ix3 y0 y1 y2)
        = if y0.val < 2 * (n + 1) then (loopL false (k0_pay7 v10 v12) (arg3.view.read (Elt F) X_arg3) (arg4.view.read (Elt F) X_arg4) (arg6.view.read (Elt F) X_arg6) (arg19.view.read (Elt F) G_arg19) (arg20.view.read (Elt F) G_arg20)) (ix3 y0 y1 y2) else (arg20.view.read (Elt F) G_arg20) (ix3 y0 y1 y2) := by
      intro y0 y1 y2
      rw [hs]
      refine (two_rows arg20.view _ n (k0_t1_o3 ⟨n, hk⟩) (k0_t1_o3' ⟨n, hk⟩) _ _ _ _ _ y0 y1 y2).trans ?_
      by_cases h1 : y0.val = 2 * n + 1
      · rw [if_pos h1, if_pos (show y0.val < 2 * (n + 1) by omega)]
        obtain rfl : y0 = ⟨2 * n + 1, hp1⟩ := Fin.ext h1
        unfold loopL
        simp only [ix3_0, ix3_1, ix3_2, show hd ⟨2 * n + 1, hp1⟩ = ⟨n, hn4⟩ from Fin.ext (by show (2 * n + 1) / 2 = n; omega), show hf ⟨2 * n + 1, hp1⟩ = 1 from Fin.ext (by show (2 * n + 1) % 2 = 1; omega)]
        simp only [eS, eQ1, eK1, eV, eM1, eL1, eA1]
      · rw [if_neg h1]
        by_cases h0 : y0.val = 2 * n
        · rw [if_pos h0, if_pos (show y0.val < 2 * (n + 1) by omega)]
          obtain rfl : y0 = ⟨2 * n + 0, hp0⟩ := Fin.ext h0
          unfold loopL
          simp only [ix3_0, ix3_1, ix3_2, show hd ⟨2 * n + 0, hp0⟩ = ⟨n, hn4⟩ from Fin.ext (by show (2 * n + 0) / 2 = n; omega), show hf ⟨2 * n + 0, hp0⟩ = 0 from Fin.ext (by show (2 * n + 0) % 2 = 0; omega)]
          simp only [eS, eQ0, eK0, eV, eM0, eL0, eA0]
        · rw [if_neg h0]
          refine (ihL y0 y1 y2).trans ?_
          by_cases h : y0.val < 2 * n
          · rw [if_pos h, if_pos (by omega)]
          · rw [if_neg h, if_neg (by omega)]
    have rA : ∀ (y0 : Fin 8) (y1 : Fin 768) (y2 : Fin 256), arg21.view.read (Elt F) (arg21.view.writes (Elt F) G_arg21 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v10 v12 X_arg3 X_arg4 X_arg5 X_arg6 G_arg19 G_arg20 G_arg21 (n + 1)).2.2) (ix3 y0 y1 y2)
        = if y0.val < 2 * (n + 1) then (loopA false (k0_pay7 v10 v12) (arg3.view.read (Elt F) X_arg3) (arg4.view.read (Elt F) X_arg4) (arg5.view.read (Elt F) X_arg5) (arg6.view.read (Elt F) X_arg6) (arg19.view.read (Elt F) G_arg19) (arg21.view.read (Elt F) G_arg21)) (ix3 y0 y1 y2) else (arg21.view.read (Elt F) G_arg21) (ix3 y0 y1 y2) := by
      intro y0 y1 y2
      rw [hs]
      refine (two_rows arg21.view _ n (k0_t1_o4 ⟨n, hk⟩) (k0_t1_o4' ⟨n, hk⟩) _ _ _ _ _ y0 y1 y2).trans ?_
      by_cases h1 : y0.val = 2 * n + 1
      · rw [if_pos h1, if_pos (show y0.val < 2 * (n + 1) by omega)]
        obtain rfl : y0 = ⟨2 * n + 1, hp1⟩ := Fin.ext h1
        unfold loopA
        simp only [ix3_0, ix3_1, ix3_2, show hd ⟨2 * n + 1, hp1⟩ = ⟨n, hn4⟩ from Fin.ext (by show (2 * n + 1) / 2 = n; omega), show hf ⟨2 * n + 1, hp1⟩ = 1 from Fin.ext (by show (2 * n + 1) % 2 = 1; omega)]
        simp only [eS, eQ1, eK1, eV, eM1, eL1, eA1]
      · rw [if_neg h1]
        by_cases h0 : y0.val = 2 * n
        · rw [if_pos h0, if_pos (show y0.val < 2 * (n + 1) by omega)]
          obtain rfl : y0 = ⟨2 * n + 0, hp0⟩ := Fin.ext h0
          unfold loopA
          simp only [ix3_0, ix3_1, ix3_2, show hd ⟨2 * n + 0, hp0⟩ = ⟨n, hn4⟩ from Fin.ext (by show (2 * n + 0) / 2 = n; omega), show hf ⟨2 * n + 0, hp0⟩ = 0 from Fin.ext (by show (2 * n + 0) % 2 = 0; omega)]
          simp only [eS, eQ0, eK0, eV, eM0, eL0, eA0]
        · rw [if_neg h0]
          refine (ihA y0 y1 y2).trans ?_
          by_cases h : y0.val < 2 * n
          · rw [if_pos h, if_pos (by omega)]
          · rw [if_neg h, if_neg (by omega)]
    exact ⟨rM, rL, rA⟩

/-- The unmasked loop leaves in the scratch buffers what `loopM`, `loopL`, `loopA` say. -/
theorem k0_t1_leaves (𝒱 : Variants) (c : Dev nD) (bd : Option 𝒱.V) (i : grid0.Coords) (arg1 : Memref sig .tc .smem S66 .i32) (harg1 : arg1.IsWhole) (arg2 : Memref sig .tc .smem S66 .i32) (harg2 : arg2.IsWhole) (arg3 : Memref sig .tc .vmem S1x4x768x512 .bf16) (harg3 : arg3.IsWhole) (arg4 : Memref sig .tc .vmem S1x4x768x512 .bf16) (harg4 : arg4.IsWhole) (arg5 : Memref sig .tc .vmem S4x768x256 .bf16) (harg5 : arg5.IsWhole) (arg6 : Memref sig .tc .vmem S4x1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x256 .f32) (harg11 : arg11.IsWhole) (arg12 : Memref sig .tc .vmem S32x8192 .f32) (harg12 : arg12.IsWhole) (arg13 : Memref sig .tc .vmem S128x2048 .f32) (harg13 : arg13.IsWhole) (arg14 : Memref sig .tc .vmem S32x2048 .f32) (harg14 : arg14.IsWhole) (arg15 : Memref sig .tc .vmem S4x768x256 .bf16) (harg15 : arg15.IsWhole) (arg16 : Memref sig .tc .vmem S32x8192 .bf16) (harg16 : arg16.IsWhole) (arg17 : Memref sig .tc .vmem S128x2048 .bf16) (harg17 : arg17.IsWhole) (arg18 : Memref sig .tc .vmem S32x2048 .bf16) (harg18 : arg18.IsWhole) (arg19 : Memref sig .tc .vmem S8x768x1 .f32) (harg19 : arg19.IsWhole) (arg20 : Memref sig .tc .vmem S8x768x1 .f32) (harg20 : arg20.IsWhole) (arg21 : Memref sig .tc .vmem S8x768x256 .f32) (harg21 : arg21.IsWhole) (v10 : Elt F .i32) (v12 : Elt F .i32) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (G_arg19 : BufTy.Contents (Elt F) arg19.view.ty) (G_arg20 : BufTy.Contents (Elt F) arg20.view.ty) (G_arg21 : BufTy.Contents (Elt F) arg21.view.ty) :
    arg19.view.read (Elt F) (arg19.view.writes (Elt F) G_arg19 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v10 v12 X_arg3 X_arg4 X_arg5 X_arg6 G_arg19 G_arg20 G_arg21 k0_t1_loop.trips).1) = loopM false (k0_pay7 v10 v12) (arg3.view.read (Elt F) X_arg3) (arg4.view.read (Elt F) X_arg4) (arg6.view.read (Elt F) X_arg6) (arg19.view.read (Elt F) G_arg19)
    ∧ arg20.view.read (Elt F) (arg20.view.writes (Elt F) G_arg20 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v10 v12 X_arg3 X_arg4 X_arg5 X_arg6 G_arg19 G_arg20 G_arg21 k0_t1_loop.trips).2.1) = loopL false (k0_pay7 v10 v12) (arg3.view.read (Elt F) X_arg3) (arg4.view.read (Elt F) X_arg4) (arg6.view.read (Elt F) X_arg6) (arg19.view.read (Elt F) G_arg19) (arg20.view.read (Elt F) G_arg20)
    ∧ arg21.view.read (Elt F) (arg21.view.writes (Elt F) G_arg21 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v10 v12 X_arg3 X_arg4 X_arg5 X_arg6 G_arg19 G_arg20 G_arg21 k0_t1_loop.trips).2.2) = loopA false (k0_pay7 v10 v12) (arg3.view.read (Elt F) X_arg3) (arg4.view.read (Elt F) X_arg4) (arg5.view.read (Elt F) X_arg5) (arg6.view.read (Elt F) X_arg6) (arg19.view.read (Elt F) G_arg19) (arg21.view.read (Elt F) G_arg21) := by
  obtain ⟨h1, h2, h3⟩ := k0_t1_upto (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v10 v12 X_arg3 X_arg4 X_arg5 X_arg6 G_arg19 G_arg20 G_arg21 4 (le_refl 4)
  rw [k0_t1_trips]
  refine ⟨funext fun y => ?_, funext fun y => ?_, funext fun y => ?_⟩
  · rw [eq_ix3 (n0 := 8) (n1 := 768) (n2 := 1) y]; exact (h1 _ _ _).trans (if_pos (by have : (y 0).val < 8 := (y 0).isLt; show (y 0).val < _; omega))
  · rw [eq_ix3 (n0 := 8) (n1 := 768) (n2 := 1) y]; exact (h2 _ _ _).trans (if_pos (by have : (y 0).val < 8 := (y 0).isLt; show (y 0).val < _; omega))
  · rw [eq_ix3 (n0 := 8) (n1 := 768) (n2 := 256) y]; exact (h3 _ _ _).trans (if_pos (by have : (y 0).val < 8 := (y 0).isLt; show (y 0).val < _; omega))

theorem k0_t2_trips : k0_t2_loop.trips = 4 := by decide +kernel
theorem k0_t2_o1 : ∀ k : Fin k0_t2_loop.trips, k0_off8 k = ![k.val, 0, 0] := by decide +kernel
theorem k0_t2_o2 : ∀ k : Fin k0_t2_loop.trips, k0_off9 k = ![0, k.val, 0, 0] := by decide +kernel
theorem k0_t2_o3 : ∀ k : Fin k0_t2_loop.trips, k0_off10 k 0#32 = ![2 * k.val, 0, 0] := by decide +kernel
theorem k0_t2_o3' : ∀ k : Fin k0_t2_loop.trips, k0_off10 k 1#32 = ![2 * k.val + 1, 0, 0] := by decide +kernel
theorem k0_t2_o4 : ∀ k : Fin k0_t2_loop.trips, k0_off11 k 0#32 = ![2 * k.val, 0, 0] := by decide +kernel
theorem k0_t2_o4' : ∀ k : Fin k0_t2_loop.trips, k0_off11 k 1#32 = ![2 * k.val + 1, 0, 0] := by decide +kernel
theorem k0_t2_o5 : ∀ k : Fin k0_t2_loop.trips, k0_off12 k = ![k.val, 0, 0] := by decide +kernel
theorem k0_t2_o6 : ∀ k : Fin k0_t2_loop.trips, k0_off13 k = ![0, k.val, 0, 256] := by decide +kernel

set_option maxHeartbeats 4000000 in
/-- After `n` trips of the masked loop the rows of the first `n` heads are updated, the others as the loop found them. -/
theorem k0_t2_upto (𝒱 : Variants) (c : Dev nD) (bd : Option 𝒱.V) (i : grid0.Coords) (arg1 : Memref sig .tc .smem S66 .i32) (harg1 : arg1.IsWhole) (arg2 : Memref sig .tc .smem S66 .i32) (harg2 : arg2.IsWhole) (arg3 : Memref sig .tc .vmem S1x4x768x512 .bf16) (harg3 : arg3.IsWhole) (arg4 : Memref sig .tc .vmem S1x4x768x512 .bf16) (harg4 : arg4.IsWhole) (arg5 : Memref sig .tc .vmem S4x768x256 .bf16) (harg5 : arg5.IsWhole) (arg6 : Memref sig .tc .vmem S4x1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x256 .f32) (harg11 : arg11.IsWhole) (arg12 : Memref sig .tc .vmem S32x8192 .f32) (harg12 : arg12.IsWhole) (arg13 : Memref sig .tc .vmem S128x2048 .f32) (harg13 : arg13.IsWhole) (arg14 : Memref sig .tc .vmem S32x2048 .f32) (harg14 : arg14.IsWhole) (arg15 : Memref sig .tc .vmem S4x768x256 .bf16) (harg15 : arg15.IsWhole) (arg16 : Memref sig .tc .vmem S32x8192 .bf16) (harg16 : arg16.IsWhole) (arg17 : Memref sig .tc .vmem S128x2048 .bf16) (harg17 : arg17.IsWhole) (arg18 : Memref sig .tc .vmem S32x2048 .bf16) (harg18 : arg18.IsWhole) (arg19 : Memref sig .tc .vmem S8x768x1 .f32) (harg19 : arg19.IsWhole) (arg20 : Memref sig .tc .vmem S8x768x1 .f32) (harg20 : arg20.IsWhole) (arg21 : Memref sig .tc .vmem S8x768x256 .f32) (harg21 : arg21.IsWhole) (v10 : Elt F .i32) (v12 : Elt F .i32) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (G_arg19 : BufTy.Contents (Elt F) arg19.view.ty) (G_arg20 : BufTy.Contents (Elt F) arg20.view.ty) (G_arg21 : BufTy.Contents (Elt F) arg21.view.ty) (n : ℕ) (hn : n ≤ 4) :
    (∀ (y0 : Fin 8) (y1 : Fin 768) (y2 : Fin 1), arg19.view.read (Elt F) (arg19.view.writes (Elt F) G_arg19 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v10 v12 X_arg3 X_arg4 X_arg5 X_arg6 G_arg19 G_arg20 G_arg21 (n)).1) (ix3 y0 y1 y2)
        = if y0.val < 2 * (n) then (loopM true (k0_pay7 v10 v12) (arg3.view.read (Elt F) X_arg3) (arg4.view.read (Elt F) X_arg4) (arg6.view.read (Elt F) X_arg6) (arg19.view.read (Elt F) G_arg19)) (ix3 y0 y1 y2) else (arg19.view.read (Elt F) G_arg19) (ix3 y0 y1 y2))
    ∧ (∀ (y0 : Fin 8) (y1 : Fin 768) (y2 : Fin 1), arg20.view.read (Elt F) (arg20.view.writes (Elt F) G_arg20 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v10 v12 X_arg3 X_arg4 X_arg5 X_arg6 G_arg19 G_arg20 G_arg21 (n)).2.1) (ix3 y0 y1 y2)
        = if y0.val < 2 * (n) then (loopL true (k0_pay7 v10 v12) (arg3.view.read (Elt F) X_arg3) (arg4.view.read (Elt F) X_arg4) (arg6.view.read (Elt F) X_arg6) (arg19.view.read (Elt F) G_arg19) (arg20.view.read (Elt F) G_arg20)) (ix3 y0 y1 y2) else (arg20.view.read (Elt F) G_arg20) (ix3 y0 y1 y2))
    ∧ (∀ (y0 : Fin 8) (y1 : Fin 768) (y2 : Fin 256), arg21.view.read (Elt F) (arg21.view.writes (Elt F) G_arg21 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v10 v12 X_arg3 X_arg4 X_arg5 X_arg6 G_arg19 G_arg20 G_arg21 (n)).2.2) (ix3 y0 y1 y2)
        = if y0.val < 2 * (n) then (loopA true (k0_pay7 v10 v12) (arg3.view.read (Elt F) X_arg3) (arg4.view.read (Elt F) X_arg4) (arg5.view.read (Elt F) X_arg5) (arg6.view.read (Elt F) X_arg6) (arg19.view.read (Elt F) G_arg19) (arg21.view.read (Elt F) G_arg21)) (ix3 y0 y1 y2) else (arg21.view.read (Elt F) G_arg21) (ix3 y0 y1 y2)) := by
  induction n with
  | zero =>
    exact ⟨fun y0 y1 y2 => (if_neg (by omega)).symm, fun y0 y1 y2 => (if_neg (by omega)).symm, fun y0 y1 y2 => (if_neg (by omega)).symm⟩
  | succ n ih =>
    have hn4 : n < 4 := by omega
    have hp0 : 2 * n + 0 < 8 := by omega
    have hp1 : 2 * n + 1 < 8 := by omega
    have hk : n < k0_t2_loop.trips := by rw [k0_t2_trips]; exact hn4
    obtain ⟨ihM, ihL, ihA⟩ := ih (by omega)
    have hs := pb_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v10 v12 X_arg3 X_arg4 X_arg5 X_arg6 G_arg19 G_arg20 G_arg21 ⟨n, hk⟩
    rw [k0_t2_stores] at hs
    dsimp only [show (⟨n, hk⟩ : Fin k0_t2_loop.trips).val = n from rfl] at hs
    have eS : (View.readAt (Elt F) arg6.view (Rect.unit (s := S4x1x128) (k0_off8 ⟨n, hk⟩) S1x1x128.size (k0_off8_inb ⟨n, hk⟩)).toLoadRect X_arg6) = headS (arg6.view.read (Elt F) X_arg6) ⟨n, hn4⟩ := funext fun x => load_at _ _ _ (k0_t2_o1 ⟨n, hk⟩) x (ix3 ⟨n, hn4⟩ (x 1) (x 2)) fun a => match a with | ⟨0, _⟩ => by have hx : (x 0).val < 1 := (x 0).isLt; show n = n + (x 0).val; omega | ⟨1, _⟩ => (Nat.zero_add _).symm | ⟨2, _⟩ => (Nat.zero_add _).symm
    have eQ0 : (View.readAt (Elt F) arg3.view (Rect.unit (s := S1x4x768x512) (k0_off9 ⟨n, hk⟩) S1x1x768x256.size (k0_off9_inb ⟨n, hk⟩)).toLoadRect X_arg3) = headQ (arg3.view.read (Elt F) X_arg3) ⟨n, hn4⟩ 0 := funext fun x => load_at _ _ _ (k0_t2_o2 ⟨n, hk⟩) x (ix4 0 ⟨n, hn4⟩ (x 2) ⟨256 * (0 : Fin 2).val + (x 3).val, by have h3 : (x 3).val < 256 := (x 3).isLt; show 256 * 0 + _ < 512; omega⟩) fun a => match a with | ⟨0, _⟩ => by have hx : (x 0).val < 1 := (x 0).isLt; show 0 = 0 + (x 0).val; omega | ⟨1, _⟩ => by have hx : (x 1).val < 1 := (x 1).isLt; show n = n + (x 1).val; omega | ⟨2, _⟩ => (Nat.zero_add _).symm | ⟨3, _⟩ => by show 256 * 0 + (x 3).val = 0 + (x 3).val; omega
    have eQ1 : (View.readAt (Elt F) arg3.view (Rect.unit (s := S1x4x768x512) (k0_off13 ⟨n, hk⟩) S1x1x768x256.size (k0_off13_inb ⟨n, hk⟩)).toLoadRect X_arg3) = headQ (arg3.view.read (Elt F) X_arg3) ⟨n, hn4⟩ 1 := funext fun x => load_at _ _ _ (k0_t2_o6 ⟨n, hk⟩) x (ix4 0 ⟨n, hn4⟩ (x 2) ⟨256 * (1 : Fin 2).val + (x 3).val, by have h3 : (x 3).val < 256 := (x 3).isLt; show 256 * 1 + _ < 512; omega⟩) fun a => match a with | ⟨0, _⟩ => by have hx : (x 0).val < 1 := (x 0).isLt; show 0 = 0 + (x 0).val; omega | ⟨1, _⟩ => by have hx : (x 1).val < 1 := (x 1).isLt; show n = n + (x 1).val; omega | ⟨2, _⟩ => (Nat.zero_add _).symm | ⟨3, _⟩ => by show 256 * 1 + (x 3).val = 256 + (x 3).val; omega
    have eK0 : (View.readAt (Elt F) arg4.view (Rect.unit (s := S1x4x768x512) (k0_off9 ⟨n, hk⟩) S1x1x768x256.size (k0_off9_inb ⟨n, hk⟩)).toLoadRect X_arg4) = headQ (arg4.view.read (Elt F) X_arg4) ⟨n, hn4⟩ 0 := funext fun x => load_at _ _ _ (k0_t2_o2 ⟨n, hk⟩) x (ix4 0 ⟨n, hn4⟩ (x 2) ⟨256 * (0 : Fin 2).val + (x 3).val, by have h3 : (x 3).val < 256 := (x 3).isLt; show 256 * 0 + _ < 512; omega⟩) fun a => match a with | ⟨0, _⟩ => by have hx : (x 0).val < 1 := (x 0).isLt; show 0 = 0 + (x 0).val; omega | ⟨1, _⟩ => by have hx : (x 1).val < 1 := (x 1).isLt; show n = n + (x 1).val; omega | ⟨2, _⟩ => (Nat.zero_add _).symm | ⟨3, _⟩ => by show 256 * 0 + (x 3).val = 0 + (x 3).val; omega
    have eK1 : (View.readAt (Elt F) arg4.view (Rect.unit (s := S1x4x768x512) (k0_off13 ⟨n, hk⟩) S1x1x768x256.size (k0_off13_inb ⟨n, hk⟩)).toLoadRect X_arg4) = headQ (arg4.view.read (Elt F) X_arg4) ⟨n, hn4⟩ 1 := funext fun x => load_at _ _ _ (k0_t2_o6 ⟨n, hk⟩) x (ix4 0 ⟨n, hn4⟩ (x 2) ⟨256 * (1 : Fin 2).val + (x 3).val, by have h3 : (x 3).val < 256 := (x 3).isLt; show 256 * 1 + _ < 512; omega⟩) fun a => match a with | ⟨0, _⟩ => by have hx : (x 0).val < 1 := (x 0).isLt; show 0 = 0 + (x 0).val; omega | ⟨1, _⟩ => by have hx : (x 1).val < 1 := (x 1).isLt; show n = n + (x 1).val; omega | ⟨2, _⟩ => (Nat.zero_add _).symm | ⟨3, _⟩ => by show 256 * 1 + (x 3).val = 256 + (x 3).val; omega
    have eV : (View.readAt (Elt F) arg5.view (Rect.unit (s := S4x768x256) (k0_off12 ⟨n, hk⟩) S1x768x256.size (k0_off12_inb ⟨n, hk⟩)).toLoadRect X_arg5) = headV (arg5.view.read (Elt F) X_arg5) ⟨n, hn4⟩ := funext fun x => load_at _ _ _ (k0_t2_o5 ⟨n, hk⟩) x (ix3 ⟨n, hn4⟩ (x 1) (x 2)) fun a => match a with | ⟨0, _⟩ => by have hx : (x 0).val < 1 := (x 0).isLt; show n = n + (x 0).val; omega | ⟨1, _⟩ => (Nat.zero_add _).symm | ⟨2, _⟩ => (Nat.zero_add _).symm
    have eM0 : (View.readAt (Elt F) arg19.view (Rect.unit (s := S8x768x1) (k0_off10 ⟨n, hk⟩ 0#32) S1x768x1.size (k0_off10_inb ⟨n, hk⟩ 0)).toLoadRect (arg19.view.writes (Elt F) G_arg19 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v10 v12 X_arg3 X_arg4 X_arg5 X_arg6 G_arg19 G_arg20 G_arg21 n).1)) = rowM (arg19.view.read (Elt F) G_arg19) ⟨2 * n + 0, hp0⟩ := funext fun x =>
      (load_at _ _ _ (k0_t2_o3 ⟨n, hk⟩) x (ix3 ⟨2 * n + 0, hp0⟩ (x 1) (x 2)) fun a => match a with | ⟨0, _⟩ => by have hx : (x 0).val < 1 := (x 0).isLt; show 2 * n + 0 = 2 * n + 0 + (x 0).val; omega | ⟨1, _⟩ => (Nat.zero_add _).symm | ⟨2, _⟩ => (Nat.zero_add _).symm).trans
        ((ihM ⟨2 * n + 0, hp0⟩ (x 1) (x 2)).trans (if_neg (by show ¬ 2 * n + 0 < 2 * n; omega)))
    have eL0 : (View.readAt (Elt F) arg20.view (Rect.unit (s := S8x768x1) (k0_off10 ⟨n, hk⟩ 0#32) S1x768x1.size (k0_off10_inb ⟨n, hk⟩ 0)).toLoadRect (arg20.view.writes (Elt F) G_arg20 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v10 v12 X_arg3 X_arg4 X_arg5 X_arg6 G_arg19 G_arg20 G_arg21 n).2.1)) = rowM (arg20.view.read (Elt F) G_arg20) ⟨2 * n + 0, hp0⟩ := funext fun x =>
      (load_at _ _ _ (k0_t2_o3 ⟨n, hk⟩) x (ix3 ⟨2 * n + 0, hp0⟩ (x 1) (x 2)) fun a => match a with | ⟨0, _⟩ => by have hx : (x 0).val < 1 := (x 0).isLt; show 2 * n + 0 = 2 * n + 0 + (x 0).val; omega | ⟨1, _⟩ => (Nat.zero_add _).symm | ⟨2, _⟩ => (Nat.zero_add _).symm).trans
        ((ihL ⟨2 * n + 0, hp0⟩ (x 1) (x 2)).trans (if_neg (by show ¬ 2 * n + 0 < 2 * n; omega)))
    have eA0 : (View.readAt (Elt F) arg21.view (Rect.unit (s := S8x768x256) (k0_off11 ⟨n, hk⟩ 0#32) S1x768x256.size (k0_off11_inb ⟨n, hk⟩ 0)).toLoadRect (arg21.view.writes (Elt F) G_arg21 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v10 v12 X_arg3 X_arg4 X_arg5 X_arg6 G_arg19 G_arg20 G_arg21 n).2.2)) = rowA (arg21.view.read (Elt F) G_arg21) ⟨2 * n + 0, hp0⟩ := funext fun x =>
      (load_at _ _ _ (k0_t2_o4 ⟨n, hk⟩) x (ix3 ⟨2 * n + 0, hp0⟩ (x 1) (x 2)) fun a => match a with | ⟨0, _⟩ => by have hx : (x 0).val < 1 := (x 0).isLt; show 2 * n + 0 = 2 * n + 0 + (x 0).val; omega | ⟨1, _⟩ => (Nat.zero_add _).symm | ⟨2, _⟩ => (Nat.zero_add _).symm).trans
        ((ihA ⟨2 * n + 0, hp0⟩ (x 1) (x 2)).trans (if_neg (by show ¬ 2 * n + 0 < 2 * n; omega)))
    have eM1 : (View.readAt (Elt F) arg19.view (Rect.unit (s := S8x768x1) (k0_off10 ⟨n, hk⟩ 1#32) S1x768x1.size (k0_off10_inb ⟨n, hk⟩ 1)).toLoadRect (arg19.view.writes (Elt F) G_arg19 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v10 v12 X_arg3 X_arg4 X_arg5 X_arg6 G_arg19 G_arg20 G_arg21 n).1)) = rowM (arg19.view.read (Elt F) G_arg19) ⟨2 * n + 1, hp1⟩ := funext fun x =>
      (load_at _ _ _ (k0_t2_o3' ⟨n, hk⟩) x (ix3 ⟨2 * n + 1, hp1⟩ (x 1) (x 2)) fun a => match a with | ⟨0, _⟩ => by have hx : (x 0).val < 1 := (x 0).isLt; show 2 * n + 1 = 2 * n + 1 + (x 0).val; omega | ⟨1, _⟩ => (Nat.zero_add _).symm | ⟨2, _⟩ => (Nat.zero_add _).symm).trans
        ((ihM ⟨2 * n + 1, hp1⟩ (x 1) (x 2)).trans (if_neg (by show ¬ 2 * n + 1 < 2 * n; omega)))
    have eL1 : (View.readAt (Elt F) arg20.view (Rect.unit (s := S8x768x1) (k0_off10 ⟨n, hk⟩ 1#32) S1x768x1.size (k0_off10_inb ⟨n, hk⟩ 1)).toLoadRect (arg20.view.writes (Elt F) G_arg20 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v10 v12 X_arg3 X_arg4 X_arg5 X_arg6 G_arg19 G_arg20 G_arg21 n).2.1)) = rowM (arg20.view.read (Elt F) G_arg20) ⟨2 * n + 1, hp1⟩ := funext fun x =>
      (load_at _ _ _ (k0_t2_o3' ⟨n, hk⟩) x (ix3 ⟨2 * n + 1, hp1⟩ (x 1) (x 2)) fun a => match a with | ⟨0, _⟩ => by have hx : (x 0).val < 1 := (x 0).isLt; show 2 * n + 1 = 2 * n + 1 + (x 0).val; omega | ⟨1, _⟩ => (Nat.zero_add _).symm | ⟨2, _⟩ => (Nat.zero_add _).symm).trans
        ((ihL ⟨2 * n + 1, hp1⟩ (x 1) (x 2)).trans (if_neg (by show ¬ 2 * n + 1 < 2 * n; omega)))
    have eA1 : (View.readAt (Elt F) arg21.view (Rect.unit (s := S8x768x256) (k0_off11 ⟨n, hk⟩ 1#32) S1x768x256.size (k0_off11_inb ⟨n, hk⟩ 1)).toLoadRect (arg21.view.writes (Elt F) G_arg21 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v10 v12 X_arg3 X_arg4 X_arg5 X_arg6 G_arg19 G_arg20 G_arg21 n).2.2)) = rowA (arg21.view.read (Elt F) G_arg21) ⟨2 * n + 1, hp1⟩ := funext fun x =>
      (load_at _ _ _ (k0_t2_o4' ⟨n, hk⟩) x (ix3 ⟨2 * n + 1, hp1⟩ (x 1) (x 2)) fun a => match a with | ⟨0, _⟩ => by have hx : (x 0).val < 1 := (x 0).isLt; show 2 * n + 1 = 2 * n + 1 + (x 0).val; omega | ⟨1, _⟩ => (Nat.zero_add _).symm | ⟨2, _⟩ => (Nat.zero_add _).symm).trans
        ((ihA ⟨2 * n + 1, hp1⟩ (x 1) (x 2)).trans (if_neg (by show ¬ 2 * n + 1 < 2 * n; omega)))
    have rM : ∀ (y0 : Fin 8) (y1 : Fin 768) (y2 : Fin 1), arg19.view.read (Elt F) (arg19.view.writes (Elt F) G_arg19 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v10 v12 X_arg3 X_arg4 X_arg5 X_arg6 G_arg19 G_arg20 G_arg21 (n + 1)).1) (ix3 y0 y1 y2)
        = if y0.val < 2 * (n + 1) then (loopM true (k0_pay7 v10 v12) (arg3.view.read (Elt F) X_arg3) (arg4.view.read (Elt F) X_arg4) (arg6.view.read (Elt F) X_arg6) (arg19.view.read (Elt F) G_arg19)) (ix3 y0 y1 y2) else (arg19.view.read (Elt F) G_arg19) (ix3 y0 y1 y2) := by
      intro y0 y1 y2
      rw [hs]
      refine (two_rows arg19.view _ n (k0_t2_o3 ⟨n, hk⟩) (k0_t2_o3' ⟨n, hk⟩) _ _ _ _ _ y0 y1 y2).trans ?_
      by_cases h1 : y0.val = 2 * n + 1
      · rw [if_pos h1, if_pos (show y0.val < 2 * (n + 1) by omega)]
        obtain rfl : y0 = ⟨2 * n + 1, hp1⟩ := Fin.ext h1
        unfold loopM
        simp only [ix3_0, ix3_1, ix3_2, show hd ⟨2 * n + 1, hp1⟩ = ⟨n, hn4⟩ from Fin.ext (by show (2 * n + 1) / 2 = n; omega), show hf ⟨2 * n + 1, hp1⟩ = 1 from Fin.ext (by show (2 * n + 1) % 2 = 1; omega)]
        simp only [eS, eQ1, eK1, eV, eM1, eL1, eA1]
      · rw [if_neg h1]
        by_cases h0 : y0.val = 2 * n
        · rw [if_pos h0, if_pos (show y0.val < 2 * (n + 1) by omega)]
          obtain rfl : y0 = ⟨2 * n + 0, hp0⟩ := Fin.ext h0
          unfold loopM
          simp only [ix3_0, ix3_1, ix3_2, show hd ⟨2 * n + 0, hp0⟩ = ⟨n, hn4⟩ from Fin.ext (by show (2 * n + 0) / 2 = n; omega), show hf ⟨2 * n + 0, hp0⟩ = 0 from Fin.ext (by show (2 * n + 0) % 2 = 0; omega)]
          simp only [eS, eQ0, eK0, eV, eM0, eL0, eA0]
        · rw [if_neg h0]
          refine (ihM y0 y1 y2).trans ?_
          by_cases h : y0.val < 2 * n
          · rw [if_pos h, if_pos (by omega)]
          · rw [if_neg h, if_neg (by omega)]
    have rL : ∀ (y0 : Fin 8) (y1 : Fin 768) (y2 : Fin 1), arg20.view.read (Elt F) (arg20.view.writes (Elt F) G_arg20 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v10 v12 X_arg3 X_arg4 X_arg5 X_arg6 G_arg19 G_arg20 G_arg21 (n + 1)).2.1) (ix3 y0 y1 y2)
        = if y0.val < 2 * (n + 1) then (loopL true (k0_pay7 v10 v12) (arg3.view.read (Elt F) X_arg3) (arg4.view.read (Elt F) X_arg4) (arg6.view.read (Elt F) X_arg6) (arg19.view.read (Elt F) G_arg19) (arg20.view.read (Elt F) G_arg20)) (ix3 y0 y1 y2) else (arg20.view.read (Elt F) G_arg20) (ix3 y0 y1 y2) := by
      intro y0 y1 y2
      rw [hs]
      refine (two_rows arg20.view _ n (k0_t2_o3 ⟨n, hk⟩) (k0_t2_o3' ⟨n, hk⟩) _ _ _ _ _ y0 y1 y2).trans ?_
      by_cases h1 : y0.val = 2 * n + 1
      · rw [if_pos h1, if_pos (show y0.val < 2 * (n + 1) by omega)]
        obtain rfl : y0 = ⟨2 * n + 1, hp1⟩ := Fin.ext h1
        unfold loopL
        simp only [ix3_0, ix3_1, ix3_2, show hd ⟨2 * n + 1, hp1⟩ = ⟨n, hn4⟩ from Fin.ext (by show (2 * n + 1) / 2 = n; omega), show hf ⟨2 * n + 1, hp1⟩ = 1 from Fin.ext (by show (2 * n + 1) % 2 = 1; omega)]
        simp only [eS, eQ1, eK1, eV, eM1, eL1, eA1]
      · rw [if_neg h1]
        by_cases h0 : y0.val = 2 * n
        · rw [if_pos h0, if_pos (show y0.val < 2 * (n + 1) by omega)]
          obtain rfl : y0 = ⟨2 * n + 0, hp0⟩ := Fin.ext h0
          unfold loopL
          simp only [ix3_0, ix3_1, ix3_2, show hd ⟨2 * n + 0, hp0⟩ = ⟨n, hn4⟩ from Fin.ext (by show (2 * n + 0) / 2 = n; omega), show hf ⟨2 * n + 0, hp0⟩ = 0 from Fin.ext (by show (2 * n + 0) % 2 = 0; omega)]
          simp only [eS, eQ0, eK0, eV, eM0, eL0, eA0]
        · rw [if_neg h0]
          refine (ihL y0 y1 y2).trans ?_
          by_cases h : y0.val < 2 * n
          · rw [if_pos h, if_pos (by omega)]
          · rw [if_neg h, if_neg (by omega)]
    have rA : ∀ (y0 : Fin 8) (y1 : Fin 768) (y2 : Fin 256), arg21.view.read (Elt F) (arg21.view.writes (Elt F) G_arg21 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v10 v12 X_arg3 X_arg4 X_arg5 X_arg6 G_arg19 G_arg20 G_arg21 (n + 1)).2.2) (ix3 y0 y1 y2)
        = if y0.val < 2 * (n + 1) then (loopA true (k0_pay7 v10 v12) (arg3.view.read (Elt F) X_arg3) (arg4.view.read (Elt F) X_arg4) (arg5.view.read (Elt F) X_arg5) (arg6.view.read (Elt F) X_arg6) (arg19.view.read (Elt F) G_arg19) (arg21.view.read (Elt F) G_arg21)) (ix3 y0 y1 y2) else (arg21.view.read (Elt F) G_arg21) (ix3 y0 y1 y2) := by
      intro y0 y1 y2
      rw [hs]
      refine (two_rows arg21.view _ n (k0_t2_o4 ⟨n, hk⟩) (k0_t2_o4' ⟨n, hk⟩) _ _ _ _ _ y0 y1 y2).trans ?_
      by_cases h1 : y0.val = 2 * n + 1
      · rw [if_pos h1, if_pos (show y0.val < 2 * (n + 1) by omega)]
        obtain rfl : y0 = ⟨2 * n + 1, hp1⟩ := Fin.ext h1
        unfold loopA
        simp only [ix3_0, ix3_1, ix3_2, show hd ⟨2 * n + 1, hp1⟩ = ⟨n, hn4⟩ from Fin.ext (by show (2 * n + 1) / 2 = n; omega), show hf ⟨2 * n + 1, hp1⟩ = 1 from Fin.ext (by show (2 * n + 1) % 2 = 1; omega)]
        simp only [eS, eQ1, eK1, eV, eM1, eL1, eA1]
      · rw [if_neg h1]
        by_cases h0 : y0.val = 2 * n
        · rw [if_pos h0, if_pos (show y0.val < 2 * (n + 1) by omega)]
          obtain rfl : y0 = ⟨2 * n + 0, hp0⟩ := Fin.ext h0
          unfold loopA
          simp only [ix3_0, ix3_1, ix3_2, show hd ⟨2 * n + 0, hp0⟩ = ⟨n, hn4⟩ from Fin.ext (by show (2 * n + 0) / 2 = n; omega), show hf ⟨2 * n + 0, hp0⟩ = 0 from Fin.ext (by show (2 * n + 0) % 2 = 0; omega)]
          simp only [eS, eQ0, eK0, eV, eM0, eL0, eA0]
        · rw [if_neg h0]
          refine (ihA y0 y1 y2).trans ?_
          by_cases h : y0.val < 2 * n
          · rw [if_pos h, if_pos (by omega)]
          · rw [if_neg h, if_neg (by omega)]
    exact ⟨rM, rL, rA⟩

/-- The masked loop leaves in the scratch buffers what `loopM`, `loopL`, `loopA` say. -/
theorem k0_t2_leaves (𝒱 : Variants) (c : Dev nD) (bd : Option 𝒱.V) (i : grid0.Coords) (arg1 : Memref sig .tc .smem S66 .i32) (harg1 : arg1.IsWhole) (arg2 : Memref sig .tc .smem S66 .i32) (harg2 : arg2.IsWhole) (arg3 : Memref sig .tc .vmem S1x4x768x512 .bf16) (harg3 : arg3.IsWhole) (arg4 : Memref sig .tc .vmem S1x4x768x512 .bf16) (harg4 : arg4.IsWhole) (arg5 : Memref sig .tc .vmem S4x768x256 .bf16) (harg5 : arg5.IsWhole) (arg6 : Memref sig .tc .vmem S4x1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x256 .f32) (harg11 : arg11.IsWhole) (arg12 : Memref sig .tc .vmem S32x8192 .f32) (harg12 : arg12.IsWhole) (arg13 : Memref sig .tc .vmem S128x2048 .f32) (harg13 : arg13.IsWhole) (arg14 : Memref sig .tc .vmem S32x2048 .f32) (harg14 : arg14.IsWhole) (arg15 : Memref sig .tc .vmem S4x768x256 .bf16) (harg15 : arg15.IsWhole) (arg16 : Memref sig .tc .vmem S32x8192 .bf16) (harg16 : arg16.IsWhole) (arg17 : Memref sig .tc .vmem S128x2048 .bf16) (harg17 : arg17.IsWhole) (arg18 : Memref sig .tc .vmem S32x2048 .bf16) (harg18 : arg18.IsWhole) (arg19 : Memref sig .tc .vmem S8x768x1 .f32) (harg19 : arg19.IsWhole) (arg20 : Memref sig .tc .vmem S8x768x1 .f32) (harg20 : arg20.IsWhole) (arg21 : Memref sig .tc .vmem S8x768x256 .f32) (harg21 : arg21.IsWhole) (v10 : Elt F .i32) (v12 : Elt F .i32) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (G_arg19 : BufTy.Contents (Elt F) arg19.view.ty) (G_arg20 : BufTy.Contents (Elt F) arg20.view.ty) (G_arg21 : BufTy.Contents (Elt F) arg21.view.ty) :
    arg19.view.read (Elt F) (arg19.view.writes (Elt F) G_arg19 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v10 v12 X_arg3 X_arg4 X_arg5 X_arg6 G_arg19 G_arg20 G_arg21 k0_t2_loop.trips).1) = loopM true (k0_pay7 v10 v12) (arg3.view.read (Elt F) X_arg3) (arg4.view.read (Elt F) X_arg4) (arg6.view.read (Elt F) X_arg6) (arg19.view.read (Elt F) G_arg19)
    ∧ arg20.view.read (Elt F) (arg20.view.writes (Elt F) G_arg20 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v10 v12 X_arg3 X_arg4 X_arg5 X_arg6 G_arg19 G_arg20 G_arg21 k0_t2_loop.trips).2.1) = loopL true (k0_pay7 v10 v12) (arg3.view.read (Elt F) X_arg3) (arg4.view.read (Elt F) X_arg4) (arg6.view.read (Elt F) X_arg6) (arg19.view.read (Elt F) G_arg19) (arg20.view.read (Elt F) G_arg20)
    ∧ arg21.view.read (Elt F) (arg21.view.writes (Elt F) G_arg21 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v10 v12 X_arg3 X_arg4 X_arg5 X_arg6 G_arg19 G_arg20 G_arg21 k0_t2_loop.trips).2.2) = loopA true (k0_pay7 v10 v12) (arg3.view.read (Elt F) X_arg3) (arg4.view.read (Elt F) X_arg4) (arg5.view.read (Elt F) X_arg5) (arg6.view.read (Elt F) X_arg6) (arg19.view.read (Elt F) G_arg19) (arg21.view.read (Elt F) G_arg21) := by
  obtain ⟨h1, h2, h3⟩ := k0_t2_upto (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v10 v12 X_arg3 X_arg4 X_arg5 X_arg6 G_arg19 G_arg20 G_arg21 4 (le_refl 4)
  rw [k0_t2_trips]
  refine ⟨funext fun y => ?_, funext fun y => ?_, funext fun y => ?_⟩
  · rw [eq_ix3 (n0 := 8) (n1 := 768) (n2 := 1) y]; exact (h1 _ _ _).trans (if_pos (by have : (y 0).val < 8 := (y 0).isLt; show (y 0).val < _; omega))
  · rw [eq_ix3 (n0 := 8) (n1 := 768) (n2 := 1) y]; exact (h2 _ _ _).trans (if_pos (by have : (y 0).val < 8 := (y 0).isLt; show (y 0).val < _; omega))
  · rw [eq_ix3 (n0 := 8) (n1 := 768) (n2 := 256) y]; exact (h3 _ _ _).trans (if_pos (by have : (y 0).val < 8 := (y 0).isLt; show (y 0).val < _; omega))

end Cert.AttnIdeal.Flash

end
-- ==== Proof.AttnIdealRun.lean ====
module

public import proofs.«01_k».proof.Proof.AttnIdealLoop
public import proofs.«01_k».proof.Proof.Gen.AttnIdeal.Launch

@[expose] public section

set_option maxRecDepth 16384

noncomputable section

namespace Cert.AttnIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.AttnIdeal Cert.AttnIdeal.Gen

variable {F : FTy → Type} [FloatOps F] [Named F]

local notation "𝕄" => MT nD τ sig Unit (Elt F) ℕ (UR sig nD τ) ℕ

/-- The word of a table at a grid point. -/
abbrev word (i : grid0.Coords) (a : Memref sig .tc .smem S66 .i32) (g : BufTy.Contents (Elt F) a.view.ty) : Elt F .i32 :=
  View.readAt (Elt F) a.view (Rect.unit (s := S66) (k0_off1 i) S1.size (k0_off1_inb i)).toLoadRect g (Shape.Idx.first (numel1_S1.symm ▸ Nat.one_pos))

/-- The conditions of the body: the row's first tile, a tile before the diagonal, the diagonal tile. -/
abbrev isFirst (w2 : BitVec 32) : Prop := Scalar.cmpi .ne (Scalar.extui (Scalar.cmpi .eq w2 0#32) : BitVec 32) 0#32 = 1#1
abbrev isBelow (w1 w2 : BitVec 32) : Prop := Scalar.cmpi .ne (Scalar.extui (Scalar.cmpi .slt w2 w1) : BitVec 32) 0#32 = 1#1
abbrev isDiag (w1 w2 : BitVec 32) : Prop := k0_cond3 w1 w2 = 1#1

/-- A load of everything. -/
theorem load_whole {sig : RefSig} {κ : Kind} {sp : Space} {s : Shape} {e : EltTy} {Val : EltTy → Type} (v : View sig κ sp s e) (f : v.ty.Contents Val)
    {off : Fin s.rank → ℕ} (h : off = fun _ => 0) (inb : ∀ a, off a + s.size a ≤ s.size a) :
    v.readAt Val (Rect.unit off s.size inb).toLoadRect f = v.read Val f :=
  funext fun x => load_at v f inb h x x fun a => (Nat.zero_add _).symm

/-- A store of everything. -/
theorem read_whole {sig : RefSig} {κ : Kind} {sp : Space} {s : Shape} {e : EltTy} {Val : EltTy → Type} (v : View sig κ sp s e) (f : v.ty.Contents Val)
    {off : Fin s.rank → ℕ} (h : off = fun _ => 0) (inb : ∀ a, off a + s.size a ≤ s.size a) (w : s.Idx → Val e) :
    v.read Val (v.writes Val f [(⟨Rect.unit off s.size inb, w⟩ : View.Piece Val s e)]) = w :=
  funext fun y => View.read_writes_cons_unit_of_mem v f inb w [] y y h fun a => (Nat.zero_add _).symm

theorem z2 : (![0, 0] : Fin 2 → ℕ) = fun _ => 0 := by decide
theorem z3 : (![0, 0, 0] : Fin 3 → ℕ) = fun _ => 0 := by decide

/-- The last steps for one head: the two halves' weighted sums over their totals, the second's `lam` times subtracted,
    and the group norm. -/
def epi (lam : FVec F S1x1 .f32) (sg : Vec F S1x256 .f32) (a0 : Vec F S1x768x256 .f32) (l0 : Vec F S1x768x1 .f32) (a1 : Vec F S1x768x256 .f32)
    (l1 : Vec F S1x768x1 .f32) : FVec F S1x768x256 .bf16 := k0_pay51 lam sg (k0_pay49 a0 l0) (k0_pay50 a1) l1

/-- The block of outputs a row of tiles ends with. -/
def blockO (lam : FVec F S1x1 .f32) (sg : Vec F S1x256 .f32) (L : Vec F S8x768x1 .f32) (A : Vec F S8x768x256 .f32) : Vec F S4x768x256 .bf16 := fun y =>
  epi lam sg (rowA A ⟨2 * (y 0).val, by have h : (y 0).val < 4 := (y 0).isLt; omega⟩) (rowM L ⟨2 * (y 0).val, by have h : (y 0).val < 4 := (y 0).isLt; omega⟩)
    (rowA A ⟨2 * (y 0).val + 1, by have h : (y 0).val < 4 := (y 0).isLt; omega⟩) (rowM L ⟨2 * (y 0).val + 1, by have h : (y 0).val < 4 := (y 0).isLt; omega⟩)
    (ix3 0 (y 1) (y 2))

/-- Four stores of one head each. -/
theorem four_heads {sig : RefSig} {κ : Kind} {sp : Space} {e : EltTy} {Val : EltTy → Type} (v : View sig κ sp (⟨3, ![4, 768, 256]⟩ : Shape) e)
    (f : v.ty.Contents Val)
    (i0 : ∀ a, (![0, 0, 0] : Fin 3 → ℕ) a + (![1, 768, 256] : Fin 3 → ℕ) a ≤ (⟨3, ![4, 768, 256]⟩ : Shape).size a)
    (i1 : ∀ a, (![1, 0, 0] : Fin 3 → ℕ) a + (![1, 768, 256] : Fin 3 → ℕ) a ≤ (⟨3, ![4, 768, 256]⟩ : Shape).size a)
    (i2 : ∀ a, (![2, 0, 0] : Fin 3 → ℕ) a + (![1, 768, 256] : Fin 3 → ℕ) a ≤ (⟨3, ![4, 768, 256]⟩ : Shape).size a)
    (i3 : ∀ a, (![3, 0, 0] : Fin 3 → ℕ) a + (![1, 768, 256] : Fin 3 → ℕ) a ≤ (⟨3, ![4, 768, 256]⟩ : Shape).size a)
    (w0 w1 w2 w3 : (⟨3, ![1, 768, 256]⟩ : Shape).Idx → Val e) (W : (⟨3, ![4, 768, 256]⟩ : Shape).Idx → Val e)
    (h0 : ∀ b c, w0 (ix3 0 b c) = W (ix3 0 b c)) (h1 : ∀ b c, w1 (ix3 0 b c) = W (ix3 1 b c))
    (h2 : ∀ b c, w2 (ix3 0 b c) = W (ix3 2 b c)) (h3 : ∀ b c, w3 (ix3 0 b c) = W (ix3 3 b c)) :
    v.read Val (v.writes Val f [(⟨Rect.unit ![3, 0, 0] ![1, 768, 256] i3, w3⟩ : View.Piece Val _ e), (⟨Rect.unit ![2, 0, 0] ![1, 768, 256] i2, w2⟩ : View.Piece Val _ e),
      (⟨Rect.unit ![1, 0, 0] ![1, 768, 256] i1, w1⟩ : View.Piece Val _ e), (⟨Rect.unit ![0, 0, 0] ![1, 768, 256] i0, w0⟩ : View.Piece Val _ e)]) = W := by
  have hit : ∀ (k : ℕ) (hk : k < 4) (ik : ∀ a, (![k, 0, 0] : Fin 3 → ℕ) a + (![1, 768, 256] : Fin 3 → ℕ) a ≤ (⟨3, ![4, 768, 256]⟩ : Shape).size a)
      (w : (⟨3, ![1, 768, 256]⟩ : Shape).Idx → Val e) (L : List (View.Piece Val _ e)) (b : Fin 768) (c : Fin 256),
      v.read Val (v.writes Val f ((⟨Rect.unit ![k, 0, 0] ![1, 768, 256] ik, w⟩ : View.Piece Val _ e) :: L)) (ix3 ⟨k, hk⟩ b c) = w (ix3 0 b c) :=
    fun k hk ik w L b c => View.read_writes_cons_unit_of_mem v f ik w L (ix3 ⟨k, hk⟩ b c) (ix3 0 b c) rfl
      fun a => match a with | ⟨0, _⟩ => rfl | ⟨1, _⟩ => (Nat.zero_add _).symm | ⟨2, _⟩ => (Nat.zero_add _).symm
  have miss : ∀ (k : ℕ) (ik : ∀ a, (![k, 0, 0] : Fin 3 → ℕ) a + (![1, 768, 256] : Fin 3 → ℕ) a ≤ (⟨3, ![4, 768, 256]⟩ : Shape).size a)
      (w : (⟨3, ![1, 768, 256]⟩ : Shape).Idx → Val e) (L : List (View.Piece Val _ e)) (j : Fin 4) (b : Fin 768) (c : Fin 256), j.val < k →
      v.read Val (v.writes Val f ((⟨Rect.unit ![k, 0, 0] ![1, 768, 256] ik, w⟩ : View.Piece Val _ e) :: L)) (ix3 j b c) = v.read Val (v.writes Val f L) (ix3 j b c) :=
    fun k ik w L j b c hj => View.read_writes_cons_unit_of_not_mem v f ik w L (ix3 j b c) rfl 0 (.inl hj)
  funext y
  rw [eq_ix3 (n0 := 4) (n1 := 768) (n2 := 256) y]
  generalize hb : y 1 = b
  generalize hc : y 2 = c
  generalize hj : y 0 = j
  match j with
  | ⟨0, hk⟩ => exact (miss 3 i3 w3 _ ⟨0, hk⟩ b c (show 0 < 3 by omega)).trans ((miss 2 i2 w2 _ ⟨0, hk⟩ b c (show 0 < 2 by omega)).trans ((miss 1 i1 w1 _ ⟨0, hk⟩ b c (show 0 < 1 by omega)).trans ((hit 0 hk i0 w0 _ b c).trans (h0 b c))))
  | ⟨1, hk⟩ => exact (miss 3 i3 w3 _ ⟨1, hk⟩ b c (show 1 < 3 by omega)).trans ((miss 2 i2 w2 _ ⟨1, hk⟩ b c (show 1 < 2 by omega)).trans ((hit 1 hk i1 w1 _ b c).trans (h1 b c)))
  | ⟨2, hk⟩ => exact (miss 3 i3 w3 _ ⟨2, hk⟩ b c (show 2 < 3 by omega)).trans ((hit 2 hk i2 w2 _ b c).trans (h2 b c))
  | ⟨3, hk⟩ => exact (hit 3 hk i3 w3 _ b c).trans (h3 b c)

set_option maxHeartbeats 8000000 in
/-- The body at the first tile of a row, before the diagonal. -/
theorem run_A (c : Dev nD) (i : grid0.Coords) (arg1 : Memref sig .tc .smem S66 .i32) (harg1 : arg1.IsWhole) (arg2 : Memref sig .tc .smem S66 .i32) (harg2 : arg2.IsWhole) (arg3 : Memref sig .tc .vmem S1x4x768x512 .bf16) (harg3 : arg3.IsWhole) (arg4 : Memref sig .tc .vmem S1x4x768x512 .bf16) (harg4 : arg4.IsWhole) (arg5 : Memref sig .tc .vmem S4x768x256 .bf16) (harg5 : arg5.IsWhole) (arg6 : Memref sig .tc .vmem S4x1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x256 .f32) (harg11 : arg11.IsWhole) (arg12 : Memref sig .tc .vmem S32x8192 .f32) (harg12 : arg12.IsWhole) (arg13 : Memref sig .tc .vmem S128x2048 .f32) (harg13 : arg13.IsWhole) (arg14 : Memref sig .tc .vmem S32x2048 .f32) (harg14 : arg14.IsWhole) (arg15 : Memref sig .tc .vmem S4x768x256 .bf16) (harg15 : arg15.IsWhole) (arg16 : Memref sig .tc .vmem S32x8192 .bf16) (harg16 : arg16.IsWhole) (arg17 : Memref sig .tc .vmem S128x2048 .bf16) (harg17 : arg17.IsWhole) (arg18 : Memref sig .tc .vmem S32x2048 .bf16) (harg18 : arg18.IsWhole) (arg19 : Memref sig .tc .vmem S8x768x1 .f32) (harg19 : arg19.IsWhole) (arg20 : Memref sig .tc .vmem S8x768x1 .f32) (harg20 : arg20.IsWhole) (arg21 : Memref sig .tc .vmem S8x768x256 .f32) (harg21 : arg21.IsWhole) (q1 q2 : PosShare TreeShare) (g1 : BufTy.Contents (Elt F) arg1.view.ty) (g2 : BufTy.Contents (Elt F) arg2.view.ty)
   (hf : isFirst (word i arg2 g2)) (hb : isBelow (word i arg1 g1) (word i arg2 g2)) (hd : ¬isDiag (word i arg1 g1) (word i arg2 g2))
   (x3 : Vec F S1x4x768x512 .bf16) (x4 : Vec F S1x4x768x512 .bf16) (x5 : Vec F S4x768x256 .bf16) (x6 : Vec F S4x1x128 .f32) (x7 : Vec F S1x128 .f32) (x8 : Vec F S1x128 .f32) (x9 : Vec F S1x128 .f32) (x10 : Vec F S1x128 .f32) (x11 : Vec F S1x256 .f32) (x12 : Vec F S32x8192 .f32) (x13 : Vec F S128x2048 .f32) (x14 : Vec F S32x2048 .f32) (x15 : Vec F S4x768x256 .bf16)  (E : Set ℕ) (K : PUnit → sProp 𝕄) :
   iprop((arg1.view.loc (c : Thread nD τ) ↦[arg1.view.set]{q1} g1) ∗ (arg2.view.loc (c : Thread nD τ) ↦[arg2.view.set]{q2} g2) ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (iprop((arg1.view.loc (c : Thread nD τ) ↦[arg1.view.set]{q1} g1) ∗ (arg2.view.loc (c : Thread nD τ) ↦[arg2.view.set]{q2} g2) ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare (k0_pay1 x12) ∗ owns (c : Thread nD τ) arg17 fullShare (k0_pay2 x13) ∗ owns (c : Thread nD τ) arg18 fullShare (k0_pay3 x14) ∗ owns (c : Thread nD τ) arg19 fullShare (loopM false (k0_pay7 (word i arg1 g1) (word i arg2 g2)) x3 x4 x6 k0_pay4) ∗ owns (c : Thread nD τ) arg20 fullShare (loopL false (k0_pay7 (word i arg1 g1) (word i arg2 g2)) x3 x4 x6 k0_pay4 k0_pay5) ∗ owns (c : Thread nD τ) arg21 fullShare (loopA false (k0_pay7 (word i arg1 g1) (word i arg2 g2)) x3 x4 x5 x6 k0_pay4 k0_pay6)) -∗ K ⟨⟩)) ⊢ wp frame (wpE (defs₀ (F := F)) Variants.none c none) E (cc0_attn_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_attn_prompt_eq_skeleton]; unfold cc0_attn_prompt_skel
  unfold owns
  iintro ⟨G1, G2, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  subst hf3; subst hf4; subst hf5; subst hf6; subst hf7; subst hf8; subst hf9; subst hf10; subst hf11; subst hf12; subst hf13; subst hf14; subst hf15
  sl_exec (disch := first | sl_exact hf | sl_exact hb | sl_exact hd)
  sl_step
  iapply Hk
  isplitl [G1]; · iexact G1
  isplitl [G2]; · iexact G2
  isplitl [H3]
  · iexists _; isplitr; · ipureintro; exact rfl
    iexact H3
  isplitl [H4]
  · iexists _; isplitr; · ipureintro; exact rfl
    iexact H4
  isplitl [H5]
  · iexists _; isplitr; · ipureintro; exact rfl
    iexact H5
  isplitl [H6]
  · iexists _; isplitr; · ipureintro; exact rfl
    iexact H6
  isplitl [H7]
  · iexists _; isplitr; · ipureintro; exact rfl
    iexact H7
  isplitl [H8]
  · iexists _; isplitr; · ipureintro; exact rfl
    iexact H8
  isplitl [H9]
  · iexists _; isplitr; · ipureintro; exact rfl
    iexact H9
  isplitl [H10]
  · iexists _; isplitr; · ipureintro; exact rfl
    iexact H10
  isplitl [H11]
  · iexists _; isplitr; · ipureintro; exact rfl
    iexact H11
  isplitl [H12]
  · iexists _; isplitr; · ipureintro; exact rfl
    iexact H12
  isplitl [H13]
  · iexists _; isplitr; · ipureintro; exact rfl
    iexact H13
  isplitl [H14]
  · iexists _; isplitr; · ipureintro; exact rfl
    iexact H14
  isplitl [H15]
  · iexists _; isplitr
    swap; · iexact H15
    ipureintro; exact rfl
  isplitl [H16]
  · iexists _; isplitr
    swap; · iexact H16
    ipureintro
    exact (read_whole arg16.view _ z2 _ _).trans (congrArg k0_pay1 (load_whole arg12.view _ z2 _))
  isplitl [H17]
  · iexists _; isplitr
    swap; · iexact H17
    ipureintro
    exact (read_whole arg17.view _ z2 _ _).trans (congrArg k0_pay2 (load_whole arg13.view _ z2 _))
  isplitl [H18]
  · iexists _; isplitr
    swap; · iexact H18
    ipureintro
    exact (read_whole arg18.view _ z2 _ _).trans (congrArg k0_pay3 (load_whole arg14.view _ z2 _))
  isplitl [H19]
  · iexists _; isplitr
    swap; · iexact H19
    ipureintro; rw [View.writes_append]; refine (k0_t1_leaves (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ f3 f4 f5 f6 _ _ _).1.trans ?_
    exact congrArg (loopM false _ _ _ _) (read_whole arg19.view _ z3 _ _)
  isplitl [H20]
  · iexists _; isplitr
    swap; · iexact H20
    ipureintro; rw [View.writes_append]; refine (k0_t1_leaves (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ f3 f4 f5 f6 _ _ _).2.1.trans ?_
    exact congrArg₂ (loopL false _ _ _ _) (read_whole arg19.view _ z3 _ _) (read_whole arg20.view _ z3 _ _)
  iexists _; isplitr
  swap; · iexact H21
  ipureintro; rw [View.writes_append]; refine (k0_t1_leaves (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ f3 f4 f5 f6 _ _ _).2.2.trans ?_
  exact congrArg₂ (loopA false _ _ _ _ _) (read_whole arg19.view _ z3 _ _) (read_whole arg21.view _ z3 _ _)

set_option maxHeartbeats 8000000 in
/-- The body at a later tile of a row, before the diagonal. -/
theorem run_B (c : Dev nD) (i : grid0.Coords) (arg1 : Memref sig .tc .smem S66 .i32) (harg1 : arg1.IsWhole) (arg2 : Memref sig .tc .smem S66 .i32) (harg2 : arg2.IsWhole) (arg3 : Memref sig .tc .vmem S1x4x768x512 .bf16) (harg3 : arg3.IsWhole) (arg4 : Memref sig .tc .vmem S1x4x768x512 .bf16) (harg4 : arg4.IsWhole) (arg5 : Memref sig .tc .vmem S4x768x256 .bf16) (harg5 : arg5.IsWhole) (arg6 : Memref sig .tc .vmem S4x1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x256 .f32) (harg11 : arg11.IsWhole) (arg12 : Memref sig .tc .vmem S32x8192 .f32) (harg12 : arg12.IsWhole) (arg13 : Memref sig .tc .vmem S128x2048 .f32) (harg13 : arg13.IsWhole) (arg14 : Memref sig .tc .vmem S32x2048 .f32) (harg14 : arg14.IsWhole) (arg15 : Memref sig .tc .vmem S4x768x256 .bf16) (harg15 : arg15.IsWhole) (arg16 : Memref sig .tc .vmem S32x8192 .bf16) (harg16 : arg16.IsWhole) (arg17 : Memref sig .tc .vmem S128x2048 .bf16) (harg17 : arg17.IsWhole) (arg18 : Memref sig .tc .vmem S32x2048 .bf16) (harg18 : arg18.IsWhole) (arg19 : Memref sig .tc .vmem S8x768x1 .f32) (harg19 : arg19.IsWhole) (arg20 : Memref sig .tc .vmem S8x768x1 .f32) (harg20 : arg20.IsWhole) (arg21 : Memref sig .tc .vmem S8x768x256 .f32) (harg21 : arg21.IsWhole) (q1 q2 : PosShare TreeShare) (g1 : BufTy.Contents (Elt F) arg1.view.ty) (g2 : BufTy.Contents (Elt F) arg2.view.ty)
   (hf : ¬isFirst (word i arg2 g2)) (hb : isBelow (word i arg1 g1) (word i arg2 g2)) (hd : ¬isDiag (word i arg1 g1) (word i arg2 g2))
   (x3 : Vec F S1x4x768x512 .bf16) (x4 : Vec F S1x4x768x512 .bf16) (x5 : Vec F S4x768x256 .bf16) (x6 : Vec F S4x1x128 .f32) (x7 : Vec F S1x128 .f32) (x8 : Vec F S1x128 .f32) (x9 : Vec F S1x128 .f32) (x10 : Vec F S1x128 .f32) (x11 : Vec F S1x256 .f32) (x12 : Vec F S32x8192 .f32) (x13 : Vec F S128x2048 .f32) (x14 : Vec F S32x2048 .f32) (x15 : Vec F S4x768x256 .bf16) (x19 : Vec F S8x768x1 .f32) (x20 : Vec F S8x768x1 .f32) (x21 : Vec F S8x768x256 .f32) (E : Set ℕ) (K : PUnit → sProp 𝕄) :
   iprop((arg1.view.loc (c : Thread nD τ) ↦[arg1.view.set]{q1} g1) ∗ (arg2.view.loc (c : Thread nD τ) ↦[arg2.view.set]{q2} g2) ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg16 fullShare d) ∗ (∃ d, owns (c : Thread nD τ) arg17 fullShare d) ∗ (∃ d, owns (c : Thread nD τ) arg18 fullShare d) ∗ owns (c : Thread nD τ) arg19 fullShare x19 ∗ owns (c : Thread nD τ) arg20 fullShare x20 ∗ owns (c : Thread nD τ) arg21 fullShare x21 ∗ (iprop((arg1.view.loc (c : Thread nD τ) ↦[arg1.view.set]{q1} g1) ∗ (arg2.view.loc (c : Thread nD τ) ↦[arg2.view.set]{q2} g2) ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare (k0_pay1 x12) ∗ owns (c : Thread nD τ) arg17 fullShare (k0_pay2 x13) ∗ owns (c : Thread nD τ) arg18 fullShare (k0_pay3 x14) ∗ owns (c : Thread nD τ) arg19 fullShare (loopM false (k0_pay7 (word i arg1 g1) (word i arg2 g2)) x3 x4 x6 x19) ∗ owns (c : Thread nD τ) arg20 fullShare (loopL false (k0_pay7 (word i arg1 g1) (word i arg2 g2)) x3 x4 x6 x19 x20) ∗ owns (c : Thread nD τ) arg21 fullShare (loopA false (k0_pay7 (word i arg1 g1) (word i arg2 g2)) x3 x4 x5 x6 x19 x21)) -∗ K ⟨⟩)) ⊢ wp frame (wpE (defs₀ (F := F)) Variants.none c none) E (cc0_attn_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_attn_prompt_eq_skeleton]; unfold cc0_attn_prompt_skel
  unfold owns
  iintro ⟨G1, G2, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%f19, %hf19, H19⟩, ⟨%f20, %hf20, H20⟩, ⟨%f21, %hf21, H21⟩, Hk⟩
  subst hf3; subst hf4; subst hf5; subst hf6; subst hf7; subst hf8; subst hf9; subst hf10; subst hf11; subst hf12; subst hf13; subst hf14; subst hf19; subst hf20; subst hf21; subst hf15
  sl_exec (disch := first | sl_exact hf | sl_exact hb | sl_exact hd)
  sl_step
  iapply Hk
  isplitl [G1]; · iexact G1
  isplitl [G2]; · iexact G2
  isplitl [H3]
  · iexists _; isplitr; · ipureintro; exact rfl
    iexact H3
  isplitl [H4]
  · iexists _; isplitr; · ipureintro; exact rfl
    iexact H4
  isplitl [H5]
  · iexists _; isplitr; · ipureintro; exact rfl
    iexact H5
  isplitl [H6]
  · iexists _; isplitr; · ipureintro; exact rfl
    iexact H6
  isplitl [H7]
  · iexists _; isplitr; · ipureintro; exact rfl
    iexact H7
  isplitl [H8]
  · iexists _; isplitr; · ipureintro; exact rfl
    iexact H8
  isplitl [H9]
  · iexists _; isplitr; · ipureintro; exact rfl
    iexact H9
  isplitl [H10]
  · iexists _; isplitr; · ipureintro; exact rfl
    iexact H10
  isplitl [H11]
  · iexists _; isplitr; · ipureintro; exact rfl
    iexact H11
  isplitl [H12]
  · iexists _; isplitr; · ipureintro; exact rfl
    iexact H12
  isplitl [H13]
  · iexists _; isplitr; · ipureintro; exact rfl
    iexact H13
  isplitl [H14]
  · iexists _; isplitr; · ipureintro; exact rfl
    iexact H14
  isplitl [H15]
  · iexists _; isplitr
    swap; · iexact H15
    ipureintro; exact rfl
  isplitl [H16]
  · iexists _; isplitr
    swap; · iexact H16
    ipureintro
    exact (read_whole arg16.view _ z2 _ _).trans (congrArg k0_pay1 (load_whole arg12.view _ z2 _))
  isplitl [H17]
  · iexists _; isplitr
    swap; · iexact H17
    ipureintro
    exact (read_whole arg17.view _ z2 _ _).trans (congrArg k0_pay2 (load_whole arg13.view _ z2 _))
  isplitl [H18]
  · iexists _; isplitr
    swap; · iexact H18
    ipureintro
    exact (read_whole arg18.view _ z2 _ _).trans (congrArg k0_pay3 (load_whole arg14.view _ z2 _))
  isplitl [H19]
  · iexists _; isplitr
    swap; · iexact H19
    ipureintro; refine (k0_t1_leaves (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ f3 f4 f5 f6 _ _ _).1.trans ?_
    exact congrArg (loopM false _ _ _ _) rfl
  isplitl [H20]
  · iexists _; isplitr
    swap; · iexact H20
    ipureintro; refine (k0_t1_leaves (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ f3 f4 f5 f6 _ _ _).2.1.trans ?_
    exact congrArg₂ (loopL false _ _ _ _) rfl rfl
  iexists _; isplitr
  swap; · iexact H21
  ipureintro; refine (k0_t1_leaves (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ f3 f4 f5 f6 _ _ _).2.2.trans ?_
  exact congrArg₂ (loopA false _ _ _ _ _) rfl rfl
end Cert.AttnIdeal.Flash

end
-- ==== Proof.AttnIdealRunC.lean ====
module

public import proofs.«01_k».proof.Proof.AttnIdealRun

@[expose] public section

set_option maxRecDepth 16384

noncomputable section

namespace Cert.AttnIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.AttnIdeal Cert.AttnIdeal.Gen

variable {F : FTy → Type} [FloatOps F] [Named F]

local notation "𝕄" => MT nD τ sig Unit (Elt F) ℕ (UR sig nD τ) ℕ

set_option maxHeartbeats 8000000 in
/-- The body at the first tile of a row, on the diagonal. -/
theorem run_C (c : Dev nD) (i : grid0.Coords) (arg1 : Memref sig .tc .smem S66 .i32) (harg1 : arg1.IsWhole) (arg2 : Memref sig .tc .smem S66 .i32) (harg2 : arg2.IsWhole) (arg3 : Memref sig .tc .vmem S1x4x768x512 .bf16) (harg3 : arg3.IsWhole) (arg4 : Memref sig .tc .vmem S1x4x768x512 .bf16) (harg4 : arg4.IsWhole) (arg5 : Memref sig .tc .vmem S4x768x256 .bf16) (harg5 : arg5.IsWhole) (arg6 : Memref sig .tc .vmem S4x1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x256 .f32) (harg11 : arg11.IsWhole) (arg12 : Memref sig .tc .vmem S32x8192 .f32) (harg12 : arg12.IsWhole) (arg13 : Memref sig .tc .vmem S128x2048 .f32) (harg13 : arg13.IsWhole) (arg14 : Memref sig .tc .vmem S32x2048 .f32) (harg14 : arg14.IsWhole) (arg15 : Memref sig .tc .vmem S4x768x256 .bf16) (harg15 : arg15.IsWhole) (arg16 : Memref sig .tc .vmem S32x8192 .bf16) (harg16 : arg16.IsWhole) (arg17 : Memref sig .tc .vmem S128x2048 .bf16) (harg17 : arg17.IsWhole) (arg18 : Memref sig .tc .vmem S32x2048 .bf16) (harg18 : arg18.IsWhole) (arg19 : Memref sig .tc .vmem S8x768x1 .f32) (harg19 : arg19.IsWhole) (arg20 : Memref sig .tc .vmem S8x768x1 .f32) (harg20 : arg20.IsWhole) (arg21 : Memref sig .tc .vmem S8x768x256 .f32) (harg21 : arg21.IsWhole) (q1 q2 : PosShare TreeShare) (g1 : BufTy.Contents (Elt F) arg1.view.ty) (g2 : BufTy.Contents (Elt F) arg2.view.ty)
   (hf : isFirst (word i arg2 g2)) (hb : ¬isBelow (word i arg1 g1) (word i arg2 g2)) (hd : isDiag (word i arg1 g1) (word i arg2 g2))
   (x3 : Vec F S1x4x768x512 .bf16) (x4 : Vec F S1x4x768x512 .bf16) (x5 : Vec F S4x768x256 .bf16) (x6 : Vec F S4x1x128 .f32) (x7 : Vec F S1x128 .f32) (x8 : Vec F S1x128 .f32) (x9 : Vec F S1x128 .f32) (x10 : Vec F S1x128 .f32) (x11 : Vec F S1x256 .f32) (x12 : Vec F S32x8192 .f32) (x13 : Vec F S128x2048 .f32) (x14 : Vec F S32x2048 .f32)   (E : Set ℕ) (K : PUnit → sProp 𝕄) :
   iprop((arg1.view.loc (c : Thread nD τ) ↦[arg1.view.set]{q1} g1) ∗ (arg2.view.loc (c : Thread nD τ) ↦[arg2.view.set]{q2} g2) ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (iprop((arg1.view.loc (c : Thread nD τ) ↦[arg1.view.set]{q1} g1) ∗ (arg2.view.loc (c : Thread nD τ) ↦[arg2.view.set]{q2} g2) ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (blockO (k0_pay48 x7 x8 x9 x10) x11 (loopL true (k0_pay7 (word i arg1 g1) (word i arg2 g2)) x3 x4 x6 k0_pay4 k0_pay5) (loopA true (k0_pay7 (word i arg1 g1) (word i arg2 g2)) x3 x4 x5 x6 k0_pay4 k0_pay6)) ∗ owns (c : Thread nD τ) arg16 fullShare (k0_pay1 x12) ∗ owns (c : Thread nD τ) arg17 fullShare (k0_pay2 x13) ∗ owns (c : Thread nD τ) arg18 fullShare (k0_pay3 x14) ∗ owns (c : Thread nD τ) arg19 fullShare (loopM true (k0_pay7 (word i arg1 g1) (word i arg2 g2)) x3 x4 x6 k0_pay4) ∗ owns (c : Thread nD τ) arg20 fullShare (loopL true (k0_pay7 (word i arg1 g1) (word i arg2 g2)) x3 x4 x6 k0_pay4 k0_pay5) ∗ owns (c : Thread nD τ) arg21 fullShare (loopA true (k0_pay7 (word i arg1 g1) (word i arg2 g2)) x3 x4 x5 x6 k0_pay4 k0_pay6)) -∗ K ⟨⟩)) ⊢ wp frame (wpE (defs₀ (F := F)) Variants.none c none) E (cc0_attn_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_attn_prompt_eq_skeleton]; unfold cc0_attn_prompt_skel
  unfold owns
  iintro ⟨G1, G2, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  subst hf3; subst hf4; subst hf5; subst hf6; subst hf7; subst hf8; subst hf9; subst hf10; subst hf11; subst hf12; subst hf13; subst hf14
  sl_exec (disch := first | sl_exact hf | sl_exact hb | sl_exact hd)
  sl_step
  iapply Hk
  isplitl [G1]; · iexact G1
  isplitl [G2]; · iexact G2
  isplitl [H3]
  · iexists _; isplitr; · ipureintro; exact rfl
    iexact H3
  isplitl [H4]
  · iexists _; isplitr; · ipureintro; exact rfl
    iexact H4
  isplitl [H5]
  · iexists _; isplitr; · ipureintro; exact rfl
    iexact H5
  isplitl [H6]
  · iexists _; isplitr; · ipureintro; exact rfl
    iexact H6
  isplitl [H7]
  · iexists _; isplitr; · ipureintro; exact rfl
    iexact H7
  isplitl [H8]
  · iexists _; isplitr; · ipureintro; exact rfl
    iexact H8
  isplitl [H9]
  · iexists _; isplitr; · ipureintro; exact rfl
    iexact H9
  isplitl [H10]
  · iexists _; isplitr; · ipureintro; exact rfl
    iexact H10
  isplitl [H11]
  · iexists _; isplitr; · ipureintro; exact rfl
    iexact H11
  isplitl [H12]
  · iexists _; isplitr; · ipureintro; exact rfl
    iexact H12
  isplitl [H13]
  · iexists _; isplitr; · ipureintro; exact rfl
    iexact H13
  isplitl [H14]
  · iexists _; isplitr; · ipureintro; exact rfl
    iexact H14
  isplitl [H15]
  · iexists _; isplitr
    swap; · iexact H15
    ipureintro
    have e7 : (View.readAt (Elt F) arg7.view (Rect.unit (s := S1x128) ![0, 0] S1x128.size inb_S1x128_S1x128_0_0).toLoadRect f7) = arg7.view.read (Elt F) f7 := load_whole arg7.view _ z2 _
    have e8 : (View.readAt (Elt F) arg8.view (Rect.unit (s := S1x128) ![0, 0] S1x128.size inb_S1x128_S1x128_0_0).toLoadRect f8) = arg8.view.read (Elt F) f8 := load_whole arg8.view _ z2 _
    have e9 : (View.readAt (Elt F) arg9.view (Rect.unit (s := S1x128) ![0, 0] S1x128.size inb_S1x128_S1x128_0_0).toLoadRect f9) = arg9.view.read (Elt F) f9 := load_whole arg9.view _ z2 _
    have e10 : (View.readAt (Elt F) arg10.view (Rect.unit (s := S1x128) ![0, 0] S1x128.size inb_S1x128_S1x128_0_0).toLoadRect f10) = arg10.view.read (Elt F) f10 := load_whole arg10.view _ z2 _
    have e11 : (View.readAt (Elt F) arg11.view (Rect.unit (s := S1x256) ![0, 0] S1x256.size inb_S1x256_S1x256_0_0).toLoadRect f11) = arg11.view.read (Elt F) f11 := load_whole arg11.view _ z2 _
    have lA : arg21.view.read (Elt F) (arg21.view.writes (Elt F) arg21.view.junk ((pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (word i arg1 g1) (word i arg2 g2) f3 f4 f5 f6 (arg19.view.writes (Elt F) arg19.view.junk [⟨Rect.unit (s := S8x768x1) ![0, 0, 0] S8x768x1.size inb_S8x768x1_S8x768x1_0_0_0, k0_pay4⟩]) (arg20.view.writes (Elt F) arg20.view.junk [⟨Rect.unit (s := S8x768x1) ![0, 0, 0] S8x768x1.size inb_S8x768x1_S8x768x1_0_0_0, k0_pay5⟩]) (arg21.view.writes (Elt F) arg21.view.junk [⟨Rect.unit (s := S8x768x256) ![0, 0, 0] S8x768x256.size inb_S8x768x256_S8x768x256_0_0_0, k0_pay6⟩]) k0_t2_loop.trips).2.2 ++ [⟨Rect.unit (s := S8x768x256) ![0, 0, 0] S8x768x256.size inb_S8x768x256_S8x768x256_0_0_0, k0_pay6⟩])) = (loopA true (k0_pay7 (word i arg1 g1) (word i arg2 g2)) (arg3.view.read (Elt F) f3) (arg4.view.read (Elt F) f4) (arg5.view.read (Elt F) f5) (arg6.view.read (Elt F) f6) k0_pay4 k0_pay6) := by
      rw [View.writes_append]; refine (k0_t2_leaves (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ f3 f4 f5 f6 _ _ _).2.2.trans ?_
      exact congrArg₂ (loopA true _ _ _ _ _) (read_whole arg19.view _ z3 _ _) (read_whole arg21.view _ z3 _ _)
    have eA : ∀ (r : ℕ) (hr : r < 8) {inb : ∀ a, (![r, 0, 0] : Fin 3 → ℕ) a + S1x768x256.size a ≤ S8x768x256.size a}, View.readAt (Elt F) arg21.view (Rect.unit (s := S8x768x256) ![r, 0, 0] S1x768x256.size inb).toLoadRect (arg21.view.writes (Elt F) arg21.view.junk ((pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (word i arg1 g1) (word i arg2 g2) f3 f4 f5 f6 (arg19.view.writes (Elt F) arg19.view.junk [⟨Rect.unit (s := S8x768x1) ![0, 0, 0] S8x768x1.size inb_S8x768x1_S8x768x1_0_0_0, k0_pay4⟩]) (arg20.view.writes (Elt F) arg20.view.junk [⟨Rect.unit (s := S8x768x1) ![0, 0, 0] S8x768x1.size inb_S8x768x1_S8x768x1_0_0_0, k0_pay5⟩]) (arg21.view.writes (Elt F) arg21.view.junk [⟨Rect.unit (s := S8x768x256) ![0, 0, 0] S8x768x256.size inb_S8x768x256_S8x768x256_0_0_0, k0_pay6⟩]) k0_t2_loop.trips).2.2 ++ [⟨Rect.unit (s := S8x768x256) ![0, 0, 0] S8x768x256.size inb_S8x768x256_S8x768x256_0_0_0, k0_pay6⟩])) = rowA (loopA true (k0_pay7 (word i arg1 g1) (word i arg2 g2)) (arg3.view.read (Elt F) f3) (arg4.view.read (Elt F) f4) (arg5.view.read (Elt F) f5) (arg6.view.read (Elt F) f6) k0_pay4 k0_pay6) ⟨r, hr⟩ :=
      fun r hr inb => funext fun x => (load_at _ _ inb rfl x (ix3 ⟨r, hr⟩ (x 1) (x 2)) fun a => match a with | ⟨0, _⟩ => by have hx : (x 0).val < 1 := (x 0).isLt; show r = r + (x 0).val; omega | ⟨1, _⟩ => (Nat.zero_add _).symm | ⟨2, _⟩ => (Nat.zero_add _).symm).trans (congrFun lA _)
    have lL : arg20.view.read (Elt F) (arg20.view.writes (Elt F) arg20.view.junk ((pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (word i arg1 g1) (word i arg2 g2) f3 f4 f5 f6 (arg19.view.writes (Elt F) arg19.view.junk [⟨Rect.unit (s := S8x768x1) ![0, 0, 0] S8x768x1.size inb_S8x768x1_S8x768x1_0_0_0, k0_pay4⟩]) (arg20.view.writes (Elt F) arg20.view.junk [⟨Rect.unit (s := S8x768x1) ![0, 0, 0] S8x768x1.size inb_S8x768x1_S8x768x1_0_0_0, k0_pay5⟩]) (arg21.view.writes (Elt F) arg21.view.junk [⟨Rect.unit (s := S8x768x256) ![0, 0, 0] S8x768x256.size inb_S8x768x256_S8x768x256_0_0_0, k0_pay6⟩]) k0_t2_loop.trips).2.1 ++ [⟨Rect.unit (s := S8x768x1) ![0, 0, 0] S8x768x1.size inb_S8x768x1_S8x768x1_0_0_0, k0_pay5⟩])) = (loopL true (k0_pay7 (word i arg1 g1) (word i arg2 g2)) (arg3.view.read (Elt F) f3) (arg4.view.read (Elt F) f4) (arg6.view.read (Elt F) f6) k0_pay4 k0_pay5) := by
      rw [View.writes_append]; refine (k0_t2_leaves (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ f3 f4 f5 f6 _ _ _).2.1.trans ?_
      exact congrArg₂ (loopL true _ _ _ _) (read_whole arg19.view _ z3 _ _) (read_whole arg20.view _ z3 _ _)
    have eL : ∀ (r : ℕ) (hr : r < 8) {inb : ∀ a, (![r, 0, 0] : Fin 3 → ℕ) a + S1x768x1.size a ≤ S8x768x1.size a}, View.readAt (Elt F) arg20.view (Rect.unit (s := S8x768x1) ![r, 0, 0] S1x768x1.size inb).toLoadRect (arg20.view.writes (Elt F) arg20.view.junk ((pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (word i arg1 g1) (word i arg2 g2) f3 f4 f5 f6 (arg19.view.writes (Elt F) arg19.view.junk [⟨Rect.unit (s := S8x768x1) ![0, 0, 0] S8x768x1.size inb_S8x768x1_S8x768x1_0_0_0, k0_pay4⟩]) (arg20.view.writes (Elt F) arg20.view.junk [⟨Rect.unit (s := S8x768x1) ![0, 0, 0] S8x768x1.size inb_S8x768x1_S8x768x1_0_0_0, k0_pay5⟩]) (arg21.view.writes (Elt F) arg21.view.junk [⟨Rect.unit (s := S8x768x256) ![0, 0, 0] S8x768x256.size inb_S8x768x256_S8x768x256_0_0_0, k0_pay6⟩]) k0_t2_loop.trips).2.1 ++ [⟨Rect.unit (s := S8x768x1) ![0, 0, 0] S8x768x1.size inb_S8x768x1_S8x768x1_0_0_0, k0_pay5⟩])) = rowM (loopL true (k0_pay7 (word i arg1 g1) (word i arg2 g2)) (arg3.view.read (Elt F) f3) (arg4.view.read (Elt F) f4) (arg6.view.read (Elt F) f6) k0_pay4 k0_pay5) ⟨r, hr⟩ :=
      fun r hr inb => funext fun x => (load_at _ _ inb rfl x (ix3 ⟨r, hr⟩ (x 1) (x 2)) fun a => match a with | ⟨0, _⟩ => by have hx : (x 0).val < 1 := (x 0).isLt; show r = r + (x 0).val; omega | ⟨1, _⟩ => (Nat.zero_add _).symm | ⟨2, _⟩ => (Nat.zero_add _).symm).trans (congrFun lL _)
    refine four_heads arg15.view _ _ _ _ _ _ _ _ _ _ ?_ ?_ ?_ ?_
    · intro yb yc
      refine (congrFun (show _ = epi (k0_pay48 (View.readAt (Elt F) arg7.view (Rect.unit (s := S1x128) ![0, 0] S1x128.size inb_S1x128_S1x128_0_0).toLoadRect f7) (View.readAt (Elt F) arg8.view (Rect.unit (s := S1x128) ![0, 0] S1x128.size inb_S1x128_S1x128_0_0).toLoadRect f8) (View.readAt (Elt F) arg9.view (Rect.unit (s := S1x128) ![0, 0] S1x128.size inb_S1x128_S1x128_0_0).toLoadRect f9) (View.readAt (Elt F) arg10.view (Rect.unit (s := S1x128) ![0, 0] S1x128.size inb_S1x128_S1x128_0_0).toLoadRect f10)) (View.readAt (Elt F) arg11.view (Rect.unit (s := S1x256) ![0, 0] S1x256.size inb_S1x256_S1x256_0_0).toLoadRect f11) (View.readAt (Elt F) arg21.view (Rect.unit (s := S8x768x256) ![0, 0, 0] S1x768x256.size inb_S8x768x256_S1x768x256_0_0_0).toLoadRect (arg21.view.writes (Elt F) arg21.view.junk ((pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (word i arg1 g1) (word i arg2 g2) f3 f4 f5 f6 (arg19.view.writes (Elt F) arg19.view.junk [⟨Rect.unit (s := S8x768x1) ![0, 0, 0] S8x768x1.size inb_S8x768x1_S8x768x1_0_0_0, k0_pay4⟩]) (arg20.view.writes (Elt F) arg20.view.junk [⟨Rect.unit (s := S8x768x1) ![0, 0, 0] S8x768x1.size inb_S8x768x1_S8x768x1_0_0_0, k0_pay5⟩]) (arg21.view.writes (Elt F) arg21.view.junk [⟨Rect.unit (s := S8x768x256) ![0, 0, 0] S8x768x256.size inb_S8x768x256_S8x768x256_0_0_0, k0_pay6⟩]) k0_t2_loop.trips).2.2 ++ [⟨Rect.unit (s := S8x768x256) ![0, 0, 0] S8x768x256.size inb_S8x768x256_S8x768x256_0_0_0, k0_pay6⟩]))) (View.readAt (Elt F) arg20.view (Rect.unit (s := S8x768x1) ![0, 0, 0] S1x768x1.size inb_S8x768x1_S1x768x1_0_0_0).toLoadRect (arg20.view.writes (Elt F) arg20.view.junk ((pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (word i arg1 g1) (word i arg2 g2) f3 f4 f5 f6 (arg19.view.writes (Elt F) arg19.view.junk [⟨Rect.unit (s := S8x768x1) ![0, 0, 0] S8x768x1.size inb_S8x768x1_S8x768x1_0_0_0, k0_pay4⟩]) (arg20.view.writes (Elt F) arg20.view.junk [⟨Rect.unit (s := S8x768x1) ![0, 0, 0] S8x768x1.size inb_S8x768x1_S8x768x1_0_0_0, k0_pay5⟩]) (arg21.view.writes (Elt F) arg21.view.junk [⟨Rect.unit (s := S8x768x256) ![0, 0, 0] S8x768x256.size inb_S8x768x256_S8x768x256_0_0_0, k0_pay6⟩]) k0_t2_loop.trips).2.1 ++ [⟨Rect.unit (s := S8x768x1) ![0, 0, 0] S8x768x1.size inb_S8x768x1_S8x768x1_0_0_0, k0_pay5⟩]))) (View.readAt (Elt F) arg21.view (Rect.unit (s := S8x768x256) ![1, 0, 0] S1x768x256.size inb_S8x768x256_S1x768x256_1_0_0).toLoadRect (arg21.view.writes (Elt F) arg21.view.junk ((pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (word i arg1 g1) (word i arg2 g2) f3 f4 f5 f6 (arg19.view.writes (Elt F) arg19.view.junk [⟨Rect.unit (s := S8x768x1) ![0, 0, 0] S8x768x1.size inb_S8x768x1_S8x768x1_0_0_0, k0_pay4⟩]) (arg20.view.writes (Elt F) arg20.view.junk [⟨Rect.unit (s := S8x768x1) ![0, 0, 0] S8x768x1.size inb_S8x768x1_S8x768x1_0_0_0, k0_pay5⟩]) (arg21.view.writes (Elt F) arg21.view.junk [⟨Rect.unit (s := S8x768x256) ![0, 0, 0] S8x768x256.size inb_S8x768x256_S8x768x256_0_0_0, k0_pay6⟩]) k0_t2_loop.trips).2.2 ++ [⟨Rect.unit (s := S8x768x256) ![0, 0, 0] S8x768x256.size inb_S8x768x256_S8x768x256_0_0_0, k0_pay6⟩]))) (View.readAt (Elt F) arg20.view (Rect.unit (s := S8x768x1) ![1, 0, 0] S1x768x1.size inb_S8x768x1_S1x768x1_1_0_0).toLoadRect (arg20.view.writes (Elt F) arg20.view.junk ((pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (word i arg1 g1) (word i arg2 g2) f3 f4 f5 f6 (arg19.view.writes (Elt F) arg19.view.junk [⟨Rect.unit (s := S8x768x1) ![0, 0, 0] S8x768x1.size inb_S8x768x1_S8x768x1_0_0_0, k0_pay4⟩]) (arg20.view.writes (Elt F) arg20.view.junk [⟨Rect.unit (s := S8x768x1) ![0, 0, 0] S8x768x1.size inb_S8x768x1_S8x768x1_0_0_0, k0_pay5⟩]) (arg21.view.writes (Elt F) arg21.view.junk [⟨Rect.unit (s := S8x768x256) ![0, 0, 0] S8x768x256.size inb_S8x768x256_S8x768x256_0_0_0, k0_pay6⟩]) k0_t2_loop.trips).2.1 ++ [⟨Rect.unit (s := S8x768x1) ![0, 0, 0] S8x768x1.size inb_S8x768x1_S8x768x1_0_0_0, k0_pay5⟩]))) from rfl) (ix3 0 yb yc)).trans ?_
      rw [e7, e8, e9, e10, e11, eA 0 (by omega), eL 0 (by omega), eA 1 (by omega), eL 1 (by omega)]
      rfl
    · intro yb yc
      refine (congrFun (show _ = epi (k0_pay48 (View.readAt (Elt F) arg7.view (Rect.unit (s := S1x128) ![0, 0] S1x128.size inb_S1x128_S1x128_0_0).toLoadRect f7) (View.readAt (Elt F) arg8.view (Rect.unit (s := S1x128) ![0, 0] S1x128.size inb_S1x128_S1x128_0_0).toLoadRect f8) (View.readAt (Elt F) arg9.view (Rect.unit (s := S1x128) ![0, 0] S1x128.size inb_S1x128_S1x128_0_0).toLoadRect f9) (View.readAt (Elt F) arg10.view (Rect.unit (s := S1x128) ![0, 0] S1x128.size inb_S1x128_S1x128_0_0).toLoadRect f10)) (View.readAt (Elt F) arg11.view (Rect.unit (s := S1x256) ![0, 0] S1x256.size inb_S1x256_S1x256_0_0).toLoadRect f11) (View.readAt (Elt F) arg21.view (Rect.unit (s := S8x768x256) ![2, 0, 0] S1x768x256.size inb_S8x768x256_S1x768x256_2_0_0).toLoadRect (arg21.view.writes (Elt F) arg21.view.junk ((pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (word i arg1 g1) (word i arg2 g2) f3 f4 f5 f6 (arg19.view.writes (Elt F) arg19.view.junk [⟨Rect.unit (s := S8x768x1) ![0, 0, 0] S8x768x1.size inb_S8x768x1_S8x768x1_0_0_0, k0_pay4⟩]) (arg20.view.writes (Elt F) arg20.view.junk [⟨Rect.unit (s := S8x768x1) ![0, 0, 0] S8x768x1.size inb_S8x768x1_S8x768x1_0_0_0, k0_pay5⟩]) (arg21.view.writes (Elt F) arg21.view.junk [⟨Rect.unit (s := S8x768x256) ![0, 0, 0] S8x768x256.size inb_S8x768x256_S8x768x256_0_0_0, k0_pay6⟩]) k0_t2_loop.trips).2.2 ++ [⟨Rect.unit (s := S8x768x256) ![0, 0, 0] S8x768x256.size inb_S8x768x256_S8x768x256_0_0_0, k0_pay6⟩]))) (View.readAt (Elt F) arg20.view (Rect.unit (s := S8x768x1) ![2, 0, 0] S1x768x1.size inb_S8x768x1_S1x768x1_2_0_0).toLoadRect (arg20.view.writes (Elt F) arg20.view.junk ((pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (word i arg1 g1) (word i arg2 g2) f3 f4 f5 f6 (arg19.view.writes (Elt F) arg19.view.junk [⟨Rect.unit (s := S8x768x1) ![0, 0, 0] S8x768x1.size inb_S8x768x1_S8x768x1_0_0_0, k0_pay4⟩]) (arg20.view.writes (Elt F) arg20.view.junk [⟨Rect.unit (s := S8x768x1) ![0, 0, 0] S8x768x1.size inb_S8x768x1_S8x768x1_0_0_0, k0_pay5⟩]) (arg21.view.writes (Elt F) arg21.view.junk [⟨Rect.unit (s := S8x768x256) ![0, 0, 0] S8x768x256.size inb_S8x768x256_S8x768x256_0_0_0, k0_pay6⟩]) k0_t2_loop.trips).2.1 ++ [⟨Rect.unit (s := S8x768x1) ![0, 0, 0] S8x768x1.size inb_S8x768x1_S8x768x1_0_0_0, k0_pay5⟩]))) (View.readAt (Elt F) arg21.view (Rect.unit (s := S8x768x256) ![3, 0, 0] S1x768x256.size inb_S8x768x256_S1x768x256_3_0_0).toLoadRect (arg21.view.writes (Elt F) arg21.view.junk ((pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (word i arg1 g1) (word i arg2 g2) f3 f4 f5 f6 (arg19.view.writes (Elt F) arg19.view.junk [⟨Rect.unit (s := S8x768x1) ![0, 0, 0] S8x768x1.size inb_S8x768x1_S8x768x1_0_0_0, k0_pay4⟩]) (arg20.view.writes (Elt F) arg20.view.junk [⟨Rect.unit (s := S8x768x1) ![0, 0, 0] S8x768x1.size inb_S8x768x1_S8x768x1_0_0_0, k0_pay5⟩]) (arg21.view.writes (Elt F) arg21.view.junk [⟨Rect.unit (s := S8x768x256) ![0, 0, 0] S8x768x256.size inb_S8x768x256_S8x768x256_0_0_0, k0_pay6⟩]) k0_t2_loop.trips).2.2 ++ [⟨Rect.unit (s := S8x768x256) ![0, 0, 0] S8x768x256.size inb_S8x768x256_S8x768x256_0_0_0, k0_pay6⟩]))) (View.readAt (Elt F) arg20.view (Rect.unit (s := S8x768x1) ![3, 0, 0] S1x768x1.size inb_S8x768x1_S1x768x1_3_0_0).toLoadRect (arg20.view.writes (Elt F) arg20.view.junk ((pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (word i arg1 g1) (word i arg2 g2) f3 f4 f5 f6 (arg19.view.writes (Elt F) arg19.view.junk [⟨Rect.unit (s := S8x768x1) ![0, 0, 0] S8x768x1.size inb_S8x768x1_S8x768x1_0_0_0, k0_pay4⟩]) (arg20.view.writes (Elt F) arg20.view.junk [⟨Rect.unit (s := S8x768x1) ![0, 0, 0] S8x768x1.size inb_S8x768x1_S8x768x1_0_0_0, k0_pay5⟩]) (arg21.view.writes (Elt F) arg21.view.junk [⟨Rect.unit (s := S8x768x256) ![0, 0, 0] S8x768x256.size inb_S8x768x256_S8x768x256_0_0_0, k0_pay6⟩]) k0_t2_loop.trips).2.1 ++ [⟨Rect.unit (s := S8x768x1) ![0, 0, 0] S8x768x1.size inb_S8x768x1_S8x768x1_0_0_0, k0_pay5⟩]))) from rfl) (ix3 0 yb yc)).trans ?_
      rw [e7, e8, e9, e10, e11, eA 2 (by omega), eL 2 (by omega), eA 3 (by omega), eL 3 (by omega)]
      rfl
    · intro yb yc
      refine (congrFun (show _ = epi (k0_pay48 (View.readAt (Elt F) arg7.view (Rect.unit (s := S1x128) ![0, 0] S1x128.size inb_S1x128_S1x128_0_0).toLoadRect f7) (View.readAt (Elt F) arg8.view (Rect.unit (s := S1x128) ![0, 0] S1x128.size inb_S1x128_S1x128_0_0).toLoadRect f8) (View.readAt (Elt F) arg9.view (Rect.unit (s := S1x128) ![0, 0] S1x128.size inb_S1x128_S1x128_0_0).toLoadRect f9) (View.readAt (Elt F) arg10.view (Rect.unit (s := S1x128) ![0, 0] S1x128.size inb_S1x128_S1x128_0_0).toLoadRect f10)) (View.readAt (Elt F) arg11.view (Rect.unit (s := S1x256) ![0, 0] S1x256.size inb_S1x256_S1x256_0_0).toLoadRect f11) (View.readAt (Elt F) arg21.view (Rect.unit (s := S8x768x256) ![4, 0, 0] S1x768x256.size inb_S8x768x256_S1x768x256_4_0_0).toLoadRect (arg21.view.writes (Elt F) arg21.view.junk ((pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (word i arg1 g1) (word i arg2 g2) f3 f4 f5 f6 (arg19.view.writes (Elt F) arg19.view.junk [⟨Rect.unit (s := S8x768x1) ![0, 0, 0] S8x768x1.size inb_S8x768x1_S8x768x1_0_0_0, k0_pay4⟩]) (arg20.view.writes (Elt F) arg20.view.junk [⟨Rect.unit (s := S8x768x1) ![0, 0, 0] S8x768x1.size inb_S8x768x1_S8x768x1_0_0_0, k0_pay5⟩]) (arg21.view.writes (Elt F) arg21.view.junk [⟨Rect.unit (s := S8x768x256) ![0, 0, 0] S8x768x256.size inb_S8x768x256_S8x768x256_0_0_0, k0_pay6⟩]) k0_t2_loop.trips).2.2 ++ [⟨Rect.unit (s := S8x768x256) ![0, 0, 0] S8x768x256.size inb_S8x768x256_S8x768x256_0_0_0, k0_pay6⟩]))) (View.readAt (Elt F) arg20.view (Rect.unit (s := S8x768x1) ![4, 0, 0] S1x768x1.size inb_S8x768x1_S1x768x1_4_0_0).toLoadRect (arg20.view.writes (Elt F) arg20.view.junk ((pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (word i arg1 g1) (word i arg2 g2) f3 f4 f5 f6 (arg19.view.writes (Elt F) arg19.view.junk [⟨Rect.unit (s := S8x768x1) ![0, 0, 0] S8x768x1.size inb_S8x768x1_S8x768x1_0_0_0, k0_pay4⟩]) (arg20.view.writes (Elt F) arg20.view.junk [⟨Rect.unit (s := S8x768x1) ![0, 0, 0] S8x768x1.size inb_S8x768x1_S8x768x1_0_0_0, k0_pay5⟩]) (arg21.view.writes (Elt F) arg21.view.junk [⟨Rect.unit (s := S8x768x256) ![0, 0, 0] S8x768x256.size inb_S8x768x256_S8x768x256_0_0_0, k0_pay6⟩]) k0_t2_loop.trips).2.1 ++ [⟨Rect.unit (s := S8x768x1) ![0, 0, 0] S8x768x1.size inb_S8x768x1_S8x768x1_0_0_0, k0_pay5⟩]))) (View.readAt (Elt F) arg21.view (Rect.unit (s := S8x768x256) ![5, 0, 0] S1x768x256.size inb_S8x768x256_S1x768x256_5_0_0).toLoadRect (arg21.view.writes (Elt F) arg21.view.junk ((pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (word i arg1 g1) (word i arg2 g2) f3 f4 f5 f6 (arg19.view.writes (Elt F) arg19.view.junk [⟨Rect.unit (s := S8x768x1) ![0, 0, 0] S8x768x1.size inb_S8x768x1_S8x768x1_0_0_0, k0_pay4⟩]) (arg20.view.writes (Elt F) arg20.view.junk [⟨Rect.unit (s := S8x768x1) ![0, 0, 0] S8x768x1.size inb_S8x768x1_S8x768x1_0_0_0, k0_pay5⟩]) (arg21.view.writes (Elt F) arg21.view.junk [⟨Rect.unit (s := S8x768x256) ![0, 0, 0] S8x768x256.size inb_S8x768x256_S8x768x256_0_0_0, k0_pay6⟩]) k0_t2_loop.trips).2.2 ++ [⟨Rect.unit (s := S8x768x256) ![0, 0, 0] S8x768x256.size inb_S8x768x256_S8x768x256_0_0_0, k0_pay6⟩]))) (View.readAt (Elt F) arg20.view (Rect.unit (s := S8x768x1) ![5, 0, 0] S1x768x1.size inb_S8x768x1_S1x768x1_5_0_0).toLoadRect (arg20.view.writes (Elt F) arg20.view.junk ((pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (word i arg1 g1) (word i arg2 g2) f3 f4 f5 f6 (arg19.view.writes (Elt F) arg19.view.junk [⟨Rect.unit (s := S8x768x1) ![0, 0, 0] S8x768x1.size inb_S8x768x1_S8x768x1_0_0_0, k0_pay4⟩]) (arg20.view.writes (Elt F) arg20.view.junk [⟨Rect.unit (s := S8x768x1) ![0, 0, 0] S8x768x1.size inb_S8x768x1_S8x768x1_0_0_0, k0_pay5⟩]) (arg21.view.writes (Elt F) arg21.view.junk [⟨Rect.unit (s := S8x768x256) ![0, 0, 0] S8x768x256.size inb_S8x768x256_S8x768x256_0_0_0, k0_pay6⟩]) k0_t2_loop.trips).2.1 ++ [⟨Rect.unit (s := S8x768x1) ![0, 0, 0] S8x768x1.size inb_S8x768x1_S8x768x1_0_0_0, k0_pay5⟩]))) from rfl) (ix3 0 yb yc)).trans ?_
      rw [e7, e8, e9, e10, e11, eA 4 (by omega), eL 4 (by omega), eA 5 (by omega), eL 5 (by omega)]
      rfl
    · intro yb yc
      refine (congrFun (show _ = epi (k0_pay48 (View.readAt (Elt F) arg7.view (Rect.unit (s := S1x128) ![0, 0] S1x128.size inb_S1x128_S1x128_0_0).toLoadRect f7) (View.readAt (Elt F) arg8.view (Rect.unit (s := S1x128) ![0, 0] S1x128.size inb_S1x128_S1x128_0_0).toLoadRect f8) (View.readAt (Elt F) arg9.view (Rect.unit (s := S1x128) ![0, 0] S1x128.size inb_S1x128_S1x128_0_0).toLoadRect f9) (View.readAt (Elt F) arg10.view (Rect.unit (s := S1x128) ![0, 0] S1x128.size inb_S1x128_S1x128_0_0).toLoadRect f10)) (View.readAt (Elt F) arg11.view (Rect.unit (s := S1x256) ![0, 0] S1x256.size inb_S1x256_S1x256_0_0).toLoadRect f11) (View.readAt (Elt F) arg21.view (Rect.unit (s := S8x768x256) ![6, 0, 0] S1x768x256.size inb_S8x768x256_S1x768x256_6_0_0).toLoadRect (arg21.view.writes (Elt F) arg21.view.junk ((pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (word i arg1 g1) (word i arg2 g2) f3 f4 f5 f6 (arg19.view.writes (Elt F) arg19.view.junk [⟨Rect.unit (s := S8x768x1) ![0, 0, 0] S8x768x1.size inb_S8x768x1_S8x768x1_0_0_0, k0_pay4⟩]) (arg20.view.writes (Elt F) arg20.view.junk [⟨Rect.unit (s := S8x768x1) ![0, 0, 0] S8x768x1.size inb_S8x768x1_S8x768x1_0_0_0, k0_pay5⟩]) (arg21.view.writes (Elt F) arg21.view.junk [⟨Rect.unit (s := S8x768x256) ![0, 0, 0] S8x768x256.size inb_S8x768x256_S8x768x256_0_0_0, k0_pay6⟩]) k0_t2_loop.trips).2.2 ++ [⟨Rect.unit (s := S8x768x256) ![0, 0, 0] S8x768x256.size inb_S8x768x256_S8x768x256_0_0_0, k0_pay6⟩]))) (View.readAt (Elt F) arg20.view (Rect.unit (s := S8x768x1) ![6, 0, 0] S1x768x1.size inb_S8x768x1_S1x768x1_6_0_0).toLoadRect (arg20.view.writes (Elt F) arg20.view.junk ((pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (word i arg1 g1) (word i arg2 g2) f3 f4 f5 f6 (arg19.view.writes (Elt F) arg19.view.junk [⟨Rect.unit (s := S8x768x1) ![0, 0, 0] S8x768x1.size inb_S8x768x1_S8x768x1_0_0_0, k0_pay4⟩]) (arg20.view.writes (Elt F) arg20.view.junk [⟨Rect.unit (s := S8x768x1) ![0, 0, 0] S8x768x1.size inb_S8x768x1_S8x768x1_0_0_0, k0_pay5⟩]) (arg21.view.writes (Elt F) arg21.view.junk [⟨Rect.unit (s := S8x768x256) ![0, 0, 0] S8x768x256.size inb_S8x768x256_S8x768x256_0_0_0, k0_pay6⟩]) k0_t2_loop.trips).2.1 ++ [⟨Rect.unit (s := S8x768x1) ![0, 0, 0] S8x768x1.size inb_S8x768x1_S8x768x1_0_0_0, k0_pay5⟩]))) (View.readAt (Elt F) arg21.view (Rect.unit (s := S8x768x256) ![7, 0, 0] S1x768x256.size inb_S8x768x256_S1x768x256_7_0_0).toLoadRect (arg21.view.writes (Elt F) arg21.view.junk ((pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (word i arg1 g1) (word i arg2 g2) f3 f4 f5 f6 (arg19.view.writes (Elt F) arg19.view.junk [⟨Rect.unit (s := S8x768x1) ![0, 0, 0] S8x768x1.size inb_S8x768x1_S8x768x1_0_0_0, k0_pay4⟩]) (arg20.view.writes (Elt F) arg20.view.junk [⟨Rect.unit (s := S8x768x1) ![0, 0, 0] S8x768x1.size inb_S8x768x1_S8x768x1_0_0_0, k0_pay5⟩]) (arg21.view.writes (Elt F) arg21.view.junk [⟨Rect.unit (s := S8x768x256) ![0, 0, 0] S8x768x256.size inb_S8x768x256_S8x768x256_0_0_0, k0_pay6⟩]) k0_t2_loop.trips).2.2 ++ [⟨Rect.unit (s := S8x768x256) ![0, 0, 0] S8x768x256.size inb_S8x768x256_S8x768x256_0_0_0, k0_pay6⟩]))) (View.readAt (Elt F) arg20.view (Rect.unit (s := S8x768x1) ![7, 0, 0] S1x768x1.size inb_S8x768x1_S1x768x1_7_0_0).toLoadRect (arg20.view.writes (Elt F) arg20.view.junk ((pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (word i arg1 g1) (word i arg2 g2) f3 f4 f5 f6 (arg19.view.writes (Elt F) arg19.view.junk [⟨Rect.unit (s := S8x768x1) ![0, 0, 0] S8x768x1.size inb_S8x768x1_S8x768x1_0_0_0, k0_pay4⟩]) (arg20.view.writes (Elt F) arg20.view.junk [⟨Rect.unit (s := S8x768x1) ![0, 0, 0] S8x768x1.size inb_S8x768x1_S8x768x1_0_0_0, k0_pay5⟩]) (arg21.view.writes (Elt F) arg21.view.junk [⟨Rect.unit (s := S8x768x256) ![0, 0, 0] S8x768x256.size inb_S8x768x256_S8x768x256_0_0_0, k0_pay6⟩]) k0_t2_loop.trips).2.1 ++ [⟨Rect.unit (s := S8x768x1) ![0, 0, 0] S8x768x1.size inb_S8x768x1_S8x768x1_0_0_0, k0_pay5⟩]))) from rfl) (ix3 0 yb yc)).trans ?_
      rw [e7, e8, e9, e10, e11, eA 6 (by omega), eL 6 (by omega), eA 7 (by omega), eL 7 (by omega)]
      rfl
  isplitl [H16]
  · iexists _; isplitr
    swap; · iexact H16
    ipureintro
    exact (read_whole arg16.view _ z2 _ _).trans (congrArg k0_pay1 (load_whole arg12.view _ z2 _))
  isplitl [H17]
  · iexists _; isplitr
    swap; · iexact H17
    ipureintro
    exact (read_whole arg17.view _ z2 _ _).trans (congrArg k0_pay2 (load_whole arg13.view _ z2 _))
  isplitl [H18]
  · iexists _; isplitr
    swap; · iexact H18
    ipureintro
    exact (read_whole arg18.view _ z2 _ _).trans (congrArg k0_pay3 (load_whole arg14.view _ z2 _))
  isplitl [H19]
  · iexists _; isplitr
    swap; · iexact H19
    ipureintro; rw [View.writes_append]; refine (k0_t2_leaves (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ f3 f4 f5 f6 _ _ _).1.trans ?_
    exact congrArg (loopM true _ _ _ _) (read_whole arg19.view _ z3 _ _)
  isplitl [H20]
  · iexists _; isplitr
    swap; · iexact H20
    ipureintro; rw [View.writes_append]; refine (k0_t2_leaves (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ f3 f4 f5 f6 _ _ _).2.1.trans ?_
    exact congrArg₂ (loopL true _ _ _ _) (read_whole arg19.view _ z3 _ _) (read_whole arg20.view _ z3 _ _)
  iexists _; isplitr
  swap; · iexact H21
  ipureintro; rw [View.writes_append]; refine (k0_t2_leaves (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ f3 f4 f5 f6 _ _ _).2.2.trans ?_
  exact congrArg₂ (loopA true _ _ _ _ _) (read_whole arg19.view _ z3 _ _) (read_whole arg21.view _ z3 _ _)
end Cert.AttnIdeal.Flash

end
-- ==== Proof.AttnRunC.lean ====
module

public import proofs.«01_k».proof.Proof.AttnRun
public import proofs.«01_k».proof.Proof.AttnIdealRunC

@[expose] public section

set_option maxRecDepth 16384

noncomputable section

namespace Cert.Attn.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Attn Cert.Attn.Gen

variable {F : FTy → Type} [FloatOps F]

local notation "𝕄" => MT nD τ sig Unit (Elt F) ℕ (UR sig nD τ) ℕ

set_option maxHeartbeats 8000000 in
set_option smartUnfolding false in
/-- The body at the first tile of a row, on the diagonal. -/
theorem run_C (c : Dev nD) (i : grid0.Coords) (arg1 : Memref sig .tc .smem S66 .i32) (harg1 : arg1.IsWhole) (arg2 : Memref sig .tc .smem S66 .i32) (harg2 : arg2.IsWhole) (arg3 : Memref sig .tc .vmem S1x4x768x512 .bf16) (harg3 : arg3.IsWhole) (arg4 : Memref sig .tc .vmem S1x4x768x512 .bf16) (harg4 : arg4.IsWhole) (arg5 : Memref sig .tc .vmem S4x768x256 .bf16) (harg5 : arg5.IsWhole) (arg6 : Memref sig .tc .vmem S4x1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x256 .f32) (harg11 : arg11.IsWhole) (arg12 : Memref sig .tc .vmem S32x8192 .f32) (harg12 : arg12.IsWhole) (arg13 : Memref sig .tc .vmem S128x2048 .f32) (harg13 : arg13.IsWhole) (arg14 : Memref sig .tc .vmem S32x2048 .f32) (harg14 : arg14.IsWhole) (arg15 : Memref sig .tc .vmem S4x768x256 .bf16) (harg15 : arg15.IsWhole) (arg16 : Memref sig .tc .vmem S32x8192 .bf16) (harg16 : arg16.IsWhole) (arg17 : Memref sig .tc .vmem S128x2048 .bf16) (harg17 : arg17.IsWhole) (arg18 : Memref sig .tc .vmem S32x2048 .bf16) (harg18 : arg18.IsWhole) (arg19 : Memref sig .tc .vmem S8x768x1 .f32) (harg19 : arg19.IsWhole) (arg20 : Memref sig .tc .vmem S8x768x1 .f32) (harg20 : arg20.IsWhole) (arg21 : Memref sig .tc .vmem S8x768x256 .f32) (harg21 : arg21.IsWhole) (q1 q2 : PosShare TreeShare) (g1 : BufTy.Contents (Elt F) arg1.view.ty) (g2 : BufTy.Contents (Elt F) arg2.view.ty)
   (hf : isFirst (word i arg2 g2)) (hb : ¬isBelow (word i arg1 g1) (word i arg2 g2)) (hd : isDiag (word i arg1 g1) (word i arg2 g2))
   (x3 : Vec F S1x4x768x512 .bf16) (x4 : Vec F S1x4x768x512 .bf16) (x5 : Vec F S4x768x256 .bf16) (x6 : Vec F S4x1x128 .f32) (x7 : Vec F S1x128 .f32) (x8 : Vec F S1x128 .f32) (x9 : Vec F S1x128 .f32) (x10 : Vec F S1x128 .f32) (x11 : Vec F S1x256 .f32) (x12 : Vec F S32x8192 .f32) (x13 : Vec F S128x2048 .f32) (x14 : Vec F S32x2048 .f32)   (E : Set ℕ) (K : PUnit → sProp 𝕄) :
   iprop((arg1.view.loc (c : Thread nD τ) ↦[arg1.view.set]{q1} g1) ∗ (arg2.view.loc (c : Thread nD τ) ↦[arg2.view.set]{q2} g2) ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (iprop((arg1.view.loc (c : Thread nD τ) ↦[arg1.view.set]{q1} g1) ∗ (arg2.view.loc (c : Thread nD τ) ↦[arg2.view.set]{q2} g2) ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (blockO (k0_pay48 x7 x8 x9 x10) x11 (loopL true (k0_pay7 (word i arg1 g1) (word i arg2 g2)) x3 x4 x6 k0_pay4 k0_pay5) (loopA true (k0_pay7 (word i arg1 g1) (word i arg2 g2)) x3 x4 x5 x6 k0_pay4 k0_pay6)) ∗ owns (c : Thread nD τ) arg16 fullShare (k0_pay1 x12) ∗ owns (c : Thread nD τ) arg17 fullShare (k0_pay2 x13) ∗ owns (c : Thread nD τ) arg18 fullShare (k0_pay3 x14) ∗ owns (c : Thread nD τ) arg19 fullShare (loopM true (k0_pay7 (word i arg1 g1) (word i arg2 g2)) x3 x4 x6 k0_pay4) ∗ owns (c : Thread nD τ) arg20 fullShare (loopL true (k0_pay7 (word i arg1 g1) (word i arg2 g2)) x3 x4 x6 k0_pay4 k0_pay5) ∗ owns (c : Thread nD τ) arg21 fullShare (loopA true (k0_pay7 (word i arg1 g1) (word i arg2 g2)) x3 x4 x5 x6 k0_pay4 k0_pay6)) -∗ K ⟨⟩)) ⊢ wp frame (wpE (defs₀ (F := F)) Variants.none c none) E (cc0_attn_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  let _ : Named F := ⟨fun _ _ _ b => Scalar.ofBits _ b⟩
  with_unfolding_all exact AttnIdeal.Flash.run_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 q1 q2 g1 g2 hf hb hd x3 x4 x5 x6 x7 x8 x9 x10 x11 x12 x13 x14 E K

end Cert.Attn.Flash

end
-- ==== Proof.AttnIdealRunD.lean ====
module

public import proofs.«01_k».proof.Proof.AttnIdealRun

@[expose] public section

set_option maxRecDepth 16384

noncomputable section

namespace Cert.AttnIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.AttnIdeal Cert.AttnIdeal.Gen

variable {F : FTy → Type} [FloatOps F] [Named F]

local notation "𝕄" => MT nD τ sig Unit (Elt F) ℕ (UR sig nD τ) ℕ

set_option maxHeartbeats 8000000 in
/-- The body at the last tile of a row, on the diagonal. -/
theorem run_D (c : Dev nD) (i : grid0.Coords) (arg1 : Memref sig .tc .smem S66 .i32) (harg1 : arg1.IsWhole) (arg2 : Memref sig .tc .smem S66 .i32) (harg2 : arg2.IsWhole) (arg3 : Memref sig .tc .vmem S1x4x768x512 .bf16) (harg3 : arg3.IsWhole) (arg4 : Memref sig .tc .vmem S1x4x768x512 .bf16) (harg4 : arg4.IsWhole) (arg5 : Memref sig .tc .vmem S4x768x256 .bf16) (harg5 : arg5.IsWhole) (arg6 : Memref sig .tc .vmem S4x1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x256 .f32) (harg11 : arg11.IsWhole) (arg12 : Memref sig .tc .vmem S32x8192 .f32) (harg12 : arg12.IsWhole) (arg13 : Memref sig .tc .vmem S128x2048 .f32) (harg13 : arg13.IsWhole) (arg14 : Memref sig .tc .vmem S32x2048 .f32) (harg14 : arg14.IsWhole) (arg15 : Memref sig .tc .vmem S4x768x256 .bf16) (harg15 : arg15.IsWhole) (arg16 : Memref sig .tc .vmem S32x8192 .bf16) (harg16 : arg16.IsWhole) (arg17 : Memref sig .tc .vmem S128x2048 .bf16) (harg17 : arg17.IsWhole) (arg18 : Memref sig .tc .vmem S32x2048 .bf16) (harg18 : arg18.IsWhole) (arg19 : Memref sig .tc .vmem S8x768x1 .f32) (harg19 : arg19.IsWhole) (arg20 : Memref sig .tc .vmem S8x768x1 .f32) (harg20 : arg20.IsWhole) (arg21 : Memref sig .tc .vmem S8x768x256 .f32) (harg21 : arg21.IsWhole) (q1 q2 : PosShare TreeShare) (g1 : BufTy.Contents (Elt F) arg1.view.ty) (g2 : BufTy.Contents (Elt F) arg2.view.ty)
   (hf : ¬isFirst (word i arg2 g2)) (hb : ¬isBelow (word i arg1 g1) (word i arg2 g2)) (hd : isDiag (word i arg1 g1) (word i arg2 g2))
   (x3 : Vec F S1x4x768x512 .bf16) (x4 : Vec F S1x4x768x512 .bf16) (x5 : Vec F S4x768x256 .bf16) (x6 : Vec F S4x1x128 .f32) (x7 : Vec F S1x128 .f32) (x8 : Vec F S1x128 .f32) (x9 : Vec F S1x128 .f32) (x10 : Vec F S1x128 .f32) (x11 : Vec F S1x256 .f32) (x12 : Vec F S32x8192 .f32) (x13 : Vec F S128x2048 .f32) (x14 : Vec F S32x2048 .f32)  (x19 : Vec F S8x768x1 .f32) (x20 : Vec F S8x768x1 .f32) (x21 : Vec F S8x768x256 .f32) (E : Set ℕ) (K : PUnit → sProp 𝕄) :
   iprop((arg1.view.loc (c : Thread nD τ) ↦[arg1.view.set]{q1} g1) ∗ (arg2.view.loc (c : Thread nD τ) ↦[arg2.view.set]{q2} g2) ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare x19 ∗ owns (c : Thread nD τ) arg20 fullShare x20 ∗ owns (c : Thread nD τ) arg21 fullShare x21 ∗ (iprop((arg1.view.loc (c : Thread nD τ) ↦[arg1.view.set]{q1} g1) ∗ (arg2.view.loc (c : Thread nD τ) ↦[arg2.view.set]{q2} g2) ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (blockO (k0_pay48 x7 x8 x9 x10) x11 (loopL true (k0_pay7 (word i arg1 g1) (word i arg2 g2)) x3 x4 x6 x19 x20) (loopA true (k0_pay7 (word i arg1 g1) (word i arg2 g2)) x3 x4 x5 x6 x19 x21)) ∗ owns (c : Thread nD τ) arg16 fullShare (k0_pay1 x12) ∗ owns (c : Thread nD τ) arg17 fullShare (k0_pay2 x13) ∗ owns (c : Thread nD τ) arg18 fullShare (k0_pay3 x14) ∗ owns (c : Thread nD τ) arg19 fullShare (loopM true (k0_pay7 (word i arg1 g1) (word i arg2 g2)) x3 x4 x6 x19) ∗ owns (c : Thread nD τ) arg20 fullShare (loopL true (k0_pay7 (word i arg1 g1) (word i arg2 g2)) x3 x4 x6 x19 x20) ∗ owns (c : Thread nD τ) arg21 fullShare (loopA true (k0_pay7 (word i arg1 g1) (word i arg2 g2)) x3 x4 x5 x6 x19 x21)) -∗ K ⟨⟩)) ⊢ wp frame (wpE (defs₀ (F := F)) Variants.none c none) E (cc0_attn_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_attn_prompt_eq_skeleton]; unfold cc0_attn_prompt_skel
  unfold owns
  iintro ⟨G1, G2, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%f19, %hf19, H19⟩, ⟨%f20, %hf20, H20⟩, ⟨%f21, %hf21, H21⟩, Hk⟩
  subst hf3; subst hf4; subst hf5; subst hf6; subst hf7; subst hf8; subst hf9; subst hf10; subst hf11; subst hf12; subst hf13; subst hf14; subst hf19; subst hf20; subst hf21
  sl_exec (disch := first | sl_exact hf | sl_exact hb | sl_exact hd)
  sl_step
  iapply Hk
  isplitl [G1]; · iexact G1
  isplitl [G2]; · iexact G2
  isplitl [H3]
  · iexists _; isplitr; · ipureintro; exact rfl
    iexact H3
  isplitl [H4]
  · iexists _; isplitr; · ipureintro; exact rfl
    iexact H4
  isplitl [H5]
  · iexists _; isplitr; · ipureintro; exact rfl
    iexact H5
  isplitl [H6]
  · iexists _; isplitr; · ipureintro; exact rfl
    iexact H6
  isplitl [H7]
  · iexists _; isplitr; · ipureintro; exact rfl
    iexact H7
  isplitl [H8]
  · iexists _; isplitr; · ipureintro; exact rfl
    iexact H8
  isplitl [H9]
  · iexists _; isplitr; · ipureintro; exact rfl
    iexact H9
  isplitl [H10]
  · iexists _; isplitr; · ipureintro; exact rfl
    iexact H10
  isplitl [H11]
  · iexists _; isplitr; · ipureintro; exact rfl
    iexact H11
  isplitl [H12]
  · iexists _; isplitr; · ipureintro; exact rfl
    iexact H12
  isplitl [H13]
  · iexists _; isplitr; · ipureintro; exact rfl
    iexact H13
  isplitl [H14]
  · iexists _; isplitr; · ipureintro; exact rfl
    iexact H14
  isplitl [H15]
  · iexists _; isplitr
    swap; · iexact H15
    ipureintro
    have e7 : (View.readAt (Elt F) arg7.view (Rect.unit (s := S1x128) ![0, 0] S1x128.size inb_S1x128_S1x128_0_0).toLoadRect f7) = arg7.view.read (Elt F) f7 := load_whole arg7.view _ z2 _
    have e8 : (View.readAt (Elt F) arg8.view (Rect.unit (s := S1x128) ![0, 0] S1x128.size inb_S1x128_S1x128_0_0).toLoadRect f8) = arg8.view.read (Elt F) f8 := load_whole arg8.view _ z2 _
    have e9 : (View.readAt (Elt F) arg9.view (Rect.unit (s := S1x128) ![0, 0] S1x128.size inb_S1x128_S1x128_0_0).toLoadRect f9) = arg9.view.read (Elt F) f9 := load_whole arg9.view _ z2 _
    have e10 : (View.readAt (Elt F) arg10.view (Rect.unit (s := S1x128) ![0, 0] S1x128.size inb_S1x128_S1x128_0_0).toLoadRect f10) = arg10.view.read (Elt F) f10 := load_whole arg10.view _ z2 _
    have e11 : (View.readAt (Elt F) arg11.view (Rect.unit (s := S1x256) ![0, 0] S1x256.size inb_S1x256_S1x256_0_0).toLoadRect f11) = arg11.view.read (Elt F) f11 := load_whole arg11.view _ z2 _
    have lA : arg21.view.read (Elt F) (arg21.view.writes (Elt F) f21 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (word i arg1 g1) (word i arg2 g2) f3 f4 f5 f6 f19 f20 f21 k0_t2_loop.trips).2.2) = (loopA true (k0_pay7 (word i arg1 g1) (word i arg2 g2)) (arg3.view.read (Elt F) f3) (arg4.view.read (Elt F) f4) (arg5.view.read (Elt F) f5) (arg6.view.read (Elt F) f6) (arg19.view.read (Elt F) f19) (arg21.view.read (Elt F) f21)) := by
      refine (k0_t2_leaves (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ f3 f4 f5 f6 _ _ _).2.2.trans ?_
      exact congrArg₂ (loopA true _ _ _ _ _) rfl rfl
    have eA : ∀ (r : ℕ) (hr : r < 8) {inb : ∀ a, (![r, 0, 0] : Fin 3 → ℕ) a + S1x768x256.size a ≤ S8x768x256.size a}, View.readAt (Elt F) arg21.view (Rect.unit (s := S8x768x256) ![r, 0, 0] S1x768x256.size inb).toLoadRect (arg21.view.writes (Elt F) f21 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (word i arg1 g1) (word i arg2 g2) f3 f4 f5 f6 f19 f20 f21 k0_t2_loop.trips).2.2) = rowA (loopA true (k0_pay7 (word i arg1 g1) (word i arg2 g2)) (arg3.view.read (Elt F) f3) (arg4.view.read (Elt F) f4) (arg5.view.read (Elt F) f5) (arg6.view.read (Elt F) f6) (arg19.view.read (Elt F) f19) (arg21.view.read (Elt F) f21)) ⟨r, hr⟩ :=
      fun r hr inb => funext fun x => (load_at _ _ inb rfl x (ix3 ⟨r, hr⟩ (x 1) (x 2)) fun a => match a with | ⟨0, _⟩ => by have hx : (x 0).val < 1 := (x 0).isLt; show r = r + (x 0).val; omega | ⟨1, _⟩ => (Nat.zero_add _).symm | ⟨2, _⟩ => (Nat.zero_add _).symm).trans (congrFun lA _)
    have lL : arg20.view.read (Elt F) (arg20.view.writes (Elt F) f20 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (word i arg1 g1) (word i arg2 g2) f3 f4 f5 f6 f19 f20 f21 k0_t2_loop.trips).2.1) = (loopL true (k0_pay7 (word i arg1 g1) (word i arg2 g2)) (arg3.view.read (Elt F) f3) (arg4.view.read (Elt F) f4) (arg6.view.read (Elt F) f6) (arg19.view.read (Elt F) f19) (arg20.view.read (Elt F) f20)) := by
      refine (k0_t2_leaves (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ f3 f4 f5 f6 _ _ _).2.1.trans ?_
      exact congrArg₂ (loopL true _ _ _ _) rfl rfl
    have eL : ∀ (r : ℕ) (hr : r < 8) {inb : ∀ a, (![r, 0, 0] : Fin 3 → ℕ) a + S1x768x1.size a ≤ S8x768x1.size a}, View.readAt (Elt F) arg20.view (Rect.unit (s := S8x768x1) ![r, 0, 0] S1x768x1.size inb).toLoadRect (arg20.view.writes (Elt F) f20 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (word i arg1 g1) (word i arg2 g2) f3 f4 f5 f6 f19 f20 f21 k0_t2_loop.trips).2.1) = rowM (loopL true (k0_pay7 (word i arg1 g1) (word i arg2 g2)) (arg3.view.read (Elt F) f3) (arg4.view.read (Elt F) f4) (arg6.view.read (Elt F) f6) (arg19.view.read (Elt F) f19) (arg20.view.read (Elt F) f20)) ⟨r, hr⟩ :=
      fun r hr inb => funext fun x => (load_at _ _ inb rfl x (ix3 ⟨r, hr⟩ (x 1) (x 2)) fun a => match a with | ⟨0, _⟩ => by have hx : (x 0).val < 1 := (x 0).isLt; show r = r + (x 0).val; omega | ⟨1, _⟩ => (Nat.zero_add _).symm | ⟨2, _⟩ => (Nat.zero_add _).symm).trans (congrFun lL _)
    refine four_heads arg15.view _ _ _ _ _ _ _ _ _ _ ?_ ?_ ?_ ?_
    · intro yb yc
      refine (congrFun (show _ = epi (k0_pay48 (View.readAt (Elt F) arg7.view (Rect.unit (s := S1x128) ![0, 0] S1x128.size inb_S1x128_S1x128_0_0).toLoadRect f7) (View.readAt (Elt F) arg8.view (Rect.unit (s := S1x128) ![0, 0] S1x128.size inb_S1x128_S1x128_0_0).toLoadRect f8) (View.readAt (Elt F) arg9.view (Rect.unit (s := S1x128) ![0, 0] S1x128.size inb_S1x128_S1x128_0_0).toLoadRect f9) (View.readAt (Elt F) arg10.view (Rect.unit (s := S1x128) ![0, 0] S1x128.size inb_S1x128_S1x128_0_0).toLoadRect f10)) (View.readAt (Elt F) arg11.view (Rect.unit (s := S1x256) ![0, 0] S1x256.size inb_S1x256_S1x256_0_0).toLoadRect f11) (View.readAt (Elt F) arg21.view (Rect.unit (s := S8x768x256) ![0, 0, 0] S1x768x256.size inb_S8x768x256_S1x768x256_0_0_0).toLoadRect (arg21.view.writes (Elt F) f21 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (word i arg1 g1) (word i arg2 g2) f3 f4 f5 f6 f19 f20 f21 k0_t2_loop.trips).2.2)) (View.readAt (Elt F) arg20.view (Rect.unit (s := S8x768x1) ![0, 0, 0] S1x768x1.size inb_S8x768x1_S1x768x1_0_0_0).toLoadRect (arg20.view.writes (Elt F) f20 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (word i arg1 g1) (word i arg2 g2) f3 f4 f5 f6 f19 f20 f21 k0_t2_loop.trips).2.1)) (View.readAt (Elt F) arg21.view (Rect.unit (s := S8x768x256) ![1, 0, 0] S1x768x256.size inb_S8x768x256_S1x768x256_1_0_0).toLoadRect (arg21.view.writes (Elt F) f21 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (word i arg1 g1) (word i arg2 g2) f3 f4 f5 f6 f19 f20 f21 k0_t2_loop.trips).2.2)) (View.readAt (Elt F) arg20.view (Rect.unit (s := S8x768x1) ![1, 0, 0] S1x768x1.size inb_S8x768x1_S1x768x1_1_0_0).toLoadRect (arg20.view.writes (Elt F) f20 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (word i arg1 g1) (word i arg2 g2) f3 f4 f5 f6 f19 f20 f21 k0_t2_loop.trips).2.1)) from rfl) (ix3 0 yb yc)).trans ?_
      rw [e7, e8, e9, e10, e11, eA 0 (by omega), eL 0 (by omega), eA 1 (by omega), eL 1 (by omega)]
      rfl
    · intro yb yc
      refine (congrFun (show _ = epi (k0_pay48 (View.readAt (Elt F) arg7.view (Rect.unit (s := S1x128) ![0, 0] S1x128.size inb_S1x128_S1x128_0_0).toLoadRect f7) (View.readAt (Elt F) arg8.view (Rect.unit (s := S1x128) ![0, 0] S1x128.size inb_S1x128_S1x128_0_0).toLoadRect f8) (View.readAt (Elt F) arg9.view (Rect.unit (s := S1x128) ![0, 0] S1x128.size inb_S1x128_S1x128_0_0).toLoadRect f9) (View.readAt (Elt F) arg10.view (Rect.unit (s := S1x128) ![0, 0] S1x128.size inb_S1x128_S1x128_0_0).toLoadRect f10)) (View.readAt (Elt F) arg11.view (Rect.unit (s := S1x256) ![0, 0] S1x256.size inb_S1x256_S1x256_0_0).toLoadRect f11) (View.readAt (Elt F) arg21.view (Rect.unit (s := S8x768x256) ![2, 0, 0] S1x768x256.size inb_S8x768x256_S1x768x256_2_0_0).toLoadRect (arg21.view.writes (Elt F) f21 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (word i arg1 g1) (word i arg2 g2) f3 f4 f5 f6 f19 f20 f21 k0_t2_loop.trips).2.2)) (View.readAt (Elt F) arg20.view (Rect.unit (s := S8x768x1) ![2, 0, 0] S1x768x1.size inb_S8x768x1_S1x768x1_2_0_0).toLoadRect (arg20.view.writes (Elt F) f20 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (word i arg1 g1) (word i arg2 g2) f3 f4 f5 f6 f19 f20 f21 k0_t2_loop.trips).2.1)) (View.readAt (Elt F) arg21.view (Rect.unit (s := S8x768x256) ![3, 0, 0] S1x768x256.size inb_S8x768x256_S1x768x256_3_0_0).toLoadRect (arg21.view.writes (Elt F) f21 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (word i arg1 g1) (word i arg2 g2) f3 f4 f5 f6 f19 f20 f21 k0_t2_loop.trips).2.2)) (View.readAt (Elt F) arg20.view (Rect.unit (s := S8x768x1) ![3, 0, 0] S1x768x1.size inb_S8x768x1_S1x768x1_3_0_0).toLoadRect (arg20.view.writes (Elt F) f20 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (word i arg1 g1) (word i arg2 g2) f3 f4 f5 f6 f19 f20 f21 k0_t2_loop.trips).2.1)) from rfl) (ix3 0 yb yc)).trans ?_
      rw [e7, e8, e9, e10, e11, eA 2 (by omega), eL 2 (by omega), eA 3 (by omega), eL 3 (by omega)]
      rfl
    · intro yb yc
      refine (congrFun (show _ = epi (k0_pay48 (View.readAt (Elt F) arg7.view (Rect.unit (s := S1x128) ![0, 0] S1x128.size inb_S1x128_S1x128_0_0).toLoadRect f7) (View.readAt (Elt F) arg8.view (Rect.unit (s := S1x128) ![0, 0] S1x128.size inb_S1x128_S1x128_0_0).toLoadRect f8) (View.readAt (Elt F) arg9.view (Rect.unit (s := S1x128) ![0, 0] S1x128.size inb_S1x128_S1x128_0_0).toLoadRect f9) (View.readAt (Elt F) arg10.view (Rect.unit (s := S1x128) ![0, 0] S1x128.size inb_S1x128_S1x128_0_0).toLoadRect f10)) (View.readAt (Elt F) arg11.view (Rect.unit (s := S1x256) ![0, 0] S1x256.size inb_S1x256_S1x256_0_0).toLoadRect f11) (View.readAt (Elt F) arg21.view (Rect.unit (s := S8x768x256) ![4, 0, 0] S1x768x256.size inb_S8x768x256_S1x768x256_4_0_0).toLoadRect (arg21.view.writes (Elt F) f21 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (word i arg1 g1) (word i arg2 g2) f3 f4 f5 f6 f19 f20 f21 k0_t2_loop.trips).2.2)) (View.readAt (Elt F) arg20.view (Rect.unit (s := S8x768x1) ![4, 0, 0] S1x768x1.size inb_S8x768x1_S1x768x1_4_0_0).toLoadRect (arg20.view.writes (Elt F) f20 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (word i arg1 g1) (word i arg2 g2) f3 f4 f5 f6 f19 f20 f21 k0_t2_loop.trips).2.1)) (View.readAt (Elt F) arg21.view (Rect.unit (s := S8x768x256) ![5, 0, 0] S1x768x256.size inb_S8x768x256_S1x768x256_5_0_0).toLoadRect (arg21.view.writes (Elt F) f21 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (word i arg1 g1) (word i arg2 g2) f3 f4 f5 f6 f19 f20 f21 k0_t2_loop.trips).2.2)) (View.readAt (Elt F) arg20.view (Rect.unit (s := S8x768x1) ![5, 0, 0] S1x768x1.size inb_S8x768x1_S1x768x1_5_0_0).toLoadRect (arg20.view.writes (Elt F) f20 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (word i arg1 g1) (word i arg2 g2) f3 f4 f5 f6 f19 f20 f21 k0_t2_loop.trips).2.1)) from rfl) (ix3 0 yb yc)).trans ?_
      rw [e7, e8, e9, e10, e11, eA 4 (by omega), eL 4 (by omega), eA 5 (by omega), eL 5 (by omega)]
      rfl
    · intro yb yc
      refine (congrFun (show _ = epi (k0_pay48 (View.readAt (Elt F) arg7.view (Rect.unit (s := S1x128) ![0, 0] S1x128.size inb_S1x128_S1x128_0_0).toLoadRect f7) (View.readAt (Elt F) arg8.view (Rect.unit (s := S1x128) ![0, 0] S1x128.size inb_S1x128_S1x128_0_0).toLoadRect f8) (View.readAt (Elt F) arg9.view (Rect.unit (s := S1x128) ![0, 0] S1x128.size inb_S1x128_S1x128_0_0).toLoadRect f9) (View.readAt (Elt F) arg10.view (Rect.unit (s := S1x128) ![0, 0] S1x128.size inb_S1x128_S1x128_0_0).toLoadRect f10)) (View.readAt (Elt F) arg11.view (Rect.unit (s := S1x256) ![0, 0] S1x256.size inb_S1x256_S1x256_0_0).toLoadRect f11) (View.readAt (Elt F) arg21.view (Rect.unit (s := S8x768x256) ![6, 0, 0] S1x768x256.size inb_S8x768x256_S1x768x256_6_0_0).toLoadRect (arg21.view.writes (Elt F) f21 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (word i arg1 g1) (word i arg2 g2) f3 f4 f5 f6 f19 f20 f21 k0_t2_loop.trips).2.2)) (View.readAt (Elt F) arg20.view (Rect.unit (s := S8x768x1) ![6, 0, 0] S1x768x1.size inb_S8x768x1_S1x768x1_6_0_0).toLoadRect (arg20.view.writes (Elt F) f20 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (word i arg1 g1) (word i arg2 g2) f3 f4 f5 f6 f19 f20 f21 k0_t2_loop.trips).2.1)) (View.readAt (Elt F) arg21.view (Rect.unit (s := S8x768x256) ![7, 0, 0] S1x768x256.size inb_S8x768x256_S1x768x256_7_0_0).toLoadRect (arg21.view.writes (Elt F) f21 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (word i arg1 g1) (word i arg2 g2) f3 f4 f5 f6 f19 f20 f21 k0_t2_loop.trips).2.2)) (View.readAt (Elt F) arg20.view (Rect.unit (s := S8x768x1) ![7, 0, 0] S1x768x1.size inb_S8x768x1_S1x768x1_7_0_0).toLoadRect (arg20.view.writes (Elt F) f20 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (word i arg1 g1) (word i arg2 g2) f3 f4 f5 f6 f19 f20 f21 k0_t2_loop.trips).2.1)) from rfl) (ix3 0 yb yc)).trans ?_
      rw [e7, e8, e9, e10, e11, eA 6 (by omega), eL 6 (by omega), eA 7 (by omega), eL 7 (by omega)]
      rfl
  isplitl [H16]
  · iexists _; isplitr
    swap; · iexact H16
    ipureintro
    exact (read_whole arg16.view _ z2 _ _).trans (congrArg k0_pay1 (load_whole arg12.view _ z2 _))
  isplitl [H17]
  · iexists _; isplitr
    swap; · iexact H17
    ipureintro
    exact (read_whole arg17.view _ z2 _ _).trans (congrArg k0_pay2 (load_whole arg13.view _ z2 _))
  isplitl [H18]
  · iexists _; isplitr
    swap; · iexact H18
    ipureintro
    exact (read_whole arg18.view _ z2 _ _).trans (congrArg k0_pay3 (load_whole arg14.view _ z2 _))
  isplitl [H19]
  · iexists _; isplitr
    swap; · iexact H19
    ipureintro; refine (k0_t2_leaves (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ f3 f4 f5 f6 _ _ _).1.trans ?_
    exact congrArg (loopM true _ _ _ _) rfl
  isplitl [H20]
  · iexists _; isplitr
    swap; · iexact H20
    ipureintro; refine (k0_t2_leaves (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ f3 f4 f5 f6 _ _ _).2.1.trans ?_
    exact congrArg₂ (loopL true _ _ _ _) rfl rfl
  iexists _; isplitr
  swap; · iexact H21
  ipureintro; refine (k0_t2_leaves (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ f3 f4 f5 f6 _ _ _).2.2.trans ?_
  exact congrArg₂ (loopA true _ _ _ _ _) rfl rfl
end Cert.AttnIdeal.Flash

end
-- ==== Proof.AttnRunD.lean ====
module

public import proofs.«01_k».proof.Proof.AttnRun
public import proofs.«01_k».proof.Proof.AttnIdealRunD

@[expose] public section

set_option maxRecDepth 16384

noncomputable section

namespace Cert.Attn.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Attn Cert.Attn.Gen

variable {F : FTy → Type} [FloatOps F]

local notation "𝕄" => MT nD τ sig Unit (Elt F) ℕ (UR sig nD τ) ℕ

set_option maxHeartbeats 8000000 in
set_option smartUnfolding false in
/-- The body at the last tile of a row, on the diagonal. -/
theorem run_D (c : Dev nD) (i : grid0.Coords) (arg1 : Memref sig .tc .smem S66 .i32) (harg1 : arg1.IsWhole) (arg2 : Memref sig .tc .smem S66 .i32) (harg2 : arg2.IsWhole) (arg3 : Memref sig .tc .vmem S1x4x768x512 .bf16) (harg3 : arg3.IsWhole) (arg4 : Memref sig .tc .vmem S1x4x768x512 .bf16) (harg4 : arg4.IsWhole) (arg5 : Memref sig .tc .vmem S4x768x256 .bf16) (harg5 : arg5.IsWhole) (arg6 : Memref sig .tc .vmem S4x1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x256 .f32) (harg11 : arg11.IsWhole) (arg12 : Memref sig .tc .vmem S32x8192 .f32) (harg12 : arg12.IsWhole) (arg13 : Memref sig .tc .vmem S128x2048 .f32) (harg13 : arg13.IsWhole) (arg14 : Memref sig .tc .vmem S32x2048 .f32) (harg14 : arg14.IsWhole) (arg15 : Memref sig .tc .vmem S4x768x256 .bf16) (harg15 : arg15.IsWhole) (arg16 : Memref sig .tc .vmem S32x8192 .bf16) (harg16 : arg16.IsWhole) (arg17 : Memref sig .tc .vmem S128x2048 .bf16) (harg17 : arg17.IsWhole) (arg18 : Memref sig .tc .vmem S32x2048 .bf16) (harg18 : arg18.IsWhole) (arg19 : Memref sig .tc .vmem S8x768x1 .f32) (harg19 : arg19.IsWhole) (arg20 : Memref sig .tc .vmem S8x768x1 .f32) (harg20 : arg20.IsWhole) (arg21 : Memref sig .tc .vmem S8x768x256 .f32) (harg21 : arg21.IsWhole) (q1 q2 : PosShare TreeShare) (g1 : BufTy.Contents (Elt F) arg1.view.ty) (g2 : BufTy.Contents (Elt F) arg2.view.ty)
   (hf : ¬isFirst (word i arg2 g2)) (hb : ¬isBelow (word i arg1 g1) (word i arg2 g2)) (hd : isDiag (word i arg1 g1) (word i arg2 g2))
   (x3 : Vec F S1x4x768x512 .bf16) (x4 : Vec F S1x4x768x512 .bf16) (x5 : Vec F S4x768x256 .bf16) (x6 : Vec F S4x1x128 .f32) (x7 : Vec F S1x128 .f32) (x8 : Vec F S1x128 .f32) (x9 : Vec F S1x128 .f32) (x10 : Vec F S1x128 .f32) (x11 : Vec F S1x256 .f32) (x12 : Vec F S32x8192 .f32) (x13 : Vec F S128x2048 .f32) (x14 : Vec F S32x2048 .f32)  (x19 : Vec F S8x768x1 .f32) (x20 : Vec F S8x768x1 .f32) (x21 : Vec F S8x768x256 .f32) (E : Set ℕ) (K : PUnit → sProp 𝕄) :
   iprop((arg1.view.loc (c : Thread nD τ) ↦[arg1.view.set]{q1} g1) ∗ (arg2.view.loc (c : Thread nD τ) ↦[arg2.view.set]{q2} g2) ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare x19 ∗ owns (c : Thread nD τ) arg20 fullShare x20 ∗ owns (c : Thread nD τ) arg21 fullShare x21 ∗ (iprop((arg1.view.loc (c : Thread nD τ) ↦[arg1.view.set]{q1} g1) ∗ (arg2.view.loc (c : Thread nD τ) ↦[arg2.view.set]{q2} g2) ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (blockO (k0_pay48 x7 x8 x9 x10) x11 (loopL true (k0_pay7 (word i arg1 g1) (word i arg2 g2)) x3 x4 x6 x19 x20) (loopA true (k0_pay7 (word i arg1 g1) (word i arg2 g2)) x3 x4 x5 x6 x19 x21)) ∗ owns (c : Thread nD τ) arg16 fullShare (k0_pay1 x12) ∗ owns (c : Thread nD τ) arg17 fullShare (k0_pay2 x13) ∗ owns (c : Thread nD τ) arg18 fullShare (k0_pay3 x14) ∗ owns (c : Thread nD τ) arg19 fullShare (loopM true (k0_pay7 (word i arg1 g1) (word i arg2 g2)) x3 x4 x6 x19) ∗ owns (c : Thread nD τ) arg20 fullShare (loopL true (k0_pay7 (word i arg1 g1) (word i arg2 g2)) x3 x4 x6 x19 x20) ∗ owns (c : Thread nD τ) arg21 fullShare (loopA true (k0_pay7 (word i arg1 g1) (word i arg2 g2)) x3 x4 x5 x6 x19 x21)) -∗ K ⟨⟩)) ⊢ wp frame (wpE (defs₀ (F := F)) Variants.none c none) E (cc0_attn_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  let _ : Named F := ⟨fun _ _ _ b => Scalar.ofBits _ b⟩
  with_unfolding_all exact AttnIdeal.Flash.run_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 q1 q2 g1 g2 hf hb hd x3 x4 x5 x6 x7 x8 x9 x10 x11 x12 x13 x14 x19 x20 x21 E K

end Cert.Attn.Flash

end
-- ==== Proof.AttnIdealFrame.lean ====
module

public import proofs.«01_k».proof.Proof.AttnIdealRunC
public import proofs.«01_k».proof.Proof.AttnIdealRunD
public import Idealize.ShloMosaic.Lib.Pipeline.FrameBody
public import Idealize.ShloMosaic.Lib.StableHlo.RunRead
public import proofs.«01_k».proof.Proof.Gen.AttnIdeal.Launch

@[expose] public section

set_option maxRecDepth 16384

noncomputable section

namespace Cert.AttnIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.AttnIdeal Cert.AttnIdeal.Gen

variable {F : FTy → Type} [FloatOps F] [Named F]

local notation "𝕄" => MT nD τ sig Unit (Elt F) ℕ (UR sig nD τ) ℕ

/-! ## The tables of tiles -/

/-- The two prefetched tables: the row and the column of the tile a grid point works on. -/
def tabs : (pre0).Contents (Elt F) := fun
  | 0 => fun i => lit0 (S66.rowMajor i)
  | 1 => fun i => lit1 (S66.rowMajor i)
  | ⟨_ + 2, h⟩ => absurd h (Nat.not_lt.2 (Nat.le_add_left _ _))

/-- The tile row and the tile column of a grid point. -/
def qi (i : grid0.Coords) : BitVec 32 := lit0 ⟨(i 0).val, (i 0).isLt⟩
def kj (i : grid0.Coords) : BitVec 32 := lit1 ⟨(i 0).val, (i 0).isLt⟩

theorem entry : ∀ i : grid0.Coords,
    S66.rowMajor ((Rect.unit (s := S66) (k0_off1 i) S1.size (k0_off1_inb i)).emb
      (Shape.Idx.first (numel1_S1.symm ▸ Nat.one_pos))) = ⟨(i 0).val, (i 0).isLt⟩ := by decide +kernel

theorem at_row (i : grid0.Coords) (h : ∀ a, (k0_off1 i) a + S1.size a ≤ S66.size a) (h1 : S1.numel = 1) :
    (tabs (F := F)).at 0 (Rect.unit (s := S66) (k0_off1 i) S1.size h) h1 = qi i :=
  congrArg lit0 (entry i)

theorem at_col (i : grid0.Coords) (h : ∀ a, (k0_off1 i) a + S1.size a ≤ S66.size a) (h1 : S1.numel = 1) :
    (tabs (F := F)).at 1 (Rect.unit (s := S66) (k0_off1 i) S1.size h) h1 = kj i :=
  congrArg lit1 (entry i)

theorem tr_0 (i : grid0.Coords) :
    cc0_transform_0 k0_off1_inb numel1_S1 (tabs (F := F)) i = ![0, 0, (qi i).toNat, 0] :=
  congrArg (fun v : BitVec 32 => ![0, 0, v.toNat, 0]) (at_row i _ _)

theorem tr_1 (i : grid0.Coords) :
    cc0_transform_1 k0_off1_inb numel1_S1 (tabs (F := F)) i = ![1, 0, (kj i).toNat, 0] :=
  congrArg (fun v : BitVec 32 => ![1, 0, v.toNat, 0]) (at_col i _ _)

theorem tr_2 (i : grid0.Coords) :
    cc0_transform_2 k0_off1_inb numel1_S1 (tabs (F := F)) i = ![0, (kj i).toNat, 0] :=
  congrArg (fun v : BitVec 32 => ![0, v.toNat, 0]) (at_col i _ _)

theorem tr_12 (i : grid0.Coords) :
    cc0_transform_12 k0_off1_inb numel1_S1 (tabs (F := F)) i = ![0, (qi i).toNat, 0] :=
  congrArg (fun v : BitVec 32 => ![0, v.toNat, 0]) (at_row i _ _)

theorem ok_0 : ∀ i : grid0.Coords, ∃ h : (∀ a, ((![0, 0, (qi i).toNat, 0] : Fin 4 → ℕ) a + 1) * S1x4x768x512.size a ≤ S2x4x8448x512.size a),
    EltTy.bits .bf16 = 32 ∨ (Rect.block (s := S2x4x8448x512) S1x4x768x512.size ![0, 0, (qi i).toNat, 0] h).WholeWords (EltTy.packing .bf16) := by
  decide +kernel

theorem ok_1 : ∀ i : grid0.Coords, ∃ h : (∀ a, ((![1, 0, (kj i).toNat, 0] : Fin 4 → ℕ) a + 1) * S1x4x768x512.size a ≤ S2x4x8448x512.size a),
    EltTy.bits .bf16 = 32 ∨ (Rect.block (s := S2x4x8448x512) S1x4x768x512.size ![1, 0, (kj i).toNat, 0] h).WholeWords (EltTy.packing .bf16) := by
  decide +kernel

theorem ok_2 : ∀ i : grid0.Coords, ∃ h : (∀ a, ((![0, (kj i).toNat, 0] : Fin 3 → ℕ) a + 1) * S4x768x256.size a ≤ S4x8448x256.size a),
    EltTy.bits .bf16 = 32 ∨ (Rect.block (s := S4x8448x256) S4x768x256.size ![0, (kj i).toNat, 0] h).WholeWords (EltTy.packing .bf16) := by
  decide +kernel

theorem ok_12 : ∀ i : grid0.Coords, ∃ h : (∀ a, ((![0, (qi i).toNat, 0] : Fin 3 → ℕ) a + 1) * S4x768x256.size a ≤ S4x8448x256.size a),
    EltTy.bits .bf16 = 32 ∨ (Rect.block (s := S4x8448x256) S4x768x256.size ![0, (qi i).toNat, 0] h).WholeWords (EltTy.packing .bf16) := by
  decide +kernel

/-- The blocks the tables choose lie in their arrays and are whole words. -/
theorem tabs_ok : ok0 (tabs (F := F)) :=
  ⟨fun i => by rw [tr_0]; exact ok_0 i, fun i => by rw [tr_1]; exact ok_1 i,
   fun i => by rw [tr_2]; exact ok_2 i, fun i => by rw [tr_12]; exact ok_12 i⟩

theorem entryD : ∀ i : grid0.Coords, ∃ h : (∀ a, k0_off1 i a + 1 ≤ S66.size a),
    S66.rowMajor (fun a => ⟨k0_off1 i a, h a⟩) = ⟨(i 0).val, (i 0).isLt⟩ := by decide +kernel

theorem atD_row (i : grid0.Coords) : (tabs (F := F)).atD 0 (k0_off1 i) = qi i := by
  obtain ⟨h, e⟩ := entryD i
  exact (dif_pos h).trans (congrArg lit0 e)

theorem atD_col (i : grid0.Coords) : (tabs (F := F)).atD 1 (k0_off1 i) = kj i := by
  obtain ⟨h, e⟩ := entryD i
  exact (dif_pos h).trans (congrArg lit1 e)

theorem word_row (i : grid0.Coords) : word (F := F) i (Memref.whole main_c) (tabs 0) = qi i := congrArg lit0 (entry i)
theorem word_col (i : grid0.Coords) : word (F := F) i (Memref.whole main_c_0) (tabs 1) = kj i := congrArg lit1 (entry i)

/-- The pipeline at these tables. -/
def adm : (pcfg0 (F := F)).Adm := ⟨tabs, tabs_ok⟩
abbrev adms : (p : Fin 1) → (pcfgs (F := F) p).Adm := fun _ => adm
abbrev C : Cfg sig Λ₀ := cfg0 (F := F) adm

/-! ## What happens at a point -/

theorem starts : ∀ t : Fin grid0.N, t.val = 0 → isFirst (kj (grid0.coords t)) := by decide +kernel
theorem one_of : ∀ t : Fin grid0.N,
    (isBelow (qi (grid0.coords t)) (kj (grid0.coords t)) ∧ ¬isDiag (qi (grid0.coords t)) (kj (grid0.coords t)))
    ∨ (¬isBelow (qi (grid0.coords t)) (kj (grid0.coords t)) ∧ isDiag (qi (grid0.coords t)) (kj (grid0.coords t))) := by
  decide +kernel
theorem stays : ∀ t : Fin grid0.N, ¬isDiag (qi (grid0.coords t)) (kj (grid0.coords t)) →
    (t.val + 1 = grid0.N || decide (∃ h : t.val + 1 < grid0.N,
      (![0, (qi (grid0.coords ⟨t.val + 1, h⟩)).toNat, 0] : Fin 3 → ℕ) ≠ ![0, (qi (grid0.coords t)).toNat, 0])) = false := by
  decide +kernel

theorem idle_12 (t : Fin grid0.N) : (C (F := F)).idle 12 (grid0.coords t)
    = !(k0_cond3 (qi (grid0.coords t)) (kj (grid0.coords t)) == 1#1) := by
  rw [← atD_row (F := F), ← atD_col (F := F)]
  rfl

theorem idleAt (t : Fin grid0.N) (h : ¬isDiag (qi (grid0.coords t)) (kj (grid0.coords t))) :
    (C (F := F)).idle 12 (grid0.coords t) = true := by
  rw [idle_12, beq_eq_false_iff_ne.mpr h]; rfl
theorem liveAt (t : Fin grid0.N) (h : isDiag (qi (grid0.coords t)) (kj (grid0.coords t))) :
    (C (F := F)).idle 12 (grid0.coords t) = false := by
  rw [idle_12, beq_iff_eq.mpr h]; rfl
theorem index_12 : ((C (F := F)).win 12).index = fun t : Fin grid0.N => ![0, (qi (grid0.coords t)).toNat, 0] :=
  funext fun t => tr_12 _
theorem noFlush (t : Fin grid0.N) (h : ¬isDiag (qi (grid0.coords t)) (kj (grid0.coords t))) :
    ((C (F := F)).win 12).flush t = false := by
  unfold Window.flush
  rw [index_12]
  exact stays t h

/-! ## The program up to the call -/

variable (m : (ℓ : Loc nD τ sig) → Buf (Elt F) ℓ) (ρ : Dev nD → PrngReg)

/-- Core `c`'s buffers when the call is entered. -/
def V (c : Dev nD) (b : Ref sig .tc) : Buf (Elt F) ((c : Thread nD τ).loc b) :=
  StableHlo.after (hostOps0 (F := F)) (fun b => m (c, b)) b

/-- The buffers the host operations write. -/
abbrev written : List (Ref sig .tc) := [main_c, main_c_0, main_cst, main_v0, main_cst_1, main_v1, main_v2, main_cst_2, main_v3, main_v4, main_v5, main_v6, main_v7, main_v8, main_cst_3, main_v9, main_c_4, main_v10, main_v11, main_cst_5, main_v12, main_v13, main_v14, main_v15, main_v16, main_c_6, main_v17, main_v18, main_v19, main_v20, main_c_7, main_v21, main_v22, main_cst_8, main_v23, main_v24, main_v25, main_c_9, main_v26, main_v27, main_cst_10, main_v28, main_v29, main_v30, main_c_11, main_v31, main_v32, main_cst_12, main_v33, main_v34, main_v35, main_c_13, main_v36, main_v37, main_cst_14, main_v38, main_v39, main_v40, main_cst_15, main_v41, main_v42, main_v43, main_v44, main_v45, main_v46, main_v47, main_v48, main_v49, main_v50, main_v51, main_v52, main_c_16, main_v53, main_v54, main_c_17, main_v55, main_v56, main_c_18, main_v57, main_v58, main_v59, main_v60, main_v61, main_v62, main_v63, main_v64, main_v65, main_v66, main_v67, main_v68, main_v69, main_v70, main_v71, main_v72, main_v73, main_v74, main_v75, main_v76, main_cst_19, main_v77, main_v78, main_v79, main_v80]

theorem hostOps0_writes : (hostOps0 (F := F)).map HloOp.writes = written.map fun w => {Proc.devRef (τ := τ) .tc w} := rfl

theorem V_of_unwritten (c : Dev nD) (r : Ref sig .tc) (h : r ∉ written) : V m c r = m ((c : Thread nD τ).loc r) :=
  StableHlo.after_unwritten written hostOps0_writes h _

theorem V_row (c : Dev nD) : V m c main_c = tabs 0 :=
  (StableHlo.after_last_write (i := 0) written.tail rfl (congrArg List.tail hostOps0_writes) (by decide) _).trans
    (StableHlo.nullary_result' _ _ _)
theorem V_col (c : Dev nD) : V m c main_c_0 = tabs 1 :=
  (StableHlo.after_last_write (i := 1) written.tail.tail rfl (congrArg (List.tail ∘ List.tail) hostOps0_writes) (by decide) _).trans
    (StableHlo.nullary_result' _ _ _)

theorem hostOps0_fresh : (hostOps0 (F := F)).Forall fun op => op.fresh = ∅ := by
  repeat' first | exact True.intro | apply And.intro | rfl

/-! ## The blocks -/

/-- Window `w`'s block at point `t`, of its array as the call finds it. -/
def iblk (c : Dev nD) (w : Fin (C (F := F)).W) (t : Fin (C (F := F)).N) : (((C (F := F)).win w).xblock ((C (F := F)).grid.coords t)).Idx → Elt F ((C (F := F)).win w).elt :=
  (((C (F := F)).win w).blk t).view.read (Elt F) (V m c (Pipeline.arrRef spec0 w))

/-- The running maximum, sum and product of a row of tiles. -/
abbrev St (F : FTy → Type) [FloatOps F] [Named F] := Vec F S8x768x1 .f32 × Vec F S8x768x1 .f32 × Vec F S8x768x256 .f32

/-- What a point starts from: nothing seen at the row's first tile, what the point before left elsewhere. -/
def from' (k : BitVec 32) (s : St F) : St F := if isFirst k then (k0_pay4, k0_pay5, k0_pay6) else s

/-- A point's step. -/
def step (c : Dev nD) (t : Fin (C (F := F)).N) (s : St F) : St F :=
  let i := grid0.coords t
  let b := decide (isDiag (qi i) (kj i))
  let u := from' (kj i) s
  (loopM b (k0_pay7 (qi i) (kj i)) (iblk m c 0 t) (iblk m c 1 t) (iblk m c 3 t) u.1,
   loopL b (k0_pay7 (qi i) (kj i)) (iblk m c 0 t) (iblk m c 1 t) (iblk m c 3 t) u.1 u.2.1,
   loopA b (k0_pay7 (qi i) (kj i)) (iblk m c 0 t) (iblk m c 1 t) (iblk m c 2 t) (iblk m c 3 t) u.1 u.2.2)

/-- The state after the first `n` points. -/
def st (c : Dev nD) : ℕ → St F
  | 0 => (k0_pay4, k0_pay5, k0_pay6)
  | n + 1 => if h : n < (C (F := F)).N then step m c ⟨n, h⟩ (st c n) else st c n

theorem st_succ (c : Dev nD) (t : Fin (C (F := F)).N) : st m c (t.val + 1) = step m c t (st m c t.val) :=
  (dif_pos t.isLt : (if h : t.val < (C (F := F)).N then step m c ⟨t.val, h⟩ (st m c t.val) else st m c t.val) = _)

/-- The output block of the diagonal tile. -/
def outO (c : Dev nD) (t : Fin (C (F := F)).N) : Vec F S4x768x256 .bf16 :=
  blockO (k0_pay48 (iblk m c 4 t) (iblk m c 5 t) (iblk m c 6 t) (iblk m c 7 t)) (iblk m c 8 t) (st m c (t.val + 1)).2.1 (st m c (t.val + 1)).2.2

/-! ## The proof data -/

abbrev tabsΦ (c : Dev nD) : sProp 𝕄 := Pipeline.ΦT pre0 (tabs (F := F)) c

/-- The three scratch buffers at a state. -/
abbrev scr (c : Dev nD) (s : St F) : sProp 𝕄 :=
  iprop(owns (c : Thread nD τ) (Memref.whole cc0_scratch0) fullShare s.1
    ∗ owns (c : Thread nD τ) (Memref.whole cc0_scratch1) fullShare s.2.1
    ∗ owns (c : Thread nD τ) (Memref.whole cc0_scratch2) fullShare s.2.2)

/-- The three scratch buffers at anything. -/
abbrev scrAny (c : Dev nD) : sProp 𝕄 :=
  iprop((∃ d, owns (c : Thread nD τ) (Memref.whole cc0_scratch0) fullShare d)
    ∗ (∃ d, owns (c : Thread nD τ) (Memref.whole cc0_scratch1) fullShare d)
    ∗ (∃ d, owns (c : Thread nD τ) (Memref.whole cc0_scratch2) fullShare d))

/-- The invariant before point `n`: the scratch buffers hold the state, and the tables are as filled. -/
def Inv (c : Dev nD) : ℕ → sProp 𝕄
  | 0 => iprop(Pipeline.ΦA spec0 c ∗ tabsΦ c)
  | n + 1 => iprop((scr c (st m c (n + 1)) ∗ (∃ r, prngReg c r)) ∗ tabsΦ c)

theorem ΦA_eq (c : Dev nD) : (Pipeline.ΦA spec0 c : sProp 𝕄) = iprop(scrAny c ∗ (∃ r, prngReg c r)) := by
  unfold Pipeline.ΦA; rw [scopedRest0_eq]; simp only [scrAny, owns_whole]; try rfl

/-- Whatever the state, the scratch buffers hold something. -/
theorem Inv_any (c : Dev nD) (n : ℕ) : Inv m c n ⊢ iprop((scrAny c ∗ (∃ r, prngReg c r)) ∗ tabsΦ c) := by
  cases n with
  | zero => unfold Inv; rw [ΦA_eq]
  | succ n =>
    unfold Inv
    iintro ⟨⟨⟨H0, H1, H2⟩, Hg⟩, Ht⟩
    isplitl [H0 H1 H2 Hg]
    · isplitl [H0 H1 H2]
      · isplitl [H0]; · iexists _; iexact H0
        isplitl [H1]; · iexists _; iexact H1
        iexists _; iexact H2
      iexact Hg
    iexact Ht

theorem Inv_pos (c : Dev nD) (n : ℕ) (h : n ≠ 0) :
    Inv m c n = iprop((scr c (st m c n) ∗ (∃ r, prngReg c r)) ∗ tabsΦ c) := by
  cases n with
  | zero => exact absurd rfl h
  | succ n => rfl

/-- The two tables, one by one. -/
theorem tabsΦ_eq (c : Dev nD) : tabsΦ (F := F) c
    = iprop(((Memref.whole main_c).view.loc (c : Thread nD τ) ↦[(Memref.whole main_c).view.set]{fullShare.right} (tabs (F := F) 0))
      ∗ ((Memref.whole main_c_0).view.loc (c : Thread nD τ) ↦[(Memref.whole main_c_0).view.set]{fullShare.right} (tabs (F := F) 1))) := by
  simp only [View.set_whole]
  exact bigSep_univ_eq_bigSepL [(0 : Fin 2), (1 : Fin 2)] (by decide) (by decide) _

/-- The proof data. -/
def dats (p : Fin 1) (c : Dev nD) : Dat τ (Elt F) Unit ℕ (UR sig nD τ) ℕ (Pipeline.pin (pcfgs (F := F)) adms p) c :=
  (show Dat τ (Elt F) Unit ℕ (UR sig nD τ) ℕ (C (F := F)) c from
  { A := fun w => V m c (Pipeline.arrRef spec0 w)
    after := fun w t => match w with
      | ⟨0, _⟩ => iblk m c 0 t
      | ⟨1, _⟩ => iblk m c 1 t
      | ⟨2, _⟩ => iblk m c 2 t
      | ⟨3, _⟩ => iblk m c 3 t
      | ⟨4, _⟩ => iblk m c 4 t
      | ⟨5, _⟩ => iblk m c 5 t
      | ⟨6, _⟩ => iblk m c 6 t
      | ⟨7, _⟩ => iblk m c 7 t
      | ⟨8, _⟩ => iblk m c 8 t
      | ⟨9, _⟩ => iblk m c 9 t
      | ⟨10, _⟩ => iblk m c 10 t
      | ⟨11, _⟩ => iblk m c 11 t
      | ⟨12, _⟩ => outO m c t
      | ⟨13, _⟩ => k0_pay1 (iblk m c 9 t)
      | ⟨14, _⟩ => k0_pay2 (iblk m c 10 t)
      | ⟨15, _⟩ => k0_pay3 (iblk m c 11 t)
      | ⟨_ + 16, h⟩ => absurd h (Nat.not_lt.2 (Nat.le_add_left _ _))
    Φ := fun t => Inv m c t.val
    q := fun w => Pipeline.shareOf spec0 w
    owed := fun _ => 0 })

theorem A_eq (c : Dev nD) (w : Fin (C (F := F)).W) : (dats m 0 c).A w = V m c (Pipeline.arrRef spec0 w) := by
  dsimp only [dats]
theorem after_0 (c : Dev nD) (t : Fin (C (F := F)).N) : (dats m 0 c).after 0 t = iblk m c 0 t := rfl
theorem after_1 (c : Dev nD) (t : Fin (C (F := F)).N) : (dats m 0 c).after 1 t = iblk m c 1 t := rfl
theorem after_2 (c : Dev nD) (t : Fin (C (F := F)).N) : (dats m 0 c).after 2 t = iblk m c 2 t := rfl
theorem after_3 (c : Dev nD) (t : Fin (C (F := F)).N) : (dats m 0 c).after 3 t = iblk m c 3 t := rfl
theorem after_4 (c : Dev nD) (t : Fin (C (F := F)).N) : (dats m 0 c).after 4 t = iblk m c 4 t := rfl
theorem after_5 (c : Dev nD) (t : Fin (C (F := F)).N) : (dats m 0 c).after 5 t = iblk m c 5 t := rfl
theorem after_6 (c : Dev nD) (t : Fin (C (F := F)).N) : (dats m 0 c).after 6 t = iblk m c 6 t := rfl
theorem after_7 (c : Dev nD) (t : Fin (C (F := F)).N) : (dats m 0 c).after 7 t = iblk m c 7 t := rfl
theorem after_8 (c : Dev nD) (t : Fin (C (F := F)).N) : (dats m 0 c).after 8 t = iblk m c 8 t := rfl
theorem after_9 (c : Dev nD) (t : Fin (C (F := F)).N) : (dats m 0 c).after 9 t = iblk m c 9 t := rfl
theorem after_10 (c : Dev nD) (t : Fin (C (F := F)).N) : (dats m 0 c).after 10 t = iblk m c 10 t := rfl
theorem after_11 (c : Dev nD) (t : Fin (C (F := F)).N) : (dats m 0 c).after 11 t = iblk m c 11 t := rfl
theorem after_12 (c : Dev nD) (t : Fin (C (F := F)).N) : (dats m 0 c).after 12 t = outO m c t := rfl
theorem after_13 (c : Dev nD) (t : Fin (C (F := F)).N) : (dats m 0 c).after 13 t = k0_pay1 (iblk m c 9 t) := rfl
theorem after_14 (c : Dev nD) (t : Fin (C (F := F)).N) : (dats m 0 c).after 14 t = k0_pay2 (iblk m c 10 t) := rfl
theorem after_15 (c : Dev nD) (t : Fin (C (F := F)).N) : (dats m 0 c).after 15 t = k0_pay3 (iblk m c 11 t) := rfl
theorem before_0 (c : Dev nD) (t : Fin (C (F := F)).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (C (F := F)).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (C (F := F)).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (C (F := F)).N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (C (F := F)).N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin (C (F := F)).N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin (C (F := F)).N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin (C (F := F)).N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin (C (F := F)).N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin (C (F := F)).N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem before_10 (c : Dev nD) (t : Fin (C (F := F)).N) (d) : (dats m 0 c).before 10 t d = iblk m c 10 t :=
  ((dats m 0 c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)
theorem before_11 (c : Dev nD) (t : Fin (C (F := F)).N) (d) : (dats m 0 c).before 11 t d = iblk m c 11 t :=
  ((dats m 0 c).before_in_eq_fetched 11 rfl (fun _ => rfl) (fun _ _ _ => rfl) (fun t => by rw [after_11]; unfold Dat.blockOf iblk; rw [A_eq]; try rfl) t d).trans
    (by unfold Dat.fetched Dat.blockOf iblk; rw [A_eq]; try rfl)
abbrev ms_0 (t : Fin (C (F := F)).N) := spec0_0.stage ((C (F := F)).slots t 0)
theorem hs_0 (t : Fin (C (F := F)).N) : (ms_0 (F := F) t).IsWhole := hstage0_0 (((C (F := F)).slots t 0).cast nbuf0_0)
abbrev ms_1 (t : Fin (C (F := F)).N) := spec0_1.stage ((C (F := F)).slots t 1)
theorem hs_1 (t : Fin (C (F := F)).N) : (ms_1 (F := F) t).IsWhole := hstage0_1 (((C (F := F)).slots t 1).cast nbuf0_1)
abbrev ms_2 (t : Fin (C (F := F)).N) := spec0_2.stage ((C (F := F)).slots t 2)
theorem hs_2 (t : Fin (C (F := F)).N) : (ms_2 (F := F) t).IsWhole := hstage0_2 (((C (F := F)).slots t 2).cast nbuf0_2)
abbrev ms_3 (t : Fin (C (F := F)).N) := spec0_3.stage ((C (F := F)).slots t 3)
theorem hs_3 (t : Fin (C (F := F)).N) : (ms_3 (F := F) t).IsWhole := hstage0_3 (((C (F := F)).slots t 3).cast nbuf0_3)
abbrev ms_4 (t : Fin (C (F := F)).N) := spec0_4.stage ((C (F := F)).slots t 4)
theorem hs_4 (t : Fin (C (F := F)).N) : (ms_4 (F := F) t).IsWhole := hstage0_4 (((C (F := F)).slots t 4).cast nbuf0_4)
abbrev ms_5 (t : Fin (C (F := F)).N) := spec0_5.stage ((C (F := F)).slots t 5)
theorem hs_5 (t : Fin (C (F := F)).N) : (ms_5 (F := F) t).IsWhole := hstage0_5 (((C (F := F)).slots t 5).cast nbuf0_5)
abbrev ms_6 (t : Fin (C (F := F)).N) := spec0_6.stage ((C (F := F)).slots t 6)
theorem hs_6 (t : Fin (C (F := F)).N) : (ms_6 (F := F) t).IsWhole := hstage0_6 (((C (F := F)).slots t 6).cast nbuf0_6)
abbrev ms_7 (t : Fin (C (F := F)).N) := spec0_7.stage ((C (F := F)).slots t 7)
theorem hs_7 (t : Fin (C (F := F)).N) : (ms_7 (F := F) t).IsWhole := hstage0_7 (((C (F := F)).slots t 7).cast nbuf0_7)
abbrev ms_8 (t : Fin (C (F := F)).N) := spec0_8.stage ((C (F := F)).slots t 8)
theorem hs_8 (t : Fin (C (F := F)).N) : (ms_8 (F := F) t).IsWhole := hstage0_8 (((C (F := F)).slots t 8).cast nbuf0_8)
abbrev ms_9 (t : Fin (C (F := F)).N) := spec0_9.stage ((C (F := F)).slots t 9)
theorem hs_9 (t : Fin (C (F := F)).N) : (ms_9 (F := F) t).IsWhole := hstage0_9 (((C (F := F)).slots t 9).cast nbuf0_9)
abbrev ms_10 (t : Fin (C (F := F)).N) := spec0_10.stage ((C (F := F)).slots t 10)
theorem hs_10 (t : Fin (C (F := F)).N) : (ms_10 (F := F) t).IsWhole := hstage0_10 (((C (F := F)).slots t 10).cast nbuf0_10)
abbrev ms_11 (t : Fin (C (F := F)).N) := spec0_11.stage ((C (F := F)).slots t 11)
theorem hs_11 (t : Fin (C (F := F)).N) : (ms_11 (F := F) t).IsWhole := hstage0_11 (((C (F := F)).slots t 11).cast nbuf0_11)
abbrev ms_12 (t : Fin (C (F := F)).N) := spec0_12.stage ((C (F := F)).slots t 12)
theorem hs_12 (t : Fin (C (F := F)).N) : (ms_12 (F := F) t).IsWhole := hstage0_12 (((C (F := F)).slots t 12).cast nbuf0_12)
abbrev ms_13 (t : Fin (C (F := F)).N) := spec0_13.stage ((C (F := F)).slots t 13)
theorem hs_13 (t : Fin (C (F := F)).N) : (ms_13 (F := F) t).IsWhole := hstage0_13 (((C (F := F)).slots t 13).cast nbuf0_13)
abbrev ms_14 (t : Fin (C (F := F)).N) := spec0_14.stage ((C (F := F)).slots t 14)
theorem hs_14 (t : Fin (C (F := F)).N) : (ms_14 (F := F) t).IsWhole := hstage0_14 (((C (F := F)).slots t 14).cast nbuf0_14)
abbrev ms_15 (t : Fin (C (F := F)).N) := spec0_15.stage ((C (F := F)).slots t 15)
theorem hs_15 (t : Fin (C (F := F)).N) : (ms_15 (F := F) t).IsWhole := hstage0_15 (((C (F := F)).slots t 15).cast nbuf0_15)

/-! ## The body at a point -/

abbrev bodyAt (t : Fin (C (F := F)).N) : Prog (TpuEff nD τ sig (Elt F) Λ₀ .tc) PUnit :=
  cc0_attn_prompt (grid0.coords t) (Memref.whole main_c) (Memref.isWhole_whole _) (Memref.whole main_c_0) (Memref.isWhole_whole _) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (Memref.whole cc0_scratch0) (Memref.isWhole_whole _) (Memref.whole cc0_scratch1) (Memref.isWhole_whole _) (Memref.whole cc0_scratch2) (Memref.isWhole_whole _)

def bodyPre (c : Dev nD) (t : Fin (C (F := F)).N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d))
    ∗ (∃ d, owns (c : Thread nD τ) (ms_12 t) fullShare ((dats m 0 c).before 12 t d))
    ∗ (∃ d, owns (c : Thread nD τ) (ms_13 t) fullShare ((dats m 0 c).before 13 t d))
    ∗ (∃ d, owns (c : Thread nD τ) (ms_14 t) fullShare ((dats m 0 c).before 14 t d))
    ∗ (∃ d, owns (c : Thread nD τ) (ms_15 t) fullShare ((dats m 0 c).before 15 t d)))

def bodyPost (c : Dev nD) (t : Fin (C (F := F)).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

set_option maxHeartbeats 2000000 in
theorem body_A (c : Dev nD) (t : Fin (C (F := F)).N)
    (hf : isFirst (kj (grid0.coords t)))
    (hb : isBelow (qi (grid0.coords t)) (kj (grid0.coords t)))
    (hd : ¬isDiag (qi (grid0.coords t)) (kj (grid0.coords t))) :
    bodyPre m c t ⊢ wp frame (wpE (defs₀ (F := F)) Variants.none c none) Set.univ (bodyAt t) (fun _ => bodyPost m c t) := by
  unfold bodyPre bodyPost
  simp only [before_0, before_1, before_2, before_3, before_4, before_5, before_6, before_7, before_8, before_9, before_10, before_11]
  rw [show (dats m 0 c).owesAt () t.succ = (dats m 0 c).owesAt () t.castSucc from rfl]
  rw [show (dats m 0 c).Φ t.succ = Inv m c (t.val + 1) from rfl, Inv_pos m c _ (Nat.succ_ne_zero _), st_succ]
  rw [show (dats m 0 c).leavesExact 0 t = owns (c : Thread nD τ) (ms_0 t) fullShare ((dats m 0 c).after 0 t) from rfl, after_0]
  rw [show (dats m 0 c).leavesExact 1 t = owns (c : Thread nD τ) (ms_1 t) fullShare ((dats m 0 c).after 1 t) from rfl, after_1]
  rw [show (dats m 0 c).leavesExact 2 t = owns (c : Thread nD τ) (ms_2 t) fullShare ((dats m 0 c).after 2 t) from rfl, after_2]
  rw [show (dats m 0 c).leavesExact 3 t = owns (c : Thread nD τ) (ms_3 t) fullShare ((dats m 0 c).after 3 t) from rfl, after_3]
  rw [show (dats m 0 c).leavesExact 4 t = owns (c : Thread nD τ) (ms_4 t) fullShare ((dats m 0 c).after 4 t) from rfl, after_4]
  rw [show (dats m 0 c).leavesExact 5 t = owns (c : Thread nD τ) (ms_5 t) fullShare ((dats m 0 c).after 5 t) from rfl, after_5]
  rw [show (dats m 0 c).leavesExact 6 t = owns (c : Thread nD τ) (ms_6 t) fullShare ((dats m 0 c).after 6 t) from rfl, after_6]
  rw [show (dats m 0 c).leavesExact 7 t = owns (c : Thread nD τ) (ms_7 t) fullShare ((dats m 0 c).after 7 t) from rfl, after_7]
  rw [show (dats m 0 c).leavesExact 8 t = owns (c : Thread nD τ) (ms_8 t) fullShare ((dats m 0 c).after 8 t) from rfl, after_8]
  rw [show (dats m 0 c).leavesExact 9 t = owns (c : Thread nD τ) (ms_9 t) fullShare ((dats m 0 c).after 9 t) from rfl, after_9]
  rw [show (dats m 0 c).leavesExact 10 t = owns (c : Thread nD τ) (ms_10 t) fullShare ((dats m 0 c).after 10 t) from rfl, after_10]
  rw [show (dats m 0 c).leavesExact 11 t = owns (c : Thread nD τ) (ms_11 t) fullShare ((dats m 0 c).after 11 t) from rfl, after_11]
  rw [Dat.leavesExact_idle (dats m 0 c) 12 t (idleAt t hd) (noFlush t hd)]
  rw [show (dats m 0 c).leavesExact 13 t = owns (c : Thread nD τ) (ms_13 t) fullShare ((dats m 0 c).after 13 t) from rfl, after_13]
  rw [show (dats m 0 c).leavesExact 14 t = owns (c : Thread nD τ) (ms_14 t) fullShare ((dats m 0 c).after 14 t) from rfl, after_14]
  rw [show (dats m 0 c).leavesExact 15 t = owns (c : Thread nD τ) (ms_15 t) fullShare ((dats m 0 c).after 15 t) from rfl, after_15]
  have R := fun d12 K => run_A c (grid0.coords t) (Memref.whole main_c) (Memref.isWhole_whole _) (Memref.whole main_c_0) (Memref.isWhole_whole _) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (Memref.whole cc0_scratch0) (Memref.isWhole_whole _) (Memref.whole cc0_scratch1) (Memref.isWhole_whole _) (Memref.whole cc0_scratch2) (Memref.isWhole_whole _)
    fullShare.right fullShare.right (tabs 0) (tabs 1) (by rw [word_col]; exact hf) (by rw [word_row, word_col]; exact hb) (by rw [word_row, word_col]; exact hd)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((dats m 0 c).before 12 t d12) Set.univ K
  simp only [word_row, word_col] at R
  rw [show (dats m 0 c).Φ t.castSucc = Inv m c t.val from rfl, tabsΦ_eq]
  have I := Inv_any m c t.val
  rw [tabsΦ_eq] at I
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  ihave HJ := I $$ HI
  icases HJ with ⟨⟨⟨S0, S1, S2⟩, Hg⟩, T0, T1⟩
  iapply (R _ _)
  isplitl [T0]; · iexact T0
  isplitl [T1]; · iexact T1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [S0]; · iexact S0
  isplitl [S1]; · iexact S1
  isplitl [S2]; · iexact S2
  iintro ⟨T0, T1, H0, H1, H2, H3, H4, H5, H6, H7, H8, H9, H10, H11, H12, H13, H14, H15, S0, S1, S2⟩
  isplitl [S0 S1 S2 Hg T0 T1]
  · isplitl [S0 S1 S2 Hg]
    · isplitl [S0 S1 S2]
      · unfold step from'
        simp only [if_pos hf, decide_eq_false hd]
        isplitl [S0]; · iexact S0
        isplitl [S1]; · iexact S1
        iexact S2
      iexact Hg
    isplitl [T0]; · iexact T0
    iexact T1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexact H13
  isplitl [H14]; · iexact H14
  iexact H15

set_option maxHeartbeats 2000000 in
theorem body_B (c : Dev nD) (t : Fin (C (F := F)).N)
    (hf : ¬isFirst (kj (grid0.coords t)))
    (hb : isBelow (qi (grid0.coords t)) (kj (grid0.coords t)))
    (hd : ¬isDiag (qi (grid0.coords t)) (kj (grid0.coords t))) :
    bodyPre m c t ⊢ wp frame (wpE (defs₀ (F := F)) Variants.none c none) Set.univ (bodyAt t) (fun _ => bodyPost m c t) := by
  unfold bodyPre bodyPost
  simp only [before_0, before_1, before_2, before_3, before_4, before_5, before_6, before_7, before_8, before_9, before_10, before_11]
  rw [show (dats m 0 c).owesAt () t.succ = (dats m 0 c).owesAt () t.castSucc from rfl]
  rw [show (dats m 0 c).Φ t.succ = Inv m c (t.val + 1) from rfl, Inv_pos m c _ (Nat.succ_ne_zero _), st_succ]
  rw [show (dats m 0 c).leavesExact 0 t = owns (c : Thread nD τ) (ms_0 t) fullShare ((dats m 0 c).after 0 t) from rfl, after_0]
  rw [show (dats m 0 c).leavesExact 1 t = owns (c : Thread nD τ) (ms_1 t) fullShare ((dats m 0 c).after 1 t) from rfl, after_1]
  rw [show (dats m 0 c).leavesExact 2 t = owns (c : Thread nD τ) (ms_2 t) fullShare ((dats m 0 c).after 2 t) from rfl, after_2]
  rw [show (dats m 0 c).leavesExact 3 t = owns (c : Thread nD τ) (ms_3 t) fullShare ((dats m 0 c).after 3 t) from rfl, after_3]
  rw [show (dats m 0 c).leavesExact 4 t = owns (c : Thread nD τ) (ms_4 t) fullShare ((dats m 0 c).after 4 t) from rfl, after_4]
  rw [show (dats m 0 c).leavesExact 5 t = owns (c : Thread nD τ) (ms_5 t) fullShare ((dats m 0 c).after 5 t) from rfl, after_5]
  rw [show (dats m 0 c).leavesExact 6 t = owns (c : Thread nD τ) (ms_6 t) fullShare ((dats m 0 c).after 6 t) from rfl, after_6]
  rw [show (dats m 0 c).leavesExact 7 t = owns (c : Thread nD τ) (ms_7 t) fullShare ((dats m 0 c).after 7 t) from rfl, after_7]
  rw [show (dats m 0 c).leavesExact 8 t = owns (c : Thread nD τ) (ms_8 t) fullShare ((dats m 0 c).after 8 t) from rfl, after_8]
  rw [show (dats m 0 c).leavesExact 9 t = owns (c : Thread nD τ) (ms_9 t) fullShare ((dats m 0 c).after 9 t) from rfl, after_9]
  rw [show (dats m 0 c).leavesExact 10 t = owns (c : Thread nD τ) (ms_10 t) fullShare ((dats m 0 c).after 10 t) from rfl, after_10]
  rw [show (dats m 0 c).leavesExact 11 t = owns (c : Thread nD τ) (ms_11 t) fullShare ((dats m 0 c).after 11 t) from rfl, after_11]
  rw [Dat.leavesExact_idle (dats m 0 c) 12 t (idleAt t hd) (noFlush t hd)]
  rw [show (dats m 0 c).leavesExact 13 t = owns (c : Thread nD τ) (ms_13 t) fullShare ((dats m 0 c).after 13 t) from rfl, after_13]
  rw [show (dats m 0 c).leavesExact 14 t = owns (c : Thread nD τ) (ms_14 t) fullShare ((dats m 0 c).after 14 t) from rfl, after_14]
  rw [show (dats m 0 c).leavesExact 15 t = owns (c : Thread nD τ) (ms_15 t) fullShare ((dats m 0 c).after 15 t) from rfl, after_15]
  have R := fun d12 K => run_B c (grid0.coords t) (Memref.whole main_c) (Memref.isWhole_whole _) (Memref.whole main_c_0) (Memref.isWhole_whole _) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (Memref.whole cc0_scratch0) (Memref.isWhole_whole _) (Memref.whole cc0_scratch1) (Memref.isWhole_whole _) (Memref.whole cc0_scratch2) (Memref.isWhole_whole _)
    fullShare.right fullShare.right (tabs 0) (tabs 1) (by rw [word_col]; exact hf) (by rw [word_row, word_col]; exact hb) (by rw [word_row, word_col]; exact hd)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((dats m 0 c).before 12 t d12) (st m c t.val).1 (st m c t.val).2.1 (st m c t.val).2.2 Set.univ K
  simp only [word_row, word_col] at R
  rw [show (dats m 0 c).Φ t.castSucc = Inv m c t.val from rfl, Inv_pos m c _ (fun h => hf (starts t h))]
  rw [tabsΦ_eq]
  iintro ⟨⟨⟨⟨S0, S1, S2⟩, Hg⟩, T0, T1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (R _ _)
  isplitl [T0]; · iexact T0
  isplitl [T1]; · iexact T1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [S0]; · iexact S0
  isplitl [S1]; · iexact S1
  isplitl [S2]; · iexact S2
  iintro ⟨T0, T1, H0, H1, H2, H3, H4, H5, H6, H7, H8, H9, H10, H11, H12, H13, H14, H15, S0, S1, S2⟩
  isplitl [S0 S1 S2 Hg T0 T1]
  · isplitl [S0 S1 S2 Hg]
    · isplitl [S0 S1 S2]
      · unfold step from'
        simp only [if_neg hf, decide_eq_false hd]
        isplitl [S0]; · iexact S0
        isplitl [S1]; · iexact S1
        iexact S2
      iexact Hg
    isplitl [T0]; · iexact T0
    iexact T1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexact H13
  isplitl [H14]; · iexact H14
  iexact H15

set_option maxHeartbeats 2000000 in
theorem body_C (c : Dev nD) (t : Fin (C (F := F)).N)
    (hf : isFirst (kj (grid0.coords t)))
    (hb : ¬isBelow (qi (grid0.coords t)) (kj (grid0.coords t)))
    (hd : isDiag (qi (grid0.coords t)) (kj (grid0.coords t))) :
    bodyPre m c t ⊢ wp frame (wpE (defs₀ (F := F)) Variants.none c none) Set.univ (bodyAt t) (fun _ => bodyPost m c t) := by
  unfold bodyPre bodyPost
  simp only [before_0, before_1, before_2, before_3, before_4, before_5, before_6, before_7, before_8, before_9, before_10, before_11]
  rw [show (dats m 0 c).owesAt () t.succ = (dats m 0 c).owesAt () t.castSucc from rfl]
  rw [show (dats m 0 c).Φ t.succ = Inv m c (t.val + 1) from rfl, Inv_pos m c _ (Nat.succ_ne_zero _), st_succ]
  rw [show (dats m 0 c).leavesExact 0 t = owns (c : Thread nD τ) (ms_0 t) fullShare ((dats m 0 c).after 0 t) from rfl, after_0]
  rw [show (dats m 0 c).leavesExact 1 t = owns (c : Thread nD τ) (ms_1 t) fullShare ((dats m 0 c).after 1 t) from rfl, after_1]
  rw [show (dats m 0 c).leavesExact 2 t = owns (c : Thread nD τ) (ms_2 t) fullShare ((dats m 0 c).after 2 t) from rfl, after_2]
  rw [show (dats m 0 c).leavesExact 3 t = owns (c : Thread nD τ) (ms_3 t) fullShare ((dats m 0 c).after 3 t) from rfl, after_3]
  rw [show (dats m 0 c).leavesExact 4 t = owns (c : Thread nD τ) (ms_4 t) fullShare ((dats m 0 c).after 4 t) from rfl, after_4]
  rw [show (dats m 0 c).leavesExact 5 t = owns (c : Thread nD τ) (ms_5 t) fullShare ((dats m 0 c).after 5 t) from rfl, after_5]
  rw [show (dats m 0 c).leavesExact 6 t = owns (c : Thread nD τ) (ms_6 t) fullShare ((dats m 0 c).after 6 t) from rfl, after_6]
  rw [show (dats m 0 c).leavesExact 7 t = owns (c : Thread nD τ) (ms_7 t) fullShare ((dats m 0 c).after 7 t) from rfl, after_7]
  rw [show (dats m 0 c).leavesExact 8 t = owns (c : Thread nD τ) (ms_8 t) fullShare ((dats m 0 c).after 8 t) from rfl, after_8]
  rw [show (dats m 0 c).leavesExact 9 t = owns (c : Thread nD τ) (ms_9 t) fullShare ((dats m 0 c).after 9 t) from rfl, after_9]
  rw [show (dats m 0 c).leavesExact 10 t = owns (c : Thread nD τ) (ms_10 t) fullShare ((dats m 0 c).after 10 t) from rfl, after_10]
  rw [show (dats m 0 c).leavesExact 11 t = owns (c : Thread nD τ) (ms_11 t) fullShare ((dats m 0 c).after 11 t) from rfl, after_11]
  rw [show (dats m 0 c).leavesExact 12 t = owns (c : Thread nD τ) (ms_12 t) fullShare ((dats m 0 c).after 12 t) from (by
    unfold Dat.leavesExact; rw [liveAt t hd]; try rfl), after_12]
  rw [show (dats m 0 c).leavesExact 13 t = owns (c : Thread nD τ) (ms_13 t) fullShare ((dats m 0 c).after 13 t) from rfl, after_13]
  rw [show (dats m 0 c).leavesExact 14 t = owns (c : Thread nD τ) (ms_14 t) fullShare ((dats m 0 c).after 14 t) from rfl, after_14]
  rw [show (dats m 0 c).leavesExact 15 t = owns (c : Thread nD τ) (ms_15 t) fullShare ((dats m 0 c).after 15 t) from rfl, after_15]
  have R := fun K => run_C c (grid0.coords t) (Memref.whole main_c) (Memref.isWhole_whole _) (Memref.whole main_c_0) (Memref.isWhole_whole _) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (Memref.whole cc0_scratch0) (Memref.isWhole_whole _) (Memref.whole cc0_scratch1) (Memref.isWhole_whole _) (Memref.whole cc0_scratch2) (Memref.isWhole_whole _)
    fullShare.right fullShare.right (tabs 0) (tabs 1) (by rw [word_col]; exact hf) (by rw [word_row, word_col]; exact hb) (by rw [word_row, word_col]; exact hd)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Set.univ K
  simp only [word_row, word_col] at R
  rw [show (dats m 0 c).Φ t.castSucc = Inv m c t.val from rfl, tabsΦ_eq]
  have I := Inv_any m c t.val
  rw [tabsΦ_eq] at I
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  ihave HJ := I $$ HI
  icases HJ with ⟨⟨⟨S0, S1, S2⟩, Hg⟩, T0, T1⟩
  iapply (R _)
  isplitl [T0]; · iexact T0
  isplitl [T1]; · iexact T1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [S0]; · iexact S0
  isplitl [S1]; · iexact S1
  isplitl [S2]; · iexact S2
  iintro ⟨T0, T1, H0, H1, H2, H3, H4, H5, H6, H7, H8, H9, H10, H11, H12, H13, H14, H15, S0, S1, S2⟩
  isplitl [S0 S1 S2 Hg T0 T1]
  · isplitl [S0 S1 S2 Hg]
    · isplitl [S0 S1 S2]
      · unfold step from'
        simp only [if_pos hf, decide_eq_true hd]
        isplitl [S0]; · iexact S0
        isplitl [S1]; · iexact S1
        iexact S2
      iexact Hg
    isplitl [T0]; · iexact T0
    iexact T1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold outO
    rw [st_succ]
    unfold step from'
    simp only [if_pos hf, decide_eq_true hd]
    iexact H12
  isplitl [H13]; · iexact H13
  isplitl [H14]; · iexact H14
  iexact H15

set_option maxHeartbeats 2000000 in
theorem body_D (c : Dev nD) (t : Fin (C (F := F)).N)
    (hf : ¬isFirst (kj (grid0.coords t)))
    (hb : ¬isBelow (qi (grid0.coords t)) (kj (grid0.coords t)))
    (hd : isDiag (qi (grid0.coords t)) (kj (grid0.coords t))) :
    bodyPre m c t ⊢ wp frame (wpE (defs₀ (F := F)) Variants.none c none) Set.univ (bodyAt t) (fun _ => bodyPost m c t) := by
  unfold bodyPre bodyPost
  simp only [before_0, before_1, before_2, before_3, before_4, before_5, before_6, before_7, before_8, before_9, before_10, before_11]
  rw [show (dats m 0 c).owesAt () t.succ = (dats m 0 c).owesAt () t.castSucc from rfl]
  rw [show (dats m 0 c).Φ t.succ = Inv m c (t.val + 1) from rfl, Inv_pos m c _ (Nat.succ_ne_zero _), st_succ]
  rw [show (dats m 0 c).leavesExact 0 t = owns (c : Thread nD τ) (ms_0 t) fullShare ((dats m 0 c).after 0 t) from rfl, after_0]
  rw [show (dats m 0 c).leavesExact 1 t = owns (c : Thread nD τ) (ms_1 t) fullShare ((dats m 0 c).after 1 t) from rfl, after_1]
  rw [show (dats m 0 c).leavesExact 2 t = owns (c : Thread nD τ) (ms_2 t) fullShare ((dats m 0 c).after 2 t) from rfl, after_2]
  rw [show (dats m 0 c).leavesExact 3 t = owns (c : Thread nD τ) (ms_3 t) fullShare ((dats m 0 c).after 3 t) from rfl, after_3]
  rw [show (dats m 0 c).leavesExact 4 t = owns (c : Thread nD τ) (ms_4 t) fullShare ((dats m 0 c).after 4 t) from rfl, after_4]
  rw [show (dats m 0 c).leavesExact 5 t = owns (c : Thread nD τ) (ms_5 t) fullShare ((dats m 0 c).after 5 t) from rfl, after_5]
  rw [show (dats m 0 c).leavesExact 6 t = owns (c : Thread nD τ) (ms_6 t) fullShare ((dats m 0 c).after 6 t) from rfl, after_6]
  rw [show (dats m 0 c).leavesExact 7 t = owns (c : Thread nD τ) (ms_7 t) fullShare ((dats m 0 c).after 7 t) from rfl, after_7]
  rw [show (dats m 0 c).leavesExact 8 t = owns (c : Thread nD τ) (ms_8 t) fullShare ((dats m 0 c).after 8 t) from rfl, after_8]
  rw [show (dats m 0 c).leavesExact 9 t = owns (c : Thread nD τ) (ms_9 t) fullShare ((dats m 0 c).after 9 t) from rfl, after_9]
  rw [show (dats m 0 c).leavesExact 10 t = owns (c : Thread nD τ) (ms_10 t) fullShare ((dats m 0 c).after 10 t) from rfl, after_10]
  rw [show (dats m 0 c).leavesExact 11 t = owns (c : Thread nD τ) (ms_11 t) fullShare ((dats m 0 c).after 11 t) from rfl, after_11]
  rw [show (dats m 0 c).leavesExact 12 t = owns (c : Thread nD τ) (ms_12 t) fullShare ((dats m 0 c).after 12 t) from (by
    unfold Dat.leavesExact; rw [liveAt t hd]; try rfl), after_12]
  rw [show (dats m 0 c).leavesExact 13 t = owns (c : Thread nD τ) (ms_13 t) fullShare ((dats m 0 c).after 13 t) from rfl, after_13]
  rw [show (dats m 0 c).leavesExact 14 t = owns (c : Thread nD τ) (ms_14 t) fullShare ((dats m 0 c).after 14 t) from rfl, after_14]
  rw [show (dats m 0 c).leavesExact 15 t = owns (c : Thread nD τ) (ms_15 t) fullShare ((dats m 0 c).after 15 t) from rfl, after_15]
  have R := fun K => run_D c (grid0.coords t) (Memref.whole main_c) (Memref.isWhole_whole _) (Memref.whole main_c_0) (Memref.isWhole_whole _) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (Memref.whole cc0_scratch0) (Memref.isWhole_whole _) (Memref.whole cc0_scratch1) (Memref.isWhole_whole _) (Memref.whole cc0_scratch2) (Memref.isWhole_whole _)
    fullShare.right fullShare.right (tabs 0) (tabs 1) (by rw [word_col]; exact hf) (by rw [word_row, word_col]; exact hb) (by rw [word_row, word_col]; exact hd)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (st m c t.val).1 (st m c t.val).2.1 (st m c t.val).2.2 Set.univ K
  simp only [word_row, word_col] at R
  rw [show (dats m 0 c).Φ t.castSucc = Inv m c t.val from rfl, Inv_pos m c _ (fun h => hf (starts t h))]
  rw [tabsΦ_eq]
  iintro ⟨⟨⟨⟨S0, S1, S2⟩, Hg⟩, T0, T1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (R _)
  isplitl [T0]; · iexact T0
  isplitl [T1]; · iexact T1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [S0]; · iexact S0
  isplitl [S1]; · iexact S1
  isplitl [S2]; · iexact S2
  iintro ⟨T0, T1, H0, H1, H2, H3, H4, H5, H6, H7, H8, H9, H10, H11, H12, H13, H14, H15, S0, S1, S2⟩
  isplitl [S0 S1 S2 Hg T0 T1]
  · isplitl [S0 S1 S2 Hg]
    · isplitl [S0 S1 S2]
      · unfold step from'
        simp only [if_neg hf, decide_eq_true hd]
        isplitl [S0]; · iexact S0
        isplitl [S1]; · iexact S1
        iexact S2
      iexact Hg
    isplitl [T0]; · iexact T0
    iexact T1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold outO
    rw [st_succ]
    unfold step from'
    simp only [if_neg hf, decide_eq_true hd]
    iexact H12
  isplitl [H13]; · iexact H13
  isplitl [H14]; · iexact H14
  iexact H15

end Cert.AttnIdeal.Flash

end
-- ==== Proof.AttnIdealLaunch.lean ====
module

public import proofs.«01_k».proof.Proof.AttnIdealFrame

@[expose] public section

set_option maxRecDepth 16384

noncomputable section

namespace Cert.AttnIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.AttnIdeal Cert.AttnIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem sound_body (c : Dev nD) (t : Fin (C (F := F)).N) :
    bodyPre m c t ⊢ wp frame (wpE (defs₀ (F := F)) Variants.none c none) Set.univ (bodyAt t) (fun _ => bodyPost m c t) := by
  by_cases hf : isFirst (kj (grid0.coords t)) <;> rcases one_of t with ⟨hb, hd⟩ | ⟨hb, hd⟩
  · exact body_A m c t hf hb hd
  · exact body_C m c t hf hb hd
  · exact body_B m c t hf hb hd
  · exact body_D m c t hf hb hd

theorem defs₀_row (t : Fin (C (F := F)).N) :
    defs₀ (F := F) .tc (C (F := F)).body ((C (F := F)).bodyArgs t ((C (F := F)).slots t)) = bodyAt t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : iprop(Pipeline.ΦA spec0 c ∗ Pipeline.ΦT pre0 (tabs (F := F)) c) ⊢ (dats m 0 c).Φ 0 := .rfl

theorem hout (c : Dev nD) : (dats m 0 c).Φ (Fin.last (C (F := F)).N) ⊢ Pipeline.ΦA spec0 c := by
  rw [show (dats m 0 c).Φ (Fin.last (C (F := F)).N) = Inv m c (C (F := F)).N from rfl]
  refine (Inv_any m c _).trans ?_
  rw [ΦA_eq]
  iintro ⟨H, -⟩
  iexact H

theorem hpf (c : Dev nD) : ∀ k : Fin 2, V m c (pre0.ref k) = tabs (F := F) k := fun
  | 0 => V_row m c
  | 1 => V_col m c
  | ⟨_ + 2, h⟩ => absurd h (Nat.not_lt.2 (Nat.le_add_left _ _))

/-! ## The launch -/

theorem hmain : Pipeline.HMainP (Ix := Unit) (Name := ℕ) (U := UR sig nD τ) (Lvl := ℕ) (pcfgs (F := F)) 0 defs₀ Variants.none m main (V m) :=
  Pipeline.hmainP_prefix pcfgs 0 defs₀ Variants.none m main hostOps0 hostOps0_sub hostOps0_fresh main_chain

set_option backward.isDefEq.respectTransparency.types false in
/-- Every execution ends with the arrays at what the proof data say, and all counters at zero. -/
theorem run_main : θ_run defs (onTc (τ := τ) (main (F := F))) (s₀ m ρ)
    (fun r => Pipeline.FramePost (Pipeline.pin (pcfgs (F := F)) adms) (dats m) 0 (V m) r ∧ r.2.sem = fun _ => 0) :=
  Pipeline.θ_run_frameP_track_shared (Q' := _) pcfgs adms (dats m) (0 : Fin 1) launch₀0 defs₀ Variants.none m ρ main
    (hbody := fun c => (body_obligation m c).loose) (hq := fun _ _ _ => rfl) (howed := fun _ _ => rfl) (V := V m)
    (hmain := hmain m) (hA := A_eq m) (hpf := hpf m) (hin := hin m) (hout := hout m)

theorem unwritten_0 : main_arg0 ∉ written := by decide
theorem rest_0 : main_arg0 ∈ Pipeline.restRefs sig spec0 := by decide
theorem kept_0 (r) (h : Pipeline.FramePost (Pipeline.pin (pcfgs (F := F)) adms) (dats m) 0 (V m) r) (c : Dev nD) :
    r.2.mem ((c.tc : Thread nD τ).loc main_arg0) = m ((c.tc : Thread nD τ).loc main_arg0) :=
  ((h c).2 main_arg0 rest_0).trans (V_of_unwritten m c main_arg0 unwritten_0)
theorem unwritten_1 : main_arg1 ∉ written := by decide
theorem rest_1 : main_arg1 ∈ Pipeline.restRefs sig spec0 := by decide
theorem kept_1 (r) (h : Pipeline.FramePost (Pipeline.pin (pcfgs (F := F)) adms) (dats m) 0 (V m) r) (c : Dev nD) :
    r.2.mem ((c.tc : Thread nD τ).loc main_arg1) = m ((c.tc : Thread nD τ).loc main_arg1) :=
  ((h c).2 main_arg1 rest_1).trans (V_of_unwritten m c main_arg1 unwritten_1)
theorem unwritten_2 : main_arg2 ∉ written := by decide
theorem rest_2 : main_arg2 ∈ Pipeline.restRefs sig spec0 := by decide
theorem kept_2 (r) (h : Pipeline.FramePost (Pipeline.pin (pcfgs (F := F)) adms) (dats m) 0 (V m) r) (c : Dev nD) :
    r.2.mem ((c.tc : Thread nD τ).loc main_arg2) = m ((c.tc : Thread nD τ).loc main_arg2) :=
  ((h c).2 main_arg2 rest_2).trans (V_of_unwritten m c main_arg2 unwritten_2)
theorem unwritten_3 : main_arg3 ∉ written := by decide
theorem kept_3 (r) (h : Pipeline.FramePost (Pipeline.pin (pcfgs (F := F)) adms) (dats m) 0 (V m) r) (c : Dev nD) :
    r.2.mem ((c.tc : Thread nD τ).loc main_arg3) = m ((c.tc : Thread nD τ).loc main_arg3) :=
  (((h c).1 4).trans ((dats m 0 c).arrAt_in 4 rfl _)).trans ((A_eq m c 4).trans (V_of_unwritten m c main_arg3 unwritten_3))
theorem unwritten_4 : main_arg4 ∉ written := by decide
theorem kept_4 (r) (h : Pipeline.FramePost (Pipeline.pin (pcfgs (F := F)) adms) (dats m) 0 (V m) r) (c : Dev nD) :
    r.2.mem ((c.tc : Thread nD τ).loc main_arg4) = m ((c.tc : Thread nD τ).loc main_arg4) :=
  (((h c).1 5).trans ((dats m 0 c).arrAt_in 5 rfl _)).trans ((A_eq m c 5).trans (V_of_unwritten m c main_arg4 unwritten_4))
theorem unwritten_5 : main_arg5 ∉ written := by decide
theorem kept_5 (r) (h : Pipeline.FramePost (Pipeline.pin (pcfgs (F := F)) adms) (dats m) 0 (V m) r) (c : Dev nD) :
    r.2.mem ((c.tc : Thread nD τ).loc main_arg5) = m ((c.tc : Thread nD τ).loc main_arg5) :=
  (((h c).1 6).trans ((dats m 0 c).arrAt_in 6 rfl _)).trans ((A_eq m c 6).trans (V_of_unwritten m c main_arg5 unwritten_5))
theorem unwritten_6 : main_arg6 ∉ written := by decide
theorem kept_6 (r) (h : Pipeline.FramePost (Pipeline.pin (pcfgs (F := F)) adms) (dats m) 0 (V m) r) (c : Dev nD) :
    r.2.mem ((c.tc : Thread nD τ).loc main_arg6) = m ((c.tc : Thread nD τ).loc main_arg6) :=
  (((h c).1 7).trans ((dats m 0 c).arrAt_in 7 rfl _)).trans ((A_eq m c 7).trans (V_of_unwritten m c main_arg6 unwritten_6))
theorem unwritten_7 : main_arg7 ∉ written := by decide
theorem kept_7 (r) (h : Pipeline.FramePost (Pipeline.pin (pcfgs (F := F)) adms) (dats m) 0 (V m) r) (c : Dev nD) :
    r.2.mem ((c.tc : Thread nD τ).loc main_arg7) = m ((c.tc : Thread nD τ).loc main_arg7) :=
  (((h c).1 8).trans ((dats m 0 c).arrAt_in 8 rfl _)).trans ((A_eq m c 8).trans (V_of_unwritten m c main_arg7 unwritten_7))
theorem unwritten_8 : main_arg8 ∉ written := by decide
theorem kept_8 (r) (h : Pipeline.FramePost (Pipeline.pin (pcfgs (F := F)) adms) (dats m) 0 (V m) r) (c : Dev nD) :
    r.2.mem ((c.tc : Thread nD τ).loc main_arg8) = m ((c.tc : Thread nD τ).loc main_arg8) :=
  (((h c).1 9).trans ((dats m 0 c).arrAt_in 9 rfl _)).trans ((A_eq m c 9).trans (V_of_unwritten m c main_arg8 unwritten_8))
theorem unwritten_9 : main_arg9 ∉ written := by decide
theorem kept_9 (r) (h : Pipeline.FramePost (Pipeline.pin (pcfgs (F := F)) adms) (dats m) 0 (V m) r) (c : Dev nD) :
    r.2.mem ((c.tc : Thread nD τ).loc main_arg9) = m ((c.tc : Thread nD τ).loc main_arg9) :=
  (((h c).1 10).trans ((dats m 0 c).arrAt_in 10 rfl _)).trans ((A_eq m c 10).trans (V_of_unwritten m c main_arg9 unwritten_9))
theorem unwritten_10 : main_arg10 ∉ written := by decide
theorem kept_10 (r) (h : Pipeline.FramePost (Pipeline.pin (pcfgs (F := F)) adms) (dats m) 0 (V m) r) (c : Dev nD) :
    r.2.mem ((c.tc : Thread nD τ).loc main_arg10) = m ((c.tc : Thread nD τ).loc main_arg10) :=
  (((h c).1 11).trans ((dats m 0 c).arrAt_in 11 rfl _)).trans ((A_eq m c 11).trans (V_of_unwritten m c main_arg10 unwritten_10))

/-- The arguments end unchanged, the counters at zero. -/
theorem frame : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10))
      ∧ r.2.sem = fun _ => 0) :=
  (θ_run defs _ _).mono (fun r h => ⟨fun c => ⟨kept_0 m r h.1 c, kept_1 m r h.1 c, kept_2 m r h.1 c, kept_3 m r h.1 c, kept_4 m r h.1 c, kept_5 m r h.1 c, kept_6 m r h.1 c, kept_7 m r h.1 c, kept_8 m r h.1 c, kept_9 m r h.1 c, kept_10 m r h.1 c⟩, h.2⟩) (run_main m ρ)

end Cert.AttnIdeal.Flash

end
-- ==== Proof.AttnMath.lean ====
module

public import Idealize.ShloMosaic.Lib.Pipeline.ValueKit
public import Idealize.ShloMosaic.Lib.Pointwise

@[expose] public section

set_option maxRecDepth 16384

noncomputable section

namespace Cert.AttnMath

open Idealize.ShloMosaic

/-! ## The running softmax of one row, over the extended reals -/

/-- The greatest of finitely many entries that are real or minus infinity, one of them real, is real. -/
theorem sup_real {N : ℕ} (S : Fin N → EReal) (hlt : ∀ b, S b ≠ ⊤) (b0 : Fin N) (hb : S b0 ≠ ⊥) :
    ∃ s : ℝ, (Finset.univ.sup S) = (s : EReal) := by
  have h1 : Finset.univ.sup S ≠ ⊤ := ne_of_lt ((Finset.sup_lt_iff bot_lt_top).2 fun b _ => lt_top_iff_ne_top.2 (hlt b))
  have h2 : Finset.univ.sup S ≠ ⊥ := fun h => hb (le_bot_iff.1 (h ▸ Finset.le_sup (Finset.mem_univ b0)))
  exact ⟨_, (EReal.coe_toReal h1 h2).symm⟩

theorem coe_sum {ι : Type*} (s : Finset ι) (f : ι → ℝ) : ((∑ x ∈ s, f x : ℝ) : EReal) = ∑ x ∈ s, (f x : EReal) := by
  classical
  induction s using Finset.induction_on with
  | empty => simp
  | insert a s h ih => rw [Finset.sum_insert h, Finset.sum_insert h, EReal.coe_add, ih]

/-- A sum over the first entries of a tile. -/
theorem sum_first {N : ℕ} (c : ℕ) (hc : c ≤ N) (f : ℕ → ℝ) :
    ∑ b : Fin N, (if b.val < c then f b.val else 0) = ∑ b ∈ Finset.range c, f b := by
  rw [Fin.sum_univ_eq_sum_range (fun b => if b < c then f b else 0) N]
  rw [← Finset.sum_filter]
  congr 1
  ext b
  simp only [Finset.mem_filter, Finset.mem_range]
  omega

/-- What the three scratch entries of a row hold after the first `n` keys: nothing yet, or the sums of the
    exponentials and of the weighted values, both scaled by the same real. -/
def Good (U : ℕ → ℝ) (v : ℕ → Fin 256 → ℝ) (n : ℕ) (M L : EReal) (A : Fin 256 → EReal) : Prop :=
  (n = 0 ∧ M = ⊥ ∧ L = 0 ∧ ∀ e, A e = 0) ∨
  ∃ m : ℝ, M = (m : EReal) ∧ L = ((∑ x ∈ Finset.range n, (2 : ℝ) ^ (U x - m) : ℝ) : EReal)
    ∧ ∀ e, A e = ((∑ x ∈ Finset.range n, (2 : ℝ) ^ (U x - m) * v x e : ℝ) : EReal)

theorem exp2_sub (a b : ℝ) : Ideal.exp2 ((a : EReal) - (b : EReal)) = (((2 : ℝ) ^ (a - b) : ℝ) : EReal) := by
  rw [← EReal.coe_sub]; rfl

/-- One tile takes the row's sums from its first `n` keys to its first `n + c`. -/
theorem step (U : ℕ → ℝ) (v : ℕ → Fin 256 → ℝ) (n c : ℕ) (hc : 0 < c) (hc' : c ≤ 768) (S : Fin 768 → EReal) (sh : ℝ)
    (hS : ∀ b : Fin 768, S b = if b.val < c then ((U (n + b.val) - sh : ℝ) : EReal) else ⊥)
    (W : Fin 768 → Fin 256 → EReal) (hW : ∀ (b : Fin 768) e, W b e = ((v (n + b.val) e : ℝ) : EReal))
    (M L : EReal) (A : Fin 256 → EReal) (hG : Good U v n M L A) (M' : EReal) (hM' : M' = max M (Finset.univ.sup S + (sh : EReal))) :
    Good U v (n + c) M' (Ideal.exp2 (M - M') * L + ∑ b : Fin 768, Ideal.exp2 (S b - (M' - (sh : EReal))))
      (fun e => Ideal.exp2 (M - M') * A e + ∑ b : Fin 768, Ideal.exp2 (S b - (M' - (sh : EReal))) * W b e) := by
  obtain ⟨s, hs⟩ := sup_real S (fun b => by rw [hS]; split; exact EReal.coe_ne_top _; exact bot_ne_top) ⟨0, by omega⟩ (by rw [hS, if_pos hc]; exact EReal.coe_ne_bot _)
  obtain ⟨mn, hmn⟩ : ∃ mn : ℝ, M' = (mn : EReal) := by
    rw [hM', hs, ← EReal.coe_add]
    rcases hG with ⟨-, rfl, -⟩ | ⟨m, rfl, -⟩
    · exact ⟨_, max_eq_right bot_le⟩
    · exact ⟨max m (s + sh), (EReal.coe_strictMono.monotone.map_max).symm⟩
  clear hM'
  subst hmn
  have hE : ∀ b : Fin 768, Ideal.exp2 (S b - ((mn : EReal) - (sh : EReal)))
      = ((if b.val < c then (2 : ℝ) ^ (U (n + b.val) - mn) else 0 : ℝ) : EReal) := by
    intro b
    rw [hS, ← EReal.coe_sub]
    split
    · rw [exp2_sub]; congr 2; ring
    · simp [EReal.bot_sub]
  have hsum : ∑ b : Fin 768, Ideal.exp2 (S b - ((mn : EReal) - (sh : EReal)))
      = ((∑ b ∈ Finset.range c, (2 : ℝ) ^ (U (n + b) - mn) : ℝ) : EReal) := by
    rw [← sum_first c hc' (fun b => (2 : ℝ) ^ (U (n + b) - mn)), coe_sum]
    exact Finset.sum_congr rfl fun b _ => hE b
  have hsumA : ∀ e, ∑ b : Fin 768, Ideal.exp2 (S b - ((mn : EReal) - (sh : EReal))) * W b e
      = ((∑ b ∈ Finset.range c, (2 : ℝ) ^ (U (n + b) - mn) * v (n + b) e : ℝ) : EReal) := by
    intro e
    rw [← sum_first c hc' (fun b => (2 : ℝ) ^ (U (n + b) - mn) * v (n + b) e), coe_sum]
    refine Finset.sum_congr rfl fun b _ => ?_
    rw [hE b, hW, ← EReal.coe_mul]
    congr 1
    split <;> simp
  refine Or.inr ⟨mn, rfl, ?_, fun e => ?_⟩
  · rw [hsum]
    rcases hG with ⟨rfl, rfl, rfl, -⟩ | ⟨m, rfl, rfl, -⟩
    · simp
    · rw [exp2_sub, ← EReal.coe_mul, ← EReal.coe_add, Finset.sum_range_add, Finset.mul_sum]
      congr 2
      refine Finset.sum_congr rfl fun x _ => ?_
      rw [← Real.rpow_add (by norm_num)]; congr 1; ring
  · show _ * A e + _ = _
    rw [hsumA]
    rcases hG with ⟨rfl, rfl, -, h⟩ | ⟨m, rfl, -, h⟩
    · rw [h]; simp
    · rw [h, exp2_sub, ← EReal.coe_mul, ← EReal.coe_add, Finset.sum_range_add, Finset.mul_sum]
      congr 2
      refine Finset.sum_congr rfl fun x _ => ?_
      rw [← mul_assoc, ← Real.rpow_add (by norm_num)]; congr 2; ring

/-- The sums of `n` weighted values by their weights. -/
def soft (Z : ℕ → ℝ) (v : ℕ → ℝ) (n : ℕ) : ℝ :=
  (∑ x ∈ Finset.range n, Real.exp (Z x) * v x) / ∑ x ∈ Finset.range n, Real.exp (Z x)

theorem den_pos (Z : ℕ → ℝ) {n : ℕ} (hn : 0 < n) : 0 < ∑ x ∈ Finset.range n, Real.exp (Z x) :=
  Finset.sum_pos (fun x _ => Real.exp_pos _) ⟨0, Finset.mem_range.2 hn⟩

/-- A real quotient. -/
theorem div_real (a b : ℝ) (h : b ≠ 0) : Ideal.div (a : EReal) (b : EReal) = ((a / b : ℝ) : EReal) := by
  rw [Ideal.div_coe h, ← EReal.coe_mul]; congr 1; ring

/-- The quotient of a row's sums is the softmax's mean of the values, in base `e`. -/
theorem Good.quot {U : ℕ → ℝ} {v : ℕ → Fin 256 → ℝ} {n : ℕ} {M L : EReal} {A : Fin 256 → EReal} (h : Good U v n M L A) (hn : 0 < n)
    (Z : ℕ → ℝ) (d : ℝ) (hZ : ∀ x < n, U x * Real.log 2 = Z x + d) (e : Fin 256) :
    Ideal.div (A e) L = ((soft Z (fun x => v x e) n : ℝ) : EReal) := by
  rcases h with ⟨h0, -⟩ | ⟨m, -, hL, hA⟩
  · omega
  · have key : ∀ x ∈ Finset.range n, (2 : ℝ) ^ (U x - m) = Real.exp (Z x) * Real.exp (d - m * Real.log 2) := by
      intro x hx
      rw [Real.rpow_def_of_pos (by norm_num), ← Real.exp_add]
      congr 1
      have := hZ x (Finset.mem_range.1 hx)
      linear_combination this
    have e1 : ∑ x ∈ Finset.range n, (2 : ℝ) ^ (U x - m) = (∑ x ∈ Finset.range n, Real.exp (Z x)) * Real.exp (d - m * Real.log 2) := by
      rw [Finset.sum_mul]; exact Finset.sum_congr rfl key
    have e2 : ∑ x ∈ Finset.range n, (2 : ℝ) ^ (U x - m) * v x e = (∑ x ∈ Finset.range n, Real.exp (Z x) * v x e) * Real.exp (d - m * Real.log 2) := by
      rw [Finset.sum_mul]; refine Finset.sum_congr rfl fun x hx => ?_
      rw [key x hx]; ring
    rw [hA, hL, e1, e2, div_real _ _ (mul_ne_zero (den_pos Z hn).ne' (Real.exp_pos _).ne')]
    rw [soft, mul_div_mul_right _ _ (Real.exp_pos _).ne']

theorem exp_sub (a b : ℝ) : Ideal.exp ((a : EReal) - (b : EReal)) = ((Real.exp (a - b) : ℝ) : EReal) := by
  rw [← EReal.coe_sub]; rfl

/-- One probability of a masked softmax. -/
theorem prob {N n : ℕ} (hn : 0 < n) (hN : n ≤ N) (Z : ℕ → ℝ) (S : Fin N → EReal)
    (hS : ∀ b : Fin N, S b = if b.val < n then ((Z b.val : ℝ) : EReal) else ⊥) (x : Fin N) :
    Ideal.div (Ideal.exp (S x - Finset.univ.sup S)) (∑ y, Ideal.exp (S y - Finset.univ.sup S))
      = ((if x.val < n then Real.exp (Z x.val) / ∑ y ∈ Finset.range n, Real.exp (Z y) else 0 : ℝ) : EReal) := by
  obtain ⟨s, hs⟩ := sup_real S (fun b => by rw [hS]; split; exact EReal.coe_ne_top _; exact bot_ne_top) ⟨0, by omega⟩ (by rw [hS, if_pos hn]; exact EReal.coe_ne_bot _)
  rw [hs]
  have hE : ∀ b : Fin N, Ideal.exp (S b - (s : EReal)) = ((if b.val < n then Real.exp (Z b.val - s) else 0 : ℝ) : EReal) := by
    intro b
    rw [hS]
    split
    · rw [exp_sub]
    · simp [EReal.bot_sub]
  have hsum : ∑ y : Fin N, Ideal.exp (S y - (s : EReal)) = (((∑ y ∈ Finset.range n, Real.exp (Z y)) * Real.exp (-s) : ℝ) : EReal) := by
    rw [Finset.sum_congr rfl fun b _ => hE b, ← coe_sum, sum_first n hN (fun b => Real.exp (Z b - s)), Finset.sum_mul]
    congr 1
    refine Finset.sum_congr rfl fun y _ => ?_
    rw [← Real.exp_add]; congr 1
  rw [hsum, hE, div_real _ _ (mul_ne_zero (den_pos Z hn).ne' (Real.exp_pos _).ne')]
  congr 1
  split
  · rw [sub_eq_add_neg, Real.exp_add, mul_div_mul_right _ _ (Real.exp_pos _).ne']
  · simp

/-- The difference of two masked softmaxes applied to the values. -/
theorem diff {N n : ℕ} (hN : n ≤ N) (Z0 Z1 : ℕ → ℝ) (lam : ℝ) (P0 P1 W : Fin N → EReal) (v : ℕ → ℝ)
    (h0 : ∀ x, P0 x = ((if x.val < n then Real.exp (Z0 x.val) / ∑ y ∈ Finset.range n, Real.exp (Z0 y) else 0 : ℝ) : EReal))
    (h1 : ∀ x, P1 x = ((if x.val < n then Real.exp (Z1 x.val) / ∑ y ∈ Finset.range n, Real.exp (Z1 y) else 0 : ℝ) : EReal))
    (hW : ∀ x, W x = ((v x.val : ℝ) : EReal)) :
    ∑ x, (P0 x - (lam : EReal) * P1 x) * W x = ((soft Z0 v n - lam * soft Z1 v n : ℝ) : EReal) := by
  have e1 : ∀ x : Fin N, (P0 x - (lam : EReal) * P1 x) * W x
      = ((if x.val < n then (Real.exp (Z0 x.val) / (∑ y ∈ Finset.range n, Real.exp (Z0 y)) - lam * (Real.exp (Z1 x.val) / ∑ y ∈ Finset.range n, Real.exp (Z1 y))) * v x.val else 0 : ℝ) : EReal) := by
    intro x
    rw [h0, h1, hW, ← EReal.coe_mul, ← EReal.coe_sub, ← EReal.coe_mul]
    congr 1
    split <;> simp
  rw [Finset.sum_congr rfl fun x _ => e1 x, ← coe_sum,
    sum_first n hN (fun x => (Real.exp (Z0 x) / (∑ y ∈ Finset.range n, Real.exp (Z0 y)) - lam * (Real.exp (Z1 x) / ∑ y ∈ Finset.range n, Real.exp (Z1 y))) * v x)]
  congr 1
  rw [soft, soft, Finset.sum_div, Finset.sum_div, Finset.mul_sum, ← Finset.sum_sub_distrib]
  refine Finset.sum_congr rfl fun x _ => ?_
  ring

/-- A product sum of real entries. -/
theorem dot_real {ι : Type*} [Fintype ι] (f g : ι → EReal) (f' g' : ι → ℝ) (hf : ∀ x, f x = (f' x : EReal)) (hg : ∀ x, g x = (g' x : EReal)) :
    ∑ x, f x * g x = ((∑ x, f' x * g' x : ℝ) : EReal) := by
  rw [coe_sum]; exact Finset.sum_congr rfl fun x _ => by rw [hf, hg, EReal.coe_mul]

end Cert.AttnMath

end
-- ==== Proof.AttnRefPure.lean ====
module

public import proofs.«01_k».proof.Proof.Gen.AttnRefIdeal.Run
public import proofs.«01_k».proof.Proof.AttnMath
public import Idealize.ShloMosaic.Lib.Pipeline.ValueKit
public import Idealize.ShloMosaic.Lib.Pointwise
public import Idealize.ShloMosaic.Lib.WordCmp

@[expose] public section

set_option maxRecDepth 16384

noncomputable section

namespace Cert.AttnRefIdeal.Pure

open Cert.AttnRefIdeal Cert.AttnRefIdeal.Gen Idealize.ShloMosaic Idealize.ShloMosaic.TcCoe Idealize.SL.Sem

section Terms
variable {F : FTy → Type} [FloatOps F]

/-- The masked scores. -/
def rS (Q K : FVec F S8448x1024 .f32) : FVec F S4x2x8448x8448 .f32 :=
  (select (broadcastInDim S4x2x8448x8448 ![2, 3] bcast_S8448x8448_S4x2x8448x8448_2_3 (cmpi .sle (broadcastInDim S8448x8448 ![0, 1] bcast_S1x8448_S8448x8448_0_1 (broadcastInDim S1x8448 ![1] bcast_S8448_S1x8448_1 (iotaInDim S8448 32 0))) (broadcastInDim S8448x8448 ![0, 1] bcast_S8448x1_S8448x8448_0_1 (broadcastInDim S8448x1 ![0] bcast_S8448_S8448x1_0 (iotaInDim S8448 32 0))))) (subf (mulf (Host.dotGeneral dot_S8448x4x2x128_S8448x4x2x128_S4x2x8448x8448_3_3_0_0_12_12 none (shapeCast _ Q shapeCasts_S8448x1024_S8448x4x2x128) (shapeCast _ K shapeCasts_S8448x1024_S8448x4x2x128)) (broadcastInDim S4x2x8448x8448 ![] bcast_S_S4x2x8448x8448 (constant S_ .f32 0x3DB504F3#32))) (broadcastInDim S4x2x8448x8448 ![0, 1, 2, 3] bcast_S4x1x8448x8448_S4x2x8448x8448_0_1_2_3 (mulf (broadcastInDim S4x1x8448x8448 ![0, 1, 2, 3] bcast_S4x1x1x1_S4x1x8448x8448_0_1_2_3 (broadcastInDim S4x1x1x1 ![0] bcast_S4_S4x1x1x1_0 ((fun i => FloatOps.ofBits .f32 (lit0 (S4.rowMajor i)))))) (broadcastInDim S4x1x8448x8448 ![0, 1, 2, 3] bcast_S1x1x8448x8448_S4x1x8448x8448_0_1_2_3 (broadcastInDim S1x1x8448x8448 ![2, 3] bcast_S8448x8448_S1x1x8448x8448_2_3 (sitofp .f32 (subi (broadcastInDim S8448x8448 ![0, 1] bcast_S8448x1_S8448x8448_0_1 (broadcastInDim S8448x1 ![0] bcast_S8448_S8448x1_0 (iotaInDim S8448 32 0))) (broadcastInDim S8448x8448 ![0, 1] bcast_S1x8448_S8448x8448_0_1 (broadcastInDim S1x8448 ![1] bcast_S8448_S1x8448_1 (iotaInDim S8448 32 0)))))))))) (broadcastInDim S4x2x8448x8448 ![] bcast_S_S4x2x8448x8448 (constant S_ .f32 0xFF800000#32)))

/-- Their exponentials, each row's maximum taken off. -/
def rE (Q K : FVec F S8448x1024 .f32) : FVec F S4x2x8448x8448 .f32 :=
  (Host.exp (subf (rS Q K) (broadcastInDim S4x2x8448x8448 ![0, 1, 2, 3] bcast_S4x2x8448x1_S4x2x8448x8448_0_1_2_3 (broadcastInDim S4x2x8448x1 ![0, 1, 2] bcast_S4x2x8448_S4x2x8448x1_0_1_2 (Host.reduce FloatOps.maximumf (rS Q K) (constant S_ .f32 0xFF800000#32) reducesTo_S4x2x8448x8448_S4x2x8448_d3 h_S_)))))

/-- The probabilities. -/
def rP (Q K : FVec F S8448x1024 .f32) : FVec F S4x2x8448x8448 .f32 :=
  (Host.divf (rE Q K) (broadcastInDim S4x2x8448x8448 ![0, 1, 2, 3] bcast_S4x2x8448x1_S4x2x8448x8448_0_1_2_3 (broadcastInDim S4x2x8448x1 ![0, 1, 2] bcast_S4x2x8448_S4x2x8448x1_0_1_2 (Host.reduceAdd (rE Q K) (constant S_ .f32 0x00000000#32) reducesTo_S4x2x8448x8448_S4x2x8448_d3 h_S_))))

/-- The weight of the second softmax. -/
def rLam (a b c d : FVec F S1x128 .f32) : FVec F S_ .f32 :=
  (addf (subf (Host.exp (Host.reduceAdd (mulf a b) (constant S_ .f32 0x00000000#32) reducesTo_S1x128_S_d0_1 h_S_)) (Host.exp (Host.reduceAdd (mulf c d) (constant S_ .f32 0x00000000#32) reducesTo_S1x128_S_d0_1 h_S_))) (constant S_ .f32 0x3E4CCCCD#32))

/-- The difference of the two softmaxes, applied to the values. -/
def rO (Q K X : FVec F S8448x1024 .f32) (a b c d : FVec F S1x128 .f32) : FVec F S4x8448x256 .f32 :=
  (Host.dotGeneral dot_S4x8448x8448_S8448x4x256_S4x8448x256_2_0_1_2_0_1 none (subf (shapeCast _ (extractStridedSlice S4x1x8448x8448 ![0, 0, 0, 0] (rP Q K) slices_S4x2x8448x8448_S4x1x8448x8448_0_0_0_0) shapeCasts_S4x1x8448x8448_S4x8448x8448) (mulf (broadcastInDim S4x8448x8448 ![] bcast_S_S4x8448x8448 (rLam a b c d)) (shapeCast _ (extractStridedSlice S4x1x8448x8448 ![0, 1, 0, 0] (rP Q K) slices_S4x2x8448x8448_S4x1x8448x8448_0_1_0_0) shapeCasts_S4x1x8448x8448_S4x8448x8448))) (shapeCast _ X shapeCasts_S8448x1024_S8448x4x256))

/-- The normalised heads. -/
def rOut (O : FVec F S4x8448x256 .f32) (g : FVec F S1x256 .f32) : FVec F S4x8448x256 .bf16 :=
  truncf .bf16 (mulf (mulf (mulf O (broadcastInDim S4x8448x256 ![0, 1, 2] bcast_S4x8448x1_S4x8448x256_0_1_2 (Host.rsqrt (addf (Host.divf (broadcastInDim S4x8448x1 ![0, 1] bcast_S4x8448_S4x8448x1_0_1 (Host.reduceAdd (mulf O O) (constant S_ .f32 0x00000000#32) reducesTo_S4x8448x256_S4x8448_d2 h_S_)) (broadcastInDim S4x8448x1 ![] bcast_S_S4x8448x1 (constant S_ .f32 0x43800000#32))) (broadcastInDim S4x8448x1 ![] bcast_S_S4x8448x1 (constant S_ .f32 0x3727C5AC#32)))))) (broadcastInDim S4x8448x256 ![0, 1, 2] bcast_S1x1x256_S4x8448x256_0_1_2 (broadcastInDim S1x1x256 ![1, 2] bcast_S1x256_S1x1x256_1_2 g))) (broadcastInDim S4x8448x256 ![] bcast_S_S4x8448x256 (constant S_ .f32 0x3F4CCCCD#32))) bitsLt_bf16_f32

end Terms

theorem toInt_sub_ofNat (q k : ℕ) (hq : q < 8448) (hk : k < 8448) : (BitVec.ofNat 32 q - BitVec.ofNat 32 k).toInt = (q : ℤ) - k := by
  rw [BitVec.toInt_sub, BitVec.toInt_ofNat', BitVec.toInt_ofNat']
  simp only [Int.bmod_def]
  norm_num
  omega

theorem negInf : Ideal.ofBits FTy.f32 0xFF800000#32 = (⊥ : EReal) := by simp [Ideal.ofBits, Ideal.ieee]

theorem q_0 : Ideal.ofBits FTy.f32 0x3E800000#32 = ((1/4 : ℝ) : EReal) := by
  simp only [Ideal.ofBits, Ideal.ieee]
  rw [if_neg (by decide), if_neg (by decide)]
  congr 1
  simp
  norm_num
theorem q_1 : Ideal.ofBits FTy.f32 0x3D800000#32 = ((1/16 : ℝ) : EReal) := by
  simp only [Ideal.ofBits, Ideal.ieee]
  rw [if_neg (by decide), if_neg (by decide)]
  congr 1
  simp
  norm_num
theorem q_2 : Ideal.ofBits FTy.f32 0x3C800000#32 = ((1/64 : ℝ) : EReal) := by
  simp only [Ideal.ofBits, Ideal.ieee]
  rw [if_neg (by decide), if_neg (by decide)]
  congr 1
  simp
  norm_num
theorem q_3 : Ideal.ofBits FTy.f32 0x3B800000#32 = ((1/256 : ℝ) : EReal) := by
  simp only [Ideal.ofBits, Ideal.ieee]
  rw [if_neg (by decide), if_neg (by decide)]
  congr 1
  simp
  norm_num
theorem two_eq : Ideal.ofBits FTy.f32 0x40000000#32 = ((2 : ℝ) : EReal) := by
  simp only [Ideal.ofBits, Ideal.ieee]
  rw [if_neg (by decide), if_neg (by decide)]
  congr 1
  simp
  norm_num
theorem lam_eq : Ideal.ofBits FTy.f32 0x3E4CCCCD#32 = ((13421773/67108864 : ℝ) : EReal) := by
  simp only [Ideal.ofBits, Ideal.ieee]
  rw [if_neg (by decide), if_neg (by decide)]
  congr 1
  simp
  norm_num
/-- The scores' scale. -/
def scale : ℝ := 11863283 / 134217728
theorem scale_eq : Ideal.ofBits FTy.f32 0x3DB504F3#32 = (scale : EReal) := by
  simp only [Ideal.ofBits, Ideal.ieee, scale]
  rw [if_neg (by decide), if_neg (by decide)]
  congr 1
  simp
  norm_num
theorem fold_sup {ι : Type*} [Fintype ι] (f : ι → EReal) : Finset.fold max (⊥ : EReal) f Finset.univ = Finset.univ.sup f := rfl

/-- The slope of a head. -/
def sl (h : Fin 4) : ℝ := ![1/4, 1/16, 1/64, 1/256] h

theorem slope_at (h : Fin 4) : Ideal.ofBits FTy.f32 (lit0 (S4.rowMajor (ix1 h))) = ((sl h : ℝ) : EReal) := by
  fin_cases h
  · exact q_0
  · exact q_1
  · exact q_2
  · exact q_3

/-- One head and half's product of a query and a key. -/
def dotp (Q K : Fin 8448 → Fin 1024 → ℝ) (h : Fin 4) (c : Fin 2) (q k : Fin 8448) : ℝ :=
  ∑ x : Fin 128, Q q ⟨h.val * 256 + c.val * 128 + x.val, by omega⟩ * K k ⟨h.val * 256 + c.val * 128 + x.val, by omega⟩

theorem rS_at (Q K : FVec Ideal S8448x1024 .f32) (Q' K' : Fin 8448 → Fin 1024 → ℝ) (hQ : ∀ p j, Q (ix2 p j) = (Q' p j : EReal))
    (hK : ∀ p j, K (ix2 p j) = (K' p j : EReal)) (h : Fin 4) (c : Fin 2) (q k : Fin 8448) :
    rS (F := Ideal) Q K (ix4 h c q k)
      = if k.val < q.val + 1 then ((dotp Q' K' h c q k * scale - sl h * ((q.val : ℝ) - k.val) : ℝ) : EReal) else ⊥ := by
  pointwise [rS]
  have hq := q.isLt
  have hk := k.isLt
  rw [WordCmp.cmpi_sle_ofNat (by omega) (by omega), negInf, slope_at, scale_eq,
    AttnMath.dot_real _ _ _ _ (fun x => hQ _ _) (fun x => hK _ _)]
  have hs : (FloatOps.sitofp (F := Ideal) FTy.f32 (IntOp.subi (BitVec.ofNat 32 q.val) (BitVec.ofNat 32 k.val)) : EReal) = (((q.val : ℝ) - k.val : ℝ) : EReal) := by
    show ((((BitVec.ofNat 32 q.val - BitVec.ofNat 32 k.val).toInt : ℤ) : ℝ) : EReal) = _
    rw [toInt_sub_ofNat _ _ hq hk]
    push_cast
    rfl
  rw [hs]
  by_cases hle : k.val ≤ q.val
  · rw [if_pos (by omega), decide_eq_true hle]
    show _ * _ - _ * _ = _
    rw [← EReal.coe_mul, ← EReal.coe_mul, ← EReal.coe_sub]
    rfl
  · rw [if_neg (by omega), decide_eq_false hle]
    rfl

theorem rP_at (Q K : FVec Ideal S8448x1024 .f32) (h : Fin 4) (c : Fin 2) (q k : Fin 8448) :
    rP (F := Ideal) Q K (ix4 h c q k) = Ideal.div (Ideal.exp (rS Q K (ix4 h c q k) - Finset.univ.sup fun x : Fin 8448 => rS Q K (ix4 h c q x)))
      (∑ y : Fin 8448, Ideal.exp (rS Q K (ix4 h c q y) - Finset.univ.sup fun x : Fin 8448 => rS Q K (ix4 h c q x))) := by
  pointwise [rP, rE]
  simp only [negInf, fold_sup]

theorem rLam_at (a b c d : FVec Ideal S1x128 .f32) (y : S_.Idx) :
    rLam (F := Ideal) a b c d y = Ideal.exp (∑ x : Fin 128, a (ix2 0 x) * b (ix2 0 x)) - Ideal.exp (∑ x : Fin 128, c (ix2 0 x) * d (ix2 0 x))
      + Ideal.ofBits .f32 0x3E4CCCCD#32 := by
  pointwise [rLam]
  simp only [Fin.sum_univ_one, Fin.isValue]

/-- The dimension numbers of the product of the probabilities and the values. -/
abbrev dd := dot_S4x8448x8448_S8448x4x256_S4x8448x256_2_0_1_2_0_1

theorem ri (j : S4x8448x256.Idx) (k : Fin 8448) : dd.rhsIdx j (dd.contrIdx₁ (a := 2) rfl (K := 8448) rfl k) = ix3 k (j 0) (j 2) := by
  have h0 : dd.rhsIdx j (dd.contrIdx₁ (a := 2) rfl (K := 8448) rfl k) 0 = k := by
    apply Fin.ext
    rfl
  have h1 : dd.rhsIdx j (dd.contrIdx₁ (a := 2) rfl (K := 8448) rfl k) 1 = j 0 := by
    apply Fin.ext
    rfl
  have h2 : dd.rhsIdx j (dd.contrIdx₁ (a := 2) rfl (K := 8448) rfl k) 2 = j 2 := by
    apply Fin.ext
    rfl
  funext a
  fin_cases a
  · exact h0
  · exact h1
  · exact h2

theorem li (j : S4x8448x256.Idx) (k : Fin 8448) : dd.lhsIdx j (dd.contrIdx₁ (a := 2) rfl (K := 8448) rfl k) = ix3 (j 0) (j 1) k := by
  funext a
  fin_cases a
  · exact Fin.ext rfl
  · exact Fin.ext rfl
  · exact Fin.ext rfl

theorem av (D : FVec Ideal S4x8448x8448 .f32) (W : FVec Ideal S8448x4x256 .f32) (j : S4x8448x256.Idx) :
    Host.dotGeneral dd none D W j = ∑ x : Fin 8448, D (ix3 (j 0) (j 1) x) * W (ix3 x (j 0) (j 2)) := by
  unfold Host.dotGeneral
  rw [Ideal.dotGeneral_apply, dd.sum_contr₁ (a := 2) rfl (K := 8448) rfl]
  refine Finset.sum_congr rfl fun x _ => ?_
  rw [li, ri]
  rfl

theorem av_at (D : FVec Ideal S4x8448x8448 .f32) (W : FVec Ideal S8448x4x256 .f32) (h : Fin 4) (q : Fin 8448) (e : Fin 256) :
    Host.dotGeneral dot_S4x8448x8448_S8448x4x256_S4x8448x256_2_0_1_2_0_1 none D W (ix3 h q e) = ∑ x : Fin 8448, D (ix3 h q x) * W (ix3 x h e) :=
  av D W (ix3 h q e)

theorem sl_at0 (P : FVec Ideal S4x2x8448x8448 .f32) (h : Fin 4) (q x : Fin 8448) :
    shapeCast S4x8448x8448 (extractStridedSlice S4x1x8448x8448 ![0, 0, 0, 0] P slices_S4x2x8448x8448_S4x1x8448x8448_0_0_0_0) shapeCasts_S4x1x8448x8448_S4x8448x8448 (ix3 h q x) = P (ix4 h 0 q x) := by
  simp only [pointwise]
  simp

theorem sl_at1 (P : FVec Ideal S4x2x8448x8448 .f32) (h : Fin 4) (q x : Fin 8448) :
    shapeCast S4x8448x8448 (extractStridedSlice S4x1x8448x8448 ![0, 1, 0, 0] P slices_S4x2x8448x8448_S4x1x8448x8448_0_1_0_0) shapeCasts_S4x1x8448x8448_S4x8448x8448 (ix3 h q x) = P (ix4 h 1 q x) := by
  simp only [pointwise]
  simp

theorem br_at (y : FVec Ideal S_ .f32) (j : S4x8448x8448.Idx) : broadcastInDim S4x8448x8448 ![] bcast_S_S4x8448x8448 y j = y ix0 := by
  pointwise

theorem vv_at (X : FVec Ideal S8448x1024 .f32) (h : Fin 4) (x : Fin 8448) (e : Fin 256) :
    shapeCast S8448x4x256 X shapeCasts_S8448x1024_S8448x4x256 (ix3 x h e) = X (ix2 x ⟨h.val * 256 + e.val, by omega⟩) := by
  pointwise

theorem rO_at (Q K X : FVec Ideal S8448x1024 .f32) (a b c d : FVec Ideal S1x128 .f32) (h : Fin 4) (q : Fin 8448) (e : Fin 256) :
    rO (F := Ideal) Q K X a b c d (ix3 h q e) = ∑ x : Fin 8448, (rP Q K (ix4 h 0 q x) - rLam a b c d ix0 * rP Q K (ix4 h 1 q x))
      * X (ix2 x ⟨h.val * 256 + e.val, by omega⟩) := by
  unfold rO
  rw [av_at]
  refine Finset.sum_congr rfl fun x _ => ?_
  rw [vv_at]
  refine congrArg (· * X _) ?_
  rw [show ∀ a b : FVec Ideal S4x8448x8448 .f32, (subf a b) (ix3 h q x) = a (ix3 h q x) - b (ix3 h q x) from fun _ _ => rfl,
    show ∀ a b : FVec Ideal S4x8448x8448 .f32, (mulf a b) (ix3 h q x) = a (ix3 h q x) * b (ix3 h q x) from fun _ _ => rfl, sl_at0, sl_at1, br_at]

theorem rOut_at (O : FVec Ideal S4x8448x256 .f32) (g : FVec Ideal S1x256 .f32) (h : Fin 4) (q : Fin 8448) (e : Fin 256) :
    rOut (F := Ideal) O g (ix3 h q e) = O (ix3 h q e) * Ideal.rsqrt (Ideal.div (∑ x : Fin 256, O (ix3 h q x) * O (ix3 h q x)) (Ideal.ofBits .f32 0x43800000#32) + Ideal.ofBits .f32 0x3727C5AC#32)
      * g (ix2 0 e) * Ideal.ofBits .f32 0x3F4CCCCD#32 := by
  pointwise [rOut]

end Cert.AttnRefIdeal.Pure

end
-- ==== Proof.AttnPrep.lean ====
module

public import proofs.«01_k».proof.Proof.Gen.AttnIdeal.Launch
public import proofs.«01_k».proof.Proof.AttnRefPure
public import Idealize.ShloMosaic.Lib.Pipeline.ValueKit
public import Idealize.ShloMosaic.Lib.Pointwise
public import Idealize.ShloMosaic.Lib.WordCmp

@[expose] public section

set_option maxRecDepth 16384

noncomputable section

namespace Cert.AttnIdeal.Flash

open Cert.AttnIdeal Cert.AttnIdeal.Gen Idealize.ShloMosaic Idealize.ShloMosaic.TcCoe Idealize.SL.Sem

/-! ## What the host prepares for the call -/

section Terms
variable {F : FTy → Type} [FloatOps F] [Named F]

/-- The scaled queries. -/
def hv7 (Q : FVec F S8448x1024 .f32) : FVec F S8448x4x2x128 .bf16 :=
  (truncf .bf16 (Host.divf (mulf (shapeCast _ Q shapeCasts_S8448x1024_S8448x4x2x128) (broadcastInDim S8448x4x2x128 ![] bcast_S_S8448x4x2x128 (constant S_ .f32 0x3DB504F3#32))) (broadcastInDim S8448x4x2x128 ![] bcast_S_S8448x4x2x128 (Host.log (constant S_ .f32 0x40000000#32)))) bitsLt_bf16_f32)

/-- The ones beside the queries. -/
def hv15 : FVec F S8448x4x2x128 .bf16 :=
  (truncf .bf16 (select (cmpi .slt (iotaInDim S8448x4x2x128 32 3) (broadcastInDim S8448x4x2x128 ![] bcast_S_S8448x4x2x128 (constantI S_ 32 3#32))) (addf (broadcastInDim S8448x4x2x128 ![] bcast_S_S8448x4x2x128 (constant S_ .f32 0x00000000#32)) (broadcastInDim S8448x4x2x128 ![] bcast_S_S8448x4x2x128 (constant S_ .f32 0x3F800000#32))) (broadcastInDim S8448x4x2x128 ![] bcast_S_S8448x4x2x128 (constant S_ .f32 0x00000000#32))) bitsLt_bf16_f32)

/-- The bias of a key: its row in its tile times the slope. -/
def hv45 : FVec F S8448x4x2x128 .f32 :=
  (mulf (sitofp .f32 (Host.remsi (iotaInDim S8448x4x2x128 32 0) (broadcastInDim S8448x4x2x128 ![] bcast_S_S8448x4x2x128 (constantI S_ 32 768#32)))) (Host.divf (select (cmpi .eq (iotaInDim S8448x4x2x128 32 1) (broadcastInDim S8448x4x2x128 ![] bcast_S_S8448x4x2x128 (constantI S_ 32 3#32))) (addf (broadcastInDim S8448x4x2x128 ![] bcast_S_S8448x4x2x128 (constant S_ .f32 0x00000000#32)) (broadcastInDim S8448x4x2x128 ![] bcast_S_S8448x4x2x128 (constant S_ .f32 0x3B800000#32))) (select (cmpi .eq (iotaInDim S8448x4x2x128 32 1) (broadcastInDim S8448x4x2x128 ![] bcast_S_S8448x4x2x128 (constantI S_ 32 2#32))) (addf (broadcastInDim S8448x4x2x128 ![] bcast_S_S8448x4x2x128 (constant S_ .f32 0x00000000#32)) (broadcastInDim S8448x4x2x128 ![] bcast_S_S8448x4x2x128 (constant S_ .f32 0x3C800000#32))) (select (cmpi .eq (iotaInDim S8448x4x2x128 32 1) (broadcastInDim S8448x4x2x128 ![] bcast_S_S8448x4x2x128 (constantI S_ 32 1#32))) (addf (broadcastInDim S8448x4x2x128 ![] bcast_S_S8448x4x2x128 (constant S_ .f32 0x00000000#32)) (broadcastInDim S8448x4x2x128 ![] bcast_S_S8448x4x2x128 (constant S_ .f32 0x3D800000#32))) (select (cmpi .eq (iotaInDim S8448x4x2x128 32 1) (broadcastInDim S8448x4x2x128 ![] bcast_S_S8448x4x2x128 (constantI S_ 32 0#32))) (addf (broadcastInDim S8448x4x2x128 ![] bcast_S_S8448x4x2x128 (constant S_ .f32 0x00000000#32)) (broadcastInDim S8448x4x2x128 ![] bcast_S_S8448x4x2x128 (constant S_ .f32 0x3E800000#32))) (broadcastInDim S8448x4x2x128 ![] bcast_S_S8448x4x2x128 (constant S_ .f32 0x00000000#32)))))) (broadcastInDim S8448x4x2x128 ![] bcast_S_S8448x4x2x128 (Host.log (constant S_ .f32 0x40000000#32)))))

/-- The key's bias in three parts. -/
def hv62 : FVec F S8448x4x2x128 .bf16 :=
  (truncf .bf16 (select (cmpi .eq (iotaInDim S8448x4x2x128 32 3) (broadcastInDim S8448x4x2x128 ![] bcast_S_S8448x4x2x128 (constantI S_ 32 0#32))) (extf .f32 (truncf .bf16 (hv45 (F := F)) bitsLt_bf16_f32) bitsLt_bf16_f32) (select (cmpi .eq (iotaInDim S8448x4x2x128 32 3) (broadcastInDim S8448x4x2x128 ![] bcast_S_S8448x4x2x128 (constantI S_ 32 1#32))) (extf .f32 (truncf .bf16 (subf (hv45 (F := F)) (extf .f32 (truncf .bf16 (hv45 (F := F)) bitsLt_bf16_f32) bitsLt_bf16_f32)) bitsLt_bf16_f32) bitsLt_bf16_f32) (select (cmpi .eq (iotaInDim S8448x4x2x128 32 3) (broadcastInDim S8448x4x2x128 ![] bcast_S_S8448x4x2x128 (constantI S_ 32 2#32))) (subf (subf (hv45 (F := F)) (extf .f32 (truncf .bf16 (hv45 (F := F)) bitsLt_bf16_f32) bitsLt_bf16_f32)) (extf .f32 (truncf .bf16 (subf (hv45 (F := F)) (extf .f32 (truncf .bf16 (hv45 (F := F)) bitsLt_bf16_f32) bitsLt_bf16_f32)) bitsLt_bf16_f32) bitsLt_bf16_f32)) (broadcastInDim S8448x4x2x128 ![] bcast_S_S8448x4x2x128 (constant S_ .f32 0x00000000#32))))) bitsLt_bf16_f32)

/-- The queries with their ones, by head. -/
def hv65 (Q : FVec F S8448x1024 .f32) : FVec F S4x8448x512 .bf16 :=
  (transpose S4x8448x512 [1, 0, 2] (shapeCast _ (concatenate S8448x4x2x256 3 [⟨S8448x4x2x128, (hv7 (F := F) Q)⟩, ⟨S8448x4x2x128, (hv15 (F := F))⟩] concatenates_S8448x4x2x128_S8448x4x2x128_S8448x4x2x256_d3) shapeCasts_S8448x4x2x256_S8448x4x512) transposes_S8448x4x512_S4x8448x512_1_0_2)

/-- The keys. -/
def hv67 (K : FVec F S8448x1024 .f32) : FVec F S8448x4x2x128 .bf16 :=
  (truncf .bf16 (shapeCast _ K shapeCasts_S8448x1024_S8448x4x2x128) bitsLt_bf16_f32)

/-- The keys with their biases, by head. -/
def hv70 (K : FVec F S8448x1024 .f32) : FVec F S4x8448x512 .bf16 :=
  (transpose S4x8448x512 [1, 0, 2] (shapeCast _ (concatenate S8448x4x2x256 3 [⟨S8448x4x2x128, (hv67 (F := F) K)⟩, ⟨S8448x4x2x128, (hv62 (F := F))⟩] concatenates_S8448x4x2x128_S8448x4x2x128_S8448x4x2x256_d3) shapeCasts_S8448x4x2x256_S8448x4x512) transposes_S8448x4x512_S4x8448x512_1_0_2)

/-- Queries and keys in one array. -/
def hv73 (Q : FVec F S8448x1024 .f32) (K : FVec F S8448x1024 .f32) : FVec F S2x4x8448x512 .bf16 :=
  (concatenate S2x4x8448x512 0 [⟨S1x4x8448x512, (broadcastInDim S1x4x8448x512 ![1, 2, 3] bcast_S4x8448x512_S1x4x8448x512_1_2_3 (hv65 (F := F) Q))⟩, ⟨S1x4x8448x512, (broadcastInDim S1x4x8448x512 ![1, 2, 3] bcast_S4x8448x512_S1x4x8448x512_1_2_3 (hv70 (F := F) K))⟩] concatenates_S1x4x8448x512_S1x4x8448x512_S2x4x8448x512_d0)

/-- The values by head. -/
def hv76 (X : FVec F S8448x1024 .f32) : FVec F S4x8448x256 .bf16 :=
  (truncf .bf16 (transpose S4x8448x256 [1, 0, 2] (shapeCast _ X shapeCasts_S8448x1024_S8448x4x256) transposes_S8448x4x256_S4x8448x256_1_0_2) bitsLt_bf16_f32)

/-- The slopes. -/
def hv80 : FVec F S4x1x128 .f32 :=
  (Host.divf (fun i => FloatOps.ofBits .f32 (lit2 (S4x1x128.rowMajor i))) (broadcastInDim S4x1x128 ![] bcast_S_S4x1x128 (Host.log (constant S_ .f32 0x40000000#32))))

end Terms

open AttnRefIdeal.Pure (sl scale scale_eq dotp two_eq q_0 q_1 q_2 q_3)

theorem two_log : Ideal.log (Ideal.ofBits FTy.f32 0x40000000#32) = ((Real.log 2 : ℝ) : EReal) := by
  rw [two_eq, Ideal.log_coe, if_neg (by norm_num)]

theorem log2_ne : Real.log 2 ≠ 0 := (Real.log_pos (by norm_num)).ne'

theorem toInt_rem : ∀ p : Fin 8448, (IntOp.remsi ArithUnit.host (BitVec.ofNat 32 p.val) 768#32).toInt = ((p.val % 768 : ℕ) : ℤ) := by decide +kernel

theorem hv7_at (Q : FVec Ideal S8448x1024 .f32) (Q' : Fin 8448 → Fin 1024 → ℝ) (hQ : ∀ p j, Q (ix2 p j) = (Q' p j : EReal))
    (p : Fin 8448) (h : Fin 4) (c : Fin 2) (d : Fin 128) :
    hv7 (F := Ideal) Q (ix4 p h c d) = ((Q' p ⟨h.val * 256 + c.val * 128 + d.val, by omega⟩ * scale / Real.log 2 : ℝ) : EReal) := by
  pointwise [hv7]
  rw [two_log, scale_eq, hQ, ← EReal.coe_mul, AttnMath.div_real _ _ log2_ne]

theorem hv15_at (p : Fin 8448) (h : Fin 4) (c : Fin 2) (d : Fin 128) :
    hv15 (F := Ideal) (ix4 p h c d) = ((if d.val < 3 then 1 else 0 : ℝ) : EReal) := by
  pointwise [hv15]
  have hd := d.isLt
  rw [show (3#32 : BitVec 32) = BitVec.ofNat 32 3 from rfl, WordCmp.cmpi_slt_ofNat (by omega) (by omega)]
  by_cases h3 : d.val < 3
  · rw [if_pos h3, decide_eq_true h3]; rfl
  · rw [if_neg h3, decide_eq_false h3]; rfl

/-- The bias of a key. -/
def bias (h : Fin 4) (p : Fin 8448) : ℝ := ((p.val % 768 : ℕ) : ℝ) * (sl h / Real.log 2)

theorem hv45_at (p : Fin 8448) (h : Fin 4) (c : Fin 2) (d : Fin 128) :
    hv45 (F := Ideal) (ix4 p h c d) = ((bias h p : ℝ) : EReal) := by
  pointwise [hv45]
  have hs : (FloatOps.sitofp (F := Ideal) FTy.f32 (IntOp.remsi ArithUnit.host (BitVec.ofNat 32 p.val) 768#32) : EReal) = (((p.val % 768 : ℕ) : ℝ) : EReal) := by
    show ((((IntOp.remsi ArithUnit.host (BitVec.ofNat 32 p.val) 768#32).toInt : ℤ) : ℝ) : EReal) = _
    rw [toInt_rem]
    norm_cast
  have hw : ∀ h : Fin 4, (Scalar.select (IntOp.cmpi CmpIPredicate.eq (BitVec.ofNat 32 h.val) 3#32) (Ideal.ofBits FTy.f32 0x3B800000#32)
          (Scalar.select (IntOp.cmpi CmpIPredicate.eq (BitVec.ofNat 32 h.val) 2#32) (Ideal.ofBits FTy.f32 0x3C800000#32)
            (Scalar.select (IntOp.cmpi CmpIPredicate.eq (BitVec.ofNat 32 h.val) 1#32) (Ideal.ofBits FTy.f32 0x3D800000#32)
              (Scalar.select (IntOp.cmpi CmpIPredicate.eq (BitVec.ofNat 32 h.val) 0#32)
                (Ideal.ofBits FTy.f32 0x3E800000#32) 0))) : EReal) = ((sl h : ℝ) : EReal) := by
    intro h
    fin_cases h
    · exact q_0
    · exact q_1
    · exact q_2
    · exact q_3
  rw [two_log, hs, hw, AttnMath.div_real _ _ log2_ne, ← EReal.coe_mul]
  rfl

theorem sel_zero {α : Type} (a b : α) : Scalar.select 0#1 a b = b := rfl

theorem hv62_at (p : Fin 8448) (h : Fin 4) (c : Fin 2) (d : Fin 128) :
    hv62 (F := Ideal) (ix4 p h c d) = ((if d.val = 0 then bias h p else 0 : ℝ) : EReal) := by
  pointwise [hv62]
  simp only [hv45_at, ← EReal.coe_sub, sub_self]
  have hd := d.isLt
  by_cases h0 : d.val = 0
  · rw [if_pos h0, h0]; rfl
  · rw [if_neg h0]
    have e0 : IntOp.cmpi CmpIPredicate.eq (BitVec.ofNat 32 d.val) 0#32 = 0#1 := by
      show BitVec.ofBool (BitVec.ofNat 32 d.val == 0#32) = 0#1
      rw [beq_eq_false_iff_ne.2]; rfl
      intro hh
      have := congrArg BitVec.toNat hh
      simp at this
      omega
    rw [e0, sel_zero]
    unfold Scalar.select
    split <;> [rfl; (split <;> rfl)]

theorem hv67_at (K : FVec Ideal S8448x1024 .f32) (p : Fin 8448) (h : Fin 4) (c : Fin 2) (d : Fin 128) :
    hv67 (F := Ideal) K (ix4 p h c d) = K (ix2 p ⟨h.val * 256 + c.val * 128 + d.val, by omega⟩) := by
  pointwise [hv67]

theorem hv65_at (Q : FVec Ideal S8448x1024 .f32) (p : Fin 8448) (h : Fin 4) (x : Fin 512) :
    hv65 (F := Ideal) Q (ix3 h p x) = if h1 : x.val % 256 < 128 then hv7 (F := Ideal) Q (ix4 p h ⟨x.val / 256, by omega⟩ ⟨x.val % 256, h1⟩)
      else hv15 (F := Ideal) (ix4 p h ⟨x.val / 256, by omega⟩ ⟨x.val % 256 - 128, by omega⟩) := by
  pointwise [hv65]

theorem hv70_at (K : FVec Ideal S8448x1024 .f32) (p : Fin 8448) (h : Fin 4) (x : Fin 512) :
    hv70 (F := Ideal) K (ix3 h p x) = if h1 : x.val % 256 < 128 then hv67 (F := Ideal) K (ix4 p h ⟨x.val / 256, by omega⟩ ⟨x.val % 256, h1⟩)
      else hv62 (F := Ideal) (ix4 p h ⟨x.val / 256, by omega⟩ ⟨x.val % 256 - 128, by omega⟩) := by
  pointwise [hv70]

theorem hv73_at0 (Q K : FVec Ideal S8448x1024 .f32) (p : Fin 8448) (h : Fin 4) (x : Fin 512) :
    hv73 (F := Ideal) Q K (ix4 0 h p x) = hv65 (F := Ideal) Q (ix3 h p x) := by
  pointwise [hv73]

theorem hv73_at1 (Q K : FVec Ideal S8448x1024 .f32) (p : Fin 8448) (h : Fin 4) (x : Fin 512) :
    hv73 (F := Ideal) Q K (ix4 1 h p x) = hv70 (F := Ideal) K (ix3 h p x) := by
  pointwise [hv73]

theorem hv76_at (X : FVec Ideal S8448x1024 .f32) (p : Fin 8448) (h : Fin 4) (e : Fin 256) :
    hv76 (F := Ideal) X (ix3 h p e) = X (ix2 p ⟨h.val * 256 + e.val, by omega⟩) := by
  pointwise [hv76]

theorem hv80_at (h : Fin 4) :
    hv80 (F := Ideal) (ix3 h 0 0) = ((sl h / Real.log 2 : ℝ) : EReal) := by
  pointwise [hv80]
  have hw : Ideal.ofBits FTy.f32 (lit2 (S4x1x128.rowMajor (ix3 h 0 0))) = ((sl h : ℝ) : EReal) := by
    fin_cases h
    · exact q_0
    · exact q_1
    · exact q_2
    · exact q_3
  rw [two_log, hw, AttnMath.div_real _ _ log2_ne]

/-- The product of a prepared query and a prepared key: the scaled score and the key's bias. -/
theorem score (Q K : FVec Ideal S8448x1024 .f32) (Q' K' : Fin 8448 → Fin 1024 → ℝ) (hQ : ∀ p j, Q (ix2 p j) = (Q' p j : EReal))
    (hK : ∀ p j, K (ix2 p j) = (K' p j : EReal)) (h : Fin 4) (c : Fin 2) (q k : Fin 8448) :
    ∑ x : Fin 256, hv73 (F := Ideal) Q K (ix4 0 h q ⟨256 * c.val + x.val, by omega⟩) * hv73 (F := Ideal) Q K (ix4 1 h k ⟨256 * c.val + x.val, by omega⟩)
      = ((dotp Q' K' h c q k * scale / Real.log 2 + bias h k : ℝ) : EReal) := by
  rw [AttnMath.dot_real _ _ (fun x : Fin 256 => if h1 : x.val < 128 then Q' q ⟨h.val * 256 + c.val * 128 + x.val, by omega⟩ * scale / Real.log 2 else if x.val - 128 < 3 then 1 else 0)
    (fun x : Fin 256 => if h1 : x.val < 128 then K' k ⟨h.val * 256 + c.val * 128 + x.val, by omega⟩ else if x.val - 128 = 0 then bias h k else 0)]
  · congr 1
    refine (Fin.sum_univ_add (a := 128) (b := 128) _).trans ?_
    congr 1
    · rw [dotp, Finset.sum_mul, Finset.sum_div]
      refine Finset.sum_congr rfl fun x _ => ?_
      rw [dif_pos (by simp), dif_pos (by simp)]
      simp only [Fin.val_castAdd]
      ring
    · rw [Finset.sum_eq_single (0 : Fin 128)]
      · simp
      · intro x _ hx
        have : x.val ≠ 0 := fun hh => hx (Fin.ext hh)
        rw [dif_neg (by simp), dif_neg (by simp)]
        simp [this]
      · simp
  · intro x
    have hx := x.isLt
    have e1 : (256 * c.val + x.val) % 256 = x.val := by omega
    have e2 : (256 * c.val + x.val) / 256 = c.val := by omega
    rw [hv73_at0, hv65_at]
    simp only [e1, e2]
    split
    · exact hv7_at Q Q' hQ q h c _
    · exact hv15_at q h c _
  · intro x
    have hx := x.isLt
    have e1 : (256 * c.val + x.val) % 256 = x.val := by omega
    have e2 : (256 * c.val + x.val) / 256 = c.val := by omega
    rw [hv73_at1, hv70_at]
    simp only [e1, e2]
    split
    · exact (hv67_at K k h c _).trans (hK _ _)
    · exact hv62_at k h c _

end Cert.AttnIdeal.Flash

end
-- ==== Proof.AttnHost.lean ====
module

public import proofs.«01_k».proof.Proof.AttnIdealFrame
public import proofs.«01_k».proof.Proof.AttnPrep

@[expose] public section

set_option maxRecDepth 16384

noncomputable section

namespace Cert.AttnIdeal.Flash

open Cert.AttnIdeal Cert.AttnIdeal.Gen Idealize.ShloMosaic Idealize.ShloMosaic.TcCoe Idealize.SL.Sem

/-! ## What the host prepares for the call, line by line -/

section Lines
variable {F : FTy → Type} [FloatOps F] [Named F]
variable (m : (ℓ : Loc nD τ sig) → Buf (Elt F) ℓ) (c : Dev nD)

/-- The contents before line `i`. -/
abbrev before (i : ℕ) := StableHlo.upto (hostOps0 (F := F)) (fun b => m (c, b)) i

theorem writes_drop (i : ℕ) : ((hostOps0 (F := F)).drop i).map HloOp.writes = (written.drop i).map fun w => {Proc.devRef (τ := τ) .tc w} := by
  rw [List.map_drop, hostOps0_writes, List.map_drop]

/-- A buffer no later line writes holds before line `i` what it holds in the end. -/
theorem kept (i : ℕ) (r : Ref sig .tc) (h : r ∉ written.drop i) : before m c i (Proc.devRef .tc r) = V m c r := by
  have e : V m c r = StableHlo.after ((hostOps0 (F := F)).drop i) (before m c i) (Proc.devRef .tc r) :=
    (congrArg (fun l => StableHlo.after l (fun b => m (c, b)) (Proc.devRef .tc r)) (List.take_append_drop i (hostOps0 (F := F))).symm).trans
      (congrFun (StableHlo.after_append _ _ _) _)
  exact (e.trans (StableHlo.after_unwritten (written.drop i) (writes_drop i) h _)).symm

/-- What line `i` leaves at the buffer it is the last to write. -/
theorem line (i : ℕ) {op : HloOp τ sig (Elt F)} {rest : List (HloOp τ sig (Elt F))} {r : Ref sig .tc} (hseg : (hostOps0 (F := F)).drop i = op :: rest)
    (hr : r ∉ written.drop (i + 1)) : V m c r = op.result (before m c i) (Proc.devRef .tc r) := by
  refine StableHlo.after_last_write (i := i) (written.drop (i + 1)) hseg ?_ hr _
  rw [← writes_drop (F := F) (i + 1), ← List.drop_drop, hseg]
  rfl

theorem L_cst : V m c main_cst = (fun i => FloatOps.ofBits .f32 (lit2 (S4x1x128.rowMajor i))) :=
  (line m c 2 rfl (by decide)).trans (by rw [StableHlo.nullary_result'] <;> rfl)
theorem L_v0 : V m c main_v0 = fun i => shapeCast (Ref.ty main_v0).shape (V m c main_arg0) shapeCasts_S8448x1024_S8448x4x2x128 i :=
  (line m c 3 rfl (by decide)).trans (by rw [StableHlo.reshape_result', kept m c 3 main_arg0 (by decide)] <;> rfl)
theorem L_cst_1 : V m c main_cst_1 = (constant S_ .f32 0x3DB504F3#32) :=
  (line m c 4 rfl (by decide)).trans (by rw [StableHlo.nullary_result'] <;> rfl)
theorem L_v1 : V m c main_v1 = (broadcastInDim S8448x4x2x128 ![] bcast_S_S8448x4x2x128 : (⟨S_, .f32⟩ : BufTy).Contents (Elt F) → (⟨S8448x4x2x128, .f32⟩ : BufTy).Contents (Elt F)) (V m c main_cst_1) :=
  (line m c 5 rfl (by decide)).trans (by rw [StableHlo.unary_result', kept m c 5 main_cst_1 (by decide)] <;> rfl)
theorem L_v2 : V m c main_v2 = (mulf : (⟨S8448x4x2x128, .f32⟩ : BufTy).Contents (Elt F) → (⟨S8448x4x2x128, .f32⟩ : BufTy).Contents (Elt F) → (⟨S8448x4x2x128, .f32⟩ : BufTy).Contents (Elt F)) (V m c main_v0) (V m c main_v1) :=
  (line m c 6 rfl (by decide)).trans (by rw [StableHlo.binary_result', kept m c 6 main_v0 (by decide), kept m c 6 main_v1 (by decide)] <;> rfl)
theorem L_cst_2 : V m c main_cst_2 = (constant S_ .f32 0x40000000#32) :=
  (line m c 7 rfl (by decide)).trans (by rw [StableHlo.nullary_result'] <;> rfl)
theorem L_v3 : V m c main_v3 = (Host.log : (⟨S_, .f32⟩ : BufTy).Contents (Elt F) → (⟨S_, .f32⟩ : BufTy).Contents (Elt F)) (V m c main_cst_2) :=
  (line m c 8 rfl (by decide)).trans (by rw [StableHlo.unary_result', kept m c 8 main_cst_2 (by decide)] <;> rfl)
theorem L_v4 : V m c main_v4 = (id : (⟨S_, .f32⟩ : BufTy).Contents (Elt F) → (⟨S_, .f32⟩ : BufTy).Contents (Elt F)) (V m c main_v3) :=
  (line m c 9 rfl (by decide)).trans (by rw [StableHlo.unary_result', kept m c 9 main_v3 (by decide)] <;> rfl)
theorem L_v5 : V m c main_v5 = (broadcastInDim S8448x4x2x128 ![] bcast_S_S8448x4x2x128 : (⟨S_, .f32⟩ : BufTy).Contents (Elt F) → (⟨S8448x4x2x128, .f32⟩ : BufTy).Contents (Elt F)) (V m c main_v4) :=
  (line m c 10 rfl (by decide)).trans (by rw [StableHlo.unary_result', kept m c 10 main_v4 (by decide)] <;> rfl)
theorem L_v6 : V m c main_v6 = (Host.divf : (⟨S8448x4x2x128, .f32⟩ : BufTy).Contents (Elt F) → (⟨S8448x4x2x128, .f32⟩ : BufTy).Contents (Elt F) → (⟨S8448x4x2x128, .f32⟩ : BufTy).Contents (Elt F)) (V m c main_v2) (V m c main_v5) :=
  (line m c 11 rfl (by decide)).trans (by rw [StableHlo.binary_result', kept m c 11 main_v2 (by decide), kept m c 11 main_v5 (by decide)] <;> rfl)
theorem L_v7 : V m c main_v7 = ((truncf .bf16 · bitsLt_bf16_f32) : (⟨S8448x4x2x128, .f32⟩ : BufTy).Contents (Elt F) → (⟨S8448x4x2x128, .bf16⟩ : BufTy).Contents (Elt F)) (V m c main_v6) :=
  (line m c 12 rfl (by decide)).trans (by rw [StableHlo.unary_result', kept m c 12 main_v6 (by decide)] <;> rfl)
theorem L_v8 : V m c main_v8 = (iotaInDim S8448x4x2x128 32 3) :=
  (line m c 13 rfl (by decide)).trans (by rw [StableHlo.nullary_result'] <;> rfl)
theorem L_cst_3 : V m c main_cst_3 = (constant S_ .f32 0x00000000#32) :=
  (line m c 14 rfl (by decide)).trans (by rw [StableHlo.nullary_result'] <;> rfl)
theorem L_v9 : V m c main_v9 = (broadcastInDim S8448x4x2x128 ![] bcast_S_S8448x4x2x128 : (⟨S_, .f32⟩ : BufTy).Contents (Elt F) → (⟨S8448x4x2x128, .f32⟩ : BufTy).Contents (Elt F)) (V m c main_cst_3) :=
  (line m c 15 rfl (by decide)).trans (by rw [StableHlo.unary_result', kept m c 15 main_cst_3 (by decide)] <;> rfl)
theorem L_c_4 : V m c main_c_4 = (constantI S_ 32 3#32) :=
  (line m c 16 rfl (by decide)).trans (by rw [StableHlo.nullary_result'] <;> rfl)
theorem L_v10 : V m c main_v10 = (broadcastInDim S8448x4x2x128 ![] bcast_S_S8448x4x2x128 : (⟨S_, .i32⟩ : BufTy).Contents (Elt F) → (⟨S8448x4x2x128, .i32⟩ : BufTy).Contents (Elt F)) (V m c main_c_4) :=
  (line m c 17 rfl (by decide)).trans (by rw [StableHlo.unary_result', kept m c 17 main_c_4 (by decide)] <;> rfl)
theorem L_v11 : V m c main_v11 = (cmpi .slt : (⟨S8448x4x2x128, .i32⟩ : BufTy).Contents (Elt F) → (⟨S8448x4x2x128, .i32⟩ : BufTy).Contents (Elt F) → (⟨S8448x4x2x128, .i1⟩ : BufTy).Contents (Elt F)) (V m c main_v8) (V m c main_v10) :=
  (line m c 18 rfl (by decide)).trans (by rw [StableHlo.binary_result', kept m c 18 main_v8 (by decide), kept m c 18 main_v10 (by decide)] <;> rfl)
theorem L_cst_5 : V m c main_cst_5 = (constant S_ .f32 0x3F800000#32) :=
  (line m c 19 rfl (by decide)).trans (by rw [StableHlo.nullary_result'] <;> rfl)
theorem L_v12 : V m c main_v12 = (broadcastInDim S8448x4x2x128 ![] bcast_S_S8448x4x2x128 : (⟨S_, .f32⟩ : BufTy).Contents (Elt F) → (⟨S8448x4x2x128, .f32⟩ : BufTy).Contents (Elt F)) (V m c main_cst_5) :=
  (line m c 20 rfl (by decide)).trans (by rw [StableHlo.unary_result', kept m c 20 main_cst_5 (by decide)] <;> rfl)
theorem L_v13 : V m c main_v13 = (addf : (⟨S8448x4x2x128, .f32⟩ : BufTy).Contents (Elt F) → (⟨S8448x4x2x128, .f32⟩ : BufTy).Contents (Elt F) → (⟨S8448x4x2x128, .f32⟩ : BufTy).Contents (Elt F)) (V m c main_v9) (V m c main_v12) :=
  (line m c 21 rfl (by decide)).trans (by rw [StableHlo.binary_result', kept m c 21 main_v9 (by decide), kept m c 21 main_v12 (by decide)] <;> rfl)
theorem L_v14 : V m c main_v14 = (select : (⟨S8448x4x2x128, .i1⟩ : BufTy).Contents (Elt F) → (⟨S8448x4x2x128, .f32⟩ : BufTy).Contents (Elt F) → (⟨S8448x4x2x128, .f32⟩ : BufTy).Contents (Elt F) → (⟨S8448x4x2x128, .f32⟩ : BufTy).Contents (Elt F)) (V m c main_v11) (V m c main_v13) (V m c main_v9) :=
  (line m c 22 rfl (by decide)).trans (by rw [StableHlo.ternary_result', kept m c 22 main_v11 (by decide), kept m c 22 main_v13 (by decide), kept m c 22 main_v9 (by decide)] <;> rfl)
theorem L_v15 : V m c main_v15 = ((truncf .bf16 · bitsLt_bf16_f32) : (⟨S8448x4x2x128, .f32⟩ : BufTy).Contents (Elt F) → (⟨S8448x4x2x128, .bf16⟩ : BufTy).Contents (Elt F)) (V m c main_v14) :=
  (line m c 23 rfl (by decide)).trans (by rw [StableHlo.unary_result', kept m c 23 main_v14 (by decide)] <;> rfl)
theorem L_v16 : V m c main_v16 = (iotaInDim S8448x4x2x128 32 0) :=
  (line m c 24 rfl (by decide)).trans (by rw [StableHlo.nullary_result'] <;> rfl)
theorem L_c_6 : V m c main_c_6 = (constantI S_ 32 768#32) :=
  (line m c 25 rfl (by decide)).trans (by rw [StableHlo.nullary_result'] <;> rfl)
theorem L_v17 : V m c main_v17 = (broadcastInDim S8448x4x2x128 ![] bcast_S_S8448x4x2x128 : (⟨S_, .i32⟩ : BufTy).Contents (Elt F) → (⟨S8448x4x2x128, .i32⟩ : BufTy).Contents (Elt F)) (V m c main_c_6) :=
  (line m c 26 rfl (by decide)).trans (by rw [StableHlo.unary_result', kept m c 26 main_c_6 (by decide)] <;> rfl)
theorem L_v18 : V m c main_v18 = (Host.remsi : (⟨S8448x4x2x128, .i32⟩ : BufTy).Contents (Elt F) → (⟨S8448x4x2x128, .i32⟩ : BufTy).Contents (Elt F) → (⟨S8448x4x2x128, .i32⟩ : BufTy).Contents (Elt F)) (V m c main_v16) (V m c main_v17) :=
  (line m c 27 rfl (by decide)).trans (by rw [StableHlo.binary_result', kept m c 27 main_v16 (by decide), kept m c 27 main_v17 (by decide)] <;> rfl)
theorem L_v19 : V m c main_v19 = (sitofp .f32 : (⟨S8448x4x2x128, .i32⟩ : BufTy).Contents (Elt F) → (⟨S8448x4x2x128, .f32⟩ : BufTy).Contents (Elt F)) (V m c main_v18) :=
  (line m c 28 rfl (by decide)).trans (by rw [StableHlo.unary_result', kept m c 28 main_v18 (by decide)] <;> rfl)
theorem L_v20 : V m c main_v20 = (iotaInDim S8448x4x2x128 32 1) :=
  (line m c 29 rfl (by decide)).trans (by rw [StableHlo.nullary_result'] <;> rfl)
theorem L_c_7 : V m c main_c_7 = (constantI S_ 32 0#32) :=
  (line m c 30 rfl (by decide)).trans (by rw [StableHlo.nullary_result'] <;> rfl)
theorem L_v21 : V m c main_v21 = (broadcastInDim S8448x4x2x128 ![] bcast_S_S8448x4x2x128 : (⟨S_, .i32⟩ : BufTy).Contents (Elt F) → (⟨S8448x4x2x128, .i32⟩ : BufTy).Contents (Elt F)) (V m c main_c_7) :=
  (line m c 31 rfl (by decide)).trans (by rw [StableHlo.unary_result', kept m c 31 main_c_7 (by decide)] <;> rfl)
theorem L_v22 : V m c main_v22 = (cmpi .eq : (⟨S8448x4x2x128, .i32⟩ : BufTy).Contents (Elt F) → (⟨S8448x4x2x128, .i32⟩ : BufTy).Contents (Elt F) → (⟨S8448x4x2x128, .i1⟩ : BufTy).Contents (Elt F)) (V m c main_v20) (V m c main_v21) :=
  (line m c 32 rfl (by decide)).trans (by rw [StableHlo.binary_result', kept m c 32 main_v20 (by decide), kept m c 32 main_v21 (by decide)] <;> rfl)
theorem L_cst_8 : V m c main_cst_8 = (constant S_ .f32 0x3E800000#32) :=
  (line m c 33 rfl (by decide)).trans (by rw [StableHlo.nullary_result'] <;> rfl)
theorem L_v23 : V m c main_v23 = (broadcastInDim S8448x4x2x128 ![] bcast_S_S8448x4x2x128 : (⟨S_, .f32⟩ : BufTy).Contents (Elt F) → (⟨S8448x4x2x128, .f32⟩ : BufTy).Contents (Elt F)) (V m c main_cst_8) :=
  (line m c 34 rfl (by decide)).trans (by rw [StableHlo.unary_result', kept m c 34 main_cst_8 (by decide)] <;> rfl)
theorem L_v24 : V m c main_v24 = (addf : (⟨S8448x4x2x128, .f32⟩ : BufTy).Contents (Elt F) → (⟨S8448x4x2x128, .f32⟩ : BufTy).Contents (Elt F) → (⟨S8448x4x2x128, .f32⟩ : BufTy).Contents (Elt F)) (V m c main_v9) (V m c main_v23) :=
  (line m c 35 rfl (by decide)).trans (by rw [StableHlo.binary_result', kept m c 35 main_v9 (by decide), kept m c 35 main_v23 (by decide)] <;> rfl)
theorem L_v25 : V m c main_v25 = (select : (⟨S8448x4x2x128, .i1⟩ : BufTy).Contents (Elt F) → (⟨S8448x4x2x128, .f32⟩ : BufTy).Contents (Elt F) → (⟨S8448x4x2x128, .f32⟩ : BufTy).Contents (Elt F) → (⟨S8448x4x2x128, .f32⟩ : BufTy).Contents (Elt F)) (V m c main_v22) (V m c main_v24) (V m c main_v9) :=
  (line m c 36 rfl (by decide)).trans (by rw [StableHlo.ternary_result', kept m c 36 main_v22 (by decide), kept m c 36 main_v24 (by decide), kept m c 36 main_v9 (by decide)] <;> rfl)
theorem L_c_9 : V m c main_c_9 = (constantI S_ 32 1#32) :=
  (line m c 37 rfl (by decide)).trans (by rw [StableHlo.nullary_result'] <;> rfl)
theorem L_v26 : V m c main_v26 = (broadcastInDim S8448x4x2x128 ![] bcast_S_S8448x4x2x128 : (⟨S_, .i32⟩ : BufTy).Contents (Elt F) → (⟨S8448x4x2x128, .i32⟩ : BufTy).Contents (Elt F)) (V m c main_c_9) :=
  (line m c 38 rfl (by decide)).trans (by rw [StableHlo.unary_result', kept m c 38 main_c_9 (by decide)] <;> rfl)
theorem L_v27 : V m c main_v27 = (cmpi .eq : (⟨S8448x4x2x128, .i32⟩ : BufTy).Contents (Elt F) → (⟨S8448x4x2x128, .i32⟩ : BufTy).Contents (Elt F) → (⟨S8448x4x2x128, .i1⟩ : BufTy).Contents (Elt F)) (V m c main_v20) (V m c main_v26) :=
  (line m c 39 rfl (by decide)).trans (by rw [StableHlo.binary_result', kept m c 39 main_v20 (by decide), kept m c 39 main_v26 (by decide)] <;> rfl)
theorem L_cst_10 : V m c main_cst_10 = (constant S_ .f32 0x3D800000#32) :=
  (line m c 40 rfl (by decide)).trans (by rw [StableHlo.nullary_result'] <;> rfl)
theorem L_v28 : V m c main_v28 = (broadcastInDim S8448x4x2x128 ![] bcast_S_S8448x4x2x128 : (⟨S_, .f32⟩ : BufTy).Contents (Elt F) → (⟨S8448x4x2x128, .f32⟩ : BufTy).Contents (Elt F)) (V m c main_cst_10) :=
  (line m c 41 rfl (by decide)).trans (by rw [StableHlo.unary_result', kept m c 41 main_cst_10 (by decide)] <;> rfl)
theorem L_v29 : V m c main_v29 = (addf : (⟨S8448x4x2x128, .f32⟩ : BufTy).Contents (Elt F) → (⟨S8448x4x2x128, .f32⟩ : BufTy).Contents (Elt F) → (⟨S8448x4x2x128, .f32⟩ : BufTy).Contents (Elt F)) (V m c main_v9) (V m c main_v28) :=
  (line m c 42 rfl (by decide)).trans (by rw [StableHlo.binary_result', kept m c 42 main_v9 (by decide), kept m c 42 main_v28 (by decide)] <;> rfl)
theorem L_v30 : V m c main_v30 = (select : (⟨S8448x4x2x128, .i1⟩ : BufTy).Contents (Elt F) → (⟨S8448x4x2x128, .f32⟩ : BufTy).Contents (Elt F) → (⟨S8448x4x2x128, .f32⟩ : BufTy).Contents (Elt F) → (⟨S8448x4x2x128, .f32⟩ : BufTy).Contents (Elt F)) (V m c main_v27) (V m c main_v29) (V m c main_v25) :=
  (line m c 43 rfl (by decide)).trans (by rw [StableHlo.ternary_result', kept m c 43 main_v27 (by decide), kept m c 43 main_v29 (by decide), kept m c 43 main_v25 (by decide)] <;> rfl)
theorem L_c_11 : V m c main_c_11 = (constantI S_ 32 2#32) :=
  (line m c 44 rfl (by decide)).trans (by rw [StableHlo.nullary_result'] <;> rfl)
theorem L_v31 : V m c main_v31 = (broadcastInDim S8448x4x2x128 ![] bcast_S_S8448x4x2x128 : (⟨S_, .i32⟩ : BufTy).Contents (Elt F) → (⟨S8448x4x2x128, .i32⟩ : BufTy).Contents (Elt F)) (V m c main_c_11) :=
  (line m c 45 rfl (by decide)).trans (by rw [StableHlo.unary_result', kept m c 45 main_c_11 (by decide)] <;> rfl)
theorem L_v32 : V m c main_v32 = (cmpi .eq : (⟨S8448x4x2x128, .i32⟩ : BufTy).Contents (Elt F) → (⟨S8448x4x2x128, .i32⟩ : BufTy).Contents (Elt F) → (⟨S8448x4x2x128, .i1⟩ : BufTy).Contents (Elt F)) (V m c main_v20) (V m c main_v31) :=
  (line m c 46 rfl (by decide)).trans (by rw [StableHlo.binary_result', kept m c 46 main_v20 (by decide), kept m c 46 main_v31 (by decide)] <;> rfl)
theorem L_cst_12 : V m c main_cst_12 = (constant S_ .f32 0x3C800000#32) :=
  (line m c 47 rfl (by decide)).trans (by rw [StableHlo.nullary_result'] <;> rfl)
theorem L_v33 : V m c main_v33 = (broadcastInDim S8448x4x2x128 ![] bcast_S_S8448x4x2x128 : (⟨S_, .f32⟩ : BufTy).Contents (Elt F) → (⟨S8448x4x2x128, .f32⟩ : BufTy).Contents (Elt F)) (V m c main_cst_12) :=
  (line m c 48 rfl (by decide)).trans (by rw [StableHlo.unary_result', kept m c 48 main_cst_12 (by decide)] <;> rfl)
theorem L_v34 : V m c main_v34 = (addf : (⟨S8448x4x2x128, .f32⟩ : BufTy).Contents (Elt F) → (⟨S8448x4x2x128, .f32⟩ : BufTy).Contents (Elt F) → (⟨S8448x4x2x128, .f32⟩ : BufTy).Contents (Elt F)) (V m c main_v9) (V m c main_v33) :=
  (line m c 49 rfl (by decide)).trans (by rw [StableHlo.binary_result', kept m c 49 main_v9 (by decide), kept m c 49 main_v33 (by decide)] <;> rfl)
theorem L_v35 : V m c main_v35 = (select : (⟨S8448x4x2x128, .i1⟩ : BufTy).Contents (Elt F) → (⟨S8448x4x2x128, .f32⟩ : BufTy).Contents (Elt F) → (⟨S8448x4x2x128, .f32⟩ : BufTy).Contents (Elt F) → (⟨S8448x4x2x128, .f32⟩ : BufTy).Contents (Elt F)) (V m c main_v32) (V m c main_v34) (V m c main_v30) :=
  (line m c 50 rfl (by decide)).trans (by rw [StableHlo.ternary_result', kept m c 50 main_v32 (by decide), kept m c 50 main_v34 (by decide), kept m c 50 main_v30 (by decide)] <;> rfl)
theorem L_c_13 : V m c main_c_13 = (constantI S_ 32 3#32) :=
  (line m c 51 rfl (by decide)).trans (by rw [StableHlo.nullary_result'] <;> rfl)
theorem L_v36 : V m c main_v36 = (broadcastInDim S8448x4x2x128 ![] bcast_S_S8448x4x2x128 : (⟨S_, .i32⟩ : BufTy).Contents (Elt F) → (⟨S8448x4x2x128, .i32⟩ : BufTy).Contents (Elt F)) (V m c main_c_13) :=
  (line m c 52 rfl (by decide)).trans (by rw [StableHlo.unary_result', kept m c 52 main_c_13 (by decide)] <;> rfl)
theorem L_v37 : V m c main_v37 = (cmpi .eq : (⟨S8448x4x2x128, .i32⟩ : BufTy).Contents (Elt F) → (⟨S8448x4x2x128, .i32⟩ : BufTy).Contents (Elt F) → (⟨S8448x4x2x128, .i1⟩ : BufTy).Contents (Elt F)) (V m c main_v20) (V m c main_v36) :=
  (line m c 53 rfl (by decide)).trans (by rw [StableHlo.binary_result', kept m c 53 main_v20 (by decide), kept m c 53 main_v36 (by decide)] <;> rfl)
theorem L_cst_14 : V m c main_cst_14 = (constant S_ .f32 0x3B800000#32) :=
  (line m c 54 rfl (by decide)).trans (by rw [StableHlo.nullary_result'] <;> rfl)
theorem L_v38 : V m c main_v38 = (broadcastInDim S8448x4x2x128 ![] bcast_S_S8448x4x2x128 : (⟨S_, .f32⟩ : BufTy).Contents (Elt F) → (⟨S8448x4x2x128, .f32⟩ : BufTy).Contents (Elt F)) (V m c main_cst_14) :=
  (line m c 55 rfl (by decide)).trans (by rw [StableHlo.unary_result', kept m c 55 main_cst_14 (by decide)] <;> rfl)
theorem L_v39 : V m c main_v39 = (addf : (⟨S8448x4x2x128, .f32⟩ : BufTy).Contents (Elt F) → (⟨S8448x4x2x128, .f32⟩ : BufTy).Contents (Elt F) → (⟨S8448x4x2x128, .f32⟩ : BufTy).Contents (Elt F)) (V m c main_v9) (V m c main_v38) :=
  (line m c 56 rfl (by decide)).trans (by rw [StableHlo.binary_result', kept m c 56 main_v9 (by decide), kept m c 56 main_v38 (by decide)] <;> rfl)
theorem L_v40 : V m c main_v40 = (select : (⟨S8448x4x2x128, .i1⟩ : BufTy).Contents (Elt F) → (⟨S8448x4x2x128, .f32⟩ : BufTy).Contents (Elt F) → (⟨S8448x4x2x128, .f32⟩ : BufTy).Contents (Elt F) → (⟨S8448x4x2x128, .f32⟩ : BufTy).Contents (Elt F)) (V m c main_v37) (V m c main_v39) (V m c main_v35) :=
  (line m c 57 rfl (by decide)).trans (by rw [StableHlo.ternary_result', kept m c 57 main_v37 (by decide), kept m c 57 main_v39 (by decide), kept m c 57 main_v35 (by decide)] <;> rfl)
theorem L_cst_15 : V m c main_cst_15 = (constant S_ .f32 0x40000000#32) :=
  (line m c 58 rfl (by decide)).trans (by rw [StableHlo.nullary_result'] <;> rfl)
theorem L_v41 : V m c main_v41 = (Host.log : (⟨S_, .f32⟩ : BufTy).Contents (Elt F) → (⟨S_, .f32⟩ : BufTy).Contents (Elt F)) (V m c main_cst_15) :=
  (line m c 59 rfl (by decide)).trans (by rw [StableHlo.unary_result', kept m c 59 main_cst_15 (by decide)] <;> rfl)
theorem L_v42 : V m c main_v42 = (id : (⟨S_, .f32⟩ : BufTy).Contents (Elt F) → (⟨S_, .f32⟩ : BufTy).Contents (Elt F)) (V m c main_v41) :=
  (line m c 60 rfl (by decide)).trans (by rw [StableHlo.unary_result', kept m c 60 main_v41 (by decide)] <;> rfl)
theorem L_v43 : V m c main_v43 = (broadcastInDim S8448x4x2x128 ![] bcast_S_S8448x4x2x128 : (⟨S_, .f32⟩ : BufTy).Contents (Elt F) → (⟨S8448x4x2x128, .f32⟩ : BufTy).Contents (Elt F)) (V m c main_v42) :=
  (line m c 61 rfl (by decide)).trans (by rw [StableHlo.unary_result', kept m c 61 main_v42 (by decide)] <;> rfl)
theorem L_v44 : V m c main_v44 = (Host.divf : (⟨S8448x4x2x128, .f32⟩ : BufTy).Contents (Elt F) → (⟨S8448x4x2x128, .f32⟩ : BufTy).Contents (Elt F) → (⟨S8448x4x2x128, .f32⟩ : BufTy).Contents (Elt F)) (V m c main_v40) (V m c main_v43) :=
  (line m c 62 rfl (by decide)).trans (by rw [StableHlo.binary_result', kept m c 62 main_v40 (by decide), kept m c 62 main_v43 (by decide)] <;> rfl)
theorem L_v45 : V m c main_v45 = (mulf : (⟨S8448x4x2x128, .f32⟩ : BufTy).Contents (Elt F) → (⟨S8448x4x2x128, .f32⟩ : BufTy).Contents (Elt F) → (⟨S8448x4x2x128, .f32⟩ : BufTy).Contents (Elt F)) (V m c main_v19) (V m c main_v44) :=
  (line m c 63 rfl (by decide)).trans (by rw [StableHlo.binary_result', kept m c 63 main_v19 (by decide), kept m c 63 main_v44 (by decide)] <;> rfl)
theorem L_v46 : V m c main_v46 = ((truncf .bf16 · bitsLt_bf16_f32) : (⟨S8448x4x2x128, .f32⟩ : BufTy).Contents (Elt F) → (⟨S8448x4x2x128, .bf16⟩ : BufTy).Contents (Elt F)) (V m c main_v45) :=
  (line m c 64 rfl (by decide)).trans (by rw [StableHlo.unary_result', kept m c 64 main_v45 (by decide)] <;> rfl)
theorem L_v47 : V m c main_v47 = ((extf .f32 · bitsLt_bf16_f32) : (⟨S8448x4x2x128, .bf16⟩ : BufTy).Contents (Elt F) → (⟨S8448x4x2x128, .f32⟩ : BufTy).Contents (Elt F)) (V m c main_v46) :=
  (line m c 65 rfl (by decide)).trans (by rw [StableHlo.unary_result', kept m c 65 main_v46 (by decide)] <;> rfl)
theorem L_v48 : V m c main_v48 = (subf : (⟨S8448x4x2x128, .f32⟩ : BufTy).Contents (Elt F) → (⟨S8448x4x2x128, .f32⟩ : BufTy).Contents (Elt F) → (⟨S8448x4x2x128, .f32⟩ : BufTy).Contents (Elt F)) (V m c main_v45) (V m c main_v47) :=
  (line m c 66 rfl (by decide)).trans (by rw [StableHlo.binary_result', kept m c 66 main_v45 (by decide), kept m c 66 main_v47 (by decide)] <;> rfl)
theorem L_v49 : V m c main_v49 = ((truncf .bf16 · bitsLt_bf16_f32) : (⟨S8448x4x2x128, .f32⟩ : BufTy).Contents (Elt F) → (⟨S8448x4x2x128, .bf16⟩ : BufTy).Contents (Elt F)) (V m c main_v48) :=
  (line m c 67 rfl (by decide)).trans (by rw [StableHlo.unary_result', kept m c 67 main_v48 (by decide)] <;> rfl)
theorem L_v50 : V m c main_v50 = ((extf .f32 · bitsLt_bf16_f32) : (⟨S8448x4x2x128, .bf16⟩ : BufTy).Contents (Elt F) → (⟨S8448x4x2x128, .f32⟩ : BufTy).Contents (Elt F)) (V m c main_v49) :=
  (line m c 68 rfl (by decide)).trans (by rw [StableHlo.unary_result', kept m c 68 main_v49 (by decide)] <;> rfl)
theorem L_v51 : V m c main_v51 = (subf : (⟨S8448x4x2x128, .f32⟩ : BufTy).Contents (Elt F) → (⟨S8448x4x2x128, .f32⟩ : BufTy).Contents (Elt F) → (⟨S8448x4x2x128, .f32⟩ : BufTy).Contents (Elt F)) (V m c main_v45) (V m c main_v47) :=
  (line m c 69 rfl (by decide)).trans (by rw [StableHlo.binary_result', kept m c 69 main_v45 (by decide), kept m c 69 main_v47 (by decide)] <;> rfl)
theorem L_v52 : V m c main_v52 = (subf : (⟨S8448x4x2x128, .f32⟩ : BufTy).Contents (Elt F) → (⟨S8448x4x2x128, .f32⟩ : BufTy).Contents (Elt F) → (⟨S8448x4x2x128, .f32⟩ : BufTy).Contents (Elt F)) (V m c main_v51) (V m c main_v50) :=
  (line m c 70 rfl (by decide)).trans (by rw [StableHlo.binary_result', kept m c 70 main_v51 (by decide), kept m c 70 main_v50 (by decide)] <;> rfl)
theorem L_c_16 : V m c main_c_16 = (constantI S_ 32 0#32) :=
  (line m c 71 rfl (by decide)).trans (by rw [StableHlo.nullary_result'] <;> rfl)
theorem L_v53 : V m c main_v53 = (broadcastInDim S8448x4x2x128 ![] bcast_S_S8448x4x2x128 : (⟨S_, .i32⟩ : BufTy).Contents (Elt F) → (⟨S8448x4x2x128, .i32⟩ : BufTy).Contents (Elt F)) (V m c main_c_16) :=
  (line m c 72 rfl (by decide)).trans (by rw [StableHlo.unary_result', kept m c 72 main_c_16 (by decide)] <;> rfl)
theorem L_v54 : V m c main_v54 = (cmpi .eq : (⟨S8448x4x2x128, .i32⟩ : BufTy).Contents (Elt F) → (⟨S8448x4x2x128, .i32⟩ : BufTy).Contents (Elt F) → (⟨S8448x4x2x128, .i1⟩ : BufTy).Contents (Elt F)) (V m c main_v8) (V m c main_v53) :=
  (line m c 73 rfl (by decide)).trans (by rw [StableHlo.binary_result', kept m c 73 main_v8 (by decide), kept m c 73 main_v53 (by decide)] <;> rfl)
theorem L_c_17 : V m c main_c_17 = (constantI S_ 32 1#32) :=
  (line m c 74 rfl (by decide)).trans (by rw [StableHlo.nullary_result'] <;> rfl)
theorem L_v55 : V m c main_v55 = (broadcastInDim S8448x4x2x128 ![] bcast_S_S8448x4x2x128 : (⟨S_, .i32⟩ : BufTy).Contents (Elt F) → (⟨S8448x4x2x128, .i32⟩ : BufTy).Contents (Elt F)) (V m c main_c_17) :=
  (line m c 75 rfl (by decide)).trans (by rw [StableHlo.unary_result', kept m c 75 main_c_17 (by decide)] <;> rfl)
theorem L_v56 : V m c main_v56 = (cmpi .eq : (⟨S8448x4x2x128, .i32⟩ : BufTy).Contents (Elt F) → (⟨S8448x4x2x128, .i32⟩ : BufTy).Contents (Elt F) → (⟨S8448x4x2x128, .i1⟩ : BufTy).Contents (Elt F)) (V m c main_v8) (V m c main_v55) :=
  (line m c 76 rfl (by decide)).trans (by rw [StableHlo.binary_result', kept m c 76 main_v8 (by decide), kept m c 76 main_v55 (by decide)] <;> rfl)
theorem L_c_18 : V m c main_c_18 = (constantI S_ 32 2#32) :=
  (line m c 77 rfl (by decide)).trans (by rw [StableHlo.nullary_result'] <;> rfl)
theorem L_v57 : V m c main_v57 = (broadcastInDim S8448x4x2x128 ![] bcast_S_S8448x4x2x128 : (⟨S_, .i32⟩ : BufTy).Contents (Elt F) → (⟨S8448x4x2x128, .i32⟩ : BufTy).Contents (Elt F)) (V m c main_c_18) :=
  (line m c 78 rfl (by decide)).trans (by rw [StableHlo.unary_result', kept m c 78 main_c_18 (by decide)] <;> rfl)
theorem L_v58 : V m c main_v58 = (cmpi .eq : (⟨S8448x4x2x128, .i32⟩ : BufTy).Contents (Elt F) → (⟨S8448x4x2x128, .i32⟩ : BufTy).Contents (Elt F) → (⟨S8448x4x2x128, .i1⟩ : BufTy).Contents (Elt F)) (V m c main_v8) (V m c main_v57) :=
  (line m c 79 rfl (by decide)).trans (by rw [StableHlo.binary_result', kept m c 79 main_v8 (by decide), kept m c 79 main_v57 (by decide)] <;> rfl)
theorem L_v59 : V m c main_v59 = (select : (⟨S8448x4x2x128, .i1⟩ : BufTy).Contents (Elt F) → (⟨S8448x4x2x128, .f32⟩ : BufTy).Contents (Elt F) → (⟨S8448x4x2x128, .f32⟩ : BufTy).Contents (Elt F) → (⟨S8448x4x2x128, .f32⟩ : BufTy).Contents (Elt F)) (V m c main_v58) (V m c main_v52) (V m c main_v9) :=
  (line m c 80 rfl (by decide)).trans (by rw [StableHlo.ternary_result', kept m c 80 main_v58 (by decide), kept m c 80 main_v52 (by decide), kept m c 80 main_v9 (by decide)] <;> rfl)
theorem L_v60 : V m c main_v60 = (select : (⟨S8448x4x2x128, .i1⟩ : BufTy).Contents (Elt F) → (⟨S8448x4x2x128, .f32⟩ : BufTy).Contents (Elt F) → (⟨S8448x4x2x128, .f32⟩ : BufTy).Contents (Elt F) → (⟨S8448x4x2x128, .f32⟩ : BufTy).Contents (Elt F)) (V m c main_v56) (V m c main_v50) (V m c main_v59) :=
  (line m c 81 rfl (by decide)).trans (by rw [StableHlo.ternary_result', kept m c 81 main_v56 (by decide), kept m c 81 main_v50 (by decide), kept m c 81 main_v59 (by decide)] <;> rfl)
theorem L_v61 : V m c main_v61 = (select : (⟨S8448x4x2x128, .i1⟩ : BufTy).Contents (Elt F) → (⟨S8448x4x2x128, .f32⟩ : BufTy).Contents (Elt F) → (⟨S8448x4x2x128, .f32⟩ : BufTy).Contents (Elt F) → (⟨S8448x4x2x128, .f32⟩ : BufTy).Contents (Elt F)) (V m c main_v54) (V m c main_v47) (V m c main_v60) :=
  (line m c 82 rfl (by decide)).trans (by rw [StableHlo.ternary_result', kept m c 82 main_v54 (by decide), kept m c 82 main_v47 (by decide), kept m c 82 main_v60 (by decide)] <;> rfl)
theorem L_v62 : V m c main_v62 = ((truncf .bf16 · bitsLt_bf16_f32) : (⟨S8448x4x2x128, .f32⟩ : BufTy).Contents (Elt F) → (⟨S8448x4x2x128, .bf16⟩ : BufTy).Contents (Elt F)) (V m c main_v61) :=
  (line m c 83 rfl (by decide)).trans (by rw [StableHlo.unary_result', kept m c 83 main_v61 (by decide)] <;> rfl)
theorem L_v63 : V m c main_v63 = ((fun a b => concatenate S8448x4x2x256 3 [⟨S8448x4x2x128, a⟩, ⟨S8448x4x2x128, b⟩] concatenates_S8448x4x2x128_S8448x4x2x128_S8448x4x2x256_d3) : (⟨S8448x4x2x128, .bf16⟩ : BufTy).Contents (Elt F) → (⟨S8448x4x2x128, .bf16⟩ : BufTy).Contents (Elt F) → (⟨S8448x4x2x256, .bf16⟩ : BufTy).Contents (Elt F)) (V m c main_v7) (V m c main_v15) :=
  (line m c 84 rfl (by decide)).trans (by rw [StableHlo.binary_result', kept m c 84 main_v7 (by decide), kept m c 84 main_v15 (by decide)] <;> rfl)
theorem L_v64 : V m c main_v64 = fun i => shapeCast (Ref.ty main_v64).shape (V m c main_v63) shapeCasts_S8448x4x2x256_S8448x4x512 i :=
  (line m c 85 rfl (by decide)).trans (by rw [StableHlo.reshape_result', kept m c 85 main_v63 (by decide)] <;> rfl)
theorem L_v65 : V m c main_v65 = ((transpose S4x8448x512 [1, 0, 2] · transposes_S8448x4x512_S4x8448x512_1_0_2) : (⟨S8448x4x512, .bf16⟩ : BufTy).Contents (Elt F) → (⟨S4x8448x512, .bf16⟩ : BufTy).Contents (Elt F)) (V m c main_v64) :=
  (line m c 86 rfl (by decide)).trans (by rw [StableHlo.unary_result', kept m c 86 main_v64 (by decide)] <;> rfl)
theorem L_v66 : V m c main_v66 = fun i => shapeCast (Ref.ty main_v66).shape (V m c main_arg1) shapeCasts_S8448x1024_S8448x4x2x128 i :=
  (line m c 87 rfl (by decide)).trans (by rw [StableHlo.reshape_result', kept m c 87 main_arg1 (by decide)] <;> rfl)
theorem L_v67 : V m c main_v67 = ((truncf .bf16 · bitsLt_bf16_f32) : (⟨S8448x4x2x128, .f32⟩ : BufTy).Contents (Elt F) → (⟨S8448x4x2x128, .bf16⟩ : BufTy).Contents (Elt F)) (V m c main_v66) :=
  (line m c 88 rfl (by decide)).trans (by rw [StableHlo.unary_result', kept m c 88 main_v66 (by decide)] <;> rfl)
theorem L_v68 : V m c main_v68 = ((fun a b => concatenate S8448x4x2x256 3 [⟨S8448x4x2x128, a⟩, ⟨S8448x4x2x128, b⟩] concatenates_S8448x4x2x128_S8448x4x2x128_S8448x4x2x256_d3) : (⟨S8448x4x2x128, .bf16⟩ : BufTy).Contents (Elt F) → (⟨S8448x4x2x128, .bf16⟩ : BufTy).Contents (Elt F) → (⟨S8448x4x2x256, .bf16⟩ : BufTy).Contents (Elt F)) (V m c main_v67) (V m c main_v62) :=
  (line m c 89 rfl (by decide)).trans (by rw [StableHlo.binary_result', kept m c 89 main_v67 (by decide), kept m c 89 main_v62 (by decide)] <;> rfl)
theorem L_v69 : V m c main_v69 = fun i => shapeCast (Ref.ty main_v69).shape (V m c main_v68) shapeCasts_S8448x4x2x256_S8448x4x512 i :=
  (line m c 90 rfl (by decide)).trans (by rw [StableHlo.reshape_result', kept m c 90 main_v68 (by decide)] <;> rfl)
theorem L_v70 : V m c main_v70 = ((transpose S4x8448x512 [1, 0, 2] · transposes_S8448x4x512_S4x8448x512_1_0_2) : (⟨S8448x4x512, .bf16⟩ : BufTy).Contents (Elt F) → (⟨S4x8448x512, .bf16⟩ : BufTy).Contents (Elt F)) (V m c main_v69) :=
  (line m c 91 rfl (by decide)).trans (by rw [StableHlo.unary_result', kept m c 91 main_v69 (by decide)] <;> rfl)
theorem L_v71 : V m c main_v71 = (broadcastInDim S1x4x8448x512 ![1, 2, 3] bcast_S4x8448x512_S1x4x8448x512_1_2_3 : (⟨S4x8448x512, .bf16⟩ : BufTy).Contents (Elt F) → (⟨S1x4x8448x512, .bf16⟩ : BufTy).Contents (Elt F)) (V m c main_v65) :=
  (line m c 92 rfl (by decide)).trans (by rw [StableHlo.unary_result', kept m c 92 main_v65 (by decide)] <;> rfl)
theorem L_v72 : V m c main_v72 = (broadcastInDim S1x4x8448x512 ![1, 2, 3] bcast_S4x8448x512_S1x4x8448x512_1_2_3 : (⟨S4x8448x512, .bf16⟩ : BufTy).Contents (Elt F) → (⟨S1x4x8448x512, .bf16⟩ : BufTy).Contents (Elt F)) (V m c main_v70) :=
  (line m c 93 rfl (by decide)).trans (by rw [StableHlo.unary_result', kept m c 93 main_v70 (by decide)] <;> rfl)
theorem L_v73 : V m c main_v73 = ((fun a b => concatenate S2x4x8448x512 0 [⟨S1x4x8448x512, a⟩, ⟨S1x4x8448x512, b⟩] concatenates_S1x4x8448x512_S1x4x8448x512_S2x4x8448x512_d0) : (⟨S1x4x8448x512, .bf16⟩ : BufTy).Contents (Elt F) → (⟨S1x4x8448x512, .bf16⟩ : BufTy).Contents (Elt F) → (⟨S2x4x8448x512, .bf16⟩ : BufTy).Contents (Elt F)) (V m c main_v71) (V m c main_v72) :=
  (line m c 94 rfl (by decide)).trans (by rw [StableHlo.binary_result', kept m c 94 main_v71 (by decide), kept m c 94 main_v72 (by decide)] <;> rfl)
theorem L_v74 : V m c main_v74 = fun i => shapeCast (Ref.ty main_v74).shape (V m c main_arg2) shapeCasts_S8448x1024_S8448x4x256 i :=
  (line m c 95 rfl (by decide)).trans (by rw [StableHlo.reshape_result', kept m c 95 main_arg2 (by decide)] <;> rfl)
theorem L_v75 : V m c main_v75 = ((transpose S4x8448x256 [1, 0, 2] · transposes_S8448x4x256_S4x8448x256_1_0_2) : (⟨S8448x4x256, .f32⟩ : BufTy).Contents (Elt F) → (⟨S4x8448x256, .f32⟩ : BufTy).Contents (Elt F)) (V m c main_v74) :=
  (line m c 96 rfl (by decide)).trans (by rw [StableHlo.unary_result', kept m c 96 main_v74 (by decide)] <;> rfl)
theorem L_v76 : V m c main_v76 = ((truncf .bf16 · bitsLt_bf16_f32) : (⟨S4x8448x256, .f32⟩ : BufTy).Contents (Elt F) → (⟨S4x8448x256, .bf16⟩ : BufTy).Contents (Elt F)) (V m c main_v75) :=
  (line m c 97 rfl (by decide)).trans (by rw [StableHlo.unary_result', kept m c 97 main_v75 (by decide)] <;> rfl)
theorem L_cst_19 : V m c main_cst_19 = (constant S_ .f32 0x40000000#32) :=
  (line m c 98 rfl (by decide)).trans (by rw [StableHlo.nullary_result'] <;> rfl)
theorem L_v77 : V m c main_v77 = (Host.log : (⟨S_, .f32⟩ : BufTy).Contents (Elt F) → (⟨S_, .f32⟩ : BufTy).Contents (Elt F)) (V m c main_cst_19) :=
  (line m c 99 rfl (by decide)).trans (by rw [StableHlo.unary_result', kept m c 99 main_cst_19 (by decide)] <;> rfl)
theorem L_v78 : V m c main_v78 = (id : (⟨S_, .f32⟩ : BufTy).Contents (Elt F) → (⟨S_, .f32⟩ : BufTy).Contents (Elt F)) (V m c main_v77) :=
  (line m c 100 rfl (by decide)).trans (by rw [StableHlo.unary_result', kept m c 100 main_v77 (by decide)] <;> rfl)
theorem L_v79 : V m c main_v79 = (broadcastInDim S4x1x128 ![] bcast_S_S4x1x128 : (⟨S_, .f32⟩ : BufTy).Contents (Elt F) → (⟨S4x1x128, .f32⟩ : BufTy).Contents (Elt F)) (V m c main_v78) :=
  (line m c 101 rfl (by decide)).trans (by rw [StableHlo.unary_result', kept m c 101 main_v78 (by decide)] <;> rfl)
theorem L_v80 : V m c main_v80 = (Host.divf : (⟨S4x1x128, .f32⟩ : BufTy).Contents (Elt F) → (⟨S4x1x128, .f32⟩ : BufTy).Contents (Elt F) → (⟨S4x1x128, .f32⟩ : BufTy).Contents (Elt F)) (V m c main_cst) (V m c main_v79) :=
  (line m c 102 rfl (by decide)).trans (by rw [StableHlo.binary_result', kept m c 102 main_cst (by decide), kept m c 102 main_v79 (by decide)] <;> rfl)

theorem V_v7 : V m c main_v7 = hv7 (F := F) (m ((c.tc : Thread nD τ).loc main_arg0)) := by
  unfold hv7
  rw [L_v7 m c, L_v6 m c, L_v5 m c, L_v4 m c, L_v3 m c, L_cst_2 m c, L_v2 m c, L_v1 m c, L_cst_1 m c, L_v0 m c, V_of_unwritten m c main_arg0 (by decide)] <;> rfl

theorem V_v15 : V m c main_v15 = hv15 (F := F)  := by
  unfold hv15
  rw [L_v15 m c, L_v14 m c, L_v13 m c, L_v12 m c, L_cst_5 m c, L_v11 m c, L_v10 m c, L_c_4 m c, L_v9 m c, L_cst_3 m c, L_v8 m c] <;> rfl

theorem V_v45 : V m c main_v45 = hv45 (F := F)  := by
  unfold hv45
  rw [L_v45 m c, L_v44 m c, L_v43 m c, L_v42 m c, L_v41 m c, L_cst_15 m c, L_v40 m c, L_v39 m c, L_v38 m c, L_cst_14 m c, L_v37 m c, L_v36 m c, L_c_13 m c, L_v35 m c, L_v34 m c, L_v33 m c, L_cst_12 m c, L_v32 m c, L_v31 m c, L_c_11 m c, L_v30 m c, L_v29 m c, L_v28 m c, L_cst_10 m c, L_v27 m c, L_v26 m c, L_c_9 m c, L_v25 m c, L_v24 m c, L_v23 m c, L_cst_8 m c, L_v22 m c, L_v21 m c, L_c_7 m c, L_v20 m c, L_v19 m c, L_v18 m c, L_v17 m c, L_c_6 m c, L_v16 m c, L_v9 m c, L_cst_3 m c] <;> rfl

theorem V_v62 : V m c main_v62 = hv62 (F := F)  := by
  unfold hv62
  rw [L_v62 m c, L_v61 m c, L_v60 m c, L_v59 m c, L_v58 m c, L_v57 m c, L_c_18 m c, L_v56 m c, L_v55 m c, L_c_17 m c, L_v54 m c, L_v53 m c, L_c_16 m c, L_v52 m c, L_v51 m c, L_v50 m c, L_v49 m c, L_v48 m c, L_v47 m c, L_v46 m c, L_v9 m c, L_cst_3 m c, L_v8 m c, V_v45 m c] <;> rfl

theorem V_v65 : V m c main_v65 = hv65 (F := F) (m ((c.tc : Thread nD τ).loc main_arg0)) := by
  unfold hv65
  rw [L_v65 m c, L_v64 m c, L_v63 m c, V_v7 m c, V_v15 m c] <;> rfl

theorem V_v67 : V m c main_v67 = hv67 (F := F) (m ((c.tc : Thread nD τ).loc main_arg1)) := by
  unfold hv67
  rw [L_v67 m c, L_v66 m c, V_of_unwritten m c main_arg1 (by decide)] <;> rfl

theorem V_v70 : V m c main_v70 = hv70 (F := F) (m ((c.tc : Thread nD τ).loc main_arg1)) := by
  unfold hv70
  rw [L_v70 m c, L_v69 m c, L_v68 m c, V_v67 m c, V_v62 m c] <;> rfl

theorem V_v73 : V m c main_v73 = hv73 (F := F) (m ((c.tc : Thread nD τ).loc main_arg0)) (m ((c.tc : Thread nD τ).loc main_arg1)) := by
  unfold hv73
  rw [L_v73 m c, L_v72 m c, L_v71 m c, V_v65 m c, V_v70 m c] <;> rfl

theorem V_v76 : V m c main_v76 = hv76 (F := F) (m ((c.tc : Thread nD τ).loc main_arg2)) := by
  unfold hv76
  rw [L_v76 m c, L_v75 m c, L_v74 m c, V_of_unwritten m c main_arg2 (by decide)] <;> rfl

theorem V_v80 : V m c main_v80 = hv80 (F := F)  := by
  unfold hv80
  rw [L_v80 m c, L_v79 m c, L_v78 m c, L_v77 m c, L_cst_19 m c, L_cst m c] <;> rfl

end Lines

end Cert.AttnIdeal.Flash

end
-- ==== Proof.AttnBlk.lean ====
module

public import proofs.«01_k».proof.Proof.AttnHost
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.AttnIdeal.Flash

open Cert.AttnIdeal Cert.AttnIdeal.Gen Idealize.ShloMosaic Idealize.ShloMosaic.TcCoe Idealize.SL.Sem
open Idealize.ShloMosaic.Pipeline (Dat)

/-! ## The blocks a point reads, at their places in the arrays -/

variable (m : (ℓ : Loc nD τ sig) → Buf (Elt Ideal) ℓ) (c : Dev nD)

/-- The tile row and tile column of a point, as numbers. -/
def ti (t : Fin (C (F := Ideal)).N) : ℕ := (qi (grid0.coords t)).toNat
def tj (t : Fin (C (F := Ideal)).N) : ℕ := (kj (grid0.coords t)).toNat

theorem tile_facts : ∀ t : Fin grid0.N, (qi (grid0.coords t)).toNat < 11 ∧ (kj (grid0.coords t)).toNat ≤ (qi (grid0.coords t)).toNat
    ∧ (isDiag (qi (grid0.coords t)) (kj (grid0.coords t)) ↔ (kj (grid0.coords t)).toNat = (qi (grid0.coords t)).toNat)
    ∧ (isFirst (kj (grid0.coords t)) ↔ (kj (grid0.coords t)).toNat = 0)
    ∧ ((kj (grid0.coords t) - qi (grid0.coords t)) * 768#32).toInt = (((kj (grid0.coords t)).toNat : ℤ) - ((qi (grid0.coords t)).toNat : ℤ)) * 768 := by
  decide +kernel

theorem ti_lt (t : Fin (C (F := Ideal)).N) : ti t < 11 := (tile_facts t).1
theorem tj_le (t : Fin (C (F := Ideal)).N) : tj t ≤ ti t := (tile_facts t).2.1

theorem ix_0 (t : Fin (C (F := Ideal)).N) : ((C (F := Ideal)).win 0).index t = ![0, 0, ti t, 0] := tr_0 _
theorem ix_1 (t : Fin (C (F := Ideal)).N) : ((C (F := Ideal)).win 1).index t = ![1, 0, tj t, 0] := tr_1 _
theorem ix_2 (t : Fin (C (F := Ideal)).N) : ((C (F := Ideal)).win 2).index t = ![0, tj t, 0] := tr_2 _
theorem ix_12 (t : Fin (C (F := Ideal)).N) : ((C (F := Ideal)).win 12).index t = ![0, ti t, 0] := tr_12 _

theorem ix_3 (t : Fin (C (F := Ideal)).N) : ((C (F := Ideal)).win 3).index t = ![0, 0, 0] := rfl

theorem blk_0 (t : Fin (C (F := Ideal)).N) (h : Fin 4) (a : Fin 768) (x : Fin 512) (q : Fin 8448) (hq : q.val = 768 * ti t + a.val) :
    (show FVec Ideal S1x4x768x512 .bf16 from iblk m c 0 t) (ix4 0 h a x)
      = hv73 (F := Ideal) (m ((c.tc : Thread nD τ).loc main_arg0)) (m ((c.tc : Thread nD τ).loc main_arg1)) (ix4 0 h q x) := by
  rw [← V_v73 m c]
  blk_point [iblk, ix_0 t]

theorem blk_1 (t : Fin (C (F := Ideal)).N) (h : Fin 4) (b : Fin 768) (x : Fin 512) (k : Fin 8448) (hk : k.val = 768 * tj t + b.val) :
    (show FVec Ideal S1x4x768x512 .bf16 from iblk m c 1 t) (ix4 0 h b x)
      = hv73 (F := Ideal) (m ((c.tc : Thread nD τ).loc main_arg0)) (m ((c.tc : Thread nD τ).loc main_arg1)) (ix4 1 h k x) := by
  rw [← V_v73 m c]
  blk_point [iblk, ix_1 t]

theorem blk_2 (t : Fin (C (F := Ideal)).N) (h : Fin 4) (b : Fin 768) (x : Fin 256) (k : Fin 8448) (hk : k.val = 768 * tj t + b.val) :
    (show FVec Ideal S4x768x256 .bf16 from iblk m c 2 t) (ix3 h b x)
      = hv76 (F := Ideal) (m ((c.tc : Thread nD τ).loc main_arg2)) (ix3 h k x) := by
  rw [← V_v76 m c]
  blk_point [iblk, ix_2 t]

theorem blk_3 (t : Fin (C (F := Ideal)).N) (h : Fin 4) (x : Fin 128) :
    (show FVec Ideal S4x1x128 .f32 from iblk m c 3 t) (ix3 h 0 x) = hv80 (F := Ideal) (ix3 h 0 x) := by
  rw [← V_v80 m c]
  blk_point [iblk, ix_3 t]

theorem ix_4 (t : Fin (C (F := Ideal)).N) : ((C (F := Ideal)).win 4).index t = ![0, 0] := rfl
theorem ix_5 (t : Fin (C (F := Ideal)).N) : ((C (F := Ideal)).win 5).index t = ![0, 0] := rfl
theorem ix_6 (t : Fin (C (F := Ideal)).N) : ((C (F := Ideal)).win 6).index t = ![0, 0] := rfl
theorem ix_7 (t : Fin (C (F := Ideal)).N) : ((C (F := Ideal)).win 7).index t = ![0, 0] := rfl
theorem ix_8 (t : Fin (C (F := Ideal)).N) : ((C (F := Ideal)).win 8).index t = ![0, 0] := rfl

theorem blk_4 (t : Fin (C (F := Ideal)).N) (x : Fin 128) :
    (show FVec Ideal S1x128 .f32 from iblk m c 4 t) (ix2 0 x) = (show FVec Ideal S1x128 .f32 from m ((c.tc : Thread nD τ).loc main_arg3)) (ix2 0 x) := by
  rw [← V_of_unwritten m c main_arg3 (by decide)]
  blk_point [iblk, ix_4 t]
theorem blk_5 (t : Fin (C (F := Ideal)).N) (x : Fin 128) :
    (show FVec Ideal S1x128 .f32 from iblk m c 5 t) (ix2 0 x) = (show FVec Ideal S1x128 .f32 from m ((c.tc : Thread nD τ).loc main_arg4)) (ix2 0 x) := by
  rw [← V_of_unwritten m c main_arg4 (by decide)]
  blk_point [iblk, ix_5 t]
theorem blk_6 (t : Fin (C (F := Ideal)).N) (x : Fin 128) :
    (show FVec Ideal S1x128 .f32 from iblk m c 6 t) (ix2 0 x) = (show FVec Ideal S1x128 .f32 from m ((c.tc : Thread nD τ).loc main_arg5)) (ix2 0 x) := by
  rw [← V_of_unwritten m c main_arg5 (by decide)]
  blk_point [iblk, ix_6 t]
theorem blk_7 (t : Fin (C (F := Ideal)).N) (x : Fin 128) :
    (show FVec Ideal S1x128 .f32 from iblk m c 7 t) (ix2 0 x) = (show FVec Ideal S1x128 .f32 from m ((c.tc : Thread nD τ).loc main_arg6)) (ix2 0 x) := by
  rw [← V_of_unwritten m c main_arg6 (by decide)]
  blk_point [iblk, ix_7 t]
theorem blk_8 (t : Fin (C (F := Ideal)).N) (x : Fin 256) :
    (show FVec Ideal S1x256 .f32 from iblk m c 8 t) (ix2 0 x) = (show FVec Ideal S1x256 .f32 from m ((c.tc : Thread nD τ).loc main_arg7)) (ix2 0 x) := by
  rw [← V_of_unwritten m c main_arg7 (by decide)]
  blk_point [iblk, ix_8 t]

end Cert.AttnIdeal.Flash

end
-- ==== Proof.AttnPay.lean ====
module

public import proofs.«01_k».proof.Proof.AttnIdealStep
public import proofs.«01_k».proof.Proof.AttnIdealRun
public import Idealize.ShloMosaic.Lib.Pipeline.ValueKit
public import Idealize.ShloMosaic.Lib.Pointwise
public import Idealize.ShloMosaic.Lib.WordCmp

@[expose] public section

set_option maxRecDepth 16384

noncomputable section

namespace Cert.AttnIdeal.Flash

open Cert.AttnIdeal Cert.AttnIdeal.Gen Idealize.ShloMosaic Idealize.ShloMosaic.TcCoe Idealize.SL.Sem

/-! ## The kernel's steps over the reals, entry by entry -/

/-- The running maximum starts at minus infinity. -/
theorem pay4_at (y : S8x768x1.Idx) : k0_pay4 (F := Ideal) y = (⊥ : EReal) := by
  pointwise [k0_pay4]
  rfl

/-- The denominator starts at zero. -/
theorem pay5_at (y : S8x768x1.Idx) : k0_pay5 (F := Ideal) y = (0 : EReal) := by
  pointwise [k0_pay5]

/-- The numerator starts at zero. -/
theorem pay6_at (y : S8x768x256.Idx) : k0_pay6 (F := Ideal) y = (0 : EReal) := by
  pointwise [k0_pay6]

/-- The shift of a tile: the head's slope times the tile's distance. -/
theorem pay15_at (w : Ideal .f32) (s : FVec Ideal S1x1x128 .f32) : k0_pay15 (F := Ideal) w s (ix2 0 0) = s (ix3 0 0 0) * w := by
  pointwise [k0_pay15]

/-- The scores of a tile below the diagonal. -/
theorem pay16_at (q k : FVec Ideal S1x1x768x256 .bf16) (a b : Fin 768) :
    k0_pay16 (F := Ideal) q k (ix2 a b) = ∑ d : Fin 256, q (ix4 0 0 a d) * k (ix4 0 0 b d) := by
  pointwise [k0_pay16]

/-- The scores of a tile on the diagonal. -/
theorem pay29_at (q k : FVec Ideal S1x1x768x256 .bf16) (a b : Fin 768) :
    k0_pay29 (F := Ideal) k0_pay46 q k (ix2 a b) = if b.val ≤ a.val then ∑ d : Fin 256, q (ix4 0 0 a d) * k (ix4 0 0 b d) else (⊥ : EReal) := by
  pointwise [k0_pay29, k0_pay46]
  have ha := a.isLt
  have hb := b.isLt
  have hm : Named.named (F := Ideal) (φ := .f32) κ "mask" 0xF149F2CA#32 = (⊥ : EReal) := rfl
  rw [WordCmp.cmpi_sle_ofNat (by omega) (by omega), hm]
  by_cases h : b.val ≤ a.val
  · rw [if_pos h]; simp [h, Scalar.select]
  · rw [if_neg h]; simp [h, Scalar.select]

theorem top_at (sh : FVec Ideal S1x1 .f32) (S : FVec Ideal S768x768 .f32) (a : Fin 768) :
    top sh S (ix2 a 0) = (Finset.univ.sup fun b : Fin 768 => S (ix2 a b)) + sh (ix2 0 0) := by
  pointwise [top]
  have hm : Ideal.ofBits FTy.f32 0xFF800000#32 = (⊥ : EReal) := by simp [Ideal.ofBits, Ideal.ieee]
  rw [hm]
  rfl

theorem nextM_at (sh : FVec Ideal S1x1 .f32) (S : FVec Ideal S768x768 .f32) (mo : FVec Ideal S1x768x1 .f32) (a : Fin 768) :
    nextM sh S mo (ix3 0 a 0) = max (mo (ix3 0 a 0)) (top sh S (ix2 a 0)) := by
  pointwise [nextM, k0_pay13, k0_pay8, k0_pay26]

theorem nextL_at (sh : FVec Ideal S1x1 .f32) (S : FVec Ideal S768x768 .f32) (mo lo : FVec Ideal S1x768x1 .f32) (a : Fin 768) :
    nextL sh S mo lo (ix3 0 a 0) = Ideal.exp2 (mo (ix3 0 a 0) - nextM sh S mo (ix3 0 a 0)) * lo (ix3 0 a 0)
      + ∑ b : Fin 768, Ideal.exp2 (S (ix2 a b) - (nextM sh S mo (ix3 0 a 0) - sh (ix2 0 0))) := by
  rw [nextM_at]
  pointwise [nextL, k0_pay11, k0_pay8, k0_pay9, k0_pay10, k0_pay26]
  rfl

theorem nextA_at (sh : FVec Ideal S1x1 .f32) (S : FVec Ideal S768x768 .f32) (mo : FVec Ideal S1x768x1 .f32) (ao : FVec Ideal S1x768x256 .f32)
    (v : FVec Ideal S1x768x256 .bf16) (a : Fin 768) (e : Fin 256) :
    nextA sh S mo ao v (ix3 0 a e) = Ideal.exp2 (mo (ix3 0 a 0) - nextM sh S mo (ix3 0 a 0)) * ao (ix3 0 a e)
      + ∑ b : Fin 768, Ideal.exp2 (S (ix2 a b) - (nextM sh S mo (ix3 0 a 0) - sh (ix2 0 0))) * v (ix3 0 b e) := by
  rw [nextM_at]
  pointwise [nextA, k0_pay12, k0_pay8, k0_pay9, k0_pay10, k0_pay26]
  rfl

theorem pay48_at (x y z w : FVec Ideal S1x128 .f32) :
    k0_pay48 (F := Ideal) x y z w (ix2 0 0) = Ideal.exp (∑ d : Fin 128, x (ix2 0 d) * y (ix2 0 d)) - Ideal.exp (∑ d : Fin 128, z (ix2 0 d) * w (ix2 0 d))
      + Ideal.ofBits .f32 0x3E4CCCCD#32 := by
  pointwise [k0_pay48]

/-- The root mean square normalisation of one row, with its weight. -/
def rms (f : Fin 256 → EReal) (g : Fin 256 → EReal) (e : Fin 256) : EReal :=
  f e * Ideal.rsqrt (Ideal.div (∑ x, f x * f x) (Ideal.ofBits .f32 0x43800000#32) + Ideal.ofBits .f32 0x3727C5AC#32) * g e * Ideal.ofBits .f32 0x3F4CCCCD#32

theorem epi_at (lam : FVec Ideal S1x1 .f32) (sg : FVec Ideal S1x256 .f32) (a0 a1 : FVec Ideal S1x768x256 .f32) (l0 l1 : FVec Ideal S1x768x1 .f32)
    (a : Fin 768) (e : Fin 256) :
    epi (F := Ideal) lam sg a0 l0 a1 l1 (ix3 0 a e)
      = rms (fun x => Ideal.div (a0 (ix3 0 a x)) (l0 (ix3 0 a 0)) - lam (ix2 0 0) * Ideal.div (a1 (ix3 0 a x)) (l1 (ix3 0 a 0))) (fun x => sg (ix2 0 x)) e := by
  pointwise [epi, rms, k0_pay51, k0_pay50, k0_pay49]

theorem pay7_at (u v : BitVec 32) : k0_pay7 (F := Ideal) u v = ((((v - u) * 768#32).toInt : ℝ) : EReal) := by
  pointwise [k0_pay7]
  rfl

theorem pay1_at (x : FVec Ideal S32x8192 .f32) (y : S32x8192.Idx) : k0_pay1 (F := Ideal) x y = x y := by
  pointwise [k0_pay1]
theorem pay2_at (x : FVec Ideal S128x2048 .f32) (y : S128x2048.Idx) : k0_pay2 (F := Ideal) x y = x y := by
  pointwise [k0_pay2]
theorem pay3_at (x : FVec Ideal S32x2048 .f32) (y : S32x2048.Idx) : k0_pay3 (F := Ideal) x y = x y := by
  pointwise [k0_pay3]

end Cert.AttnIdeal.Flash

end
-- ==== Proof.AttnRow.lean ====
module

public import proofs.«01_k».proof.Proof.AttnBlk
public import proofs.«01_k».proof.Proof.AttnPay

@[expose] public section

set_option maxRecDepth 16384

noncomputable section

namespace Cert.AttnIdeal.Flash

open Cert.AttnIdeal Cert.AttnIdeal.Gen Idealize.ShloMosaic Idealize.ShloMosaic.TcCoe Idealize.SL.Sem
open AttnRefIdeal.Pure (sl scale dotp)
open AttnMath (Good)

/-! ## A row of the scratch buffers, tile after tile -/

/-- The key at a place, the last one past the end. -/
def key (x : ℕ) : Fin 8448 := ⟨min x 8447, by omega⟩

theorem key_val (k : Fin 8448) : key k.val = k := Fin.ext (by have := k.isLt; show min k.val 8447 = k.val; omega)
theorem key_of {x : ℕ} (h : x < 8448) : key x = ⟨x, h⟩ := key_val ⟨x, h⟩

/-- The score of a query and a key, as the reference has it. -/
def Zs (Q K : Fin 8448 → Fin 1024 → ℝ) (h : Fin 4) (c : Fin 2) (q : Fin 8448) (x : ℕ) : ℝ :=
  dotp Q K h c q (key x) * scale - sl h * ((q.val : ℝ) - x)

/-- The same in base two, moved by the tile row's place. -/
def Us (Q K : Fin 8448 → Fin 1024 → ℝ) (h : Fin 4) (c : Fin 2) (q : Fin 8448) (i : ℕ) (x : ℕ) : ℝ :=
  dotp Q K h c q (key x) * scale / Real.log 2 + bias h (key x) + sl h / Real.log 2 * ((((x / 768 : ℕ) : ℝ) - i) * 768)

/-- A head's value at a key. -/
def Vs (X : Fin 8448 → Fin 1024 → ℝ) (h : Fin 4) (x : ℕ) (e : Fin 256) : ℝ := X (key x) ⟨h.val * 256 + e.val, by omega⟩

theorem Us_Zs (Q K : Fin 8448 → Fin 1024 → ℝ) (h : Fin 4) (c : Fin 2) (q : Fin 8448) (i : ℕ) (x : ℕ) (hx : x < 8448) :
    Us Q K h c q i x * Real.log 2 = Zs Q K h c q x + sl h * ((q.val : ℝ) - 768 * i) := by
  unfold Us Zs bias
  have e : (x : ℝ) = 768 * ((x / 768 : ℕ) : ℝ) + ((x % 768 : ℕ) : ℝ) := by
    have := Nat.div_add_mod x 768
    exact_mod_cast this.symm
  rw [show (key x).val = x by rw [key_of hx]]
  have hl := log2_ne
  rw [e]
  field_simp
  ring

section
variable (m : (ℓ : Loc nD τ sig) → Buf (Elt Ideal) ℓ) (c : Dev nD)
variable (Q K X : Fin 8448 → Fin 1024 → ℝ)

/-- The three projections hold real numbers. -/
structure Reals : Prop where
  q : ∀ p j, (show FVec Ideal S8448x1024 .f32 from m ((c.tc : Thread nD τ).loc main_arg0)) (ix2 p j) = (Q p j : EReal)
  k : ∀ p j, (show FVec Ideal S8448x1024 .f32 from m ((c.tc : Thread nD τ).loc main_arg1)) (ix2 p j) = (K p j : EReal)
  v : ∀ p j, (show FVec Ideal S8448x1024 .f32 from m ((c.tc : Thread nD τ).loc main_arg2)) (ix2 p j) = (X p j : EReal)

/-- How many of the tile's keys a row sees. -/
def seen (t : Fin (C (F := Ideal)).N) (a : Fin 768) : ℕ := if tj t = ti t then a.val + 1 else 768

theorem isDiag_iff (t : Fin (C (F := Ideal)).N) : isDiag (qi (grid0.coords t)) (kj (grid0.coords t)) ↔ tj t = ti t := (tile_facts t).2.2.1
theorem isFirst_iff (t : Fin (C (F := Ideal)).N) : isFirst (kj (grid0.coords t)) ↔ tj t = 0 := (tile_facts t).2.2.2.1

variable {m c Q K X}

theorem dot_tile (R : Reals m c Q K X) (t : Fin (C (F := Ideal)).N) (h : Fin 4) (cc : Fin 2) (a b : Fin 768) (q : Fin 8448) (hq : q.val = 768 * ti t + a.val) :
    ∑ d : Fin 256, headQ (F := Ideal) (iblk m c 0 t) h cc (ix4 0 0 a d) * headQ (F := Ideal) (iblk m c 1 t) h cc (ix4 0 0 b d)
      = ((dotp Q K h cc q (key (768 * tj t + b.val)) * scale / Real.log 2 + bias h (key (768 * tj t + b.val)) : ℝ) : EReal) := by
  have h1 := ti_lt t
  have h2 := tj_le t
  have hk : (key (768 * tj t + b.val)).val = 768 * tj t + b.val := by rw [key_of (by omega)]
  rw [← score _ _ Q K R.q R.k h cc q (key (768 * tj t + b.val))]
  refine Finset.sum_congr rfl fun x _ => ?_
  exact congrArg₂ (· * ·) (blk_0 m c t h a ⟨256 * cc.val + x.val, by omega⟩ q hq) (blk_1 m c t h b ⟨256 * cc.val + x.val, by omega⟩ _ hk)

/-- The shift of a tile. -/
def shift (t : Fin (C (F := Ideal)).N) (h : Fin 4) : ℝ := sl h / Real.log 2 * (((tj t : ℝ) - ti t) * 768)

theorem shift_at (t : Fin (C (F := Ideal)).N) (h : Fin 4) :
    k0_pay15 (F := Ideal) (k0_pay7 (qi (grid0.coords t)) (kj (grid0.coords t))) (headS (iblk m c 3 t) h) (ix2 0 0) = ((shift t h : ℝ) : EReal) := by
  rw [pay15_at, pay7_at, (tile_facts t).2.2.2.2]
  rw [show headS (F := Ideal) (iblk m c 3 t) h (ix3 0 0 0) = ((sl h / Real.log 2 : ℝ) : EReal) from (blk_3 m c t h 0).trans (hv80_at h), ← EReal.coe_mul]
  unfold shift ti tj
  push_cast
  rfl

theorem qk_at (R : Reals m c Q K X) (t : Fin (C (F := Ideal)).N) (h : Fin 4) (cc : Fin 2) (a b : Fin 768) (q : Fin 8448) (hq : q.val = 768 * ti t + a.val) :
    qk (F := Ideal) (decide (isDiag (qi (grid0.coords t)) (kj (grid0.coords t)))) (headQ (iblk m c 0 t) h cc) (headQ (iblk m c 1 t) h cc) (ix2 a b)
      = if b.val < seen t a then ((Us Q K h cc q (ti t) (768 * tj t + b.val) - shift t h : ℝ) : EReal) else ⊥ := by
  have hb := b.isLt
  have e : Us Q K h cc q (ti t) (768 * tj t + b.val) - shift t h
      = dotp Q K h cc q (key (768 * tj t + b.val)) * scale / Real.log 2 + bias h (key (768 * tj t + b.val)) := by
    unfold Us shift
    rw [show (768 * tj t + b.val) / 768 = tj t by omega]
    ring
  rw [e]
  unfold qk seen
  by_cases hd : tj t = ti t
  · rw [decide_eq_true ((isDiag_iff t).2 hd), if_pos hd]
    refine (pay29_at _ _ a b).trans ?_
    rw [dot_tile R t h cc a b q hq]
    by_cases hab : b.val ≤ a.val
    · rw [if_pos hab, if_pos (by omega)]
    · rw [if_neg hab, if_neg (by omega)]
  · rw [decide_eq_false (fun hh => hd ((isDiag_iff t).1 hh)), if_neg hd, if_pos hb]
    refine (pay16_at _ _ a b).trans ?_
    rw [dot_tile R t h cc a b q hq]

/-- A tile's scores for one head and half, and the tile's shift. -/
def tileS (m : (ℓ : Loc nD τ sig) → Buf (Elt Ideal) ℓ) (c : Dev nD) (t : Fin (C (F := Ideal)).N) (h : Fin 4) (cc : Fin 2) : FVec Ideal S768x768 .f32 :=
  qk (F := Ideal) (decide (isDiag (qi (grid0.coords t)) (kj (grid0.coords t)))) (headQ (iblk m c 0 t) h cc) (headQ (iblk m c 1 t) h cc)
def tileW (m : (ℓ : Loc nD τ sig) → Buf (Elt Ideal) ℓ) (c : Dev nD) (t : Fin (C (F := Ideal)).N) (h : Fin 4) : FVec Ideal S1x1 .f32 :=
  k0_pay15 (F := Ideal) (k0_pay7 (qi (grid0.coords t)) (kj (grid0.coords t))) (headS (iblk m c 3 t) h)

theorem stepM (t : Fin (C (F := Ideal)).N) (s : St Ideal) (p : Fin 8) (a : Fin 768) : (step m c t s).1 (ix3 p a 0)
    = nextM (tileW m c t (hd p)) (tileS m c t (hd p) (hf p)) (rowM (from' (kj (grid0.coords t)) s).1 p) (ix3 0 a 0) := rfl
theorem stepL (t : Fin (C (F := Ideal)).N) (s : St Ideal) (p : Fin 8) (a : Fin 768) : (step m c t s).2.1 (ix3 p a 0)
    = nextL (tileW m c t (hd p)) (tileS m c t (hd p) (hf p)) (rowM (from' (kj (grid0.coords t)) s).1 p) (rowM (from' (kj (grid0.coords t)) s).2.1 p) (ix3 0 a 0) := rfl
theorem stepA (t : Fin (C (F := Ideal)).N) (s : St Ideal) (p : Fin 8) (a : Fin 768) (e : Fin 256) : (step m c t s).2.2 (ix3 p a e)
    = nextA (tileW m c t (hd p)) (tileS m c t (hd p) (hf p)) (rowM (from' (kj (grid0.coords t)) s).1 p) (rowA (from' (kj (grid0.coords t)) s).2.2 p)
      (headV (iblk m c 2 t) (hd p)) (ix3 0 a e) := rfl

/-- The entries of a tile of values. -/
theorem val_at (R : Reals m c Q K X) (t : Fin (C (F := Ideal)).N) (h : Fin 4) (b : Fin 768) (e : Fin 256) :
    headV (F := Ideal) (iblk m c 2 t) h (ix3 0 b e) = ((Vs X h (768 * tj t + b.val) e : ℝ) : EReal) := by
  have hb := b.isLt
  have h1 := ti_lt t
  have h2 := tj_le t
  have hk : (key (768 * tj t + b.val)).val = 768 * tj t + b.val := by rw [key_of (by omega)]
  refine (blk_2 m c t h b e _ hk).trans ?_
  rw [hv76_at]
  exact R.v _ _

/-- The next entries of a row, from a tile whose first `n` scores are real numbers and whose others are hidden. -/
theorem next_good (U : ℕ → ℝ) (v : ℕ → Fin 256 → ℝ) (k n : ℕ) (hn : 0 < n) (hn' : n ≤ 768) (W : FVec Ideal S1x1 .f32) (S : FVec Ideal S768x768 .f32)
    (mo lo : FVec Ideal S1x768x1 .f32) (ao : FVec Ideal S1x768x256 .f32) (vv : FVec Ideal S1x768x256 .bf16) (a : Fin 768) (sh : ℝ)
    (hW : W (ix2 0 0) = (sh : EReal)) (hS : ∀ b : Fin 768, S (ix2 a b) = if b.val < n then ((U (k + b.val) - sh : ℝ) : EReal) else ⊥)
    (hv : ∀ (b : Fin 768) e, vv (ix3 0 b e) = ((v (k + b.val) e : ℝ) : EReal))
    (hG : Good U v k (mo (ix3 0 a 0)) (lo (ix3 0 a 0)) (fun e => ao (ix3 0 a e))) :
    Good U v (k + n) (nextM W S mo (ix3 0 a 0)) (nextL W S mo lo (ix3 0 a 0)) (fun e => nextA W S mo ao vv (ix3 0 a e)) := by
  have h := AttnMath.step U v k n hn hn' (fun b => S (ix2 a b)) sh hS (fun b e => vv (ix3 0 b e)) hv _ _ _ hG (nextM W S mo (ix3 0 a 0))
    (by rw [nextM_at, top_at, hW])
  rw [nextL_at, hW, show (fun e => nextA W S mo ao vv (ix3 0 a e)) = _ from funext fun e => nextA_at W S mo ao vv a e, hW]
  exact h

/-- One point takes a row on by the keys it sees. -/
theorem row_step (R : Reals m c Q K X) (t : Fin (C (F := Ideal)).N) (s : St Ideal) (p : Fin 8) (a : Fin 768) (q : Fin 8448) (hq : q.val = 768 * ti t + a.val)
    (hG : Good (Us Q K (hd p) (hf p) q (ti t)) (Vs X (hd p)) (768 * tj t) ((from' (kj (grid0.coords t)) s).1 (ix3 p a 0))
      ((from' (kj (grid0.coords t)) s).2.1 (ix3 p a 0)) (fun e => (from' (kj (grid0.coords t)) s).2.2 (ix3 p a e))) :
    Good (Us Q K (hd p) (hf p) q (ti t)) (Vs X (hd p)) (768 * tj t + seen t a) ((step m c t s).1 (ix3 p a 0)) ((step m c t s).2.1 (ix3 p a 0))
      (fun e => (step m c t s).2.2 (ix3 p a e)) := by
  have ha := a.isLt
  simp only [stepM, stepL, stepA]
  exact next_good _ _ (768 * tj t) (seen t a) (by unfold seen; split <;> omega) (by unfold seen; split <;> omega) _ _ _ _ _ _ a (shift t (hd p))
    (shift_at t (hd p)) (fun b => qk_at R t (hd p) (hf p) a b q hq) (fun b e => val_at R t (hd p) b e) hG

theorem prev : ∀ t : Fin grid0.N, (kj (grid0.coords t)).toNat = 0 ∨ ∃ s : Fin grid0.N, s.val + 1 = t.val
    ∧ (qi (grid0.coords s)).toNat = (qi (grid0.coords t)).toNat ∧ (kj (grid0.coords s)).toNat + 1 = (kj (grid0.coords t)).toNat := by
  decide +kernel

/-- What a row holds when a point begins. -/
theorem row_before (R : Reals m c Q K X) (n : ℕ) : ∀ (t : Fin (C (F := Ideal)).N), t.val = n → ∀ (p : Fin 8) (a : Fin 768) (q : Fin 8448), q.val = 768 * ti t + a.val →
    Good (Us Q K (hd p) (hf p) q (ti t)) (Vs X (hd p)) (768 * tj t) ((from' (kj (grid0.coords t)) (st m c t.val)).1 (ix3 p a 0))
      ((from' (kj (grid0.coords t)) (st m c t.val)).2.1 (ix3 p a 0)) (fun e => (from' (kj (grid0.coords t)) (st m c t.val)).2.2 (ix3 p a e)) := by
  induction n with
  | zero =>
    intro t ht p a q hq
    have hf : tj t = 0 := (isFirst_iff t).1 (starts t ht)
    unfold from'
    rw [if_pos ((isFirst_iff t).2 hf)]
    exact .inl ⟨by omega, pay4_at (ix3 p a 0), pay5_at (ix3 p a 0), fun e => pay6_at (ix3 p a e)⟩
  | succ n ih =>
    intro t ht p a q hq
    by_cases hf : tj t = 0
    · unfold from'
      rw [if_pos ((isFirst_iff t).2 hf)]
      exact .inl ⟨by omega, pay4_at (ix3 p a 0), pay5_at (ix3 p a 0), fun e => pay6_at (ix3 p a e)⟩
    · obtain h0 | ⟨s, hs, hi, hj⟩ := prev t
      · exact absurd h0 hf
      · have hi' : ti s = ti t := hi
        have hj' : tj s + 1 = tj t := hj
        have hle := tj_le t
        have := row_step R s (st m c s.val) p a q (by rw [hi', hq]) (ih s (by omega) p a q (by rw [hi', hq]))
        rw [← st_succ] at this
        unfold from'
        rw [if_neg (fun hh => hf ((isFirst_iff t).1 hh)), ← hs]
        have hn : seen s a = 768 := if_neg (by omega)
        rw [hn, hi'] at this
        rw [← hj']
        exact this

/-- What a row holds after its diagonal tile. -/
theorem row_end (R : Reals m c Q K X) (t : Fin (C (F := Ideal)).N) (hd' : tj t = ti t) (p : Fin 8) (a : Fin 768) (q : Fin 8448) (hq : q.val = 768 * ti t + a.val) :
    Good (Us Q K (hd p) (hf p) q (ti t)) (Vs X (hd p)) (q.val + 1) ((st m c (t.val + 1)).1 (ix3 p a 0))
      ((st m c (t.val + 1)).2.1 (ix3 p a 0)) (fun e => (st m c (t.val + 1)).2.2 (ix3 p a e)) := by
  have := row_step R t (st m c t.val) p a q hq (row_before R t.val t rfl p a q hq)
  rw [← st_succ] at this
  have hn : 768 * tj t + seen t a = q.val + 1 := by rw [show seen t a = a.val + 1 from if_pos hd', hd', hq]; rfl
  rw [hn] at this
  exact this

end

end Cert.AttnIdeal.Flash

end
-- ==== Proof.AttnRefRes.lean ====
module

public import proofs.«01_k».proof.Proof.AttnRefPure
public import Idealize.ShloMosaic.Lib.Pipeline.ValueKit
public import Idealize.ShloMosaic.Lib.Pointwise
public import Idealize.ShloMosaic.Lib.WordCmp

@[expose] public section

set_option maxRecDepth 16384

noncomputable section

namespace Cert.AttnRefIdeal.Pure

open Cert.AttnRefIdeal Cert.AttnRefIdeal.Gen Idealize.ShloMosaic Idealize.ShloMosaic.TcCoe Idealize.SL.Sem

section Terms
variable {F : FTy → Type} [FloatOps F]

set_option maxHeartbeats 4000000 in
/-- The reference's result in these terms. -/
theorem res_eq (m : (ℓ : Loc nD τ sig) → Buf (Elt F) ℓ) (c : Dev nD) :
    Value.res_main_v68 m c = rOut (rO (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)))
      (m ((c.tc : Thread nD τ).loc main_arg7)) := by
  unfold Value.res_main_v68 rOut rO rP rE rS rLam
  rfl

end Terms

end Cert.AttnRefIdeal.Pure

end
-- ==== Proof.AttnValue.lean ====
module

public import proofs.«01_k».proof.Proof.AttnRow
public import proofs.«01_k».proof.Proof.AttnRefRes
public import Idealize.ShloMosaic.Lib.Pipeline.ValueKit.Held
public import Idealize.ShloMosaic.Lib.Pipeline.ReadBack

@[expose] public section

set_option maxRecDepth 16384

noncomputable section

namespace Cert.AttnIdeal.Flash

open Cert.AttnIdeal Cert.AttnIdeal.Gen Idealize.ShloMosaic Idealize.ShloMosaic.TcCoe Idealize.SL.Sem
open AttnRefIdeal.Pure (sl scale dotp rS rS_at rP rP_at rLam rLam_at rO rO_at rOut rOut_at)
open AttnMath (Good soft)

variable {m : (ℓ : Loc nD τ sig) → Buf (Elt Ideal) ℓ} {c : Dev nD} {Q K X : Fin 8448 → Fin 1024 → ℝ}

/-! ## The reference's row and the kernel's row -/

/-- The reference's probabilities of a query. -/
theorem prob_at (a0 a1 : FVec Ideal S8448x1024 .f32) (hQ : ∀ p j, a0 (ix2 p j) = (Q p j : EReal)) (hK : ∀ p j, a1 (ix2 p j) = (K p j : EReal))
    (h : Fin 4) (cc : Fin 2) (q x : Fin 8448) :
    rP (F := Ideal) a0 a1 (ix4 h cc q x)
      = ((if x.val < q.val + 1 then Real.exp (Zs Q K h cc q x.val) / ∑ y ∈ Finset.range (q.val + 1), Real.exp (Zs Q K h cc q y) else 0 : ℝ) : EReal) := by
  rw [rP_at]
  refine AttnMath.prob (N := 8448) (n := q.val + 1) (by omega) (by omega) (Zs Q K h cc q) (fun k => rS (F := Ideal) a0 a1 (ix4 h cc q k)) (fun b => ?_) x
  rw [rS_at a0 a1 Q K hQ hK]
  unfold Zs
  rw [key_val]

/-- The reference's attention of a query. -/
theorem ref_row (a0 a1 a2 : FVec Ideal S8448x1024 .f32) (b0 b1 b2 b3 : FVec Ideal S1x128 .f32) (hQ : ∀ p j, a0 (ix2 p j) = (Q p j : EReal))
    (hK : ∀ p j, a1 (ix2 p j) = (K p j : EReal)) (hX : ∀ p j, a2 (ix2 p j) = (X p j : EReal)) (lam : ℝ) (hl : rLam (F := Ideal) b0 b1 b2 b3 Idealize.ShloMosaic.ix0 = (lam : EReal))
    (h : Fin 4) (q : Fin 8448) (e : Fin 256) :
    rO (F := Ideal) a0 a1 a2 b0 b1 b2 b3 (ix3 h q e)
      = ((soft (Zs Q K h 0 q) (fun x => Vs X h x e) (q.val + 1) - lam * soft (Zs Q K h 1 q) (fun x => Vs X h x e) (q.val + 1) : ℝ) : EReal) := by
  rw [rO_at, hl]
  refine AttnMath.diff (N := 8448) (n := q.val + 1) (by omega) (Zs Q K h 0 q) (Zs Q K h 1 q) lam (fun x => rP (F := Ideal) a0 a1 (ix4 h 0 q x))
    (fun x => rP (F := Ideal) a0 a1 (ix4 h 1 q x)) (fun x => a2 (ix2 x ⟨h.val * 256 + e.val, by omega⟩)) (fun x => Vs X h x e)
    (prob_at a0 a1 hQ hK h 0 q) (prob_at a0 a1 hQ hK h 1 q) fun x => ?_
  rw [hX]
  unfold Vs
  rw [key_val]

/-- One quotient of the kernel's last step. -/
theorem quot (R : Reals m c Q K X) (t : Fin (C (F := Ideal)).N) (hd' : tj t = ti t) (p : Fin 8) (a : Fin 768) (q : Fin 8448) (hq : q.val = 768 * ti t + a.val)
    (h : Fin 4) (cc : Fin 2) (hh : hd p = h) (hc : hf p = cc) (e : Fin 256) :
    Ideal.div ((st m c (t.val + 1)).2.2 (ix3 p a e)) ((st m c (t.val + 1)).2.1 (ix3 p a 0))
      = ((soft (Zs Q K h cc q) (fun x => Vs X h x e) (q.val + 1) : ℝ) : EReal) := by
  subst hh hc
  have hl := q.isLt
  exact (row_end R t hd' p a q hq).quot (by omega) (Zs Q K (hd p) (hf p) q) (sl (hd p) * ((q.val : ℝ) - 768 * ti t))
    (fun x hx => Us_Zs Q K (hd p) (hf p) q (ti t) x (by omega)) e

theorem blockO_at (lam : FVec Ideal S1x1 .f32) (sg : FVec Ideal S1x256 .f32) (L : FVec Ideal S8x768x1 .f32) (A : FVec Ideal S8x768x256 .f32)
    (h : Fin 4) (a : Fin 768) (e : Fin 256) (p0 p1 : Fin 8) (h0 : p0.val = 2 * h.val) (h1 : p1.val = 2 * h.val + 1) :
    blockO (F := Ideal) lam sg L A (ix3 h a e)
      = rms (fun x => Ideal.div (A (ix3 p0 a x)) (L (ix3 p0 a 0)) - lam (ix2 0 0) * Ideal.div (A (ix3 p1 a x)) (L (ix3 p1 a 0))) (fun x => sg (ix2 0 x)) e := by
  have hh := h.isLt
  have e0 : p0 = ⟨2 * h.val, by omega⟩ := Fin.ext h0
  have e1 : p1 = ⟨2 * h.val + 1, by omega⟩ := Fin.ext h1
  rw [e0, e1]
  exact epi_at lam sg _ _ _ _ a e

/-- The kernel's weight of the second softmax. -/
theorem lam_at (m : (ℓ : Loc nD τ sig) → Buf (Elt Ideal) ℓ) (c : Dev nD) (t : Fin (C (F := Ideal)).N) (b0 b1 b2 b3 : FVec Ideal S1x128 .f32)
    (h0 : b0 = m ((c.tc : Thread nD τ).loc main_arg3)) (h1 : b1 = m ((c.tc : Thread nD τ).loc main_arg4))
    (h2 : b2 = m ((c.tc : Thread nD τ).loc main_arg5)) (h3 : b3 = m ((c.tc : Thread nD τ).loc main_arg6)) :
    k0_pay48 (F := Ideal) (iblk m c 4 t) (iblk m c 5 t) (iblk m c 6 t) (iblk m c 7 t) (ix2 0 0) = rLam (F := Ideal) b0 b1 b2 b3 Idealize.ShloMosaic.ix0 := by
  subst h0 h1 h2 h3
  rw [pay48_at, rLam_at]
  simp only [blk_4 m c t, blk_5 m c t, blk_6 m c t, blk_7 m c t]

/-- A row of the last step, its quotients at hand, is the reference's normalised row. -/
theorem out_of (lam : FVec Ideal S1x1 .f32) (sg g : FVec Ideal S1x256 .f32) (L : FVec Ideal S8x768x1 .f32) (A : FVec Ideal S8x768x256 .f32)
    (O : FVec Ideal S4x8448x256 .f32) (h : Fin 4) (a : Fin 768) (e : Fin 256) (q : Fin 8448) (p0 p1 : Fin 8) (h0 : p0.val = 2 * h.val) (h1 : p1.val = 2 * h.val + 1)
    (hg : ∀ x : Fin 256, sg (ix2 0 x) = g (ix2 0 x))
    (hO : ∀ x : Fin 256, Ideal.div (A (ix3 p0 a x)) (L (ix3 p0 a 0)) - lam (ix2 0 0) * Ideal.div (A (ix3 p1 a x)) (L (ix3 p1 a 0)) = O (ix3 h q x)) :
    blockO (F := Ideal) lam sg L A (ix3 h a e) = rOut (F := Ideal) O g (ix3 h q e) := by
  rw [blockO_at lam sg L A h a e p0 p1 h0 h1, rOut_at]
  unfold rms
  simp only [hO, hg]

/-- What a row's last tile writes. -/
theorem out_at (R : Reals m c Q K X) (a0 a1 a2 : FVec Ideal S8448x1024 .f32) (b0 b1 b2 b3 : FVec Ideal S1x128 .f32) (g : FVec Ideal S1x256 .f32)
    (e0 : a0 = m ((c.tc : Thread nD τ).loc main_arg0)) (e1 : a1 = m ((c.tc : Thread nD τ).loc main_arg1)) (e2 : a2 = m ((c.tc : Thread nD τ).loc main_arg2))
    (h0 : b0 = m ((c.tc : Thread nD τ).loc main_arg3)) (h1 : b1 = m ((c.tc : Thread nD τ).loc main_arg4))
    (h2 : b2 = m ((c.tc : Thread nD τ).loc main_arg5)) (h3 : b3 = m ((c.tc : Thread nD τ).loc main_arg6)) (hg : g = m ((c.tc : Thread nD τ).loc main_arg7))
    (lam : ℝ) (hl : rLam (F := Ideal) b0 b1 b2 b3 Idealize.ShloMosaic.ix0 = (lam : EReal))
    (t : Fin (C (F := Ideal)).N) (hd' : tj t = ti t) (h : Fin 4) (a : Fin 768) (e : Fin 256) (q : Fin 8448) (hq : q.val = 768 * ti t + a.val) :
    outO m c t (ix3 h a e) = rOut (F := Ideal) (rO a0 a1 a2 b0 b1 b2 b3) g (ix3 h q e) := by
  have hh := h.isLt
  refine out_of _ _ g _ _ (rO (F := Ideal) a0 a1 a2 b0 b1 b2 b3) h a e q ⟨2 * h.val, by omega⟩ ⟨2 * h.val + 1, by omega⟩ rfl rfl
    (fun x => (blk_8 m c t x).trans (by rw [hg])) fun x => ?_
  rw [lam_at m c t b0 b1 b2 b3 h0 h1 h2 h3, hl,
    ref_row a0 a1 a2 b0 b1 b2 b3 (fun p j => (congrFun e0 _).trans (R.q p j)) (fun p j => (congrFun e1 _).trans (R.k p j)) (fun p j => (congrFun e2 _).trans (R.v p j)) lam hl h q x,
    quot R t hd' ⟨2 * h.val, by omega⟩ a q hq h 0 (Fin.ext (by show 2 * h.val / 2 = h.val; omega)) (Fin.ext (by show 2 * h.val % 2 = 0; omega)) x,
    quot R t hd' ⟨2 * h.val + 1, by omega⟩ a q hq h 1 (Fin.ext (by show (2 * h.val + 1) / 2 = h.val; omega)) (Fin.ext (by show (2 * h.val + 1) % 2 = 1; omega)) x,
    ← EReal.coe_mul, ← EReal.coe_sub]

/-! ## The result arrays -/

theorem diag_of_flush (t : Fin (C (F := Ideal)).N) (hf : ((C (F := Ideal)).win 12).flush t = true) : tj t = ti t := by
  rw [← isDiag_iff]
  by_contra hn
  rw [noFlush t hn] at hf
  exact absurd hf (by decide)

theorem covers_12 : ((C (F := Ideal)).win 12).Covers := by
  decide +kernel

/-- The attention's array. -/
theorem final_12 (R : Reals m c Q K X) (a0 a1 a2 : FVec Ideal S8448x1024 .f32) (b0 b1 b2 b3 : FVec Ideal S1x128 .f32) (g : FVec Ideal S1x256 .f32)
    (e0 : a0 = m ((c.tc : Thread nD τ).loc main_arg0)) (e1 : a1 = m ((c.tc : Thread nD τ).loc main_arg1)) (e2 : a2 = m ((c.tc : Thread nD τ).loc main_arg2))
    (h0 : b0 = m ((c.tc : Thread nD τ).loc main_arg3)) (h1 : b1 = m ((c.tc : Thread nD τ).loc main_arg4))
    (h2 : b2 = m ((c.tc : Thread nD τ).loc main_arg5)) (h3 : b3 = m ((c.tc : Thread nD τ).loc main_arg6)) (hg : g = m ((c.tc : Thread nD τ).loc main_arg7))
    (lam : ℝ) (hl : rLam (F := Ideal) b0 b1 b2 b3 Idealize.ShloMosaic.ix0 = (lam : EReal)) :
    (dats m 0 c).arrAt 12 (C (F := Ideal)).N = rOut (F := Ideal) (rO a0 a1 a2 b0 b1 b2 b3) g := by
  have key : ∀ (t : Fin (C (F := Ideal)).N) (hf : ((C (F := Ideal)).win 12).flush t = true) (y0 : Fin 4) (y1 : Fin 768) (y2 : Fin 256) (q : Fin 8448)
      (_ : q.val = 768 * ti t + y1.val), outO m c t (ix3 y0 y1 y2) = rOut (F := Ideal) (rO a0 a1 a2 b0 b1 b2 b3) g (ix3 y0 q y2) :=
    fun t hf y0 y1 y2 q hq => out_at R a0 a1 a2 b0 b1 b2 b3 g e0 e1 e2 h0 h1 h2 h3 hg lam hl t (diag_of_flush t hf) y0 y1 y2 q hq
  generalize rOut (F := Ideal) (rO a0 a1 a2 b0 b1 b2 b3) g = G at key ⊢
  refine (dats m 0 c).arrAt_eq_of_covers 12 _ covers_12 fun t hf y => ?_
  blk_simp
  rw [after_12]
  idx_vars y
  have hi := ti_lt t
  have hr : 768 * ti t + y1.val < 8448 := by have := y1.isLt; omega
  have he : ((View.whole main_v81_0).slice (((pcfgs (F := Ideal) 0).win (adms 0) 12).rect t)).emb (ix3 y0 y1 y2) = ix3 y0 ⟨768 * ti t + y1.val, hr⟩ y2 := by
    have hx := ix_12 t
    blk_ext [hx]
  rw [he]
  exact key t hf y0 y1 y2 _ rfl

theorem ix_9 : ∀ t : Fin grid0.N, cc0_transform_9 (grid0.coords t) = ![min t.val 63, 0] := by decide +kernel
theorem ix_10 : ∀ t : Fin grid0.N, cc0_transform_10 (grid0.coords t) = ![min t.val 63, 0] := by decide +kernel
theorem ix_11 : ∀ t : Fin grid0.N, cc0_transform_11 (grid0.coords t) = ![min t.val 63, 0] := by decide +kernel
theorem ix_13 : ∀ t : Fin grid0.N, cc0_transform_13 (grid0.coords t) = ![min t.val 63, 0] := by decide +kernel
theorem ix_14 : ∀ t : Fin grid0.N, cc0_transform_14 (grid0.coords t) = ![min t.val 63, 0] := by decide +kernel
theorem ix_15 : ∀ t : Fin grid0.N, cc0_transform_15 (grid0.coords t) = ![min t.val 63, 0] := by decide +kernel

theorem covers_13 : ((C (F := Ideal)).win 13).Covers := by
  decide +kernel

theorem final_13 (m : (ℓ : Loc nD τ sig) → Buf (Elt Ideal) ℓ) (c : Dev nD) (w : FVec Ideal S2048x8192 .bf16)
    (hw : ∀ (a : Fin 2048) (b : Fin 8192), w (ix2 a b) = (show FVec Ideal S4096x8192 .f32 from m ((c.tc : Thread nD τ).loc main_arg8)) (ix2 ⟨a.val, by omega⟩ b)) :
    (dats m 0 c).arrAt 13 (C (F := Ideal)).N = w := by
  refine (dats m 0 c).arrAt_eq_of_covers 13 _ covers_13 fun t hf y => ?_
  blk_simp
  rw [after_13]
  idx_vars y
  have hx : ((C (F := Ideal)).win 13).index t = ![min t.val 63, 0] := ix_13 t
  have hx' : ((C (F := Ideal)).win 9).index t = ![min t.val 63, 0] := ix_9 t
  have hr : 32 * min t.val 63 + y0.val < 2048 := by have := y0.isLt; omega
  have he : ((View.whole main_v81_1).slice (((pcfgs (F := Ideal) 0).win (adms 0) 13).rect t)).emb (ix2 y0 y1) = ix2 ⟨32 * min t.val 63 + y0.val, hr⟩ y1 := by
    blk_ext [hx]
  rw [he, hw, pay1_at, ← V_of_unwritten m c main_arg8 (by decide)]
  blk_point [iblk, hx']

theorem covers_14 : ((C (F := Ideal)).win 14).Covers := by
  decide +kernel

theorem final_14 (m : (ℓ : Loc nD τ sig) → Buf (Elt Ideal) ℓ) (c : Dev nD) (w : FVec Ideal S8192x2048 .bf16)
    (hw : ∀ (a : Fin 8192) (b : Fin 2048), w (ix2 a b) = (show FVec Ideal S16384x2048 .f32 from m ((c.tc : Thread nD τ).loc main_arg9)) (ix2 ⟨a.val, by omega⟩ b)) :
    (dats m 0 c).arrAt 14 (C (F := Ideal)).N = w := by
  refine (dats m 0 c).arrAt_eq_of_covers 14 _ covers_14 fun t hf y => ?_
  blk_simp
  rw [after_14]
  idx_vars y
  have hx : ((C (F := Ideal)).win 14).index t = ![min t.val 63, 0] := ix_14 t
  have hx' : ((C (F := Ideal)).win 10).index t = ![min t.val 63, 0] := ix_10 t
  have hr : 128 * min t.val 63 + y0.val < 8192 := by have := y0.isLt; omega
  have he : ((View.whole main_v81_2).slice (((pcfgs (F := Ideal) 0).win (adms 0) 14).rect t)).emb (ix2 y0 y1) = ix2 ⟨128 * min t.val 63 + y0.val, hr⟩ y1 := by
    blk_ext [hx]
  rw [he, hw, pay2_at, ← V_of_unwritten m c main_arg9 (by decide)]
  blk_point [iblk, hx']

theorem covers_15 : ((C (F := Ideal)).win 15).Covers := by
  decide +kernel

theorem final_15 (m : (ℓ : Loc nD τ sig) → Buf (Elt Ideal) ℓ) (c : Dev nD) (w : FVec Ideal S2048x2048 .bf16)
    (hw : ∀ (a : Fin 2048) (b : Fin 2048), w (ix2 a b) = (show FVec Ideal S2048x2048 .f32 from m ((c.tc : Thread nD τ).loc main_arg10)) (ix2 ⟨a.val, by omega⟩ b)) :
    (dats m 0 c).arrAt 15 (C (F := Ideal)).N = w := by
  refine (dats m 0 c).arrAt_eq_of_covers 15 _ covers_15 fun t hf y => ?_
  blk_simp
  rw [after_15]
  idx_vars y
  have hx : ((C (F := Ideal)).win 15).index t = ![min t.val 63, 0] := ix_15 t
  have hx' : ((C (F := Ideal)).win 11).index t = ![min t.val 63, 0] := ix_11 t
  have hr : 32 * min t.val 63 + y0.val < 2048 := by have := y0.isLt; omega
  have he : ((View.whole main_v81_3).slice (((pcfgs (F := Ideal) 0).win (adms 0) 15).rect t)).emb (ix2 y0 y1) = ix2 ⟨32 * min t.val 63 + y0.val, hr⟩ y1 := by
    blk_ext [hx]
  rw [he, hw, pay3_at, ← V_of_unwritten m c main_arg10 (by decide)]
  blk_point [iblk, hx']

end Cert.AttnIdeal.Flash

end
-- ==== Proof.AttnFinite.lean ====
module

public import proofs.«01_k».proof.Defs
public import proofs.«01_k».proof.Proof.AttnValue
public import Idealize.ShloMosaic.Lib.Pointwise

@[expose] public section

set_option maxRecDepth 16384

noncomputable section

namespace Cert.AttnIdeal.Flash

open Cert.AttnIdeal Cert.AttnIdeal.Gen Idealize.ShloMosaic Idealize.ShloMosaic.TcCoe Idealize.SL.Sem
open AttnRefIdeal.Pure (rLam rLam_at lam_eq)

/-! ## What the precondition gives -/

theorem inf_eq : Ideal.ofBits FTy.f32 0x7F800000#32 = (⊤ : EReal) := by simp [Ideal.ofBits, Ideal.ieee]

/-- A number whose absolute value is below the infinity is real. -/
theorem real_of_abs (x : EReal) (h : max x (-x) < ⊤) : x = ((x.toReal : ℝ) : EReal) := by
  refine (EReal.coe_toReal (fun e => ?_) fun e => ?_).symm
  · rw [e] at h; simp at h
  · rw [e] at h; simp at h

/-- An array the precondition admits holds reals. -/
theorem real_of {s : Shape} (hb : (⟨0, ![]⟩ : Shape).BroadcastsInDim s (![] : Fin 0 → Fin s.rank)) (x : FVec Ideal s .f32)
    (h : cmpf .olt (Host.absf x) (broadcastInDim s ![] hb (constant (F := Ideal) ⟨0, ![]⟩ .f32 0x7F800000#32)) = fun _ => 1#1) (y : s.Idx) :
    x y = (((x y : EReal).toReal : ℝ) : EReal) := by
  refine real_of_abs _ ?_
  have h' := congrFun h y
  have e : cmpf .olt (Host.absf x) (broadcastInDim s ![] hb (constant (F := Ideal) ⟨0, ![]⟩ .f32 0x7F800000#32)) y
      = BitVec.ofBool (decide (max (x y : EReal) (-(x y : EReal)) < Ideal.ofBits FTy.f32 0x7F800000#32)) := rfl
  rw [e, inf_eq] at h'
  by_contra hn
  rw [decide_eq_false hn] at h'
  exact absurd h' (by decide)

/-- The weight of the second softmax is real. -/
theorem lam_real (a b c d : FVec Ideal S1x128 .f32) (ha : ∀ y, a y = (((a y : EReal).toReal : ℝ) : EReal)) (hb : ∀ y, b y = (((b y : EReal).toReal : ℝ) : EReal))
    (hc : ∀ y, c y = (((c y : EReal).toReal : ℝ) : EReal)) (hd : ∀ y, d y = (((d y : EReal).toReal : ℝ) : EReal)) :
    ∃ l : ℝ, rLam (F := Ideal) a b c d Idealize.ShloMosaic.ix0 = (l : EReal) := by
  rw [rLam_at, AttnMath.dot_real (fun x : Fin 128 => a (ix2 0 x)) (fun x => b (ix2 0 x)) _ _ (fun x => ha _) (fun x => hb _),
    AttnMath.dot_real (fun x : Fin 128 => c (ix2 0 x)) (fun x => d (ix2 0 x)) _ _ (fun x => hc _) (fun x => hd _), lam_eq]
  refine ⟨Real.exp (∑ x : Fin 128, EReal.toReal (a (ix2 0 x)) * EReal.toReal (b (ix2 0 x)))
    - Real.exp (∑ x : Fin 128, EReal.toReal (c (ix2 0 x)) * EReal.toReal (d (ix2 0 x))) + 13421773 / 67108864, ?_⟩
  rw [EReal.coe_add, EReal.coe_sub]
  rfl

variable [hPre : Cert.Pre_attn_finite.Facts] (m : (ℓ : Loc nD τ sig) → Buf (Elt Ideal) ℓ) (c : Dev nD)

theorem reals_of (h : Cert.Pre_AttnIdeal_attn_finite m) :
    Reals m c (fun p j => ((show FVec Ideal S8448x1024 .f32 from m ((c.tc : Thread nD τ).loc main_arg0)) (ix2 p j) : EReal).toReal)
      (fun p j => ((show FVec Ideal S8448x1024 .f32 from m ((c.tc : Thread nD τ).loc main_arg1)) (ix2 p j) : EReal).toReal)
      (fun p j => ((show FVec Ideal S8448x1024 .f32 from m ((c.tc : Thread nD τ).loc main_arg2)) (ix2 p j) : EReal).toReal) :=
  ⟨fun p j => real_of Cert.Pre_attn_finite.Facts.bcast_S_S8448x1024 _ (h c).1 (ix2 p j),
    fun p j => real_of Cert.Pre_attn_finite.Facts.bcast_S_S8448x1024 _ (h c).2.1 (ix2 p j),
    fun p j => real_of Cert.Pre_attn_finite.Facts.bcast_S_S8448x1024 _ (h c).2.2.1 (ix2 p j)⟩

theorem lam_of (h : Cert.Pre_AttnIdeal_attn_finite m) :
    ∃ l : ℝ, rLam (F := Ideal) (m ((c.tc : Thread nD τ).loc main_arg3)) (m ((c.tc : Thread nD τ).loc main_arg4)) (m ((c.tc : Thread nD τ).loc main_arg5))
      (m ((c.tc : Thread nD τ).loc main_arg6)) Idealize.ShloMosaic.ix0 = (l : EReal) :=
  lam_real _ _ _ _ (real_of Cert.Pre_attn_finite.Facts.bcast_S_S1x128 _ (h c).2.2.2.1) (real_of Cert.Pre_attn_finite.Facts.bcast_S_S1x128 _ (h c).2.2.2.2.1)
    (real_of Cert.Pre_attn_finite.Facts.bcast_S_S1x128 _ (h c).2.2.2.2.2.1) (real_of Cert.Pre_attn_finite.Facts.bcast_S_S1x128 _ (h c).2.2.2.2.2.2)

end Cert.AttnIdeal.Flash

end
-- ==== Proof.MlpPure.lean ====
module

public import proofs.«01_k».proof.Proof.Gen.MlpIdeal.Value
public import proofs.«01_k».proof.Proof.Gen.MlpRefIdeal.Run
public import Idealize.ShloMosaic.Lib.Pipeline.ValueKit
public import Idealize.ShloMosaic.Lib.Pointwise

@[expose] public section

set_option maxRecDepth 16384

noncomputable section

namespace Cert.MlpRefIdeal.Pure

open Cert.MlpRefIdeal Cert.MlpRefIdeal.Gen Idealize.ShloMosaic Idealize.ShloMosaic.TcCoe Idealize.SL.Sem

/-- The residual stream before the normalisation: `ALPHA * x + relu(x w1)^2 w2`. -/
def Z (X : FVec Ideal S8448x2048 .f32) (W1 : FVec Ideal S2048x8192 .bf16) (W2 : FVec Ideal S8192x2048 .bf16) :
    FVec Ideal S8448x2048 .f32 :=
  addf (mulf (broadcastInDim S8448x2048 ![] bcast_S_S8448x2048 (constant S_ .f32 0x3FB504F3#32)) X) (Host.dotGeneral dot_S8448x8192_S8192x2048_S8448x2048_1_0_0_1_n_n none (truncf .bf16 (mulf (maximumf (Host.dotGeneral dot_S8448x2048_S2048x8192_S8448x8192_1_0_0_1_n_n none (truncf .bf16 X bitsLt_bf16_f32) W1) (broadcastInDim S8448x8192 ![] bcast_S_S8448x8192 (constant S_ .f32 0x00000000#32))) (maximumf (Host.dotGeneral dot_S8448x2048_S2048x8192_S8448x8192_1_0_0_1_n_n none (truncf .bf16 X bitsLt_bf16_f32) W1) (broadcastInDim S8448x8192 ![] bcast_S_S8448x8192 (constant S_ .f32 0x00000000#32)))) bitsLt_bf16_f32) W2)

/-- Layer normalisation of the rows of `Z`. -/
def norm (Z : FVec Ideal S8448x2048 .f32) (gw bw : FVec Ideal S1x2048 .f32) : FVec Ideal S8448x2048 .f32 :=
  addf (mulf (mulf (subf Z (broadcastInDim S8448x2048 ![0, 1] bcast_S8448x1_S8448x2048_0_1 (Host.divf (broadcastInDim S8448x1 ![0] bcast_S8448_S8448x1_0 (Host.reduceAdd Z (constant S_ .f32 0x00000000#32) reducesTo_S8448x2048_S8448_d1 h_S_)) (broadcastInDim S8448x1 ![] bcast_S_S8448x1 (constant S_ .f32 0x45000000#32))))) (broadcastInDim S8448x2048 ![0, 1] bcast_S8448x1_S8448x2048_0_1 (Host.rsqrt (addf (Host.divf (broadcastInDim S8448x1 ![0] bcast_S8448_S8448x1_0 (Host.reduceAdd (mulf (subf Z (broadcastInDim S8448x2048 ![0, 1] bcast_S8448x1_S8448x2048_0_1 (Host.divf (broadcastInDim S8448x1 ![0] bcast_S8448_S8448x1_0 (Host.reduceAdd Z (constant S_ .f32 0x00000000#32) reducesTo_S8448x2048_S8448_d1 h_S_)) (broadcastInDim S8448x1 ![] bcast_S_S8448x1 (constant S_ .f32 0x45000000#32))))) (subf Z (broadcastInDim S8448x2048 ![0, 1] bcast_S8448x1_S8448x2048_0_1 (Host.divf (broadcastInDim S8448x1 ![0] bcast_S8448_S8448x1_0 (Host.reduceAdd Z (constant S_ .f32 0x00000000#32) reducesTo_S8448x2048_S8448_d1 h_S_)) (broadcastInDim S8448x1 ![] bcast_S_S8448x1 (constant S_ .f32 0x45000000#32)))))) (constant S_ .f32 0x00000000#32) reducesTo_S8448x2048_S8448_d1 h_S_)) (broadcastInDim S8448x1 ![] bcast_S_S8448x1 (constant S_ .f32 0x45000000#32))) (broadcastInDim S8448x1 ![] bcast_S_S8448x1 (constant S_ .f32 0x3727C5AC#32)))))) (broadcastInDim S8448x2048 ![0, 1] bcast_S1x2048_S8448x2048_0_1 gw)) (broadcastInDim S8448x2048 ![0, 1] bcast_S1x2048_S8448x2048_0_1 bw)

/-- The reference's result is the normalised residual stream of its arguments. -/
theorem res_eq (m : (ℓ : Loc nD τ sig) → Buf (Elt Ideal) ℓ) (c : Dev nD) :
    Value.res_main_v31 m c = norm (Z (m ((c.tc : Thread nD τ).loc main_arg0)) (m ((c.tc : Thread nD τ).loc main_arg1))
      (m ((c.tc : Thread nD τ).loc main_arg2))) (m ((c.tc : Thread nD τ).loc main_arg3)) (m ((c.tc : Thread nD τ).loc main_arg4)) := rfl

/-- One entry of the residual stream. -/
theorem Z_at (X : FVec Ideal S8448x2048 .f32) (W1 : FVec Ideal S2048x8192 .bf16) (W2 : FVec Ideal S8192x2048 .bf16)
    (r : Fin 8448) (n : Fin 2048) :
    Z X W1 W2 (ix2 r n) = Ideal.ofBits .f32 0x3FB504F3#32 * X (ix2 r n)
      + ∑ l : Fin 8192, (max (∑ k : Fin 2048, X (ix2 r k) * W1 (ix2 k l)) 0
          * max (∑ k : Fin 2048, X (ix2 r k) * W1 (ix2 k l)) 0) * W2 (ix2 l n) := by
  pointwise [Z]

end Cert.MlpRefIdeal.Pure

namespace Cert.MlpIdeal.Pure

open Cert.MlpIdeal Cert.MlpIdeal.Gen Idealize.ShloMosaic Idealize.ShloMosaic.TcCoe Idealize.SL.Sem

/-- The input rows are kept in bf16: over the reals the rows themselves. -/
theorem pay1_at (x : FVec Ideal S768x2048 .f32) (j : S768x2048.Idx) : k0_pay1 (F := Ideal) x j = x j := by
  pointwise [k0_pay1]

/-- The accumulator starts at zero. -/
theorem pay2_at (j : S768x2048.Idx) : k0_pay2 (F := Ideal) j = 0 := by
  pointwise [k0_pay2]

/-- One tile of the hidden dimension added into the accumulator. -/
theorem pay3_at (x : FVec Ideal S768x2048 .bf16) (w1 : FVec Ideal S2048x512 .bf16) (acc : FVec Ideal S768x2048 .f32)
    (w2 : FVec Ideal S512x2048 .bf16) (j : S768x2048.Idx) :
    k0_pay3 (F := Ideal) x w1 acc w2 j = acc j
      + ∑ l : Fin 512, (max (∑ k : Fin 2048, x (ix2 (j 0) k) * w1 (ix2 k l)) 0
          * max (∑ k : Fin 2048, x (ix2 (j 0) k) * w1 (ix2 k l)) 0) * w2 (ix2 l (j 1)) := by
  pointwise [k0_pay3]

/-- The tile's normalisation is the reference's normalisation of the row the tile's row is. -/
theorem pay4_at (x acc : FVec Ideal S768x2048 .f32) (gw bw : FVec Ideal S1x2048 .f32)
    (Zr : FVec Ideal S8448x2048 .f32) (r : Fin 8448) (p : Fin 768) (n : Fin 2048)
    (h : ∀ k : Fin 2048, Ideal.ofBits .f32 0x3FB504F3#32 * x (ix2 p k) + acc (ix2 p k) = Zr (ix2 r k)) :
    k0_pay4 (F := Ideal) x acc gw bw (ix2 p n) = MlpRefIdeal.Pure.norm Zr gw bw (ix2 r n) := by
  pointwise [k0_pay4, MlpRefIdeal.Pure.norm]
  simp only [h, zero_add]

end Cert.MlpIdeal.Pure

end
-- ==== Proof.MlpValue.lean ====
module

public import proofs.«01_k».proof.Proof.MlpPure
public import Idealize.ShloMosaic.Lib.Pipeline.ValueKit.Held
public import Idealize.ShloMosaic.Lib.Pipeline.ReadBack

@[expose] public section

set_option maxRecDepth 16384

noncomputable section

namespace Cert.MlpIdeal.Pure

open Cert.MlpIdeal Cert.MlpIdeal.Gen Idealize.ShloMosaic Idealize.ShloMosaic.TcCoe Idealize.SL.Sem
open Idealize.ShloMosaic.Pipeline (Dat)

variable (m : (ℓ : Loc nD τ sig) → Buf (Elt Ideal) ℓ)

/-- The blocks each point reads: a tile of rows, a tile of the hidden dimension, the two vectors whole. -/
theorem idx : ∀ t : Fin cfg0.N, win0_0.index t = ![t.val / 16, 0] ∧ win0_1.index t = ![0, t.val % 16]
    ∧ win0_2.index t = ![t.val % 16, 0] ∧ win0_3.index t = ![0, 0] ∧ win0_4.index t = ![0, 0]
    ∧ win0_5.index t = ![t.val / 16, 0] :=
  (by decide +kernel : ∀ t : Fin grid0.N, _)

/-- Between two resets the kept rows are the tile's rows. -/
theorem kept (c : Dev nD) (t : Fin cfg0.N) (j : S768x2048.Idx) :
    (outsAt0 m c t.val t.isLt).2.1 j = (show FVec Ideal S768x2048 .f32 from iblk m c 0 t) j := by
  have hN := N_0
  refine (Pipeline.eq_of_write_hold_apply (fun n h => (outsAt0 m c n h).2.1) 16
    (fun t => (show FVec Ideal S768x2048 .f32 from iblk m c 0 t)) (fun t h j => ?_) (fun t h j => ?_) t j).trans ?_
  · rw [outsAt0_A m c t h (by omega)]; frame_out; rw [pay1_at]
  · by_cases h1 : t.val % 16 = 15
    · rw [outsAt0_C m c t h h1]; frame_out; try rfl
    · rw [outsAt0_B m c t h h1]; frame_out; try rfl
  · have ht := t.isLt
    blk_ext [iblk, V, idx t, idx ⟨16 * (t.val / 16), by omega⟩]

/-- The part of the accumulator that the tile of the hidden dimension at a point adds. -/
def part (c : Dev nD) (t : Fin cfg0.N) (j : S768x2048.Idx) : EReal :=
  ∑ l : Fin 512, (max (∑ k : Fin 2048, (show FVec Ideal S768x2048 .f32 from iblk m c 0 t) (ix2 (j 0) k)
        * (show FVec Ideal S2048x512 .bf16 from iblk m c 1 t) (ix2 k l)) 0
      * max (∑ k : Fin 2048, (show FVec Ideal S768x2048 .f32 from iblk m c 0 t) (ix2 (j 0) k)
        * (show FVec Ideal S2048x512 .bf16 from iblk m c 1 t) (ix2 k l)) 0)
      * (show FVec Ideal S512x2048 .bf16 from iblk m c 2 t) (ix2 l (j 1))

/-- One step of the accumulator in terms of the kept rows before it. -/
theorem step (c : Dev nD) (t : Fin cfg0.N) (x : FVec Ideal S768x2048 .bf16) (acc : FVec Ideal S768x2048 .f32) (j : S768x2048.Idx)
    (hx : ∀ j, x j = (show FVec Ideal S768x2048 .f32 from iblk m c 0 t) j) :
    k0_pay3 (F := Ideal) x (iblk m c 1 t) acc (iblk m c 2 t) j = acc j + part m c t j := by
  obtain rfl : x = (show FVec Ideal S768x2048 .f32 from iblk m c 0 t) := funext hx
  rw [pay3_at]; rfl

/-- Within a run the kept rows are those of the point before. -/
theorem kept_pred (c : Dev nD) (t : Fin cfg0.N) (h : ¬t.val % 16 = 0) (j : S768x2048.Idx) :
    (outsAt0 m c (t.val - 1) (Nat.lt_of_le_of_lt (Nat.sub_le _ _) t.isLt)).2.1 j
      = (show FVec Ideal S768x2048 .f32 from iblk m c 0 t) j := by
  rw [← kept m c t j]
  by_cases h1 : t.val % 16 = 15
  · rw [outsAt0_C m c t h h1]; frame_out; try rfl
  · rw [outsAt0_B m c t h h1]; frame_out; try rfl

/-- At a run's last point the accumulator is the sum over the run's sixteen tiles. -/
theorem acc_eq (c : Dev nD) (t : Fin cfg0.N) (hf : t.val % 16 = 15) (j : S768x2048.Idx) :
    (outsAt0 m c t.val t.isLt).2.2 j
      = ∑ s : Fin 16, part m c ⟨16 * (t.val / 16) + s, Pipeline.run_point_lt_of_flush t hf s⟩ j := by
  refine (Pipeline.eq_sum_fin_of_reset_step_apply_of_flush (fun n h => (outsAt0 m c n h).2.2) 16 (fun _ => (0 : EReal)) (part m c)
    (fun t h j => ?_) (fun t h j => ?_) t hf j).trans (zero_add _)
  · rw [outsAt0_A m c t h (by omega)]; frame_out
    refine (step m c t _ _ j fun j => pay1_at _ j).trans ?_
    rw [pay2_at]
  · by_cases h1 : t.val % 16 = 15
    · rw [outsAt0_C m c t h h1]; frame_out
      rw [read_unread_whole, read_unread_whole]
      exact step m c t _ _ j fun j => kept_pred m c t h j
    · rw [outsAt0_B m c t h h1]; frame_out
      rw [read_unread_whole, read_unread_whole]
      exact step m c t _ _ j fun j => kept_pred m c t h j

/-- What a run's last point writes back. -/
theorem out_eq (c : Dev nD) (t : Fin cfg0.N) (hf : t.val % 16 = 15) :
    (outsAt0 m c t.val t.isLt).1
      = k0_pay4 (F := Ideal) (iblk m c 0 t) (outsAt0 m c t.val t.isLt).2.2 (iblk m c 3 t) (iblk m c 4 t) := by
  rw [outsAt0_C m c t (by omega) hf]; frame_out

/-- The rows before the normalisation, tile by tile, are the reference's. -/
theorem rows (c : Dev nD) (t : Fin cfg0.N) (hf : t.val % 16 = 15) (r : Fin 8448) (p : Fin 768)
    (hr : (r : ℕ) = 768 * (t.val / 16) + p) (k : Fin 2048) :
    Ideal.ofBits .f32 0x3FB504F3#32 * (show FVec Ideal S768x2048 .f32 from iblk m c 0 t) (ix2 p k)
        + (show FVec Ideal S768x2048 .f32 from (outsAt0 m c t.val t.isLt).2.2) (ix2 p k)
      = MlpRefIdeal.Pure.Z (m ((c : Thread nD τ).loc main_arg0)) (m ((c : Thread nD τ).loc main_arg1))
          (m ((c : Thread nD τ).loc main_arg2)) (ix2 r k) := by
  rw [MlpRefIdeal.Pure.Z_at, show (show FVec Ideal S768x2048 .f32 from (outsAt0 m c t.val t.isLt).2.2) (ix2 p k) = _ from acc_eq m c t hf (ix2 p k)]
  have ht := t.isLt
  have hN := N_0
  refine congrArg₂ (· + ·) ?_ ?_
  · blk_point [iblk, V, idx t]
  · unfold part
    refine Fin.sum_mul_add_congr fun s l hl => ?_
    blk_point [iblk, V, idx ⟨16 * (t.val / 16) + s, Pipeline.run_point_lt_of_flush t hf s⟩]

/-- The result array is the reference's term of the arguments. -/
theorem final (c : Dev nD) : (dats m 0 c).arrAt 5 (cfgs 0).N
    = MlpRefIdeal.Pure.norm (MlpRefIdeal.Pure.Z (m ((c : Thread nD τ).loc main_arg0)) (m ((c : Thread nD τ).loc main_arg1))
      (m ((c : Thread nD τ).loc main_arg2))) (m ((c : Thread nD τ).loc main_arg3)) (m ((c : Thread nD τ).loc main_arg4)) := by
  refine (dats m 0 c).arrAt_eq_of_covers 5 _ (by decide +kernel) fun t hf y => ?_
  blk_simp
  rw [after0_5, out_eq m c t ((flush0_5 t).mp hf)]
  idx_vars y
  have ht := t.isLt
  have hN := N_0
  have h3 : iblk m c 3 t = m ((c : Thread nD τ).loc main_arg3) := by
    funext i
    blk_ext [iblk, V, idx t]
  have h4 : iblk m c 4 t = m ((c : Thread nD τ).loc main_arg4) := by
    funext i
    blk_ext [iblk, V, idx t]
  have hr : 768 * (t.val / 16) + y0.val < 8448 := by
    have : t.val < 176 := lt_of_lt_of_eq ht hN
    omega
  have he : ((View.whole main_v0).slice (win0_5.rect t)).emb (ix2 y0 y1) = ix2 ⟨768 * (t.val / 16) + y0.val, hr⟩ y1 := by
    blk_ext [idx t]
  rw [h3, h4, he]
  exact pay4_at _ _ _ _ _ _ _ _ fun k => rows m c t ((flush0_5 t).mp hf) _ _ rfl k

end Cert.MlpIdeal.Pure

end
-- ==== Proof.FinalRun.lean ====
module

public import proofs.«01_k».proof.Proof.AttnIdealRun
public import proofs.«01_k».proof.Proof.Gen.FinalIdeal.Frame
public import proofs.«01_k».proof.Proof.Gen.FinalIdeal.Skeleton

@[expose] public section

set_option maxRecDepth 16384

noncomputable section

namespace Cert.FinalIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open AttnIdeal.Flash (load_whole read_whole z2)

variable {F : FTy → Type} [FloatOps F]

local notation "𝕄" => MT nD τ sig Unit (Elt F) ℕ (UR sig nD τ) ℕ

/-- A store of everything, whatever was stored before. -/
theorem rd {s : Shape} {e : EltTy} (v : View sig .tc .vmem s e) (f : v.ty.Contents (Elt F)) {off : Fin s.rank → ℕ} (h : off = fun _ => 0)
    (inb : ∀ a, off a + s.size a ≤ s.size a) (w : s.Idx → Elt F e) (L : List (View.Piece (Elt F) s e)) :
    v.read (Elt F) (v.writes (Elt F) f ((⟨Rect.unit off s.size inb, w⟩ : View.Piece (Elt F) s e) :: L)) = w :=
  funext fun y => View.read_writes_cons_unit_of_mem v f inb w L y y h fun a => (Nat.zero_add _).symm

theorem c4 {α β γ δ ε : Type} (f : α → β → γ → δ → ε) {a a' b b' c c' d d'} (h : a = a') (k : b = b') (l : c = c') (n : d = d') :
    f a b c d = f a' b' c' d' := by subst h k l n; rfl

variable (c : Dev nD) (i : grid0.Coords) (a2 : Memref sig .tc .vmem S768x2048 .f32) (h2 : a2.IsWhole) (a3 : Memref sig .tc .vmem S2048x512 .bf16) (h3 : a3.IsWhole)
  (a4 : Memref sig .tc .vmem S512x2048 .bf16) (h4 : a4.IsWhole) (a5 : Memref sig .tc .vmem S1x2048 .f32) (h5 : a5.IsWhole) (a6 : Memref sig .tc .vmem S1x2048 .f32) (h6 : a6.IsWhole)
  (a7 : Memref sig .tc .vmem S768x2048 .f32) (h7 : a7.IsWhole) (a8 : Memref sig .tc .vmem S128x2048 .f32) (h8 : a8.IsWhole)
  (a9 : Memref sig .tc .vmem S768x2048 .bf16) (h9 : a9.IsWhole) (a10 : Memref sig .tc .vmem S768x2048 .f32) (h10 : a10.IsWhole)
  (x0 : Vec F S768x2048 .f32) (x1 : Vec F S2048x512 .bf16) (x2 : Vec F S512x2048 .bf16) (x3 : Vec F S1x2048 .f32) (x4 : Vec F S1x2048 .f32)
  (xb : Vec F S768x2048 .bf16) (acc : Vec F S768x2048 .f32)

/-- A buffer at some contents. -/
abbrev some_ {s : Shape} {e : EltTy} (a : Memref sig .tc .vmem s e) : sProp 𝕄 := iprop(∃ d, owns (c : Thread nD τ) a fullShare d)

/-- The body takes its inputs and `P` to its inputs and `Q`. -/
def Runs (P Q : sProp 𝕄) : Prop := ∀ K : PUnit → sProp 𝕄,
  iprop(owns (c : Thread nD τ) a2 fullShare x0 ∗ owns (c : Thread nD τ) a3 fullShare x1 ∗ owns (c : Thread nD τ) a4 fullShare x2 ∗ owns (c : Thread nD τ) a5 fullShare x3
    ∗ owns (c : Thread nD τ) a6 fullShare x4 ∗ P
    ∗ (iprop(owns (c : Thread nD τ) a2 fullShare x0 ∗ owns (c : Thread nD τ) a3 fullShare x1 ∗ owns (c : Thread nD τ) a4 fullShare x2 ∗ owns (c : Thread nD τ) a5 fullShare x3
      ∗ owns (c : Thread nD τ) a6 fullShare x4 ∗ Q) -∗ K ⟨⟩))
  ⊢ wp frame (wpE (defs₀ (F := F)) Variants.none c none) Set.univ (cc0_mlp_final i a2 h2 a3 h3 a4 h4 a5 h5 a6 h6 a7 h7 a8 h8 a9 h9 a10 h10) K

/-- The point is a tile's first. -/
abbrev isZ : Prop := Scalar.cmpi .ne (Scalar.extui (Scalar.cmpi .eq (BitVec.ofNat 32 (i 1).val) 0#32) : BitVec 32) 0#32 = 1#1

set_option maxHeartbeats 800000 in
/-- The body at a tile's first point. -/
theorem run_A (hz : isZ i) (hc : ¬k0_cond2 i = 1#1) (hd : ¬k0_cond3 i = 1#1) :
    Runs c i a2 h2 a3 h3 a4 h4 a5 h5 a6 h6 a7 h7 a8 h8 a9 h9 a10 h10 x0 x1 x2 x3 x4 iprop(some_ c a9 ∗ some_ c a10)
      iprop(owns (c : Thread nD τ) a9 fullShare (k0_pay1 x0) ∗ owns (c : Thread nD τ) a10 fullShare (k0_pay3 (k0_pay1 x0) x1 k0_pay2 x2)) := by
  intro K
  simp only [cc0_mlp_final_eq_skeleton]; unfold cc0_mlp_final_skel
  unfold some_ owns
  iintro ⟨⟨%f2, %e2, H2⟩, ⟨%f3, %e3, H3⟩, ⟨%f4, %e4, H4⟩, ⟨%f5, %e5, H5⟩, ⟨%f6, %e6, H6⟩, ⟨⟨%d9, %f9, -, H9⟩, ⟨%d10, %f10, -, H10⟩⟩, Hk⟩
  subst e2 e3 e4 e5 e6
  sl_exec (disch := first | sl_exact hz | sl_exact hc | sl_exact hd)
  sl_step
  iapply Hk
  isplitl [H2]; · iexists _; isplitr; · ipureintro; exact rfl
                  iexact H2
  isplitl [H3]; · iexists _; isplitr; · ipureintro; exact rfl
                  iexact H3
  isplitl [H4]; · iexists _; isplitr; · ipureintro; exact rfl
                  iexact H4
  isplitl [H5]; · iexists _; isplitr; · ipureintro; exact rfl
                  iexact H5
  isplitl [H6]; · iexists _; isplitr; · ipureintro; exact rfl
                  iexact H6
  isplitl [H9]
  · iexists _; isplitr; swap; · iexact H9
    ipureintro; exact (rd a9.view _ z2 _ _ []).trans (congrArg k0_pay1 (load_whole a2.view _ z2 _))
  iexists _; isplitr; swap; · iexact H10
  ipureintro
  exact (rd a10.view _ z2 _ _ _).trans (c4 k0_pay3
    ((load_whole a9.view _ z2 _).trans ((rd a9.view _ z2 _ _ []).trans (congrArg k0_pay1 (load_whole a2.view _ z2 _))))
    (load_whole a3.view _ z2 _) ((load_whole a10.view _ z2 _).trans (rd a10.view _ z2 _ _ [])) (load_whole a4.view _ z2 _))

set_option maxHeartbeats 800000 in
/-- The body between. -/
theorem run_B (hz : ¬isZ i) (hc : ¬k0_cond2 i = 1#1) (hd : ¬k0_cond3 i = 1#1) :
    Runs c i a2 h2 a3 h3 a4 h4 a5 h5 a6 h6 a7 h7 a8 h8 a9 h9 a10 h10 x0 x1 x2 x3 x4 iprop(owns (c : Thread nD τ) a9 fullShare xb ∗ owns (c : Thread nD τ) a10 fullShare acc)
      iprop(owns (c : Thread nD τ) a9 fullShare xb ∗ owns (c : Thread nD τ) a10 fullShare (k0_pay3 xb x1 acc x2)) := by
  intro K
  simp only [cc0_mlp_final_eq_skeleton]; unfold cc0_mlp_final_skel
  unfold owns
  iintro ⟨⟨%f2, %e2, H2⟩, ⟨%f3, %e3, H3⟩, ⟨%f4, %e4, H4⟩, ⟨%f5, %e5, H5⟩, ⟨%f6, %e6, H6⟩, ⟨⟨%f9, %e9, H9⟩, ⟨%f10, %e10, H10⟩⟩, Hk⟩
  subst e2 e3 e4 e5 e6 e9 e10
  sl_exec (disch := first | sl_exact hz | sl_exact hc | sl_exact hd)
  sl_step
  iapply Hk
  isplitl [H2]; · iexists _; isplitr; · ipureintro; exact rfl
                  iexact H2
  isplitl [H3]; · iexists _; isplitr; · ipureintro; exact rfl
                  iexact H3
  isplitl [H4]; · iexists _; isplitr; · ipureintro; exact rfl
                  iexact H4
  isplitl [H5]; · iexists _; isplitr; · ipureintro; exact rfl
                  iexact H5
  isplitl [H6]; · iexists _; isplitr; · ipureintro; exact rfl
                  iexact H6
  isplitl [H9]; · iexists _; isplitr; · ipureintro; exact rfl
                  iexact H9
  iexists _; isplitr; swap; · iexact H10
  ipureintro
  exact (rd a10.view _ z2 _ _ []).trans (c4 k0_pay3 (load_whole a9.view _ z2 _) (load_whole a3.view _ z2 _) (load_whole a10.view _ z2 _) (load_whole a4.view _ z2 _))

set_option maxHeartbeats 800000 in
/-- The body at the last point of a tile before the last one. -/
theorem run_C (hz : ¬isZ i) (hc : k0_cond2 i = 1#1) (hd : ¬k0_cond3 i = 1#1) :
    Runs c i a2 h2 a3 h3 a4 h4 a5 h5 a6 h6 a7 h7 a8 h8 a9 h9 a10 h10 x0 x1 x2 x3 x4 iprop(owns (c : Thread nD τ) a9 fullShare xb ∗ owns (c : Thread nD τ) a10 fullShare acc ∗ some_ c a7)
      iprop(owns (c : Thread nD τ) a9 fullShare xb ∗ owns (c : Thread nD τ) a10 fullShare (k0_pay3 xb x1 acc x2)
        ∗ owns (c : Thread nD τ) a7 fullShare (k0_pay4 x0 (k0_pay3 xb x1 acc x2) x3 x4)) := by
  intro K
  simp only [cc0_mlp_final_eq_skeleton]; unfold cc0_mlp_final_skel
  unfold some_ owns
  iintro ⟨⟨%f2, %e2, H2⟩, ⟨%f3, %e3, H3⟩, ⟨%f4, %e4, H4⟩, ⟨%f5, %e5, H5⟩, ⟨%f6, %e6, H6⟩, ⟨⟨%f9, %e9, H9⟩, ⟨%f10, %e10, H10⟩, ⟨%d7, %f7, -, H7⟩⟩, Hk⟩
  subst e2 e3 e4 e5 e6 e9 e10
  sl_exec (disch := first | sl_exact hz | sl_exact hc | sl_exact hd)
  sl_step
  iapply Hk
  isplitl [H2]; · iexists _; isplitr; · ipureintro; exact rfl
                  iexact H2
  isplitl [H3]; · iexists _; isplitr; · ipureintro; exact rfl
                  iexact H3
  isplitl [H4]; · iexists _; isplitr; · ipureintro; exact rfl
                  iexact H4
  isplitl [H5]; · iexists _; isplitr; · ipureintro; exact rfl
                  iexact H5
  isplitl [H6]; · iexists _; isplitr; · ipureintro; exact rfl
                  iexact H6
  isplitl [H9]; · iexists _; isplitr; · ipureintro; exact rfl
                  iexact H9
  isplitl [H10]
  · iexists _; isplitr; swap; · iexact H10
    ipureintro
    exact (rd a10.view _ z2 _ _ []).trans (c4 k0_pay3 (load_whole a9.view _ z2 _) (load_whole a3.view _ z2 _) (load_whole a10.view _ z2 _) (load_whole a4.view _ z2 _))
  iexists _; isplitr; swap; · iexact H7
  ipureintro
  exact (rd a7.view _ z2 _ _ []).trans (c4 k0_pay4 (load_whole a2.view _ z2 _) ((load_whole a10.view _ z2 _).trans ((rd a10.view _ z2 _ _ []).trans (c4 k0_pay3 (load_whole a9.view _ z2 _) (load_whole a3.view _ z2 _) (load_whole a10.view _ z2 _) (load_whole a4.view _ z2 _)))) (load_whole a5.view _ z2 _) (load_whole a6.view _ z2 _))

set_option maxHeartbeats 800000 in
/-- The body at the last point. -/
theorem run_D (hz : ¬isZ i) (hc : ¬k0_cond2 i = 1#1) (hd : k0_cond3 i = 1#1) :
    Runs c i a2 h2 a3 h3 a4 h4 a5 h5 a6 h6 a7 h7 a8 h8 a9 h9 a10 h10 x0 x1 x2 x3 x4 iprop(owns (c : Thread nD τ) a9 fullShare xb ∗ owns (c : Thread nD τ) a10 fullShare acc ∗ some_ c a7 ∗ some_ c a8)
      iprop(owns (c : Thread nD τ) a9 fullShare xb ∗ owns (c : Thread nD τ) a10 fullShare (k0_pay3 xb x1 acc x2)
        ∗ (∃ d : Vec F S768x2048 .f32, ⌜∀ (p : Fin 512) (q : Fin 2048), d (ix2 ⟨p, by omega⟩ q) = k0_pay6 x0 (k0_pay3 xb x1 acc x2) x3 x4 (ix2 p q)⌝
          ∗ owns (c : Thread nD τ) a7 fullShare d)
        ∗ owns (c : Thread nD τ) a8 fullShare (k0_pay7 x0 (k0_pay3 xb x1 acc x2) x3 x4)) := by
  intro K
  simp only [cc0_mlp_final_eq_skeleton]; unfold cc0_mlp_final_skel
  unfold some_ owns
  iintro ⟨⟨%f2, %e2, H2⟩, ⟨%f3, %e3, H3⟩, ⟨%f4, %e4, H4⟩, ⟨%f5, %e5, H5⟩, ⟨%f6, %e6, H6⟩, ⟨⟨%f9, %e9, H9⟩, ⟨%f10, %e10, H10⟩, ⟨%d7, %f7, -, H7⟩, ⟨%d8, %f8, -, H8⟩⟩, Hk⟩
  subst e2 e3 e4 e5 e6 e9 e10
  sl_exec (disch := first | sl_exact hz | sl_exact hc | sl_exact hd)
  sl_step
  iapply Hk
  isplitl [H2]; · iexists _; isplitr; · ipureintro; exact rfl
                  iexact H2
  isplitl [H3]; · iexists _; isplitr; · ipureintro; exact rfl
                  iexact H3
  isplitl [H4]; · iexists _; isplitr; · ipureintro; exact rfl
                  iexact H4
  isplitl [H5]; · iexists _; isplitr; · ipureintro; exact rfl
                  iexact H5
  isplitl [H6]; · iexists _; isplitr; · ipureintro; exact rfl
                  iexact H6
  isplitl [H9]; · iexists _; isplitr; · ipureintro; exact rfl
                  iexact H9
  isplitl [H10]
  · iexists _; isplitr; swap; · iexact H10
    ipureintro
    exact (rd a10.view _ z2 _ _ []).trans (c4 k0_pay3 (load_whole a9.view _ z2 _) (load_whole a3.view _ z2 _) (load_whole a10.view _ z2 _) (load_whole a4.view _ z2 _))
  isplitl [H7]
  · iexists (a7.view.read (Elt F) _); isplitr; swap
    · iexists _; isplitr; swap; · iexact H7
      ipureintro; exact rfl
    ipureintro
    intro p q
    exact (View.read_writes_cons_unit_of_mem a7.view _ _ _ [] _ (ix2 p q) z2 fun a => by fin_cases a <;> exact (Nat.zero_add _).symm).trans
      (congrFun (c4 k0_pay6 (load_whole a2.view _ z2 _) ((load_whole a10.view _ z2 _).trans ((rd a10.view _ z2 _ _ []).trans (c4 k0_pay3 (load_whole a9.view _ z2 _) (load_whole a3.view _ z2 _) (load_whole a10.view _ z2 _) (load_whole a4.view _ z2 _)))) (load_whole a5.view _ z2 _) (load_whole a6.view _ z2 _)) _)
  iexists _; isplitr; swap; · iexact H8
  ipureintro
  exact (rd a8.view _ z2 _ _ []).trans (c4 k0_pay7 (load_whole a2.view _ z2 _) ((load_whole a10.view _ z2 _).trans ((rd a10.view _ z2 _ _ []).trans (c4 k0_pay3 (load_whole a9.view _ z2 _) (load_whole a3.view _ z2 _) (load_whole a10.view _ z2 _) (load_whole a4.view _ z2 _)))) (load_whole a5.view _ z2 _) (load_whole a6.view _ z2 _))

end Cert.FinalIdeal.Gen

end
-- ==== Proof.FinalFrame.lean ====
module

public import proofs.«01_k».proof.Proof.FinalRun
public import Idealize.ShloMosaic.Lib.Claim

@[expose] public section

set_option maxRecDepth 16384

noncomputable section

namespace Cert.FinalIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD) (t : Fin cfg0.N)

/-- The kernel's conditions, and where the two results are left alone. -/
theorem conds : ∀ t : Fin cfg0.N, (isZ (grid0.coords t) ↔ t.val % 16 = 0) ∧ (k0_cond2 (grid0.coords t) = 1#1 ↔ t.val % 16 = 15 ∧ t.val ≠ 175)
    ∧ (k0_cond3 (grid0.coords t) = 1#1 ↔ t.val = 175) := by decide +kernel
theorem idles : ∀ t : Fin cfg0.N, (t.val % 16 ≠ 15 → cfg0.idle 5 (grid0.coords t) = true ∧ (cfg0.win 5).flush t = false)
    ∧ (t.val % 16 = 15 → cfg0.idle 5 (grid0.coords t) = false)
    ∧ (t.val ≠ 175 → cfg0.idle 6 (grid0.coords t) = true ∧ (cfg0.win 6).flush t = false)
    ∧ (t.val = 175 → cfg0.idle 6 (grid0.coords t) = false ∧ win0_5.xsize (grid0.coords t) 0 ≤ 512) := by decide +kernel

def pt (n : ℕ) : Fin cfg0.N := ⟨n % 176, lt_of_lt_of_eq (Nat.mod_lt _ (by decide)) N_0.symm⟩
theorem pt_val : pt t.val = t := Fin.ext (Nat.mod_eq_of_lt (lt_of_lt_of_eq t.isLt N_0))

/-- The two scratch buffers after a point: the kept rows and the accumulator. -/
def st : ℕ → Vec F S768x2048 .bf16 × Vec F S768x2048 .f32
  | 0 => (k0_pay1 (iblk m c 0 (pt 0)), k0_pay3 (k0_pay1 (iblk m c 0 (pt 0))) (iblk m c 1 (pt 0)) k0_pay2 (iblk m c 2 (pt 0)))
  | n + 1 => if (n + 1) % 16 = 0 then
      (k0_pay1 (iblk m c 0 (pt (n + 1))), k0_pay3 (k0_pay1 (iblk m c 0 (pt (n + 1)))) (iblk m c 1 (pt (n + 1))) k0_pay2 (iblk m c 2 (pt (n + 1))))
    else ((st n).1, k0_pay3 (st n).1 (iblk m c 1 (pt (n + 1))) (st n).2 (iblk m c 2 (pt (n + 1))))

theorem st_A (h : t.val % 16 = 0) :
    st m c t.val = (k0_pay1 (iblk m c 0 t), k0_pay3 (k0_pay1 (iblk m c 0 t)) (iblk m c 1 t) k0_pay2 (iblk m c 2 t)) := by
  have hp := pt_val t
  cases hn : t.val with
  | zero => rw [hn] at hp; rw [st, hp]
  | succ n => rw [hn] at hp h; rw [st, if_pos h, hp]
theorem st_B (h : ¬t.val % 16 = 0) :
    st m c t.val = ((st m c (t.val - 1)).1, k0_pay3 (st m c (t.val - 1)).1 (iblk m c 1 t) (st m c (t.val - 1)).2 (iblk m c 2 t)) := by
  have hp := pt_val t
  cases hn : t.val with
  | zero => rw [hn] at h; exact absurd rfl h
  | succ n => rw [hn] at hp h; rw [st, if_neg h, hp]; rfl

/-- What the last point of a tile leaves of the rows. -/
def O : Vec F S768x2048 .f32 := fun y =>
  if h : t.val = 175 ∧ (y 0).val < 512 then k0_pay6 (iblk m c 0 t) (st m c t.val).2 (iblk m c 3 t) (iblk m c 4 t) (ix2 ⟨(y 0).val, h.2⟩ (y 1))
  else k0_pay4 (iblk m c 0 t) (st m c t.val).2 (iblk m c 3 t) (iblk m c 4 t) y

abbrev s9 : Memref sig .tc .vmem S768x2048 .bf16 := Memref.whole cc0_scratch0
abbrev s10 : Memref sig .tc .vmem S768x2048 .f32 := Memref.whole cc0_scratch1

def Phi : ℕ → sProp 𝕄
  | 0 => Pipeline.ΦA spec0 c
  | n + 1 => iprop((owns (c : Thread nD τ) s9 fullShare (st m c n).1 ∗ owns (c : Thread nD τ) s10 fullShare (st m c n).2) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => O m c t
    | ⟨6, _⟩ => k0_pay7 (iblk m c 0 t) (st m c t.val).2 (iblk m c 3 t) (iblk m c 4 t)
  Φ t := Phi m c t.val
  q _ := fullShare
  owed _ := 0

theorem Phi_A : (Pipeline.ΦA spec0 c : sProp 𝕄) = iprop((some_ c s9 ∗ some_ c s10) ∗ (∃ r, prngReg c r)) := by
  unfold Pipeline.ΦA; rw [scopedRest0_eq]; simp only [some_, s9, s10, owns_whole]; try rfl
theorem Phi_succ (n : ℕ) : Phi m c (n + 1) = iprop((owns (c : Thread nD τ) s9 fullShare (st m c n).1
    ∗ owns (c : Thread nD τ) s10 fullShare (st m c n).2) ∗ (∃ r, prngReg c r)) := rfl
theorem Phi_any (n : ℕ) : Phi m c n ⊢ iprop((some_ c s9 ∗ some_ c s10) ∗ (∃ r, prngReg c r)) := by
  cases n with
  | zero => unfold Phi; rw [Phi_A]
  | succ n => exact sep_mono_left (sep_mono (exists_intro _) (exists_intro _))
theorem Phi_pos (h : ¬t.val % 16 = 0) : Phi m c t.val = iprop((owns (c : Thread nD τ) s9 fullShare (st m c (t.val - 1)).1
    ∗ owns (c : Thread nD τ) s10 fullShare (st m c (t.val - 1)).2) ∗ (∃ r, prngReg c r)) := by
  cases hn : t.val with
  | zero => rw [hn] at h; exact absurd rfl h
  | succ n => rfl

/-- A result's buffer before the body at a point, and an input's all along. -/
abbrev pre (w : Fin cfg0.W) : sProp 𝕄 := iprop(∃ d, owns (c : Thread nD τ) ((cfg0.win w).stage (cfg0.slots t w)) fullShare ((dats m 0 c).before w t d))
abbrev inp (w : Fin cfg0.W) : sProp 𝕄 := owns (c : Thread nD τ) ((cfg0.win w).stage (cfg0.slots t w)) fullShare ((dats m 0 c).after w t)

/-- The body's run at a point's blocks. -/
abbrev RunsAt (P Q : sProp 𝕄) : Prop :=
  Runs c (grid0.coords t) _ (hstage0_0 ((cfg0.slots t 0).cast nbuf0_0)) _ (hstage0_1 ((cfg0.slots t 1).cast nbuf0_1)) _ (hstage0_2 ((cfg0.slots t 2).cast nbuf0_2))
    _ (hstage0_3 ((cfg0.slots t 3).cast nbuf0_3)) _ (hstage0_4 ((cfg0.slots t 4).cast nbuf0_4)) _ (hstage0_5 ((cfg0.slots t 5).cast nbuf0_5))
    _ (hstage0_6 ((cfg0.slots t 6).cast nbuf0_6)) s9 (Memref.isWhole_whole _) s10 (Memref.isWhole_whole _)
    (iblk m c 0 t) (iblk m c 1 t) (iblk m c 2 t) (iblk m c 3 t) (iblk m c 4 t) P Q

theorem lift (P Q X : sProp 𝕄) (R : RunsAt m c t P Q) (hP : iprop(Phi m c t.val ∗ pre m c t 5 ∗ pre m c t 6) ⊢ iprop(P ∗ X))
    (hQ : iprop(Q ∗ X) ⊢ iprop(Phi m c (t.val + 1) ∗ (dats m 0 c).leaves 5 t ∗ (dats m 0 c).leaves 6 t)) :
    iprop(Phi m c t.val ∗ (dats m 0 c).owesAt () t.castSucc ∗ pre m c t 0 ∗ pre m c t 1 ∗ pre m c t 2 ∗ pre m c t 3 ∗ pre m c t 4 ∗ pre m c t 5 ∗ pre m c t 6)
    ⊢ wp frame (wpE (defs₀ (F := F)) Variants.none c none) Set.univ (bodyAt0 t) fun _ =>
      iprop(Phi m c (t.val + 1) ∗ (dats m 0 c).owesAt () t.succ ∗ inp m c t 0 ∗ inp m c t 1 ∗ inp m c t 2 ∗ inp m c t 3 ∗ inp m c t 4
        ∗ (dats m 0 c).leaves 5 t ∗ (dats m 0 c).leaves 6 t) := by
  rw [show (dats m 0 c).owesAt () t.succ = (dats m 0 c).owesAt () t.castSucc from rfl]
  have b0 := before0_0_of m (dats m 0 c) rfl (fun _ => rfl) t
  have b1 := before0_1_of m (dats m 0 c) rfl (fun _ => rfl) t
  have b2 := before0_2_of m (dats m 0 c) rfl (fun _ => rfl) t
  have b3 := before0_3_of m (dats m 0 c) rfl (fun _ => rfl) t
  have b4 := before0_4_of m (dats m 0 c) rfl (fun _ => rfl) t
  unfold pre at hP ⊢
  simp only [b0, b1, b2, b3, b4]
  iintro ⟨HΦ, Ho, ⟨%d0, H0⟩, ⟨%d1, H1⟩, ⟨%d2, H2⟩, ⟨%d3, H3⟩, ⟨%d4, H4⟩, H5, H6⟩
  ihave HPX := hP $$ [HΦ H5 H6]
  · isplitl [HΦ]; · iexact HΦ
    isplitl [H5]; · iexact H5
    iexact H6
  icases HPX with ⟨HP, HX⟩
  iapply (R _)
  isplitl [H0]; · iexact H0
  isplitl [H1]; · iexact H1
  isplitl [H2]; · iexact H2
  isplitl [H3]; · iexact H3
  isplitl [H4]; · iexact H4
  isplitl [HP]; · iexact HP
  iintro ⟨H0, H1, H2, H3, H4, HQ⟩
  ihave HR := hQ $$ [HQ HX]
  · isplitl [HQ]; · iexact HQ
    iexact HX
  icases HR with ⟨HΦ, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem sound :
    iprop(Phi m c t.val ∗ (dats m 0 c).owesAt () t.castSucc ∗ pre m c t 0 ∗ pre m c t 1 ∗ pre m c t 2 ∗ pre m c t 3 ∗ pre m c t 4 ∗ pre m c t 5 ∗ pre m c t 6)
    ⊢ wp frame (wpE (defs₀ (F := F)) Variants.none c none) Set.univ (bodyAt0 t) fun _ =>
      iprop(Phi m c (t.val + 1) ∗ (dats m 0 c).owesAt () t.succ ∗ inp m c t 0 ∗ inp m c t 1 ∗ inp m c t 2 ∗ inp m c t 3 ∗ inp m c t 4
        ∗ (dats m 0 c).leaves 5 t ∗ (dats m 0 c).leaves 6 t) := by
  obtain ⟨cz, cc, cd⟩ := conds t
  obtain ⟨i5, v5, i6, v6⟩ := idles t
  by_cases hz : t.val % 16 = 0
  · refine lift m c t _ _ iprop((∃ r, prngReg c r) ∗ pre m c t 5 ∗ pre m c t 6) (run_A c _ _ _ _ _ _ _ _ _ _ _ _ _ _ _ _ _ _ _ _ _ _ _ _ (cz.mpr hz)
      (fun h => by have := (cc.mp h).1; omega) (fun h => by have := cd.mp h; omega)) ?_ ?_
    · have I := Phi_any m c t.val
      iintro ⟨HΦ, H5, H6⟩
      ihave HJ := I $$ HΦ
      icases HJ with ⟨HS, Hg⟩
      isplitl [HS]; · iexact HS
      isplitl [Hg]; · iexact Hg
      isplitl [H5]; · iexact H5
      iexact H6
    · rw [Dat.leaves_idle _ 5 t (i5 (by omega)).1 (i5 (by omega)).2, Dat.leaves_idle _ 6 t (i6 (by omega)).1 (i6 (by omega)).2]
      rw [Phi_succ, st_A m c t hz]
      iintro ⟨HS, Hg, H5, H6⟩
      isplitl [HS Hg]
      · isplitl [HS]; · iexact HS
        iexact Hg
      isplitl [H5]; · iexact H5
      iexact H6
  have hs := st_B m c t hz
  by_cases h1 : t.val % 16 = 15
  · by_cases h2 : t.val = 175
    · refine lift m c t _ _ iprop(∃ r, prngReg c r) (run_D c _ _ _ _ _ _ _ _ _ _ _ _ _ _ _ _ _ _ _ _ _ _ _ _ (st m c (t.val - 1)).1 (st m c (t.val - 1)).2 (mt cz.mp hz)
        (fun h => (cc.mp h).2 h2) (cd.mpr h2)) ?_ ?_
      · rw [Phi_pos m c t hz]
        iintro ⟨⟨⟨S9, S10⟩, Hg⟩, ⟨%d5, H5⟩, ⟨%d6, H6⟩⟩
        isplitl [S9 S10 H5 H6]
        · isplitl [S9]; · iexact S9
          isplitl [S10]; · iexact S10
          isplitl [H5]; · iexists _; iexact H5
          iexists _; iexact H6
        iexact Hg
      · rw [show (dats m 0 c).leaves 6 t = owns (c : Thread nD τ) ((cfg0.win 6).stage (cfg0.slots t 6)) fullShare
            (k0_pay7 (iblk m c 0 t) (st m c t.val).2 (iblk m c 3 t) (iblk m c 4 t)) from by unfold Dat.leaves; rw [(v6 h2).1]; rfl,
          show (dats m 0 c).leaves 5 t = _ from by unfold Dat.leaves; rw [v5 h1]]
        rw [Phi_succ, hs]
        iintro ⟨⟨S9, S10, ⟨%d, %hd, H5⟩, H6⟩, Hg⟩
        isplitl [S9 S10 Hg]
        · isplitl [S9 S10]
          · isplitl [S9]; · iexact S9
            iexact S10
          iexact Hg
        isplitl [H5]
        · iexists d
          rw [show (cfg0.win 5).fill (cfg0.grid.coords t) d ((cfg0.win 5).cut (cfg0.grid.coords t) ((dats m 0 c).after 5 t)) = d from by
            funext j
            unfold Pipeline.Window.fill
            split
            · next hm =>
              have hj : (j 0).val < 512 := lt_of_lt_of_le (((cfg0.win 5).moved_iff _ j).mp hm 0) (v6 h2).2
              refine (dif_pos ⟨h2, hj⟩ : O m c t j = _).trans ?_
              rw [hs]
              exact (hd ⟨_, hj⟩ (j 1)).symm.trans (congrArg d (eq_ix2 j).symm)
            · rfl]
          iexact H5
        iexact H6
    · refine lift m c t _ _ iprop((∃ r, prngReg c r) ∗ pre m c t 6) (run_C c _ _ _ _ _ _ _ _ _ _ _ _ _ _ _ _ _ _ _ _ _ _ _ _ (st m c (t.val - 1)).1 (st m c (t.val - 1)).2 (mt cz.mp hz)
        (cc.mpr ⟨h1, h2⟩) (mt cd.mp h2)) ?_ ?_
      · rw [Phi_pos m c t hz]
        iintro ⟨⟨⟨S9, S10⟩, Hg⟩, ⟨%d5, H5⟩, H6⟩
        isplitl [S9 S10 H5]
        · isplitl [S9]; · iexact S9
          isplitl [S10]; · iexact S10
          iexists _; iexact H5
        isplitl [Hg]; · iexact Hg
        iexact H6
      · rw [Dat.leaves_idle _ 6 t (i6 h2).1 (i6 h2).2, show (dats m 0 c).leaves 5 t = _ from by unfold Dat.leaves; rw [v5 h1]]
        rw [Phi_succ, hs]
        iintro ⟨⟨S9, S10, H5⟩, Hg, H6⟩
        isplitl [S9 S10 Hg]
        · isplitl [S9 S10]
          · isplitl [S9]; · iexact S9
            iexact S10
          iexact Hg
        isplitl [H5]
        · iexists (O m c t)
          rw [show (cfg0.win 5).fill (cfg0.grid.coords t) (O m c t) ((cfg0.win 5).cut (cfg0.grid.coords t) ((dats m 0 c).after 5 t)) = _ from
            ((cfg0.win 5).fill_cut _ _).trans (funext fun y => (dif_neg fun h => h2 h.1 : O m c t y = k0_pay4 _ (st m c t.val).2 _ _ y)), hs]
          iexact H5
        iexact H6
  · refine lift m c t _ _ iprop((∃ r, prngReg c r) ∗ pre m c t 5 ∗ pre m c t 6) (run_B c _ _ _ _ _ _ _ _ _ _ _ _ _ _ _ _ _ _ _ _ _ _ _ _ (st m c (t.val - 1)).1 (st m c (t.val - 1)).2 (mt cz.mp hz)
      (fun h => h1 (cc.mp h).1) (fun h => by have := cd.mp h; omega)) ?_ ?_
    · rw [Phi_pos m c t hz]
      iintro ⟨⟨HS, Hg⟩, H5, H6⟩
      isplitl [HS]; · iexact HS
      isplitl [Hg]; · iexact Hg
      isplitl [H5]; · iexact H5
      iexact H6
    · rw [Dat.leaves_idle _ 5 t (i5 h1).1 (i5 h1).2, Dat.leaves_idle _ 6 t (i6 (by omega)).1 (i6 (by omega)).2]
      rw [Phi_succ, hs]
      iintro ⟨HS, Hg, H5, H6⟩
      isplitl [HS Hg]
      · isplitl [HS]; · iexact HS
        iexact Hg
      isplitl [H5]; · iexact H5
      iexact H6

theorem body : BodyObligationLoose (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound m c t) rfl .rfl fun _ => .rfl

theorem hout : (dats m 0 c).Φ (Fin.last cfg0.N) ⊢ Pipeline.ΦA spec0 c := by
  rw [Phi_A]; exact Phi_any m c cfg0.N

set_option backward.isDefEq.respectTransparency.types false in
/-- Every execution ends with the arrays at what the proof data say, and all counters at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := body m) (hshare := fun c => (dats m 0 c).share_full fun _ => rfl)
    (howed := fun _ _ => rfl) (V := V m) (hmain := hmain m Variants.none) (hA := fun _ _ => rfl) (hin := fun _ => .rfl) (hout := hout m)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_and (frame_of m ρ (dats m) (fun _ _ => rfl) ((θ_run defs _ _).mono (fun _ h => h.1) (run_main m ρ)))
    ((θ_run defs _ _).mono (fun _ h => h.2) (run_main m ρ))

end Cert.FinalIdeal.Gen

end
-- ==== Proof.FinalValue.lean ====
module

public import proofs.«01_k».proof.Proof.FinalFrame
public import proofs.«01_k».proof.Proof.MlpValue
public import proofs.«01_k».proof.Proof.Gen.FinalRefIdeal.Run

@[expose] public section

set_option maxRecDepth 16384

noncomputable section

namespace Cert.FinalIdeal.Val

open Cert.FinalIdeal Cert.FinalIdeal.Gen Idealize.ShloMosaic Idealize.ShloMosaic.TcCoe Idealize.SL.Sem
open Idealize.ShloMosaic.Pipeline (Dat)
open MlpRefIdeal.Pure (Z norm)

variable (m : (ℓ : Loc nD τ sig) → Buf (Elt Ideal) ℓ) (c : Dev nD) (t : Fin cfg0.N)

/-- The first row of the block a point reads. -/
def row : ℕ := if t.val / 16 < 10 then 16 + 768 * (t.val / 16) else 7680

theorem idx : ∀ t : Fin cfg0.N, win0_0.index t = ![row t, 0] ∧ win0_1.index t = ![0, t.val % 16]
    ∧ win0_2.index t = ![t.val % 16, 0] ∧ win0_3.index t = ![0, 0] ∧ win0_4.index t = ![0, 0]
    ∧ win0_5.index t = ![t.val / 16, 0] ∧ win0_6.index t = ![0, 0] :=
  (by decide +kernel : ∀ t : Fin grid0.N, _)

theorem e0 (j : S768x2048.Idx) : (((View.whole main_arg0).slice (win0_0.rect t)).emb j 0 : ℕ) = row t + (j 0).val := by
  refine (show _ = win0_0.index t 0 + 1 * (j 0).val from rfl).trans ?_
  rw [(idx t).1, one_mul]; rfl
theorem e1 (j : S768x2048.Idx) : (((View.whole main_arg0).slice (win0_0.rect t)).emb j 1 : ℕ) = (j 1).val := by
  refine (show _ = win0_0.index t 1 + 1 * (j 1).val from rfl).trans ?_
  rw [(idx t).1, one_mul]; exact Nat.zero_add _

/-- The feed-forward block of the argument arrays. -/
def R : FVec Ideal MlpRefIdeal.S8448x2048 .f32 :=
  norm (Z (m ((c : Thread nD τ).loc main_arg0)) (m ((c : Thread nD τ).loc main_arg1)) (m ((c : Thread nD τ).loc main_arg2)))
    (m ((c : Thread nD τ).loc main_arg3)) (m ((c : Thread nD τ).loc main_arg4))

/-- The kept rows are the tile's rows. -/
theorem kept (j : S768x2048.Idx) : (st m c t.val).1 j = (show FVec Ideal S768x2048 .f32 from iblk m c 0 t) j := by
  have hN := N_0
  refine (Pipeline.eq_of_write_hold_apply (fun n _ => (st m c n).1) 16
    (fun t => (show FVec Ideal S768x2048 .f32 from iblk m c 0 t)) (fun t h j => ?_) (fun t h j => ?_) t j).trans ?_
  · rw [st_A m c t h]; exact MlpIdeal.Pure.pay1_at _ j
  · rw [st_B m c t h]
  · have ht := t.isLt
    have hr : row ⟨16 * (t.val / 16), by omega⟩ = row t := by unfold row; simp only [show 16 * (t.val / 16) / 16 = t.val / 16 by omega]
    blk_ext [iblk, V]
    · exact (e0 _ j).trans ((congrArg (· + (j 0).val) hr).trans (e0 t j).symm)
    · exact (e1 _ j).trans (e1 t j).symm

/-- The part of the accumulator that the tile of the hidden dimension at a point adds. -/
def part (j : S768x2048.Idx) : EReal :=
  ∑ l : Fin 512, (max (∑ k : Fin 2048, (show FVec Ideal S768x2048 .f32 from iblk m c 0 t) (ix2 (j 0) k)
        * (show FVec Ideal S2048x512 .bf16 from iblk m c 1 t) (ix2 k l)) 0
      * max (∑ k : Fin 2048, (show FVec Ideal S768x2048 .f32 from iblk m c 0 t) (ix2 (j 0) k)
        * (show FVec Ideal S2048x512 .bf16 from iblk m c 1 t) (ix2 k l)) 0)
      * (show FVec Ideal S512x2048 .bf16 from iblk m c 2 t) (ix2 l (j 1))

theorem step (x : FVec Ideal S768x2048 .bf16) (acc : FVec Ideal S768x2048 .f32) (j : S768x2048.Idx)
    (hx : ∀ j, x j = (show FVec Ideal S768x2048 .f32 from iblk m c 0 t) j) :
    k0_pay3 (F := Ideal) x (iblk m c 1 t) acc (iblk m c 2 t) j = acc j + part m c t j := by
  obtain rfl : x = (show FVec Ideal S768x2048 .f32 from iblk m c 0 t) := funext hx
  exact MlpIdeal.Pure.pay3_at _ _ _ _ j

/-- At a run's last point the accumulator is the sum over the run's sixteen tiles. -/
theorem acc_eq (hf : t.val % 16 = 15) (j : S768x2048.Idx) :
    (st m c t.val).2 j = ∑ s : Fin 16, part m c ⟨16 * (t.val / 16) + s, Pipeline.run_point_lt_of_flush t hf s⟩ j := by
  refine (Pipeline.eq_sum_fin_of_reset_step_apply_of_flush (fun n _ => (st m c n).2) 16 (fun _ => (0 : EReal)) (part m c)
    (fun t h j => ?_) (fun t h j => ?_) t hf j).trans (zero_add _)
  · rw [st_A m c t h]
    exact (step m c t _ _ j fun j => MlpIdeal.Pure.pay1_at _ j).trans (congrArg (· + part m c t j) (MlpIdeal.Pure.pay2_at j))
  · rw [st_B m c t h]
    refine step m c t _ _ j fun j => (?_ : _ = _).trans (kept m c t j)
    rw [st_B m c t h]

/-- The rows before the normalisation, tile by tile, are the reference's. -/
theorem rows (hf : t.val % 16 = 15) (r : Fin 8448) (p : Fin 768) (hr : (r : ℕ) = row t + p) (k : Fin 2048) :
    Ideal.ofBits .f32 0x3FB504F3#32 * (show FVec Ideal S768x2048 .f32 from iblk m c 0 t) (ix2 p k)
        + (show FVec Ideal S768x2048 .f32 from (st m c t.val).2) (ix2 p k)
      = Z (m ((c : Thread nD τ).loc main_arg0)) (m ((c : Thread nD τ).loc main_arg1)) (m ((c : Thread nD τ).loc main_arg2)) (ix2 r k) := by
  rw [MlpRefIdeal.Pure.Z_at, show (show FVec Ideal S768x2048 .f32 from (st m c t.val).2) (ix2 p k) = _ from acc_eq m c t hf (ix2 p k)]
  have ht := t.isLt
  have hN := N_0
  refine congrArg₂ (· + ·) ?_ ?_
  · blk_point [iblk, V]
    · exact (e0 t _).trans hr.symm
    · exact e1 t _
  · unfold part
    refine Fin.sum_mul_add_congr fun s l hl => ?_
    have hs : row ⟨16 * (t.val / 16) + s, Pipeline.run_point_lt_of_flush t hf s⟩ = row t := by
      unfold row; simp only [show (16 * (t.val / 16) + s.val) / 16 = t.val / 16 by omega]
    blk_point [iblk, V, idx ⟨16 * (t.val / 16) + s, Pipeline.run_point_lt_of_flush t hf s⟩]
    · exact (e0 _ _).trans ((congrArg (· + p.val) hs).trans hr.symm)
    · exact e1 _ _

/-- The last tile's normalised rows, moved down, are the reference's. -/
theorem pay6_at (x acc : FVec Ideal S768x2048 .f32) (gw bw : FVec Ideal S1x2048 .f32)
    (Zr : FVec Ideal MlpRefIdeal.S8448x2048 .f32) (r : Fin 8448) (p : Fin 512) (n : Fin 2048)
    (h : ∀ k : Fin 2048, Ideal.ofBits .f32 0x3FB504F3#32 * x (ix2 ⟨16 + p, by omega⟩ k) + acc (ix2 ⟨16 + p, by omega⟩ k) = Zr (ix2 r k)) :
    k0_pay6 (F := Ideal) x acc gw bw (ix2 p n) = norm Zr gw bw (ix2 r n) :=
  (show _ = extractStridedSlice S512x2048 ![16, 0] (MlpIdeal.Gen.k0_pay4 (F := Ideal) x acc gw bw) facts.slices_S768x2048_o16_0_S512x2048 (ix2 p n) from rfl).trans
    ((by pointwise [] : _ = MlpIdeal.Gen.k0_pay4 (F := Ideal) x acc gw bw (ix2 ⟨16 + p, by omega⟩ n)).trans (MlpIdeal.Pure.pay4_at _ _ _ _ _ _ _ _ h))
theorem pay7_at (x acc : FVec Ideal S768x2048 .f32) (gw bw : FVec Ideal S1x2048 .f32)
    (Zr : FVec Ideal MlpRefIdeal.S8448x2048 .f32) (r : Fin 8448) (p : Fin 128) (n : Fin 2048)
    (h : ∀ k : Fin 2048, Ideal.ofBits .f32 0x3FB504F3#32 * x (ix2 ⟨528 + p, by omega⟩ k) + acc (ix2 ⟨528 + p, by omega⟩ k) = Zr (ix2 r k)) :
    k0_pay7 (F := Ideal) x acc gw bw (ix2 p n) = norm Zr gw bw (ix2 r n) :=
  (show _ = extractStridedSlice S128x2048 ![528, 0] (MlpIdeal.Gen.k0_pay4 (F := Ideal) x acc gw bw) facts.slices_S768x2048_o528_0_S128x2048 (ix2 p n) from rfl).trans
    ((by pointwise [] : _ = MlpIdeal.Gen.k0_pay4 (F := Ideal) x acc gw bw (ix2 ⟨528 + p, by omega⟩ n)).trans (MlpIdeal.Pure.pay4_at _ _ _ _ _ _ _ _ h))

theorem h3 : iblk m c 3 t = m ((c : Thread nD τ).loc main_arg3) := by
  funext i
  blk_ext [iblk, V, idx t]
theorem h4 : iblk m c 4 t = m ((c : Thread nD τ).loc main_arg4) := by
  funext i
  blk_ext [iblk, V, idx t]

/-- A written row is the reference's. -/
theorem O_at (hf : t.val % 16 = 15) (p : S768x2048.Idx) (r : Fin 8448) (hp : t.val = 175 → (p 0).val < 512)
    (hr : (r : ℕ) = 16 + (768 * (t.val / 16) + (p 0).val)) : O m c t p = R m c (ix2 r (p 1)) := by
  have ht : t.val < 176 := lt_of_lt_of_eq t.isLt N_0
  unfold O R
  rw [h3, h4]
  split
  case isTrue h =>
    refine pay6_at _ _ _ _ _ r _ _ fun k => rows m c t hf r ⟨16 + (p 0).val, by omega⟩ ?_ k
    show r.val = row t + (16 + (p 0).val)
    unfold row; split <;> omega
  case isFalse h =>
    obtain ⟨p0, p1, rfl⟩ : ∃ a b, p = ix2 a b := ⟨p 0, p 1, eq_ix2 p⟩
    refine MlpIdeal.Pure.pay4_at _ _ _ _ _ r _ _ fun k => rows m c t hf r p0 ?_ k
    have h' : ¬t.val = 175 := fun e => h ⟨e, hp e⟩
    have hr : (r : ℕ) = 16 + (768 * (t.val / 16) + p0.val) := hr
    unfold row; split <;> omega

theorem w5 : ∀ t : Fin cfg0.N, t.val = 175 → win0_5.xsize (grid0.coords t) 0 = 512 :=
  (by decide +kernel : ∀ t : Fin grid0.N, _)

/-- The prompt's rows. -/
theorem final5 : (dats m 0 c).arrAt 5 (cfgs 0).N = extractStridedSlice FinalRefIdeal.S8192x2048 ![16, 0] (R m c) FinalRefIdeal.Gen.facts.slices_S8448x2048_S8192x2048_16_0 := by
  refine (dats m 0 c).arrAt_eq_of_covers 5 _ (by decide +kernel) fun t hf y => ?_
  have hf := (flush0_5 t).mp hf
  blk_simp
  have ht : t.val < 176 := lt_of_lt_of_eq t.isLt N_0
  have hy : (y 0).val < 768 := Nat.lt_of_lt_of_le (y 0).isLt (win0_5.xsize_le _ 0)
  have hw : t.val = 175 → (y 0).val < 512 := fun e => Nat.lt_of_lt_of_eq (y 0).isLt (w5 t e)
  have i0 : (((win0_5.blk t).view.emb y) 0 : ℕ) = 768 * (t.val / 16) + (y 0).val := by
    refine (show _ = win0_5.index t 0 * 768 + 1 * (y 0).val from rfl).trans ?_
    rw [(idx t).2.2.2.2.2.1, one_mul]; exact congrArg (· + (y 0).val) (Nat.mul_comm _ _)
  have i1 : (((win0_5.blk t).view.emb y) 1 : ℕ) = (y 1).val := by
    refine (show _ = win0_5.index t 1 * 2048 + 1 * (y 1).val from rfl).trans ?_
    rw [(idx t).2.2.2.2.2.1, one_mul]; exact Nat.zero_add _
  refine (O_at m c t hf _ ⟨16 + (768 * (t.val / 16) + (y 0).val), by omega⟩ hw rfl).trans ?_
  refine congrArg (R m c) ((congrArg₂ ix2 (Fin.ext ?_) (Fin.ext ?_)).trans (eq_ix2 _).symm)
  · exact (congrArg (16 + ·) i0.symm).trans (by first | rfl | simp)
  · exact i1.symm.trans (Nat.zero_add _).symm

/-- The samples' rows. -/
theorem final6 : (dats m 0 c).arrAt 6 (cfgs 0).N = extractStridedSlice FinalRefIdeal.S128x2048 ![8208, 0] (R m c) FinalRefIdeal.Gen.facts.slices_S8448x2048_S128x2048_8208_0 := by
  refine (dats m 0 c).arrAt_eq_of_covers 6 _ (by decide +kernel) fun t hf y => ?_
  have hf := (flush0_6 t).mp hf
  blk_simp
  idx_vars y
  have ht : t.val < 176 := lt_of_lt_of_eq t.isLt N_0
  rw [show (dats m 0 c).after 6 t = k0_pay7 (iblk m c 0 t) (st m c t.val).2 (iblk m c 3 t) (iblk m c 4 t) from rfl, h3, h4]
  have he : ((View.whole main_v0_1).slice (win0_6.rect t)).emb (ix2 y0 y1) = ix2 y0 y1 := by
    blk_ext [idx t]
  rw [he]
  refine (pay7_at _ _ _ _ _ ⟨8208 + y0.val, by omega⟩ _ _ fun k => rows m c t (by omega) _ ⟨528 + y0.val, by omega⟩ ?_ k).trans ?_
  · show 8208 + y0.val = row t + (528 + y0.val)
    unfold row; split <;> omega
  · unfold R
    refine congrArg (norm _ _ _) ((congrArg₂ ix2 (Fin.ext ?_) (Fin.ext ?_)).trans (eq_ix2 _).symm)
    · rfl
    · exact (Nat.zero_add _).symm

end Cert.FinalIdeal.Val

end
-- ==== Proof.lean ====
module

public import proofs.«01_k».proof.Defs
public import proofs.«01_k».proof.Proof.Gen.Mlp.Frame
public import proofs.«01_k».proof.Proof.Gen.Pre_attn_finite
public import proofs.«01_k».proof.Proof.AttnLaunch
public import proofs.«01_k».proof.Proof.AttnIdealLaunch
public import proofs.«01_k».proof.Proof.AttnFinite
public import proofs.«01_k».proof.Proof.Gen.AttnRefIdeal.Run
public import proofs.«01_k».proof.Proof.MlpValue
public import proofs.«01_k».proof.Proof.FinalValue
public import proofs.«01_k».proof.Proof.Gen.Final
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference of the attention leaves its arguments and the counters as they were. -/
theorem quiescent_attnRef : Cert.quiescent_AttnRefIdeal := by
  intro m ρ _
  exact (θ_run AttnRefIdeal.defs _ _).mono (fun r h => ⟨fun c => (h c).2.2.2.2, sem_eq_zero_of_no_sems (by decide) r.2⟩)
    (AttnRefIdeal.Value.run m ρ)

section
open Cert.AttnIdeal Cert.AttnIdeal.Flash
open AttnRefIdeal.Pure (rO rOut)

/-- The attention's four result arrays. -/
def vO (m : (ℓ : Loc nD τ sig) → Buf (Elt Ideal) ℓ) (c : Dev nD) : FVec Ideal AttnRefIdeal.S4x8448x256 .bf16 :=
  rOut (F := Ideal) (rO (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))) (m ((c.tc : Thread nD τ).loc main_arg7))
def v1 (m : (ℓ : Loc nD τ sig) → Buf (Elt Ideal) ℓ) (c : Dev nD) : FVec Ideal AttnRefIdeal.S2048x8192 .bf16 :=
  truncf .bf16 (extractStridedSlice AttnRefIdeal.S2048x8192 ![0, 0] (m ((c.tc : Thread nD τ).loc main_arg8)) AttnRefIdeal.Gen.facts.slices_S4096x8192_S2048x8192_0_0) AttnRefIdeal.Gen.facts.bitsLt_bf16_f32
def v2 (m : (ℓ : Loc nD τ sig) → Buf (Elt Ideal) ℓ) (c : Dev nD) : FVec Ideal AttnRefIdeal.S8192x2048 .bf16 :=
  truncf .bf16 (extractStridedSlice AttnRefIdeal.S8192x2048 ![0, 0] (m ((c.tc : Thread nD τ).loc main_arg9)) AttnRefIdeal.Gen.facts.slices_S16384x2048_S8192x2048_0_0) AttnRefIdeal.Gen.facts.bitsLt_bf16_f32
def v3 (m : (ℓ : Loc nD τ sig) → Buf (Elt Ideal) ℓ) (c : Dev nD) : FVec Ideal AttnRefIdeal.S2048x2048 .bf16 :=
  truncf .bf16 (show FVec Ideal AttnRefIdeal.S2048x2048 .f32 from m ((c.tc : Thread nD τ).loc main_arg10)) AttnRefIdeal.Gen.facts.bitsLt_bf16_f32

theorem vO_eq (m : (ℓ : Loc nD τ sig) → Buf (Elt Ideal) ℓ) (c : Dev nD) [Cert.Pre_attn_finite.Facts] (h : Cert.Pre_AttnIdeal_attn_finite m) :
    (dats m 0 c).arrAt 12 (C (F := Ideal)).N = vO m c := by
  obtain ⟨l, hl⟩ := lam_of m c h
  exact final_12 (reals_of m c h) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) rfl rfl rfl rfl rfl rfl rfl rfl l hl

theorem v1_at (m : (ℓ : Loc nD τ sig) → Buf (Elt Ideal) ℓ) (c : Dev nD) (a : Fin 2048) (b : Fin 8192) :
    v1 m c (ix2 a b) = (show FVec Ideal S4096x8192 .f32 from m ((c.tc : Thread nD τ).loc main_arg8)) (ix2 ⟨a.val, by omega⟩ b) := by
  pointwise [v1]
theorem v2_at (m : (ℓ : Loc nD τ sig) → Buf (Elt Ideal) ℓ) (c : Dev nD) (a : Fin 8192) (b : Fin 2048) :
    v2 m c (ix2 a b) = (show FVec Ideal S16384x2048 .f32 from m ((c.tc : Thread nD τ).loc main_arg9)) (ix2 ⟨a.val, by omega⟩ b) := by
  pointwise [v2]
theorem v3_at (m : (ℓ : Loc nD τ sig) → Buf (Elt Ideal) ℓ) (c : Dev nD) (a : Fin 2048) (b : Fin 2048) :
    v3 m c (ix2 a b) = (show FVec Ideal S2048x2048 .f32 from m ((c.tc : Thread nD τ).loc main_arg10)) (ix2 ⟨a.val, by omega⟩ b) := by
  pointwise [v3]

end

set_option maxHeartbeats 4000000 in
/-- Over the extended reals the attention call computes its reference. -/
theorem algebraic_attn [Cert.Pre_attn_finite.Facts] : Cert.algebraic_AttnIdeal_AttnRefIdeal_pre_attn_finite := by
  intro m ρ m' ρ' hpre hag
  refine ⟨fun c => vO m c, fun c => v1 m c, fun c => v2 m c, fun c => v3 m c,
    (θ_run _ _ _).mono (fun r h c => ?_) (AttnIdeal.Flash.run_main m ρ),
    (θ_run _ _ _).mono (fun r h c => ?_) (AttnRefIdeal.Value.run m' ρ')⟩
  · refine ⟨((h.1 c).1 12).trans ?_, ((h.1 c).1 13).trans ?_, ((h.1 c).1 14).trans ?_, ((h.1 c).1 15).trans ?_,
      AttnIdeal.Flash.kept_0 m r h.1 c, AttnIdeal.Flash.kept_1 m r h.1 c, AttnIdeal.Flash.kept_2 m r h.1 c, AttnIdeal.Flash.kept_3 m r h.1 c,
      AttnIdeal.Flash.kept_4 m r h.1 c, AttnIdeal.Flash.kept_5 m r h.1 c, AttnIdeal.Flash.kept_6 m r h.1 c, AttnIdeal.Flash.kept_7 m r h.1 c,
      AttnIdeal.Flash.kept_8 m r h.1 c, AttnIdeal.Flash.kept_9 m r h.1 c, AttnIdeal.Flash.kept_10 m r h.1 c⟩
    · exact vO_eq m c hpre
    · exact AttnIdeal.Flash.final_13 m c (v1 m c) (v1_at m c)
    · exact AttnIdeal.Flash.final_14 m c (v2 m c) (v2_at m c)
    · exact AttnIdeal.Flash.final_15 m c (v3 m c) (v3_at m c)
  · obtain ⟨h0, h1, h2, h3, h4, h5, h6, h7, h8, h9, h10⟩ := hag c
    refine ⟨(h c).1.trans ?_, (h c).2.1.trans ?_, (h c).2.2.1.trans ?_, (h c).2.2.2.1.trans ?_, (h c).2.2.2.2⟩
    · rw [AttnRefIdeal.Pure.res_eq, h0, h1, h2, h3, h4, h5, h6, h7]; rfl
    · rw [h8]; rfl
    · rw [h9]; rfl
    · rw [h10]; rfl

/-- The reference of the MLP leaves its arguments and the counters as they were. -/
theorem quiescent_mlpRef : Cert.quiescent_MlpRefIdeal := by
  intro m ρ _
  exact (θ_run MlpRefIdeal.defs _ _).mono (fun r h => ⟨fun c => (h c).2, sem_eq_zero_of_no_sems (by decide) r.2⟩)
    (MlpRefIdeal.Value.run m ρ)

/-- Over the extended reals the MLP call computes its reference. -/
theorem algebraic_mlp : Cert.algebraic_MlpIdeal_MlpRefIdeal := by
  intro m ρ m' ρ' _ hag
  refine ⟨fun c => MlpRefIdeal.Pure.norm (MlpRefIdeal.Pure.Z (m ((c.tc : Thread MlpIdeal.nD MlpIdeal.τ).loc MlpIdeal.main_arg0))
      (m ((c.tc : Thread MlpIdeal.nD MlpIdeal.τ).loc MlpIdeal.main_arg1)) (m ((c.tc : Thread MlpIdeal.nD MlpIdeal.τ).loc MlpIdeal.main_arg2)))
      (m ((c.tc : Thread MlpIdeal.nD MlpIdeal.τ).loc MlpIdeal.main_arg3)) (m ((c.tc : Thread MlpIdeal.nD MlpIdeal.τ).loc MlpIdeal.main_arg4)),
    (θ_run _ _ _).mono (fun _ h c => ⟨(h c).1.trans (MlpIdeal.Pure.final m c), (h c).2⟩) (MlpIdeal.Value.run_blocks m ρ),
    (θ_run _ _ _).mono (fun _ h c => ⟨(h c).1.trans ?_, (h c).2⟩) (MlpRefIdeal.Value.run m' ρ')⟩
  obtain ⟨h0, h1, h2, h3, h4⟩ := hag c
  rw [MlpRefIdeal.Pure.res_eq, h0, h1, h2, h3, h4]

set_option smartUnfolding false in
/-- The last feed-forward's frame, on machine floats: its program is the idealized one's, and that frame is of every float. -/
theorem quiescent_final : Cert.quiescent_Final := by
  intro m ρ _
  with_unfolding_all exact FinalIdeal.Gen.frame (F := Bits) m ρ

/-- The reference of the last feed-forward leaves its arguments and the counters as they were. -/
theorem quiescent_finalRef : Cert.quiescent_FinalRefIdeal := by
  intro m ρ _
  exact (θ_run FinalRefIdeal.defs _ _).mono (fun r h => ⟨fun c => (h c).2.2, sem_eq_zero_of_no_sems (by decide) r.2⟩)
    (FinalRefIdeal.Value.run m ρ)

theorem res_final (m : (ℓ : Loc FinalRefIdeal.nD FinalRefIdeal.τ FinalRefIdeal.sig) → Buf (Elt Ideal) ℓ) (c : Dev FinalRefIdeal.nD)
    (x : FVec Ideal MlpRefIdeal.S8448x2048 .f32)
    (hx : MlpRefIdeal.Pure.norm (MlpRefIdeal.Pure.Z (m ((c.tc : Thread FinalRefIdeal.nD FinalRefIdeal.τ).loc FinalRefIdeal.main_arg0))
      (m ((c.tc : Thread FinalRefIdeal.nD FinalRefIdeal.τ).loc FinalRefIdeal.main_arg1)) (m ((c.tc : Thread FinalRefIdeal.nD FinalRefIdeal.τ).loc FinalRefIdeal.main_arg2)))
      (m ((c.tc : Thread FinalRefIdeal.nD FinalRefIdeal.τ).loc FinalRefIdeal.main_arg3)) (m ((c.tc : Thread FinalRefIdeal.nD FinalRefIdeal.τ).loc FinalRefIdeal.main_arg4)) = x) :
    FinalRefIdeal.Value.res_main_v32 m c = extractStridedSlice FinalRefIdeal.S8192x2048 ![16, 0] x FinalRefIdeal.Gen.facts.slices_S8448x2048_S8192x2048_16_0
    ∧ FinalRefIdeal.Value.res_main_v33 m c = extractStridedSlice FinalRefIdeal.S128x2048 ![8208, 0] x FinalRefIdeal.Gen.facts.slices_S8448x2048_S128x2048_8208_0 := by
  subst hx
  exact ⟨rfl, rfl⟩

/-- Over the extended reals the last feed-forward call computes its reference. -/
theorem algebraic_final : Cert.algebraic_FinalIdeal_FinalRefIdeal := by
  intro m ρ m' ρ' _ hag
  refine ⟨fun c => extractStridedSlice FinalRefIdeal.S8192x2048 ![16, 0] (FinalIdeal.Val.R m c) FinalRefIdeal.Gen.facts.slices_S8448x2048_S8192x2048_16_0,
    fun c => extractStridedSlice FinalRefIdeal.S128x2048 ![8208, 0] (FinalIdeal.Val.R m c) FinalRefIdeal.Gen.facts.slices_S8448x2048_S128x2048_8208_0,
    (θ_run _ _ _).mono (fun r h c => ⟨((h.1.1 c).1 5).trans (FinalIdeal.Val.final5 m c), ((h.1.1 c).1 6).trans (FinalIdeal.Val.final6 m c), h.2.1 c⟩)
      (θ_run_and (FinalIdeal.Gen.run_main m ρ) (FinalIdeal.Gen.frame m ρ)),
    (θ_run _ _ _).mono (fun _ h c => ?_) (FinalRefIdeal.Value.run m' ρ')⟩
  obtain ⟨h0, h1, h2, h3, h4⟩ := hag c
  have e := res_final m' c (FinalIdeal.Val.R m c) (by unfold FinalIdeal.Val.R; rw [h0, h1, h2, h3, h4])
  exact ⟨(h c).1.trans e.1, (h c).2.1.trans e.2, (h c).2.2⟩

/-- Everything the certificate claims. -/
theorem claim : Cert.Claim :=
  ⟨Cert.Attn.Gen.facts, Cert.AttnIdeal.Gen.facts, Cert.AttnRefIdeal.Gen.facts, Cert.Mlp.Gen.facts, Cert.MlpIdeal.Gen.facts, Cert.MlpRefIdeal.Gen.facts,
    Cert.Final.Gen.facts, Cert.FinalIdeal.Gen.facts, Cert.FinalRefIdeal.Gen.facts, Cert.Pre_attn_finite.Gen.facts,
    fun m ρ _ => Cert.Attn.Flash.frame m ρ, fun m ρ _ => Cert.AttnIdeal.Flash.frame m ρ, fun m ρ _ => Cert.AttnIdeal.Flash.frame m ρ,
    quiescent_attnRef, fun m ρ _ => quiescent_attnRef m ρ trivial,
    fun m ρ _ => Cert.Mlp.Gen.frame m ρ, fun m ρ _ => Cert.MlpIdeal.Gen.frame m ρ, quiescent_mlpRef,
    quiescent_final, fun m ρ _ => Cert.FinalIdeal.Gen.frame m ρ, quiescent_finalRef,
    IdealRules.named_const.statement _ _ _ _ _ rfl, algebraic_attn, trivial, algebraic_mlp, trivial, algebraic_final⟩

end Cert.Proof

end
